-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 512, 512]⟩ ⟨5, ![2, 2, 4, 512, 512]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x512x512 : Shape := ⟨5, ![1, 1, 1, 512, 512]⟩
abbrev S512x512 : Shape := ⟨2, ![512, 512]⟩
abbrev S4x16x512 : Shape := ⟨3, ![4, 16, 512]⟩
abbrev S4x7x16x512 : Shape := ⟨4, ![4, 7, 16, 512]⟩
abbrev S4x7 : Shape := ⟨2, ![4, 7]⟩
abbrev S4 : Shape := ⟨1, ![4]⟩
abbrev S_ : Shape := ⟨0, ![]⟩
abbrev S1x1 : Shape := ⟨2, ![1, 1]⟩
abbrev S1x1x16x512 : Shape := ⟨4, ![1, 1, 16, 512]⟩
abbrev S16x512 : Shape := ⟨2, ![16, 512]⟩
abbrev S1x7x16x512 : Shape := ⟨4, ![1, 7, 16, 512]⟩
abbrev S7x16x512 : Shape := ⟨3, ![7, 16, 512]⟩
abbrev S1x16x512 : Shape := ⟨3, ![1, 16, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1x1x1x512x512, .bf16⟩
  | .hbm, ⟨1, _⟩ => ⟨S512x512, .bf16⟩
  | .hbm, ⟨2, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S4x16x512, .bf16⟩
  | .local _ .vmem, ⟨3, _⟩ => ⟨S4x16x512, .bf16⟩
  | .local _ .vmem, ⟨4, _⟩ => ⟨S4x7x16x512, .bf16⟩
  | .local _ .vmem, ⟨5, _⟩ => ⟨S4x16x512, .bf16⟩
  | _, _ => ⟨S1x1x1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_23 : BitVec 32 := 1#32
  let v52 : BitVec 32 := Scalar.addi v39 c1_i32_23
  let c8_i32_24 : BitVec 32 := 8#32
  let c0_i32_25 : BitVec 32 := 0#32
  let v53 : BitVec 1 := Scalar.cmpi .eq c8_i32_24 c0_i32_25
  let c1_i32_26 : BitVec 32 := 1#32
  let v54 : BitVec 32 := Scalar.select v53 c1_i32_26 c8_i32_24
  let v55 : BitVec 32 := Scalar.remsi v52 v54
  let c0_i32_28 : BitVec 32 := 0#32
  let v57 : BitVec 1 := Scalar.cmpi .slt v55 c0_i32_28
  let c0_i32_29 : BitVec 32 := 0#32
  let v58 : BitVec 1 := Scalar.cmpi .slt v54 c0_i32_29
  let v59 : BitVec 1 := Scalar.xori v57 v58
  let c0_i32_27 : BitVec 32 := 0#32
  let v56 : BitVec 1 := Scalar.cmpi .ne v55 c0_i32_27
  let v60 : BitVec 1 := Scalar.andi v59 v56
  let v61 : BitVec 32 := Scalar.addi v55 v54
  let v62 : BitVec 32 := Scalar.select v60 v61 v55
  let c0_i32_31 : BitVec 32 := 0#32
  let v64 : BitVec 1 := Scalar.cmpi .sgt v62 c0_i32_31
  let v65 : BitVec 32 := Scalar.extui v64
  let c0_i32_32 : BitVec 32 := 0#32
  let v66 : BitVec 1 := Scalar.cmpi .slt v62 c0_i32_32
  let v67 : BitVec 32 := Scalar.extui v66
  let v68 : BitVec 32 := Scalar.subi v65 v67
  let c4_i32_30 : BitVec 32 := 4#32
  let c0_i32_33 : BitVec 32 := 0#32
  let v69 : BitVec 1 := Scalar.cmpi .sgt c4_i32_30 c0_i32_33
  let v70 : BitVec 32 := Scalar.extui v69
  let c0_i32_34 : BitVec 32 := 0#32
  let v71 : BitVec 1 := Scalar.cmpi .slt c4_i32_30 c0_i32_34
  let v72 : BitVec 32 := Scalar.extui v71
  let v73 : BitVec 32 := Scalar.subi v70 v72
  let v74 : BitVec 1 := Scalar.cmpi .ne v68 v73
  let v75 : BitVec 32 := Scalar.remsi v62 c4_i32_30
  let c0_i32_35 : BitVec 32 := 0#32
  let v76 : BitVec 1 := Scalar.cmpi .ne v75 c0_i32_35
  let v77 : BitVec 1 := Scalar.andi v74 v76
  let v63 : BitVec 32 := Scalar.divsi v62 c4_i32_30
  let c1_i32_36 : BitVec 32 := 1#32
  let v78 : BitVec 32 := Scalar.subi v63 c1_i32_36
  let v79 : BitVec 32 := Scalar.select v77 v78 v63
  let c8_i32_58 : BitVec 32 := 8#32
  let v119 : BitVec 32 := Scalar.muli v79 c8_i32_58
  let v120 : BitVec 32 := Scalar.addi c0_i32_59 v119
  let c0_i32_38 : BitVec 32 := 0#32
  let v81 : BitVec 1 := Scalar.cmpi .sgt v62 c0_i32_38
  let v82 : BitVec 32 := Scalar.extui v81
  let c0_i32_39 : BitVec 32 := 0#32
  let v83 : BitVec 1 := Scalar.cmpi .slt v62 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v62 c2_i32_37
  let c0_i32_42 : BitVec 32 := 0#32
  let v93 : BitVec 1 := Scalar.cmpi .ne v92 c0_i32_42
  let v94 : BitVec 1 := Scalar.andi v91 v93
  let v80 : BitVec 32 := Scalar.divsi v62 c2_i32_37
  let c1_i32_43 : BitVec 32 := 1#32
  let v95 : BitVec 32 := Scalar.subi v80 c1_i32_43
  let v96 : BitVec 32 := Scalar.select v94 v95 v80
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v96 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32_60 : BitVec 32 := 4#32
  let v121 : BitVec 32 := Scalar.muli v106 c4_i32_60
  let v122 : BitVec 32 := Scalar.addi v120 v121
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_50 : BitVec 32 := 2#32
  let v107 : BitVec 32 := Scalar.muli v25 c2_i32_50
  let c2_i32_51 : BitVec 32 := 2#32
  let c0_i32_52 : BitVec 32 := 0#32
  let v108 : BitVec 1 := Scalar.cmpi .eq c2_i32_51 c0_i32_52
  let c1_i32_53 : BitVec 32 := 1#32
  let v109 : BitVec 32 := Scalar.select v108 c1_i32_53 c2_i32_51
  let v110 : BitVec 32 := Scalar.remsi v62 v109
  let c0_i32_55 : BitVec 32 := 0#32
  let v112 : BitVec 1 := Scalar.cmpi .slt v110 c0_i32_55
  let c0_i32_56 : BitVec 32 := 0#32
  let v113 : BitVec 1 := Scalar.cmpi .slt v109 c0_i32_56
  let v114 : BitVec 1 := Scalar.xori v112 v113
  let c0_i32_54 : BitVec 32 := 0#32
  let v111 : BitVec 1 := Scalar.cmpi .ne v110 c0_i32_54
  let v115 : BitVec 1 := Scalar.andi v114 v111
  let v116 : BitVec 32 := Scalar.addi v110 v109
  let v117 : BitVec 32 := Scalar.select v115 v116 v110
  let v118 : BitVec 32 := Scalar.addi v107 v117
  let c1_i32_61 : BitVec 32 := 1#32
  let v123 : BitVec 32 := Scalar.muli v118 c1_i32_61
  let v124 : BitVec 32 := Scalar.addi v122 v123
  v124.toNat
def k0_dev2 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_62 : BitVec 32 := 2#32
  let v125 : BitVec 32 := Scalar.addi v39 c2_i32_62
  let c8_i32_63 : BitVec 32 := 8#32
  let c0_i32_64 : BitVec 32 := 0#32
  let v126 : BitVec 1 := Scalar.cmpi .eq c8_i32_63 c0_i32_64
  let c1_i32_65 : BitVec 32 := 1#32
  let v127 : BitVec 32 := Scalar.select v126 c1_i32_65 c8_i32_63
  let v128 : BitVec 32 := Scalar.remsi v125 v127
  let c0_i32_67 : BitVec 32 := 0#32
  let v130 : BitVec 1 := Scalar.cmpi .slt v128 c0_i32_67
  let c0_i32_68 : BitVec 32 := 0#32
  let v131 : BitVec 1 := Scalar.cmpi .slt v127 c0_i32_68
  let v132 : BitVec 1 := Scalar.xori v130 v131
  let c0_i32_66 : BitVec 32 := 0#32
  let v129 : BitVec 1 := Scalar.cmpi .ne v128 c0_i32_66
  let v133 : BitVec 1 := Scalar.andi v132 v129
  let v134 : BitVec 32 := Scalar.addi v128 v127
  let v135 : BitVec 32 := Scalar.select v133 v134 v128
  let c0_i32_70 : BitVec 32 := 0#32
  let v137 : BitVec 1 := Scalar.cmpi .sgt v135 c0_i32_70
  let v138 : BitVec 32 := Scalar.extui v137
  let c0_i32_71 : BitVec 32 := 0#32
  let v139 : BitVec 1 := Scalar.cmpi .slt v135 c0_i32_71
  let v140 : BitVec 32 := Scalar.extui v139
  let v141 : BitVec 32 := Scalar.subi v138 v140
  let c4_i32_69 : BitVec 32 := 4#32
  let c0_i32_72 : BitVec 32 := 0#32
  let v142 : BitVec 1 := Scalar.cmpi .sgt c4_i32_69 c0_i32_72
  let v143 : BitVec 32 := Scalar.extui v142
  let c0_i32_73 : BitVec 32 := 0#32
  let v144 : BitVec 1 := Scalar.cmpi .slt c4_i32_69 c0_i32_73
  let v145 : BitVec 32 := Scalar.extui v144
  let v146 : BitVec 32 := Scalar.subi v143 v145
  let v147 : BitVec 1 := Scalar.cmpi .ne v141 v146
  let v148 : BitVec 32 := Scalar.remsi v135 c4_i32_69
  let c0_i32_74 : BitVec 32 := 0#32
  let v149 : BitVec 1 := Scalar.cmpi .ne v148 c0_i32_74
  let v150 : BitVec 1 := Scalar.andi v147 v149
  let v136 : BitVec 32 := Scalar.divsi v135 c4_i32_69
  let c1_i32_75 : BitVec 32 := 1#32
  let v151 : BitVec 32 := Scalar.subi v136 c1_i32_75
  let v152 : BitVec 32 := Scalar.select v150 v151 v136
  let c8_i32_97 : BitVec 32 := 8#32
  let v192 : BitVec 32 := Scalar.muli v152 c8_i32_97
  let v193 : BitVec 32 := Scalar.addi c0_i32_98 v192
  let c0_i32_77 : BitVec 32 := 0#32
  let v154 : BitVec 1 := Scalar.cmpi .sgt v135 c0_i32_77
  let v155 : BitVec 32 := Scalar.extui v154
  let c0_i32_78 : BitVec 32 := 0#32
  let v156 : BitVec 1 := Scalar.cmpi .slt v135 c0_i32_78
  let v157 : BitVec 32 := Scalar.extui v156
  let v158 : BitVec 32 := Scalar.subi v155 v157
  let c2_i32_76 : BitVec 32 := 2#32
  let c0_i32_79 : BitVec 32 := 0#32
  let v159 : BitVec 1 := Scalar.cmpi .sgt c2_i32_76 c0_i32_79
  let v160 : BitVec 32 := Scalar.extui v159
  let c0_i32_80 : BitVec 32 := 0#32
  let v161 : BitVec 1 := Scalar.cmpi .slt c2_i32_76 c0_i32_80
  let v162 : BitVec 32 := Scalar.extui v161
  let v163 : BitVec 32 := Scalar.subi v160 v162
  let v164 : BitVec 1 := Scalar.cmpi .ne v158 v163
  let v165 : BitVec 32 := Scalar.remsi v135 c2_i32_76
  let c0_i32_81 : BitVec 32 := 0#32
  let v166 : BitVec 1 := Scalar.cmpi .ne v165 c0_i32_81
  let v167 : BitVec 1 := Scalar.andi v164 v166
  let v153 : BitVec 32 := Scalar.divsi v135 c2_i32_76
  let c1_i32_82 : BitVec 32 := 1#32
  let v168 : BitVec 32 := Scalar.subi v153 c1_i32_82
  let v169 : BitVec 32 := Scalar.select v167 v168 v153
  let c2_i32_83 : BitVec 32 := 2#32
  let c0_i32_84 : BitVec 32 := 0#32
  let v170 : BitVec 1 := Scalar.cmpi .eq c2_i32_83 c0_i32_84
  let c1_i32_85 : BitVec 32 := 1#32
  let v171 : BitVec 32 := Scalar.select v170 c1_i32_85 c2_i32_83
  let v172 : BitVec 32 := Scalar.remsi v169 v171
  let c0_i32_87 : BitVec 32 := 0#32
  let v174 : BitVec 1 := Scalar.cmpi .slt v172 c0_i32_87
  let c0_i32_88 : BitVec 32 := 0#32
  let v175 : BitVec 1 := Scalar.cmpi .slt v171 c0_i32_88
  let v176 : BitVec 1 := Scalar.xori v174 v175
  let c0_i32_86 : BitVec 32 := 0#32
  let v173 : BitVec 1 := Scalar.cmpi .ne v172 c0_i32_86
  let v177 : BitVec 1 := Scalar.andi v176 v173
  let v178 : BitVec 32 := Scalar.addi v172 v171
  let v179 : BitVec 32 := Scalar.select v177 v178 v172
  let c4_i32_99 : BitVec 32 := 4#32
  let v194 : BitVec 32 := Scalar.muli v179 c4_i32_99
  let v195 : BitVec 32 := Scalar.addi v193 v194
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_89 : BitVec 32 := 2#32
  let v180 : BitVec 32 := Scalar.muli v25 c2_i32_89
  let c2_i32_90 : BitVec 32 := 2#32
  let c0_i32_91 : BitVec 32 := 0#32
  let v181 : BitVec 1 := Scalar.cmpi .eq c2_i32_90 c0_i32_91
  let c1_i32_92 : BitVec 32 := 1#32
  let v182 : BitVec 32 := Scalar.select v181 c1_i32_92 c2_i32_90
  let v183 : BitVec 32 := Scalar.remsi v135 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v191 : BitVec 32 := Scalar.addi v180 v190
  let c1_i32_100 : BitVec 32 := 1#32
  let v196 : BitVec 32 := Scalar.muli v191 c1_i32_100
  let v197 : BitVec 32 := Scalar.addi v195 v196
  v197.toNat
def k0_dev3 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32 : BitVec 32 := 3#32
  let v198 : BitVec 32 := Scalar.addi v39 c3_i32
  let c8_i32_101 : BitVec 32 := 8#32
  let c0_i32_102 : BitVec 32 := 0#32
  let v199 : BitVec 1 := Scalar.cmpi .eq c8_i32_101 c0_i32_102
  let c1_i32_103 : BitVec 32 := 1#32
  let v200 : BitVec 32 := Scalar.select v199 c1_i32_103 c8_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c0_i32_108 : BitVec 32 := 0#32
  let v210 : BitVec 1 := Scalar.cmpi .sgt v208 c0_i32_108
  let v211 : BitVec 32 := Scalar.extui v210
  let c0_i32_109 : BitVec 32 := 0#32
  let v212 : BitVec 1 := Scalar.cmpi .slt v208 c0_i32_109
  let v213 : BitVec 32 := Scalar.extui v212
  let v214 : BitVec 32 := Scalar.subi v211 v213
  let c4_i32_107 : BitVec 32 := 4#32
  let c0_i32_110 : BitVec 32 := 0#32
  let v215 : BitVec 1 := Scalar.cmpi .sgt c4_i32_107 c0_i32_110
  let v216 : BitVec 32 := Scalar.extui v215
  let c0_i32_111 : BitVec 32 := 0#32
  let v217 : BitVec 1 := Scalar.cmpi .slt c4_i32_107 c0_i32_111
  let v218 : BitVec 32 := Scalar.extui v217
  let v219 : BitVec 32 := Scalar.subi v216 v218
  let v220 : BitVec 1 := Scalar.cmpi .ne v214 v219
  let v221 : BitVec 32 := Scalar.remsi v208 c4_i32_107
  let c0_i32_112 : BitVec 32 := 0#32
  let v222 : BitVec 1 := Scalar.cmpi .ne v221 c0_i32_112
  let v223 : BitVec 1 := Scalar.andi v220 v222
  let v209 : BitVec 32 := Scalar.divsi v208 c4_i32_107
  let c1_i32_113 : BitVec 32 := 1#32
  let v224 : BitVec 32 := Scalar.subi v209 c1_i32_113
  let v225 : BitVec 32 := Scalar.select v223 v224 v209
  let c8_i32_135 : BitVec 32 := 8#32
  let v265 : BitVec 32 := Scalar.muli v225 c8_i32_135
  let v266 : BitVec 32 := Scalar.addi c0_i32_136 v265
  let c0_i32_115 : BitVec 32 := 0#32
  let v227 : BitVec 1 := Scalar.cmpi .sgt v208 c0_i32_115
  let v228 : BitVec 32 := Scalar.extui v227
  let c0_i32_116 : BitVec 32 := 0#32
  let v229 : BitVec 1 := Scalar.cmpi .slt v208 c0_i32_116
  let v230 : BitVec 32 := Scalar.extui v229
  let v231 : BitVec 32 := Scalar.subi v228 v230
  let c2_i32_114 : BitVec 32 := 2#32
  let c0_i32_117 : BitVec 32 := 0#32
  let v232 : BitVec 1 := Scalar.cmpi .sgt c2_i32_114 c0_i32_117
  let v233 : BitVec 32 := Scalar.extui v232
  let c0_i32_118 : BitVec 32 := 0#32
  let v234 : BitVec 1 := Scalar.cmpi .slt c2_i32_114 c0_i32_118
  let v235 : BitVec 32 := Scalar.extui v234
  let v236 : BitVec 32 := Scalar.subi v233 v235
  let v237 : BitVec 1 := Scalar.cmpi .ne v231 v236
  let v238 : BitVec 32 := Scalar.remsi v208 c2_i32_114
  let c0_i32_119 : BitVec 32 := 0#32
  let v239 : BitVec 1 := Scalar.cmpi .ne v238 c0_i32_119
  let v240 : BitVec 1 := Scalar.andi v237 v239
  let v226 : BitVec 32 := Scalar.divsi v208 c2_i32_114
  let c1_i32_120 : BitVec 32 := 1#32
  let v241 : BitVec 32 := Scalar.subi v226 c1_i32_120
  let v242 : BitVec 32 := Scalar.select v240 v241 v226
  let c2_i32_121 : BitVec 32 := 2#32
  let c0_i32_122 : BitVec 32 := 0#32
  let v243 : BitVec 1 := Scalar.cmpi .eq c2_i32_121 c0_i32_122
  let c1_i32_123 : BitVec 32 := 1#32
  let v244 : BitVec 32 := Scalar.select v243 c1_i32_123 c2_i32_121
  let v245 : BitVec 32 := Scalar.remsi v242 v244
  let c0_i32_125 : BitVec 32 := 0#32
  let v247 : BitVec 1 := Scalar.cmpi .slt v245 c0_i32_125
  let c0_i32_126 : BitVec 32 := 0#32
  let v248 : BitVec 1 := Scalar.cmpi .slt v244 c0_i32_126
  let v249 : BitVec 1 := Scalar.xori v247 v248
  let c0_i32_124 : BitVec 32 := 0#32
  let v246 : BitVec 1 := Scalar.cmpi .ne v245 c0_i32_124
  let v250 : BitVec 1 := Scalar.andi v249 v246
  let v251 : BitVec 32 := Scalar.addi v245 v244
  let v252 : BitVec 32 := Scalar.select v250 v251 v245
  let c4_i32_137 : BitVec 32 := 4#32
  let v267 : BitVec 32 := Scalar.muli v252 c4_i32_137
  let v268 : BitVec 32 := Scalar.addi v266 v267
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_127 : BitVec 32 := 2#32
  let v253 : BitVec 32 := Scalar.muli v25 c2_i32_127
  let c2_i32_128 : BitVec 32 := 2#32
  let c0_i32_129 : BitVec 32 := 0#32
  let v254 : BitVec 1 := Scalar.cmpi .eq c2_i32_128 c0_i32_129
  let c1_i32_130 : BitVec 32 := 1#32
  let v255 : BitVec 32 := Scalar.select v254 c1_i32_130 c2_i32_128
  let v256 : BitVec 32 := Scalar.remsi v208 v255
  let c0_i32_132 : BitVec 32 := 0#32
  let v258 : BitVec 1 := Scalar.cmpi .slt v256 c0_i32_132
  let c0_i32_133 : BitVec 32 := 0#32
  let v259 : BitVec 1 := Scalar.cmpi .slt v255 c0_i32_133
  let v260 : BitVec 1 := Scalar.xori v258 v259
  let c0_i32_131 : BitVec 32 := 0#32
  let v257 : BitVec 1 := Scalar.cmpi .ne v256 c0_i32_131
  let v261 : BitVec 1 := Scalar.andi v260 v257
  let v262 : BitVec 32 := Scalar.addi v256 v255
  let v263 : BitVec 32 := Scalar.select v261 v262 v256
  let v264 : BitVec 32 := Scalar.addi v253 v263
  let c1_i32_138 : BitVec 32 := 1#32
  let v269 : BitVec 32 := Scalar.muli v264 c1_i32_138
  let v270 : BitVec 32 := Scalar.addi v268 v269
  v270.toNat
def k0_dev4 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_139 : BitVec 32 := 4#32
  let v271 : BitVec 32 := Scalar.addi v39 c4_i32_139
  let c8_i32_140 : BitVec 32 := 8#32
  let c0_i32_141 : BitVec 32 := 0#32
  let v272 : BitVec 1 := Scalar.cmpi .eq c8_i32_140 c0_i32_141
  let c1_i32_142 : BitVec 32 := 1#32
  let v273 : BitVec 32 := Scalar.select v272 c1_i32_142 c8_i32_140
  let v274 : BitVec 32 := Scalar.remsi v271 v273
  let c0_i32_144 : BitVec 32 := 0#32
  let v276 : BitVec 1 := Scalar.cmpi .slt v274 c0_i32_144
  let c0_i32_145 : BitVec 32 := 0#32
  let v277 : BitVec 1 := Scalar.cmpi .slt v273 c0_i32_145
  let v278 : BitVec 1 := Scalar.xori v276 v277
  let c0_i32_143 : BitVec 32 := 0#32
  let v275 : BitVec 1 := Scalar.cmpi .ne v274 c0_i32_143
  let v279 : BitVec 1 := Scalar.andi v278 v275
  let v280 : BitVec 32 := Scalar.addi v274 v273
  let v281 : BitVec 32 := Scalar.select v279 v280 v274
  let c0_i32_147 : BitVec 32 := 0#32
  let v283 : BitVec 1 := Scalar.cmpi .sgt v281 c0_i32_147
  let v284 : BitVec 32 := Scalar.extui v283
  let c0_i32_148 : BitVec 32 := 0#32
  let v285 : BitVec 1 := Scalar.cmpi .slt v281 c0_i32_148
  let v286 : BitVec 32 := Scalar.extui v285
  let v287 : BitVec 32 := Scalar.subi v284 v286
  let c4_i32_146 : BitVec 32 := 4#32
  let c0_i32_149 : BitVec 32 := 0#32
  let v288 : BitVec 1 := Scalar.cmpi .sgt c4_i32_146 c0_i32_149
  let v289 : BitVec 32 := Scalar.extui v288
  let c0_i32_150 : BitVec 32 := 0#32
  let v290 : BitVec 1 := Scalar.cmpi .slt c4_i32_146 c0_i32_150
  let v291 : BitVec 32 := Scalar.extui v290
  let v292 : BitVec 32 := Scalar.subi v289 v291
  let v293 : BitVec 1 := Scalar.cmpi .ne v287 v292
  let v294 : BitVec 32 := Scalar.remsi v281 c4_i32_146
  let c0_i32_151 : BitVec 32 := 0#32
  let v295 : BitVec 1 := Scalar.cmpi .ne v294 c0_i32_151
  let v296 : BitVec 1 := Scalar.andi v293 v295
  let v282 : BitVec 32 := Scalar.divsi v281 c4_i32_146
  let c1_i32_152 : BitVec 32 := 1#32
  let v297 : BitVec 32 := Scalar.subi v282 c1_i32_152
  let v298 : BitVec 32 := Scalar.select v296 v297 v282
  let c8_i32_174 : BitVec 32 := 8#32
  let v338 : BitVec 32 := Scalar.muli v298 c8_i32_174
  let v339 : BitVec 32 := Scalar.addi c0_i32_175 v338
  let c0_i32_154 : BitVec 32 := 0#32
  let v300 : BitVec 1 := Scalar.cmpi .sgt v281 c0_i32_154
  let v301 : BitVec 32 := Scalar.extui v300
  let c0_i32_155 : BitVec 32 := 0#32
  let v302 : BitVec 1 := Scalar.cmpi .slt v281 c0_i32_155
  let v303 : BitVec 32 := Scalar.extui v302
  let v304 : BitVec 32 := Scalar.subi v301 v303
  let c2_i32_153 : BitVec 32 := 2#32
  let c0_i32_156 : BitVec 32 := 0#32
  let v305 : BitVec 1 := Scalar.cmpi .sgt c2_i32_153 c0_i32_156
  let v306 : BitVec 32 := Scalar.extui v305
  let c0_i32_157 : BitVec 32 := 0#32
  let v307 : BitVec 1 := Scalar.cmpi .slt c2_i32_153 c0_i32_157
  let v308 : BitVec 32 := Scalar.extui v307
  let v309 : BitVec 32 := Scalar.subi v306 v308
  let v310 : BitVec 1 := Scalar.cmpi .ne v304 v309
  let v311 : BitVec 32 := Scalar.remsi v281 c2_i32_153
  let c0_i32_158 : BitVec 32 := 0#32
  let v312 : BitVec 1 := Scalar.cmpi .ne v311 c0_i32_158
  let v313 : BitVec 1 := Scalar.andi v310 v312
  let v299 : BitVec 32 := Scalar.divsi v281 c2_i32_153
  let c1_i32_159 : BitVec 32 := 1#32
  let v314 : BitVec 32 := Scalar.subi v299 c1_i32_159
  let v315 : BitVec 32 := Scalar.select v313 v314 v299
  let c2_i32_160 : BitVec 32 := 2#32
  let c0_i32_161 : BitVec 32 := 0#32
  let v316 : BitVec 1 := Scalar.cmpi .eq c2_i32_160 c0_i32_161
  let c1_i32_162 : BitVec 32 := 1#32
  let v317 : BitVec 32 := Scalar.select v316 c1_i32_162 c2_i32_160
  let v318 : BitVec 32 := Scalar.remsi v315 v317
  let c0_i32_164 : BitVec 32 := 0#32
  let v320 : BitVec 1 := Scalar.cmpi .slt v318 c0_i32_164
  let c0_i32_165 : BitVec 32 := 0#32
  let v321 : BitVec 1 := Scalar.cmpi .slt v317 c0_i32_165
  let v322 : BitVec 1 := Scalar.xori v320 v321
  let c0_i32_163 : BitVec 32 := 0#32
  let v319 : BitVec 1 := Scalar.cmpi .ne v318 c0_i32_163
  let v323 : BitVec 1 := Scalar.andi v322 v319
  let v324 : BitVec 32 := Scalar.addi v318 v317
  let v325 : BitVec 32 := Scalar.select v323 v324 v318
  let c4_i32_176 : BitVec 32 := 4#32
  let v340 : BitVec 32 := Scalar.muli v325 c4_i32_176
  let v341 : BitVec 32 := Scalar.addi v339 v340
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_166 : BitVec 32 := 2#32
  let v326 : BitVec 32 := Scalar.muli v25 c2_i32_166
  let c2_i32_167 : BitVec 32 := 2#32
  let c0_i32_168 : BitVec 32 := 0#32
  let v327 : BitVec 1 := Scalar.cmpi .eq c2_i32_167 c0_i32_168
  let c1_i32_169 : BitVec 32 := 1#32
  let v328 : BitVec 32 := Scalar.select v327 c1_i32_169 c2_i32_167
  let v329 : BitVec 32 := Scalar.remsi v281 v328
  let c0_i32_171 : BitVec 32 := 0#32
  let v331 : BitVec 1 := Scalar.cmpi .slt v329 c0_i32_171
  let c0_i32_172 : BitVec 32 := 0#32
  let v332 : BitVec 1 := Scalar.cmpi .slt v328 c0_i32_172
  let v333 : BitVec 1 := Scalar.xori v331 v332
  let c0_i32_170 : BitVec 32 := 0#32
  let v330 : BitVec 1 := Scalar.cmpi .ne v329 c0_i32_170
  let v334 : BitVec 1 := Scalar.andi v333 v330
  let v335 : BitVec 32 := Scalar.addi v329 v328
  let v336 : BitVec 32 := Scalar.select v334 v335 v329
  let v337 : BitVec 32 := Scalar.addi v326 v336
  let c1_i32_177 : BitVec 32 := 1#32
  let v342 : BitVec 32 := Scalar.muli v337 c1_i32_177
  let v343 : BitVec 32 := Scalar.addi v341 v342
  v343.toNat
def k0_dev5 (d0 : Dev nD) : Nat :=
  let c0_i32_213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32 : BitVec 32 := 5#32
  let v344 : BitVec 32 := Scalar.addi v39 c5_i32
  let c8_i32_178 : BitVec 32 := 8#32
  let c0_i32_179 : BitVec 32 := 0#32
  let v345 : BitVec 1 := Scalar.cmpi .eq c8_i32_178 c0_i32_179
  let c1_i32_180 : BitVec 32 := 1#32
  let v346 : BitVec 32 := Scalar.select v345 c1_i32_180 c8_i32_178
  let v347 : BitVec 32 := Scalar.remsi v344 v346
  let c0_i32_182 : BitVec 32 := 0#32
  let v349 : BitVec 1 := Scalar.cmpi .slt v347 c0_i32_182
  let c0_i32_183 : BitVec 32 := 0#32
  let v350 : BitVec 1 := Scalar.cmpi .slt v346 c0_i32_183
  let v351 : BitVec 1 := Scalar.xori v349 v350
  let c0_i32_181 : BitVec 32 := 0#32
  let v348 : BitVec 1 := Scalar.cmpi .ne v347 c0_i32_181
  let v352 : BitVec 1 := Scalar.andi v351 v348
  let v353 : BitVec 32 := Scalar.addi v347 v346
  let v354 : BitVec 32 := Scalar.select v352 v353 v347
  let c0_i32_185 : BitVec 32 := 0#32
  let v356 : BitVec 1 := Scalar.cmpi .sgt v354 c0_i32_185
  let v357 : BitVec 32 := Scalar.extui v356
  let c0_i32_186 : BitVec 32 := 0#32
  let v358 : BitVec 1 := Scalar.cmpi .slt v354 c0_i32_186
  let v359 : BitVec 32 := Scalar.extui v358
  let v360 : BitVec 32 := Scalar.subi v357 v359
  let c4_i32_184 : BitVec 32 := 4#32
  let c0_i32_187 : BitVec 32 := 0#32
  let v361 : BitVec 1 := Scalar.cmpi .sgt c4_i32_184 c0_i32_187
  let v362 : BitVec 32 := Scalar.extui v361
  let c0_i32_188 : BitVec 32 := 0#32
  let v363 : BitVec 1 := Scalar.cmpi .slt c4_i32_184 c0_i32_188
  let v364 : BitVec 32 := Scalar.extui v363
  let v365 : BitVec 32 := Scalar.subi v362 v364
  let v366 : BitVec 1 := Scalar.cmpi .ne v360 v365
  let v367 : BitVec 32 := Scalar.remsi v354 c4_i32_184
  let c0_i32_189 : BitVec 32 := 0#32
  let v368 : BitVec 1 := Scalar.cmpi .ne v367 c0_i32_189
  let v369 : BitVec 1 := Scalar.andi v366 v368
  let v355 : BitVec 32 := Scalar.divsi v354 c4_i32_184
  let c1_i32_190 : BitVec 32 := 1#32
  let v370 : BitVec 32 := Scalar.subi v355 c1_i32_190
  let v371 : BitVec 32 := Scalar.select v369 v370 v355
  let c8_i32_212 : BitVec 32 := 8#32
  let v411 : BitVec 32 := Scalar.muli v371 c8_i32_212
  let v412 : BitVec 32 := Scalar.addi c0_i32_213 v411
  let c0_i32_192 : BitVec 32 := 0#32
  let v373 : BitVec 1 := Scalar.cmpi .sgt v354 c0_i32_192
  let v374 : BitVec 32 := Scalar.extui v373
  let c0_i32_193 : BitVec 32 := 0#32
  let v375 : BitVec 1 := Scalar.cmpi .slt v354 c0_i32_193
  let v376 : BitVec 32 := Scalar.extui v375
  let v377 : BitVec 32 := Scalar.subi v374 v376
  let c2_i32_191 : BitVec 32 := 2#32
  let c0_i32_194 : BitVec 32 := 0#32
  let v378 : BitVec 1 := Scalar.cmpi .sgt c2_i32_191 c0_i32_194
  let v379 : BitVec 32 := Scalar.extui v378
  let c0_i32_195 : BitVec 32 := 0#32
  let v380 : BitVec 1 := Scalar.cmpi .slt c2_i32_191 c0_i32_195
  let v381 : BitVec 32 := Scalar.extui v380
  let v382 : BitVec 32 := Scalar.subi v379 v381
  let v383 : BitVec 1 := Scalar.cmpi .ne v377 v382
  let v384 : BitVec 32 := Scalar.remsi v354 c2_i32_191
  let c0_i32_196 : BitVec 32 := 0#32
  let v385 : BitVec 1 := Scalar.cmpi .ne v384 c0_i32_196
  let v386 : BitVec 1 := Scalar.andi v383 v385
  let v372 : BitVec 32 := Scalar.divsi v354 c2_i32_191
  let c1_i32_197 : BitVec 32 := 1#32
  let v387 : BitVec 32 := Scalar.subi v372 c1_i32_197
  let v388 : BitVec 32 := Scalar.select v386 v387 v372
  let c2_i32_198 : BitVec 32 := 2#32
  let c0_i32_199 : BitVec 32 := 0#32
  let v389 : BitVec 1 := Scalar.cmpi .eq c2_i32_198 c0_i32_199
  let c1_i32_200 : BitVec 32 := 1#32
  let v390 : BitVec 32 := Scalar.select v389 c1_i32_200 c2_i32_198
  let v391 : BitVec 32 := Scalar.remsi v388 v390
  let c0_i32_202 : BitVec 32 := 0#32
  let v393 : BitVec 1 := Scalar.cmpi .slt v391 c0_i32_202
  let c0_i32_203 : BitVec 32 := 0#32
  let v394 : BitVec 1 := Scalar.cmpi .slt v390 c0_i32_203
  let v395 : BitVec 1 := Scalar.xori v393 v394
  let c0_i32_201 : BitVec 32 := 0#32
  let v392 : BitVec 1 := Scalar.cmpi .ne v391 c0_i32_201
  let v396 : BitVec 1 := Scalar.andi v395 v392
  let v397 : BitVec 32 := Scalar.addi v391 v390
  let v398 : BitVec 32 := Scalar.select v396 v397 v391
  let c4_i32_214 : BitVec 32 := 4#32
  let v413 : BitVec 32 := Scalar.muli v398 c4_i32_214
  let v414 : BitVec 32 := Scalar.addi v412 v413
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_204 : BitVec 32 := 2#32
  let v399 : BitVec 32 := Scalar.muli v25 c2_i32_204
  let c2_i32_205 : BitVec 32 := 2#32
  let c0_i32_206 : BitVec 32 := 0#32
  let v400 : BitVec 1 := Scalar.cmpi .eq c2_i32_205 c0_i32_206
  let c1_i32_207 : BitVec 32 := 1#32
  let v401 : BitVec 32 := Scalar.select v400 c1_i32_207 c2_i32_205
  let v402 : BitVec 32 := Scalar.remsi v354 v401
  let c0_i32_209 : BitVec 32 := 0#32
  let v404 : BitVec 1 := Scalar.cmpi .slt v402 c0_i32_209
  let c0_i32_210 : BitVec 32 := 0#32
  let v405 : BitVec 1 := Scalar.cmpi .slt v401 c0_i32_210
  let v406 : BitVec 1 := Scalar.xori v404 v405
  let c0_i32_208 : BitVec 32 := 0#32
  let v403 : BitVec 1 := Scalar.cmpi .ne v402 c0_i32_208
  let v407 : BitVec 1 := Scalar.andi v406 v403
  let v408 : BitVec 32 := Scalar.addi v402 v401
  let v409 : BitVec 32 := Scalar.select v407 v408 v402
  let v410 : BitVec 32 := Scalar.addi v399 v409
  let c1_i32_215 : BitVec 32 := 1#32
  let v415 : BitVec 32 := Scalar.muli v410 c1_i32_215
  let v416 : BitVec 32 := Scalar.addi v414 v415
  v416.toNat
def k0_dev6 (d0 : Dev nD) : Nat :=
  let c0_i32_251 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32 : BitVec 32 := 6#32
  let v417 : BitVec 32 := Scalar.addi v39 c6_i32
  let c8_i32_216 : BitVec 32 := 8#32
  let c0_i32_217 : BitVec 32 := 0#32
  let v418 : BitVec 1 := Scalar.cmpi .eq c8_i32_216 c0_i32_217
  let c1_i32_218 : BitVec 32 := 1#32
  let v419 : BitVec 32 := Scalar.select v418 c1_i32_218 c8_i32_216
  let v420 : BitVec 32 := Scalar.remsi v417 v419
  let c0_i32_220 : BitVec 32 := 0#32
  let v422 : BitVec 1 := Scalar.cmpi .slt v420 c0_i32_220
  let c0_i32_221 : BitVec 32 := 0#32
  let v423 : BitVec 1 := Scalar.cmpi .slt v419 c0_i32_221
  let v424 : BitVec 1 := Scalar.xori v422 v423
  let c0_i32_219 : BitVec 32 := 0#32
  let v421 : BitVec 1 := Scalar.cmpi .ne v420 c0_i32_219
  let v425 : BitVec 1 := Scalar.andi v424 v421
  let v426 : BitVec 32 := Scalar.addi v420 v419
  let v427 : BitVec 32 := Scalar.select v425 v426 v420
  let c0_i32_223 : BitVec 32 := 0#32
  let v429 : BitVec 1 := Scalar.cmpi .sgt v427 c0_i32_223
  let v430 : BitVec 32 := Scalar.extui v429
  let c0_i32_224 : BitVec 32 := 0#32
  let v431 : BitVec 1 := Scalar.cmpi .slt v427 c0_i32_224
  let v432 : BitVec 32 := Scalar.extui v431
  let v433 : BitVec 32 := Scalar.subi v430 v432
  let c4_i32_222 : BitVec 32 := 4#32
  let c0_i32_225 : BitVec 32 := 0#32
  let v434 : BitVec 1 := Scalar.cmpi .sgt c4_i32_222 c0_i32_225
  let v435 : BitVec 32 := Scalar.extui v434
  let c0_i32_226 : BitVec 32 := 0#32
  let v436 : BitVec 1 := Scalar.cmpi .slt c4_i32_222 c0_i32_226
  let v437 : BitVec 32 := Scalar.extui v436
  let v438 : BitVec 32 := Scalar.subi v435 v437
  let v439 : BitVec 1 := Scalar.cmpi .ne v433 v438
  let v440 : BitVec 32 := Scalar.remsi v427 c4_i32_222
  let c0_i32_227 : BitVec 32 := 0#32
  let v441 : BitVec 1 := Scalar.cmpi .ne v440 c0_i32_227
  let v442 : BitVec 1 := Scalar.andi v439 v441
  let v428 : BitVec 32 := Scalar.divsi v427 c4_i32_222
  let c1_i32_228 : BitVec 32 := 1#32
  let v443 : BitVec 32 := Scalar.subi v428 c1_i32_228
  let v444 : BitVec 32 := Scalar.select v442 v443 v428
  let c8_i32_250 : BitVec 32 := 8#32
  let v484 : BitVec 32 := Scalar.muli v444 c8_i32_250
  let v485 : BitVec 32 := Scalar.addi c0_i32_251 v484
  let c0_i32_230 : BitVec 32 := 0#32
  let v446 : BitVec 1 := Scalar.cmpi .sgt v427 c0_i32_230
  let v447 : BitVec 32 := Scalar.extui v446
  let c0_i32_231 : BitVec 32 := 0#32
  let v448 : BitVec 1 := Scalar.cmpi .slt v427 c0_i32_231
  let v449 : BitVec 32 := Scalar.extui v448
  let v450 : BitVec 32 := Scalar.subi v447 v449
  let c2_i32_229 : BitVec 32 := 2#32
  let c0_i32_232 : BitVec 32 := 0#32
  let v451 : BitVec 1 := Scalar.cmpi .sgt c2_i32_229 c0_i32_232
  let v452 : BitVec 32 := Scalar.extui v451
  let c0_i32_233 : BitVec 32 := 0#32
  let v453 : BitVec 1 := Scalar.cmpi .slt c2_i32_229 c0_i32_233
  let v454 : BitVec 32 := Scalar.extui v453
  let v455 : BitVec 32 := Scalar.subi v452 v454
  let v456 : BitVec 1 := Scalar.cmpi .ne v450 v455
  let v457 : BitVec 32 := Scalar.remsi v427 c2_i32_229
  let c0_i32_234 : BitVec 32 := 0#32
  let v458 : BitVec 1 := Scalar.cmpi .ne v457 c0_i32_234
  let v459 : BitVec 1 := Scalar.andi v456 v458
  let v445 : BitVec 32 := Scalar.divsi v427 c2_i32_229
  let c1_i32_235 : BitVec 32 := 1#32
  let v460 : BitVec 32 := Scalar.subi v445 c1_i32_235
  let v461 : BitVec 32 := Scalar.select v459 v460 v445
  let c2_i32_236 : BitVec 32 := 2#32
  let c0_i32_237 : BitVec 32 := 0#32
  let v462 : BitVec 1 := Scalar.cmpi .eq c2_i32_236 c0_i32_237
  let c1_i32_238 : BitVec 32 := 1#32
  let v463 : BitVec 32 := Scalar.select v462 c1_i32_238 c2_i32_236
  let v464 : BitVec 32 := Scalar.remsi v461 v463
  let c0_i32_240 : BitVec 32 := 0#32
  let v466 : BitVec 1 := Scalar.cmpi .slt v464 c0_i32_240
  let c0_i32_241 : BitVec 32 := 0#32
  let v467 : BitVec 1 := Scalar.cmpi .slt v463 c0_i32_241
  let v468 : BitVec 1 := Scalar.xori v466 v467
  let c0_i32_239 : BitVec 32 := 0#32
  let v465 : BitVec 1 := Scalar.cmpi .ne v464 c0_i32_239
  let v469 : BitVec 1 := Scalar.andi v468 v465
  let v470 : BitVec 32 := Scalar.addi v464 v463
  let v471 : BitVec 32 := Scalar.select v469 v470 v464
  let c4_i32_252 : BitVec 32 := 4#32
  let v486 : BitVec 32 := Scalar.muli v471 c4_i32_252
  let v487 : BitVec 32 := Scalar.addi v485 v486
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_242 : BitVec 32 := 2#32
  let v472 : BitVec 32 := Scalar.muli v25 c2_i32_242
  let c2_i32_243 : BitVec 32 := 2#32
  let c0_i32_244 : BitVec 32 := 0#32
  let v473 : BitVec 1 := Scalar.cmpi .eq c2_i32_243 c0_i32_244
  let c1_i32_245 : BitVec 32 := 1#32
  let v474 : BitVec 32 := Scalar.select v473 c1_i32_245 c2_i32_243
  let v475 : BitVec 32 := Scalar.remsi v427 v474
  let c0_i32_247 : BitVec 32 := 0#32
  let v477 : BitVec 1 := Scalar.cmpi .slt v475 c0_i32_247
  let c0_i32_248 : BitVec 32 := 0#32
  let v478 : BitVec 1 := Scalar.cmpi .slt v474 c0_i32_248
  let v479 : BitVec 1 := Scalar.xori v477 v478
  let c0_i32_246 : BitVec 32 := 0#32
  let v476 : BitVec 1 := Scalar.cmpi .ne v475 c0_i32_246
  let v480 : BitVec 1 := Scalar.andi v479 v476
  let v481 : BitVec 32 := Scalar.addi v475 v474
  let v482 : BitVec 32 := Scalar.select v480 v481 v475
  let v483 : BitVec 32 := Scalar.addi v472 v482
  let c1_i32_253 : BitVec 32 := 1#32
  let v488 : BitVec 32 := Scalar.muli v483 c1_i32_253
  let v489 : BitVec 32 := Scalar.addi v487 v488
  v489.toNat
def k0_dev7 (d0 : Dev nD) : Nat :=
  let c0_i32_289 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32 : BitVec 32 := 7#32
  let v490 : BitVec 32 := Scalar.addi v39 c7_i32
  let c8_i32_254 : BitVec 32 := 8#32
  let c0_i32_255 : BitVec 32 := 0#32
  let v491 : BitVec 1 := Scalar.cmpi .eq c8_i32_254 c0_i32_255
  let c1_i32_256 : BitVec 32 := 1#32
  let v492 : BitVec 32 := Scalar.select v491 c1_i32_256 c8_i32_254
  let v493 : BitVec 32 := Scalar.remsi v490 v492
  let c0_i32_258 : BitVec 32 := 0#32
  let v495 : BitVec 1 := Scalar.cmpi .slt v493 c0_i32_258
  let c0_i32_259 : BitVec 32 := 0#32
  let v496 : BitVec 1 := Scalar.cmpi .slt v492 c0_i32_259
  let v497 : BitVec 1 := Scalar.xori v495 v496
  let c0_i32_257 : BitVec 32 := 0#32
  let v494 : BitVec 1 := Scalar.cmpi .ne v493 c0_i32_257
  let v498 : BitVec 1 := Scalar.andi v497 v494
  let v499 : BitVec 32 := Scalar.addi v493 v492
  let v500 : BitVec 32 := Scalar.select v498 v499 v493
  let c0_i32_261 : BitVec 32 := 0#32
  let v502 : BitVec 1 := Scalar.cmpi .sgt v500 c0_i32_261
  let v503 : BitVec 32 := Scalar.extui v502
  let c0_i32_262 : BitVec 32 := 0#32
  let v504 : BitVec 1 := Scalar.cmpi .slt v500 c0_i32_262
  let v505 : BitVec 32 := Scalar.extui v504
  let v506 : BitVec 32 := Scalar.subi v503 v505
  let c4_i32_260 : BitVec 32 := 4#32
  let c0_i32_263 : BitVec 32 := 0#32
  let v507 : BitVec 1 := Scalar.cmpi .sgt c4_i32_260 c0_i32_263
  let v508 : BitVec 32 := Scalar.extui v507
  let c0_i32_264 : BitVec 32 := 0#32
  let v509 : BitVec 1 := Scalar.cmpi .slt c4_i32_260 c0_i32_264
  let v510 : BitVec 32 := Scalar.extui v509
  let v511 : BitVec 32 := Scalar.subi v508 v510
  let v512 : BitVec 1 := Scalar.cmpi .ne v506 v511
  let v513 : BitVec 32 := Scalar.remsi v500 c4_i32_260
  let c0_i32_265 : BitVec 32 := 0#32
  let v514 : BitVec 1 := Scalar.cmpi .ne v513 c0_i32_265
  let v515 : BitVec 1 := Scalar.andi v512 v514
  let v501 : BitVec 32 := Scalar.divsi v500 c4_i32_260
  let c1_i32_266 : BitVec 32 := 1#32
  let v516 : BitVec 32 := Scalar.subi v501 c1_i32_266
  let v517 : BitVec 32 := Scalar.select v515 v516 v501
  let c8_i32_288 : BitVec 32 := 8#32
  let v557 : BitVec 32 := Scalar.muli v517 c8_i32_288
  let v558 : BitVec 32 := Scalar.addi c0_i32_289 v557
  let c0_i32_268 : BitVec 32 := 0#32
  let v519 : BitVec 1 := Scalar.cmpi .sgt v500 c0_i32_268
  let v520 : BitVec 32 := Scalar.extui v519
  let c0_i32_269 : BitVec 32 := 0#32
  let v521 : BitVec 1 := Scalar.cmpi .slt v500 c0_i32_269
  let v522 : BitVec 32 := Scalar.extui v521
  let v523 : BitVec 32 := Scalar.subi v520 v522
  let c2_i32_267 : BitVec 32 := 2#32
  let c0_i32_270 : BitVec 32 := 0#32
  let v524 : BitVec 1 := Scalar.cmpi .sgt c2_i32_267 c0_i32_270
  let v525 : BitVec 32 := Scalar.extui v524
  let c0_i32_271 : BitVec 32 := 0#32
  let v526 : BitVec 1 := Scalar.cmpi .slt c2_i32_267 c0_i32_271
  let v527 : BitVec 32 := Scalar.extui v526
  let v528 : BitVec 32 := Scalar.subi v525 v527
  let v529 : BitVec 1 := Scalar.cmpi .ne v523 v528
  let v530 : BitVec 32 := Scalar.remsi v500 c2_i32_267
  let c0_i32_272 : BitVec 32 := 0#32
  let v531 : BitVec 1 := Scalar.cmpi .ne v530 c0_i32_272
  let v532 : BitVec 1 := Scalar.andi v529 v531
  let v518 : BitVec 32 := Scalar.divsi v500 c2_i32_267
  let c1_i32_273 : BitVec 32 := 1#32
  let v533 : BitVec 32 := Scalar.subi v518 c1_i32_273
  let v534 : BitVec 32 := Scalar.select v532 v533 v518
  let c2_i32_274 : BitVec 32 := 2#32
  let c0_i32_275 : BitVec 32 := 0#32
  let v535 : BitVec 1 := Scalar.cmpi .eq c2_i32_274 c0_i32_275
  let c1_i32_276 : BitVec 32 := 1#32
  let v536 : BitVec 32 := Scalar.select v535 c1_i32_276 c2_i32_274
  let v537 : BitVec 32 := Scalar.remsi v534 v536
  let c0_i32_278 : BitVec 32 := 0#32
  let v539 : BitVec 1 := Scalar.cmpi .slt v537 c0_i32_278
  let c0_i32_279 : BitVec 32 := 0#32
  let v540 : BitVec 1 := Scalar.cmpi .slt v536 c0_i32_279
  let v541 : BitVec 1 := Scalar.xori v539 v540
  let c0_i32_277 : BitVec 32 := 0#32
  let v538 : BitVec 1 := Scalar.cmpi .ne v537 c0_i32_277
  let v542 : BitVec 1 := Scalar.andi v541 v538
  let v543 : BitVec 32 := Scalar.addi v537 v536
  let v544 : BitVec 32 := Scalar.select v542 v543 v537
  let c4_i32_290 : BitVec 32 := 4#32
  let v559 : BitVec 32 := Scalar.muli v544 c4_i32_290
  let v560 : BitVec 32 := Scalar.addi v558 v559
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_280 : BitVec 32 := 2#32
  let v545 : BitVec 32 := Scalar.muli v25 c2_i32_280
  let c2_i32_281 : BitVec 32 := 2#32
  let c0_i32_282 : BitVec 32 := 0#32
  let v546 : BitVec 1 := Scalar.cmpi .eq c2_i32_281 c0_i32_282
  let c1_i32_283 : BitVec 32 := 1#32
  let v547 : BitVec 32 := Scalar.select v546 c1_i32_283 c2_i32_281
  let v548 : BitVec 32 := Scalar.remsi v500 v547
  let c0_i32_285 : BitVec 32 := 0#32
  let v550 : BitVec 1 := Scalar.cmpi .slt v548 c0_i32_285
  let c0_i32_286 : BitVec 32 := 0#32
  let v551 : BitVec 1 := Scalar.cmpi .slt v547 c0_i32_286
  let v552 : BitVec 1 := Scalar.xori v550 v551
  let c0_i32_284 : BitVec 32 := 0#32
  let v549 : BitVec 1 := Scalar.cmpi .ne v548 c0_i32_284
  let v553 : BitVec 1 := Scalar.andi v552 v549
  let v554 : BitVec 32 := Scalar.addi v548 v547
  let v555 : BitVec 32 := Scalar.select v553 v554 v548
  let v556 : BitVec 32 := Scalar.addi v545 v555
  let c1_i32_291 : BitVec 32 := 1#32
  let v561 : BitVec 32 := Scalar.muli v556 c1_i32_291
  let v562 : BitVec 32 := Scalar.addi v560 v561
  v562.toNat
def k0_dev8 (d0 : Dev nD) : Nat :=
  let c0_i32_294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_293 : BitVec 32 := 8#32
  let v563 : BitVec 32 := Scalar.muli v2 c8_i32_293
  let v564 : BitVec 32 := Scalar.addi c0_i32_294 v563
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_295 : BitVec 32 := 4#32
  let v565 : BitVec 32 := Scalar.muli v5 c4_i32_295
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v40 : BitVec 32 := Scalar.addi v8 c2_i32_16
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_296 : BitVec 32 := 1#32
  let v567 : BitVec 32 := Scalar.muli v50 c1_i32_296
  let v568 : BitVec 32 := Scalar.addi v566 v567
  v568.toNat
def k0_off1 (d0 : Dev nD) (c1_i32_298 : BitVec 32) (c0_i32_305 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let v569 : BitVec 32 := Scalar.addi v39 c1_i32_298
  let c8_i32_299 : BitVec 32 := 8#32
  let c0_i32_300 : BitVec 32 := 0#32
  let v570 : BitVec 1 := Scalar.cmpi .eq c8_i32_299 c0_i32_300
  let c1_i32_301 : BitVec 32 := 1#32
  let v571 : BitVec 32 := Scalar.select v570 c1_i32_301 c8_i32_299
  let v572 : BitVec 32 := Scalar.remsi v569 v571
  let c0_i32_303 : BitVec 32 := 0#32
  let v574 : BitVec 1 := Scalar.cmpi .slt v572 c0_i32_303
  let c0_i32_304 : BitVec 32 := 0#32
  let v575 : BitVec 1 := Scalar.cmpi .slt v571 c0_i32_304
  let v576 : BitVec 1 := Scalar.xori v574 v575
  let c0_i32_302 : BitVec 32 := 0#32
  let v573 : BitVec 1 := Scalar.cmpi .ne v572 c0_i32_302
  let v577 : BitVec 1 := Scalar.andi v576 v573
  let v578 : BitVec 32 := Scalar.addi v572 v571
  let v579 : BitVec 32 := Scalar.select v577 v578 v572
  let c64_i32 : BitVec 32 := 64#32
  let v580 : BitVec 32 := Scalar.muli v579 c64_i32
  let v581 : BitVec 32 := Scalar.addi v580 c0_i32_305
  let c0_i32_345 : BitVec 32 := 0#32
  ![v581.toNat, 0]
def k0_dev9 (d0 : Dev nD) : Nat :=
  let c0_i32_340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_298 : BitVec 32 := 1#32
  let v569 : BitVec 32 := Scalar.addi v39 c1_i32_298
  let c8_i32_299 : BitVec 32 := 8#32
  let c0_i32_300 : BitVec 32 := 0#32
  let v570 : BitVec 1 := Scalar.cmpi .eq c8_i32_299 c0_i32_300
  let c1_i32_301 : BitVec 32 := 1#32
  let v571 : BitVec 32 := Scalar.select v570 c1_i32_301 c8_i32_299
  let v572 : BitVec 32 := Scalar.remsi v569 v571
  let c0_i32_303 : BitVec 32 := 0#32
  let v574 : BitVec 1 := Scalar.cmpi .slt v572 c0_i32_303
  let c0_i32_304 : BitVec 32 := 0#32
  let v575 : BitVec 1 := Scalar.cmpi .slt v571 c0_i32_304
  let v576 : BitVec 1 := Scalar.xori v574 v575
  let c0_i32_302 : BitVec 32 := 0#32
  let v573 : BitVec 1 := Scalar.cmpi .ne v572 c0_i32_302
  let v577 : BitVec 1 := Scalar.andi v576 v573
  let v578 : BitVec 32 := Scalar.addi v572 v571
  let v579 : BitVec 32 := Scalar.select v577 v578 v572
  let c0_i32_307 : BitVec 32 := 0#32
  let v583 : BitVec 1 := Scalar.cmpi .sgt v579 c0_i32_307
  let v584 : BitVec 32 := Scalar.extui v583
  let c0_i32_308 : BitVec 32 := 0#32
  let v585 : BitVec 1 := Scalar.cmpi .slt v579 c0_i32_308
  let v586 : BitVec 32 := Scalar.extui v585
  let v587 : BitVec 32 := Scalar.subi v584 v586
  let c4_i32_306 : BitVec 32 := 4#32
  let c0_i32_309 : BitVec 32 := 0#32
  let v588 : BitVec 1 := Scalar.cmpi .sgt c4_i32_306 c0_i32_309
  let v589 : BitVec 32 := Scalar.extui v588
  let c0_i32_310 : BitVec 32 := 0#32
  let v590 : BitVec 1 := Scalar.cmpi .slt c4_i32_306 c0_i32_310
  let v591 : BitVec 32 := Scalar.extui v590
  let v592 : BitVec 32 := Scalar.subi v589 v591
  let v593 : BitVec 1 := Scalar.cmpi .ne v587 v592
  let v594 : BitVec 32 := Scalar.remsi v579 c4_i32_306
  let c0_i32_311 : BitVec 32 := 0#32
  let v595 : BitVec 1 := Scalar.cmpi .ne v594 c0_i32_311
  let v596 : BitVec 1 := Scalar.andi v593 v595
  let v582 : BitVec 32 := Scalar.divsi v579 c4_i32_306
  let c1_i32_312 : BitVec 32 := 1#32
  let v597 : BitVec 32 := Scalar.subi v582 c1_i32_312
  let v598 : BitVec 32 := Scalar.select v596 v597 v582
  let c8_i32_339 : BitVec 32 := 8#32
  let v638 : BitVec 32 := Scalar.muli v598 c8_i32_339
  let v639 : BitVec 32 := Scalar.addi c0_i32_340 v638
  let c0_i32_314 : BitVec 32 := 0#32
  let v600 : BitVec 1 := Scalar.cmpi .sgt v579 c0_i32_314
  let v601 : BitVec 32 := Scalar.extui v600
  let c0_i32_315 : BitVec 32 := 0#32
  let v602 : BitVec 1 := Scalar.cmpi .slt v579 c0_i32_315
  let v603 : BitVec 32 := Scalar.extui v602
  let v604 : BitVec 32 := Scalar.subi v601 v603
  let c2_i32_313 : BitVec 32 := 2#32
  let c0_i32_316 : BitVec 32 := 0#32
  let v605 : BitVec 1 := Scalar.cmpi .sgt c2_i32_313 c0_i32_316
  let v606 : BitVec 32 := Scalar.extui v605
  let c0_i32_317 : BitVec 32 := 0#32
  let v607 : BitVec 1 := Scalar.cmpi .slt c2_i32_313 c0_i32_317
  let v608 : BitVec 32 := Scalar.extui v607
  let v609 : BitVec 32 := Scalar.subi v606 v608
  let v610 : BitVec 1 := Scalar.cmpi .ne v604 v609
  let v611 : BitVec 32 := Scalar.remsi v579 c2_i32_313
  let c0_i32_318 : BitVec 32 := 0#32
  let v612 : BitVec 1 := Scalar.cmpi .ne v611 c0_i32_318
  let v613 : BitVec 1 := Scalar.andi v610 v612
  let v599 : BitVec 32 := Scalar.divsi v579 c2_i32_313
  let c1_i32_319 : BitVec 32 := 1#32
  let v614 : BitVec 32 := Scalar.subi v599 c1_i32_319
  let v615 : BitVec 32 := Scalar.select v613 v614 v599
  let c2_i32_320 : BitVec 32 := 2#32
  let c0_i32_321 : BitVec 32 := 0#32
  let v616 : BitVec 1 := Scalar.cmpi .eq c2_i32_320 c0_i32_321
  let c1_i32_322 : BitVec 32 := 1#32
  let v617 : BitVec 32 := Scalar.select v616 c1_i32_322 c2_i32_320
  let v618 : BitVec 32 := Scalar.remsi v615 v617
  let c0_i32_324 : BitVec 32 := 0#32
  let v620 : BitVec 1 := Scalar.cmpi .slt v618 c0_i32_324
  let c0_i32_325 : BitVec 32 := 0#32
  let v621 : BitVec 1 := Scalar.cmpi .slt v617 c0_i32_325
  let v622 : BitVec 1 := Scalar.xori v620 v621
  let c0_i32_323 : BitVec 32 := 0#32
  let v619 : BitVec 1 := Scalar.cmpi .ne v618 c0_i32_323
  let v623 : BitVec 1 := Scalar.andi v622 v619
  let v624 : BitVec 32 := Scalar.addi v618 v617
  let v625 : BitVec 32 := Scalar.select v623 v624 v618
  let c4_i32_341 : BitVec 32 := 4#32
  let v640 : BitVec 32 := Scalar.muli v625 c4_i32_341
  let v641 : BitVec 32 := Scalar.addi v639 v640
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_326 : BitVec 32 := 2#32
  let v626 : BitVec 32 := Scalar.muli v25 c2_i32_326
  let c2_i32_327 : BitVec 32 := 2#32
  let c0_i32_328 : BitVec 32 := 0#32
  let v627 : BitVec 1 := Scalar.cmpi .eq c2_i32_327 c0_i32_328
  let c1_i32_329 : BitVec 32 := 1#32
  let v628 : BitVec 32 := Scalar.select v627 c1_i32_329 c2_i32_327
  let v629 : BitVec 32 := Scalar.remsi v579 v628
  let c0_i32_331 : BitVec 32 := 0#32
  let v631 : BitVec 1 := Scalar.cmpi .slt v629 c0_i32_331
  let c0_i32_332 : BitVec 32 := 0#32
  let v632 : BitVec 1 := Scalar.cmpi .slt v628 c0_i32_332
  let v633 : BitVec 1 := Scalar.xori v631 v632
  let c0_i32_330 : BitVec 32 := 0#32
  let v630 : BitVec 1 := Scalar.cmpi .ne v629 c0_i32_330
  let v634 : BitVec 1 := Scalar.andi v633 v630
  let v635 : BitVec 32 := Scalar.addi v629 v628
  let v636 : BitVec 32 := Scalar.select v634 v635 v629
  let v637 : BitVec 32 := Scalar.addi v626 v636
  let c1_i32_342 : BitVec 32 := 1#32
  let v642 : BitVec 32 := Scalar.muli v637 c1_i32_342
  let v643 : BitVec 32 := Scalar.addi v641 v642
  v643.toNat
def k0_dev10 (d0 : Dev nD) : Nat :=
  let c0_i32_389 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_346 : BitVec 32 := 2#32
  let v651 : BitVec 32 := Scalar.addi v39 c2_i32_346
  let c8_i32_347 : BitVec 32 := 8#32
  let c0_i32_348 : BitVec 32 := 0#32
  let v652 : BitVec 1 := Scalar.cmpi .eq c8_i32_347 c0_i32_348
  let c1_i32_349 : BitVec 32 := 1#32
  let v653 : BitVec 32 := Scalar.select v652 c1_i32_349 c8_i32_347
  let v654 : BitVec 32 := Scalar.remsi v651 v653
  let c0_i32_351 : BitVec 32 := 0#32
  let v656 : BitVec 1 := Scalar.cmpi .slt v654 c0_i32_351
  let c0_i32_352 : BitVec 32 := 0#32
  let v657 : BitVec 1 := Scalar.cmpi .slt v653 c0_i32_352
  let v658 : BitVec 1 := Scalar.xori v656 v657
  let c0_i32_350 : BitVec 32 := 0#32
  let v655 : BitVec 1 := Scalar.cmpi .ne v654 c0_i32_350
  let v659 : BitVec 1 := Scalar.andi v658 v655
  let v660 : BitVec 32 := Scalar.addi v654 v653
  let v661 : BitVec 32 := Scalar.select v659 v660 v654
  let c0_i32_356 : BitVec 32 := 0#32
  let v665 : BitVec 1 := Scalar.cmpi .sgt v661 c0_i32_356
  let v666 : BitVec 32 := Scalar.extui v665
  let c0_i32_357 : BitVec 32 := 0#32
  let v667 : BitVec 1 := Scalar.cmpi .slt v661 c0_i32_357
  let v668 : BitVec 32 := Scalar.extui v667
  let v669 : BitVec 32 := Scalar.subi v666 v668
  let c4_i32_355 : BitVec 32 := 4#32
  let c0_i32_358 : BitVec 32 := 0#32
  let v670 : BitVec 1 := Scalar.cmpi .sgt c4_i32_355 c0_i32_358
  let v671 : BitVec 32 := Scalar.extui v670
  let c0_i32_359 : BitVec 32 := 0#32
  let v672 : BitVec 1 := Scalar.cmpi .slt c4_i32_355 c0_i32_359
  let v673 : BitVec 32 := Scalar.extui v672
  let v674 : BitVec 32 := Scalar.subi v671 v673
  let v675 : BitVec 1 := Scalar.cmpi .ne v669 v674
  let v676 : BitVec 32 := Scalar.remsi v661 c4_i32_355
  let c0_i32_360 : BitVec 32 := 0#32
  let v677 : BitVec 1 := Scalar.cmpi .ne v676 c0_i32_360
  let v678 : BitVec 1 := Scalar.andi v675 v677
  let v664 : BitVec 32 := Scalar.divsi v661 c4_i32_355
  let c1_i32_361 : BitVec 32 := 1#32
  let v679 : BitVec 32 := Scalar.subi v664 c1_i32_361
  let v680 : BitVec 32 := Scalar.select v678 v679 v664
  let c8_i32_388 : BitVec 32 := 8#32
  let v720 : BitVec 32 := Scalar.muli v680 c8_i32_388
  let v721 : BitVec 32 := Scalar.addi c0_i32_389 v720
  let c0_i32_363 : BitVec 32 := 0#32
  let v682 : BitVec 1 := Scalar.cmpi .sgt v661 c0_i32_363
  let v683 : BitVec 32 := Scalar.extui v682
  let c0_i32_364 : BitVec 32 := 0#32
  let v684 : BitVec 1 := Scalar.cmpi .slt v661 c0_i32_364
  let v685 : BitVec 32 := Scalar.extui v684
  let v686 : BitVec 32 := Scalar.subi v683 v685
  let c2_i32_362 : BitVec 32 := 2#32
  let c0_i32_365 : BitVec 32 := 0#32
  let v687 : BitVec 1 := Scalar.cmpi .sgt c2_i32_362 c0_i32_365
  let v688 : BitVec 32 := Scalar.extui v687
  let c0_i32_366 : BitVec 32 := 0#32
  let v689 : BitVec 1 := Scalar.cmpi .slt c2_i32_362 c0_i32_366
  let v690 : BitVec 32 := Scalar.extui v689
  let v691 : BitVec 32 := Scalar.subi v688 v690
  let v692 : BitVec 1 := Scalar.cmpi .ne v686 v691
  let v693 : BitVec 32 := Scalar.remsi v661 c2_i32_362
  let c0_i32_367 : BitVec 32 := 0#32
  let v694 : BitVec 1 := Scalar.cmpi .ne v693 c0_i32_367
  let v695 : BitVec 1 := Scalar.andi v692 v694
  let v681 : BitVec 32 := Scalar.divsi v661 c2_i32_362
  let c1_i32_368 : BitVec 32 := 1#32
  let v696 : BitVec 32 := Scalar.subi v681 c1_i32_368
  let v697 : BitVec 32 := Scalar.select v695 v696 v681
  let c2_i32_369 : BitVec 32 := 2#32
  let c0_i32_370 : BitVec 32 := 0#32
  let v698 : BitVec 1 := Scalar.cmpi .eq c2_i32_369 c0_i32_370
  let c1_i32_371 : BitVec 32 := 1#32
  let v699 : BitVec 32 := Scalar.select v698 c1_i32_371 c2_i32_369
  let v700 : BitVec 32 := Scalar.remsi v697 v699
  let c0_i32_373 : BitVec 32 := 0#32
  let v702 : BitVec 1 := Scalar.cmpi .slt v700 c0_i32_373
  let c0_i32_374 : BitVec 32 := 0#32
  let v703 : BitVec 1 := Scalar.cmpi .slt v699 c0_i32_374
  let v704 : BitVec 1 := Scalar.xori v702 v703
  let c0_i32_372 : BitVec 32 := 0#32
  let v701 : BitVec 1 := Scalar.cmpi .ne v700 c0_i32_372
  let v705 : BitVec 1 := Scalar.andi v704 v701
  let v706 : BitVec 32 := Scalar.addi v700 v699
  let v707 : BitVec 32 := Scalar.select v705 v706 v700
  let c4_i32_390 : BitVec 32 := 4#32
  let v722 : BitVec 32 := Scalar.muli v707 c4_i32_390
  let v723 : BitVec 32 := Scalar.addi v721 v722
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_375 : BitVec 32 := 2#32
  let v708 : BitVec 32 := Scalar.muli v25 c2_i32_375
  let c2_i32_376 : BitVec 32 := 2#32
  let c0_i32_377 : BitVec 32 := 0#32
  let v709 : BitVec 1 := Scalar.cmpi .eq c2_i32_376 c0_i32_377
  let c1_i32_378 : BitVec 32 := 1#32
  let v710 : BitVec 32 := Scalar.select v709 c1_i32_378 c2_i32_376
  let v711 : BitVec 32 := Scalar.remsi v661 v710
  let c0_i32_380 : BitVec 32 := 0#32
  let v713 : BitVec 1 := Scalar.cmpi .slt v711 c0_i32_380
  let c0_i32_381 : BitVec 32 := 0#32
  let v714 : BitVec 1 := Scalar.cmpi .slt v710 c0_i32_381
  let v715 : BitVec 1 := Scalar.xori v713 v714
  let c0_i32_379 : BitVec 32 := 0#32
  let v712 : BitVec 1 := Scalar.cmpi .ne v711 c0_i32_379
  let v716 : BitVec 1 := Scalar.andi v715 v712
  let v717 : BitVec 32 := Scalar.addi v711 v710
  let v718 : BitVec 32 := Scalar.select v716 v717 v711
  let v719 : BitVec 32 := Scalar.addi v708 v718
  let c1_i32_391 : BitVec 32 := 1#32
  let v724 : BitVec 32 := Scalar.muli v719 c1_i32_391
  let v725 : BitVec 32 := Scalar.addi v723 v724
  v725.toNat
def k0_dev11 (d0 : Dev nD) : Nat :=
  let c0_i32_438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_395 : BitVec 32 := 3#32
  let v733 : BitVec 32 := Scalar.addi v39 c3_i32_395
  let c8_i32_396 : BitVec 32 := 8#32
  let c0_i32_397 : BitVec 32 := 0#32
  let v734 : BitVec 1 := Scalar.cmpi .eq c8_i32_396 c0_i32_397
  let c1_i32_398 : BitVec 32 := 1#32
  let v735 : BitVec 32 := Scalar.select v734 c1_i32_398 c8_i32_396
  let v736 : BitVec 32 := Scalar.remsi v733 v735
  let c0_i32_400 : BitVec 32 := 0#32
  let v738 : BitVec 1 := Scalar.cmpi .slt v736 c0_i32_400
  let c0_i32_401 : BitVec 32 := 0#32
  let v739 : BitVec 1 := Scalar.cmpi .slt v735 c0_i32_401
  let v740 : BitVec 1 := Scalar.xori v738 v739
  let c0_i32_399 : BitVec 32 := 0#32
  let v737 : BitVec 1 := Scalar.cmpi .ne v736 c0_i32_399
  let v741 : BitVec 1 := Scalar.andi v740 v737
  let v742 : BitVec 32 := Scalar.addi v736 v735
  let v743 : BitVec 32 := Scalar.select v741 v742 v736
  let c0_i32_405 : BitVec 32 := 0#32
  let v747 : BitVec 1 := Scalar.cmpi .sgt v743 c0_i32_405
  let v748 : BitVec 32 := Scalar.extui v747
  let c0_i32_406 : BitVec 32 := 0#32
  let v749 : BitVec 1 := Scalar.cmpi .slt v743 c0_i32_406
  let v750 : BitVec 32 := Scalar.extui v749
  let v751 : BitVec 32 := Scalar.subi v748 v750
  let c4_i32_404 : BitVec 32 := 4#32
  let c0_i32_407 : BitVec 32 := 0#32
  let v752 : BitVec 1 := Scalar.cmpi .sgt c4_i32_404 c0_i32_407
  let v753 : BitVec 32 := Scalar.extui v752
  let c0_i32_408 : BitVec 32 := 0#32
  let v754 : BitVec 1 := Scalar.cmpi .slt c4_i32_404 c0_i32_408
  let v755 : BitVec 32 := Scalar.extui v754
  let v756 : BitVec 32 := Scalar.subi v753 v755
  let v757 : BitVec 1 := Scalar.cmpi .ne v751 v756
  let v758 : BitVec 32 := Scalar.remsi v743 c4_i32_404
  let c0_i32_409 : BitVec 32 := 0#32
  let v759 : BitVec 1 := Scalar.cmpi .ne v758 c0_i32_409
  let v760 : BitVec 1 := Scalar.andi v757 v759
  let v746 : BitVec 32 := Scalar.divsi v743 c4_i32_404
  let c1_i32_410 : BitVec 32 := 1#32
  let v761 : BitVec 32 := Scalar.subi v746 c1_i32_410
  let v762 : BitVec 32 := Scalar.select v760 v761 v746
  let c8_i32_437 : BitVec 32 := 8#32
  let v802 : BitVec 32 := Scalar.muli v762 c8_i32_437
  let v803 : BitVec 32 := Scalar.addi c0_i32_438 v802
  let c0_i32_412 : BitVec 32 := 0#32
  let v764 : BitVec 1 := Scalar.cmpi .sgt v743 c0_i32_412
  let v765 : BitVec 32 := Scalar.extui v764
  let c0_i32_413 : BitVec 32 := 0#32
  let v766 : BitVec 1 := Scalar.cmpi .slt v743 c0_i32_413
  let v767 : BitVec 32 := Scalar.extui v766
  let v768 : BitVec 32 := Scalar.subi v765 v767
  let c2_i32_411 : BitVec 32 := 2#32
  let c0_i32_414 : BitVec 32 := 0#32
  let v769 : BitVec 1 := Scalar.cmpi .sgt c2_i32_411 c0_i32_414
  let v770 : BitVec 32 := Scalar.extui v769
  let c0_i32_415 : BitVec 32 := 0#32
  let v771 : BitVec 1 := Scalar.cmpi .slt c2_i32_411 c0_i32_415
  let v772 : BitVec 32 := Scalar.extui v771
  let v773 : BitVec 32 := Scalar.subi v770 v772
  let v774 : BitVec 1 := Scalar.cmpi .ne v768 v773
  let v775 : BitVec 32 := Scalar.remsi v743 c2_i32_411
  let c0_i32_416 : BitVec 32 := 0#32
  let v776 : BitVec 1 := Scalar.cmpi .ne v775 c0_i32_416
  let v777 : BitVec 1 := Scalar.andi v774 v776
  let v763 : BitVec 32 := Scalar.divsi v743 c2_i32_411
  let c1_i32_417 : BitVec 32 := 1#32
  let v778 : BitVec 32 := Scalar.subi v763 c1_i32_417
  let v779 : BitVec 32 := Scalar.select v777 v778 v763
  let c2_i32_418 : BitVec 32 := 2#32
  let c0_i32_419 : BitVec 32 := 0#32
  let v780 : BitVec 1 := Scalar.cmpi .eq c2_i32_418 c0_i32_419
  let c1_i32_420 : BitVec 32 := 1#32
  let v781 : BitVec 32 := Scalar.select v780 c1_i32_420 c2_i32_418
  let v782 : BitVec 32 := Scalar.remsi v779 v781
  let c0_i32_422 : BitVec 32 := 0#32
  let v784 : BitVec 1 := Scalar.cmpi .slt v782 c0_i32_422
  let c0_i32_423 : BitVec 32 := 0#32
  let v785 : BitVec 1 := Scalar.cmpi .slt v781 c0_i32_423
  let v786 : BitVec 1 := Scalar.xori v784 v785
  let c0_i32_421 : BitVec 32 := 0#32
  let v783 : BitVec 1 := Scalar.cmpi .ne v782 c0_i32_421
  let v787 : BitVec 1 := Scalar.andi v786 v783
  let v788 : BitVec 32 := Scalar.addi v782 v781
  let v789 : BitVec 32 := Scalar.select v787 v788 v782
  let c4_i32_439 : BitVec 32 := 4#32
  let v804 : BitVec 32 := Scalar.muli v789 c4_i32_439
  let v805 : BitVec 32 := Scalar.addi v803 v804
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_424 : BitVec 32 := 2#32
  let v790 : BitVec 32 := Scalar.muli v25 c2_i32_424
  let c2_i32_425 : BitVec 32 := 2#32
  let c0_i32_426 : BitVec 32 := 0#32
  let v791 : BitVec 1 := Scalar.cmpi .eq c2_i32_425 c0_i32_426
  let c1_i32_427 : BitVec 32 := 1#32
  let v792 : BitVec 32 := Scalar.select v791 c1_i32_427 c2_i32_425
  let v793 : BitVec 32 := Scalar.remsi v743 v792
  let c0_i32_429 : BitVec 32 := 0#32
  let v795 : BitVec 1 := Scalar.cmpi .slt v793 c0_i32_429
  let c0_i32_430 : BitVec 32 := 0#32
  let v796 : BitVec 1 := Scalar.cmpi .slt v792 c0_i32_430
  let v797 : BitVec 1 := Scalar.xori v795 v796
  let c0_i32_428 : BitVec 32 := 0#32
  let v794 : BitVec 1 := Scalar.cmpi .ne v793 c0_i32_428
  let v798 : BitVec 1 := Scalar.andi v797 v794
  let v799 : BitVec 32 := Scalar.addi v793 v792
  let v800 : BitVec 32 := Scalar.select v798 v799 v793
  let v801 : BitVec 32 := Scalar.addi v790 v800
  let c1_i32_440 : BitVec 32 := 1#32
  let v806 : BitVec 32 := Scalar.muli v801 c1_i32_440
  let v807 : BitVec 32 := Scalar.addi v805 v806
  v807.toNat
def k0_dev12 (d0 : Dev nD) : Nat :=
  let c0_i32_487 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_444 : BitVec 32 := 4#32
  let v815 : BitVec 32 := Scalar.addi v39 c4_i32_444
  let c8_i32_445 : BitVec 32 := 8#32
  let c0_i32_446 : BitVec 32 := 0#32
  let v816 : BitVec 1 := Scalar.cmpi .eq c8_i32_445 c0_i32_446
  let c1_i32_447 : BitVec 32 := 1#32
  let v817 : BitVec 32 := Scalar.select v816 c1_i32_447 c8_i32_445
  let v818 : BitVec 32 := Scalar.remsi v815 v817
  let c0_i32_449 : BitVec 32 := 0#32
  let v820 : BitVec 1 := Scalar.cmpi .slt v818 c0_i32_449
  let c0_i32_450 : BitVec 32 := 0#32
  let v821 : BitVec 1 := Scalar.cmpi .slt v817 c0_i32_450
  let v822 : BitVec 1 := Scalar.xori v820 v821
  let c0_i32_448 : BitVec 32 := 0#32
  let v819 : BitVec 1 := Scalar.cmpi .ne v818 c0_i32_448
  let v823 : BitVec 1 := Scalar.andi v822 v819
  let v824 : BitVec 32 := Scalar.addi v818 v817
  let v825 : BitVec 32 := Scalar.select v823 v824 v818
  let c0_i32_454 : BitVec 32 := 0#32
  let v829 : BitVec 1 := Scalar.cmpi .sgt v825 c0_i32_454
  let v830 : BitVec 32 := Scalar.extui v829
  let c0_i32_455 : BitVec 32 := 0#32
  let v831 : BitVec 1 := Scalar.cmpi .slt v825 c0_i32_455
  let v832 : BitVec 32 := Scalar.extui v831
  let v833 : BitVec 32 := Scalar.subi v830 v832
  let c4_i32_453 : BitVec 32 := 4#32
  let c0_i32_456 : BitVec 32 := 0#32
  let v834 : BitVec 1 := Scalar.cmpi .sgt c4_i32_453 c0_i32_456
  let v835 : BitVec 32 := Scalar.extui v834
  let c0_i32_457 : BitVec 32 := 0#32
  let v836 : BitVec 1 := Scalar.cmpi .slt c4_i32_453 c0_i32_457
  let v837 : BitVec 32 := Scalar.extui v836
  let v838 : BitVec 32 := Scalar.subi v835 v837
  let v839 : BitVec 1 := Scalar.cmpi .ne v833 v838
  let v840 : BitVec 32 := Scalar.remsi v825 c4_i32_453
  let c0_i32_458 : BitVec 32 := 0#32
  let v841 : BitVec 1 := Scalar.cmpi .ne v840 c0_i32_458
  let v842 : BitVec 1 := Scalar.andi v839 v841
  let v828 : BitVec 32 := Scalar.divsi v825 c4_i32_453
  let c1_i32_459 : BitVec 32 := 1#32
  let v843 : BitVec 32 := Scalar.subi v828 c1_i32_459
  let v844 : BitVec 32 := Scalar.select v842 v843 v828
  let c8_i32_486 : BitVec 32 := 8#32
  let v884 : BitVec 32 := Scalar.muli v844 c8_i32_486
  let v885 : BitVec 32 := Scalar.addi c0_i32_487 v884
  let c0_i32_461 : BitVec 32 := 0#32
  let v846 : BitVec 1 := Scalar.cmpi .sgt v825 c0_i32_461
  let v847 : BitVec 32 := Scalar.extui v846
  let c0_i32_462 : BitVec 32 := 0#32
  let v848 : BitVec 1 := Scalar.cmpi .slt v825 c0_i32_462
  let v849 : BitVec 32 := Scalar.extui v848
  let v850 : BitVec 32 := Scalar.subi v847 v849
  let c2_i32_460 : BitVec 32 := 2#32
  let c0_i32_463 : BitVec 32 := 0#32
  let v851 : BitVec 1 := Scalar.cmpi .sgt c2_i32_460 c0_i32_463
  let v852 : BitVec 32 := Scalar.extui v851
  let c0_i32_464 : BitVec 32 := 0#32
  let v853 : BitVec 1 := Scalar.cmpi .slt c2_i32_460 c0_i32_464
  let v854 : BitVec 32 := Scalar.extui v853
  let v855 : BitVec 32 := Scalar.subi v852 v854
  let v856 : BitVec 1 := Scalar.cmpi .ne v850 v855
  let v857 : BitVec 32 := Scalar.remsi v825 c2_i32_460
  let c0_i32_465 : BitVec 32 := 0#32
  let v858 : BitVec 1 := Scalar.cmpi .ne v857 c0_i32_465
  let v859 : BitVec 1 := Scalar.andi v856 v858
  let v845 : BitVec 32 := Scalar.divsi v825 c2_i32_460
  let c1_i32_466 : BitVec 32 := 1#32
  let v860 : BitVec 32 := Scalar.subi v845 c1_i32_466
  let v861 : BitVec 32 := Scalar.select v859 v860 v845
  let c2_i32_467 : BitVec 32 := 2#32
  let c0_i32_468 : BitVec 32 := 0#32
  let v862 : BitVec 1 := Scalar.cmpi .eq c2_i32_467 c0_i32_468
  let c1_i32_469 : BitVec 32 := 1#32
  let v863 : BitVec 32 := Scalar.select v862 c1_i32_469 c2_i32_467
  let v864 : BitVec 32 := Scalar.remsi v861 v863
  let c0_i32_471 : BitVec 32 := 0#32
  let v866 : BitVec 1 := Scalar.cmpi .slt v864 c0_i32_471
  let c0_i32_472 : BitVec 32 := 0#32
  let v867 : BitVec 1 := Scalar.cmpi .slt v863 c0_i32_472
  let v868 : BitVec 1 := Scalar.xori v866 v867
  let c0_i32_470 : BitVec 32 := 0#32
  let v865 : BitVec 1 := Scalar.cmpi .ne v864 c0_i32_470
  let v869 : BitVec 1 := Scalar.andi v868 v865
  let v870 : BitVec 32 := Scalar.addi v864 v863
  let v871 : BitVec 32 := Scalar.select v869 v870 v864
  let c4_i32_488 : BitVec 32 := 4#32
  let v886 : BitVec 32 := Scalar.muli v871 c4_i32_488
  let v887 : BitVec 32 := Scalar.addi v885 v886
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_473 : BitVec 32 := 2#32
  let v872 : BitVec 32 := Scalar.muli v25 c2_i32_473
  let c2_i32_474 : BitVec 32 := 2#32
  let c0_i32_475 : BitVec 32 := 0#32
  let v873 : BitVec 1 := Scalar.cmpi .eq c2_i32_474 c0_i32_475
  let c1_i32_476 : BitVec 32 := 1#32
  let v874 : BitVec 32 := Scalar.select v873 c1_i32_476 c2_i32_474
  let v875 : BitVec 32 := Scalar.remsi v825 v874
  let c0_i32_478 : BitVec 32 := 0#32
  let v877 : BitVec 1 := Scalar.cmpi .slt v875 c0_i32_478
  let c0_i32_479 : BitVec 32 := 0#32
  let v878 : BitVec 1 := Scalar.cmpi .slt v874 c0_i32_479
  let v879 : BitVec 1 := Scalar.xori v877 v878
  let c0_i32_477 : BitVec 32 := 0#32
  let v876 : BitVec 1 := Scalar.cmpi .ne v875 c0_i32_477
  let v880 : BitVec 1 := Scalar.andi v879 v876
  let v881 : BitVec 32 := Scalar.addi v875 v874
  let v882 : BitVec 32 := Scalar.select v880 v881 v875
  let v883 : BitVec 32 := Scalar.addi v872 v882
  let c1_i32_489 : BitVec 32 := 1#32
  let v888 : BitVec 32 := Scalar.muli v883 c1_i32_489
  let v889 : BitVec 32 := Scalar.addi v887 v888
  v889.toNat
def k0_dev13 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_493 : BitVec 32 := 5#32
  let v897 : BitVec 32 := Scalar.addi v39 c5_i32_493
  let c8_i32_494 : BitVec 32 := 8#32
  let c0_i32_495 : BitVec 32 := 0#32
  let v898 : BitVec 1 := Scalar.cmpi .eq c8_i32_494 c0_i32_495
  let c1_i32_496 : BitVec 32 := 1#32
  let v899 : BitVec 32 := Scalar.select v898 c1_i32_496 c8_i32_494
  let v900 : BitVec 32 := Scalar.remsi v897 v899
  let c0_i32_498 : BitVec 32 := 0#32
  let v902 : BitVec 1 := Scalar.cmpi .slt v900 c0_i32_498
  let c0_i32_499 : BitVec 32 := 0#32
  let v903 : BitVec 1 := Scalar.cmpi .slt v899 c0_i32_499
  let v904 : BitVec 1 := Scalar.xori v902 v903
  let c0_i32_497 : BitVec 32 := 0#32
  let v901 : BitVec 1 := Scalar.cmpi .ne v900 c0_i32_497
  let v905 : BitVec 1 := Scalar.andi v904 v901
  let v906 : BitVec 32 := Scalar.addi v900 v899
  let v907 : BitVec 32 := Scalar.select v905 v906 v900
  let c0_i32_503 : BitVec 32 := 0#32
  let v911 : BitVec 1 := Scalar.cmpi .sgt v907 c0_i32_503
  let v912 : BitVec 32 := Scalar.extui v911
  let c0_i32_504 : BitVec 32 := 0#32
  let v913 : BitVec 1 := Scalar.cmpi .slt v907 c0_i32_504
  let v914 : BitVec 32 := Scalar.extui v913
  let v915 : BitVec 32 := Scalar.subi v912 v914
  let c4_i32_502 : BitVec 32 := 4#32
  let c0_i32_505 : BitVec 32 := 0#32
  let v916 : BitVec 1 := Scalar.cmpi .sgt c4_i32_502 c0_i32_505
  let v917 : BitVec 32 := Scalar.extui v916
  let c0_i32_506 : BitVec 32 := 0#32
  let v918 : BitVec 1 := Scalar.cmpi .slt c4_i32_502 c0_i32_506
  let v919 : BitVec 32 := Scalar.extui v918
  let v920 : BitVec 32 := Scalar.subi v917 v919
  let v921 : BitVec 1 := Scalar.cmpi .ne v915 v920
  let v922 : BitVec 32 := Scalar.remsi v907 c4_i32_502
  let c0_i32_507 : BitVec 32 := 0#32
  let v923 : BitVec 1 := Scalar.cmpi .ne v922 c0_i32_507
  let v924 : BitVec 1 := Scalar.andi v921 v923
  let v910 : BitVec 32 := Scalar.divsi v907 c4_i32_502
  let c1_i32_508 : BitVec 32 := 1#32
  let v925 : BitVec 32 := Scalar.subi v910 c1_i32_508
  let v926 : BitVec 32 := Scalar.select v924 v925 v910
  let c8_i32_535 : BitVec 32 := 8#32
  let v966 : BitVec 32 := Scalar.muli v926 c8_i32_535
  let v967 : BitVec 32 := Scalar.addi c0_i32_536 v966
  let c0_i32_510 : BitVec 32 := 0#32
  let v928 : BitVec 1 := Scalar.cmpi .sgt v907 c0_i32_510
  let v929 : BitVec 32 := Scalar.extui v928
  let c0_i32_511 : BitVec 32 := 0#32
  let v930 : BitVec 1 := Scalar.cmpi .slt v907 c0_i32_511
  let v931 : BitVec 32 := Scalar.extui v930
  let v932 : BitVec 32 := Scalar.subi v929 v931
  let c2_i32_509 : BitVec 32 := 2#32
  let c0_i32_512 : BitVec 32 := 0#32
  let v933 : BitVec 1 := Scalar.cmpi .sgt c2_i32_509 c0_i32_512
  let v934 : BitVec 32 := Scalar.extui v933
  let c0_i32_513 : BitVec 32 := 0#32
  let v935 : BitVec 1 := Scalar.cmpi .slt c2_i32_509 c0_i32_513
  let v936 : BitVec 32 := Scalar.extui v935
  let v937 : BitVec 32 := Scalar.subi v934 v936
  let v938 : BitVec 1 := Scalar.cmpi .ne v932 v937
  let v939 : BitVec 32 := Scalar.remsi v907 c2_i32_509
  let c0_i32_514 : BitVec 32 := 0#32
  let v940 : BitVec 1 := Scalar.cmpi .ne v939 c0_i32_514
  let v941 : BitVec 1 := Scalar.andi v938 v940
  let v927 : BitVec 32 := Scalar.divsi v907 c2_i32_509
  let c1_i32_515 : BitVec 32 := 1#32
  let v942 : BitVec 32 := Scalar.subi v927 c1_i32_515
  let v943 : BitVec 32 := Scalar.select v941 v942 v927
  let c2_i32_516 : BitVec 32 := 2#32
  let c0_i32_517 : BitVec 32 := 0#32
  let v944 : BitVec 1 := Scalar.cmpi .eq c2_i32_516 c0_i32_517
  let c1_i32_518 : BitVec 32 := 1#32
  let v945 : BitVec 32 := Scalar.select v944 c1_i32_518 c2_i32_516
  let v946 : BitVec 32 := Scalar.remsi v943 v945
  let c0_i32_520 : BitVec 32 := 0#32
  let v948 : BitVec 1 := Scalar.cmpi .slt v946 c0_i32_520
  let c0_i32_521 : BitVec 32 := 0#32
  let v949 : BitVec 1 := Scalar.cmpi .slt v945 c0_i32_521
  let v950 : BitVec 1 := Scalar.xori v948 v949
  let c0_i32_519 : BitVec 32 := 0#32
  let v947 : BitVec 1 := Scalar.cmpi .ne v946 c0_i32_519
  let v951 : BitVec 1 := Scalar.andi v950 v947
  let v952 : BitVec 32 := Scalar.addi v946 v945
  let v953 : BitVec 32 := Scalar.select v951 v952 v946
  let c4_i32_537 : BitVec 32 := 4#32
  let v968 : BitVec 32 := Scalar.muli v953 c4_i32_537
  let v969 : BitVec 32 := Scalar.addi v967 v968
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_522 : BitVec 32 := 2#32
  let v954 : BitVec 32 := Scalar.muli v25 c2_i32_522
  let c2_i32_523 : BitVec 32 := 2#32
  let c0_i32_524 : BitVec 32 := 0#32
  let v955 : BitVec 1 := Scalar.cmpi .eq c2_i32_523 c0_i32_524
  let c1_i32_525 : BitVec 32 := 1#32
  let v956 : BitVec 32 := Scalar.select v955 c1_i32_525 c2_i32_523
  let v957 : BitVec 32 := Scalar.remsi v907 v956
  let c0_i32_527 : BitVec 32 := 0#32
  let v959 : BitVec 1 := Scalar.cmpi .slt v957 c0_i32_527
  let c0_i32_528 : BitVec 32 := 0#32
  let v960 : BitVec 1 := Scalar.cmpi .slt v956 c0_i32_528
  let v961 : BitVec 1 := Scalar.xori v959 v960
  let c0_i32_526 : BitVec 32 := 0#32
  let v958 : BitVec 1 := Scalar.cmpi .ne v957 c0_i32_526
  let v962 : BitVec 1 := Scalar.andi v961 v958
  let v963 : BitVec 32 := Scalar.addi v957 v956
  let v964 : BitVec 32 := Scalar.select v962 v963 v957
  let v965 : BitVec 32 := Scalar.addi v954 v964
  let c1_i32_538 : BitVec 32 := 1#32
  let v970 : BitVec 32 := Scalar.muli v965 c1_i32_538
  let v971 : BitVec 32 := Scalar.addi v969 v970
  v971.toNat
def k0_dev14 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_542 : BitVec 32 := 6#32
  let v979 : BitVec 32 := Scalar.addi v39 c6_i32_542
  let c8_i32_543 : BitVec 32 := 8#32
  let c0_i32_544 : BitVec 32 := 0#32
  let v980 : BitVec 1 := Scalar.cmpi .eq c8_i32_543 c0_i32_544
  let c1_i32_545 : BitVec 32 := 1#32
  let v981 : BitVec 32 := Scalar.select v980 c1_i32_545 c8_i32_543
  let v982 : BitVec 32 := Scalar.remsi v979 v981
  let c0_i32_547 : BitVec 32 := 0#32
  let v984 : BitVec 1 := Scalar.cmpi .slt v982 c0_i32_547
  let c0_i32_548 : BitVec 32 := 0#32
  let v985 : BitVec 1 := Scalar.cmpi .slt v981 c0_i32_548
  let v986 : BitVec 1 := Scalar.xori v984 v985
  let c0_i32_546 : BitVec 32 := 0#32
  let v983 : BitVec 1 := Scalar.cmpi .ne v982 c0_i32_546
  let v987 : BitVec 1 := Scalar.andi v986 v983
  let v988 : BitVec 32 := Scalar.addi v982 v981
  let v989 : BitVec 32 := Scalar.select v987 v988 v982
  let c0_i32_552 : BitVec 32 := 0#32
  let v993 : BitVec 1 := Scalar.cmpi .sgt v989 c0_i32_552
  let v994 : BitVec 32 := Scalar.extui v993
  let c0_i32_553 : BitVec 32 := 0#32
  let v995 : BitVec 1 := Scalar.cmpi .slt v989 c0_i32_553
  let v996 : BitVec 32 := Scalar.extui v995
  let v997 : BitVec 32 := Scalar.subi v994 v996
  let c4_i32_551 : BitVec 32 := 4#32
  let c0_i32_554 : BitVec 32 := 0#32
  let v998 : BitVec 1 := Scalar.cmpi .sgt c4_i32_551 c0_i32_554
  let v999 : BitVec 32 := Scalar.extui v998
  let c0_i32_555 : BitVec 32 := 0#32
  let v1000 : BitVec 1 := Scalar.cmpi .slt c4_i32_551 c0_i32_555
  let v1001 : BitVec 32 := Scalar.extui v1000
  let v1002 : BitVec 32 := Scalar.subi v999 v1001
  let v1003 : BitVec 1 := Scalar.cmpi .ne v997 v1002
  let v1004 : BitVec 32 := Scalar.remsi v989 c4_i32_551
  let c0_i32_556 : BitVec 32 := 0#32
  let v1005 : BitVec 1 := Scalar.cmpi .ne v1004 c0_i32_556
  let v1006 : BitVec 1 := Scalar.andi v1003 v1005
  let v992 : BitVec 32 := Scalar.divsi v989 c4_i32_551
  let c1_i32_557 : BitVec 32 := 1#32
  let v1007 : BitVec 32 := Scalar.subi v992 c1_i32_557
  let v1008 : BitVec 32 := Scalar.select v1006 v1007 v992
  let c8_i32_584 : BitVec 32 := 8#32
  let v1048 : BitVec 32 := Scalar.muli v1008 c8_i32_584
  let v1049 : BitVec 32 := Scalar.addi c0_i32_585 v1048
  let c0_i32_559 : BitVec 32 := 0#32
  let v1010 : BitVec 1 := Scalar.cmpi .sgt v989 c0_i32_559
  let v1011 : BitVec 32 := Scalar.extui v1010
  let c0_i32_560 : BitVec 32 := 0#32
  let v1012 : BitVec 1 := Scalar.cmpi .slt v989 c0_i32_560
  let v1013 : BitVec 32 := Scalar.extui v1012
  let v1014 : BitVec 32 := Scalar.subi v1011 v1013
  let c2_i32_558 : BitVec 32 := 2#32
  let c0_i32_561 : BitVec 32 := 0#32
  let v1015 : BitVec 1 := Scalar.cmpi .sgt c2_i32_558 c0_i32_561
  let v1016 : BitVec 32 := Scalar.extui v1015
  let c0_i32_562 : BitVec 32 := 0#32
  let v1017 : BitVec 1 := Scalar.cmpi .slt c2_i32_558 c0_i32_562
  let v1018 : BitVec 32 := Scalar.extui v1017
  let v1019 : BitVec 32 := Scalar.subi v1016 v1018
  let v1020 : BitVec 1 := Scalar.cmpi .ne v1014 v1019
  let v1021 : BitVec 32 := Scalar.remsi v989 c2_i32_558
  let c0_i32_563 : BitVec 32 := 0#32
  let v1022 : BitVec 1 := Scalar.cmpi .ne v1021 c0_i32_563
  let v1023 : BitVec 1 := Scalar.andi v1020 v1022
  let v1009 : BitVec 32 := Scalar.divsi v989 c2_i32_558
  let c1_i32_564 : BitVec 32 := 1#32
  let v1024 : BitVec 32 := Scalar.subi v1009 c1_i32_564
  let v1025 : BitVec 32 := Scalar.select v1023 v1024 v1009
  let c2_i32_565 : BitVec 32 := 2#32
  let c0_i32_566 : BitVec 32 := 0#32
  let v1026 : BitVec 1 := Scalar.cmpi .eq c2_i32_565 c0_i32_566
  let c1_i32_567 : BitVec 32 := 1#32
  let v1027 : BitVec 32 := Scalar.select v1026 c1_i32_567 c2_i32_565
  let v1028 : BitVec 32 := Scalar.remsi v1025 v1027
  let c0_i32_569 : BitVec 32 := 0#32
  let v1030 : BitVec 1 := Scalar.cmpi .slt v1028 c0_i32_569
  let c0_i32_570 : BitVec 32 := 0#32
  let v1031 : BitVec 1 := Scalar.cmpi .slt v1027 c0_i32_570
  let v1032 : BitVec 1 := Scalar.xori v1030 v1031
  let c0_i32_568 : BitVec 32 := 0#32
  let v1029 : BitVec 1 := Scalar.cmpi .ne v1028 c0_i32_568
  let v1033 : BitVec 1 := Scalar.andi v1032 v1029
  let v1034 : BitVec 32 := Scalar.addi v1028 v1027
  let v1035 : BitVec 32 := Scalar.select v1033 v1034 v1028
  let c4_i32_586 : BitVec 32 := 4#32
  let v1050 : BitVec 32 := Scalar.muli v1035 c4_i32_586
  let v1051 : BitVec 32 := Scalar.addi v1049 v1050
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_571 : BitVec 32 := 2#32
  let v1036 : BitVec 32 := Scalar.muli v25 c2_i32_571
  let c2_i32_572 : BitVec 32 := 2#32
  let c0_i32_573 : BitVec 32 := 0#32
  let v1037 : BitVec 1 := Scalar.cmpi .eq c2_i32_572 c0_i32_573
  let c1_i32_574 : BitVec 32 := 1#32
  let v1038 : BitVec 32 := Scalar.select v1037 c1_i32_574 c2_i32_572
  let v1039 : BitVec 32 := Scalar.remsi v989 v1038
  let c0_i32_576 : BitVec 32 := 0#32
  let v1041 : BitVec 1 := Scalar.cmpi .slt v1039 c0_i32_576
  let c0_i32_577 : BitVec 32 := 0#32
  let v1042 : BitVec 1 := Scalar.cmpi .slt v1038 c0_i32_577
  let v1043 : BitVec 1 := Scalar.xori v1041 v1042
  let c0_i32_575 : BitVec 32 := 0#32
  let v1040 : BitVec 1 := Scalar.cmpi .ne v1039 c0_i32_575
  let v1044 : BitVec 1 := Scalar.andi v1043 v1040
  let v1045 : BitVec 32 := Scalar.addi v1039 v1038
  let v1046 : BitVec 32 := Scalar.select v1044 v1045 v1039
  let v1047 : BitVec 32 := Scalar.addi v1036 v1046
  let c1_i32_587 : BitVec 32 := 1#32
  let v1052 : BitVec 32 := Scalar.muli v1047 c1_i32_587
  let v1053 : BitVec 32 := Scalar.addi v1051 v1052
  v1053.toNat
def k0_dev15 (d0 : Dev nD) : Nat :=
  let c0_i32_634 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_591 : BitVec 32 := 7#32
  let v1061 : BitVec 32 := Scalar.addi v39 c7_i32_591
  let c8_i32_592 : BitVec 32 := 8#32
  let c0_i32_593 : BitVec 32 := 0#32
  let v1062 : BitVec 1 := Scalar.cmpi .eq c8_i32_592 c0_i32_593
  let c1_i32_594 : BitVec 32 := 1#32
  let v1063 : BitVec 32 := Scalar.select v1062 c1_i32_594 c8_i32_592
  let v1064 : BitVec 32 := Scalar.remsi v1061 v1063
  let c0_i32_596 : BitVec 32 := 0#32
  let v1066 : BitVec 1 := Scalar.cmpi .slt v1064 c0_i32_596
  let c0_i32_597 : BitVec 32 := 0#32
  let v1067 : BitVec 1 := Scalar.cmpi .slt v1063 c0_i32_597
  let v1068 : BitVec 1 := Scalar.xori v1066 v1067
  let c0_i32_595 : BitVec 32 := 0#32
  let v1065 : BitVec 1 := Scalar.cmpi .ne v1064 c0_i32_595
  let v1069 : BitVec 1 := Scalar.andi v1068 v1065
  let v1070 : BitVec 32 := Scalar.addi v1064 v1063
  let v1071 : BitVec 32 := Scalar.select v1069 v1070 v1064
  let c0_i32_601 : BitVec 32 := 0#32
  let v1075 : BitVec 1 := Scalar.cmpi .sgt v1071 c0_i32_601
  let v1076 : BitVec 32 := Scalar.extui v1075
  let c0_i32_602 : BitVec 32 := 0#32
  let v1077 : BitVec 1 := Scalar.cmpi .slt v1071 c0_i32_602
  let v1078 : BitVec 32 := Scalar.extui v1077
  let v1079 : BitVec 32 := Scalar.subi v1076 v1078
  let c4_i32_600 : BitVec 32 := 4#32
  let c0_i32_603 : BitVec 32 := 0#32
  let v1080 : BitVec 1 := Scalar.cmpi .sgt c4_i32_600 c0_i32_603
  let v1081 : BitVec 32 := Scalar.extui v1080
  let c0_i32_604 : BitVec 32 := 0#32
  let v1082 : BitVec 1 := Scalar.cmpi .slt c4_i32_600 c0_i32_604
  let v1083 : BitVec 32 := Scalar.extui v1082
  let v1084 : BitVec 32 := Scalar.subi v1081 v1083
  let v1085 : BitVec 1 := Scalar.cmpi .ne v1079 v1084
  let v1086 : BitVec 32 := Scalar.remsi v1071 c4_i32_600
  let c0_i32_605 : BitVec 32 := 0#32
  let v1087 : BitVec 1 := Scalar.cmpi .ne v1086 c0_i32_605
  let v1088 : BitVec 1 := Scalar.andi v1085 v1087
  let v1074 : BitVec 32 := Scalar.divsi v1071 c4_i32_600
  let c1_i32_606 : BitVec 32 := 1#32
  let v1089 : BitVec 32 := Scalar.subi v1074 c1_i32_606
  let v1090 : BitVec 32 := Scalar.select v1088 v1089 v1074
  let c8_i32_633 : BitVec 32 := 8#32
  let v1130 : BitVec 32 := Scalar.muli v1090 c8_i32_633
  let v1131 : BitVec 32 := Scalar.addi c0_i32_634 v1130
  let c0_i32_608 : BitVec 32 := 0#32
  let v1092 : BitVec 1 := Scalar.cmpi .sgt v1071 c0_i32_608
  let v1093 : BitVec 32 := Scalar.extui v1092
  let c0_i32_609 : BitVec 32 := 0#32
  let v1094 : BitVec 1 := Scalar.cmpi .slt v1071 c0_i32_609
  let v1095 : BitVec 32 := Scalar.extui v1094
  let v1096 : BitVec 32 := Scalar.subi v1093 v1095
  let c2_i32_607 : BitVec 32 := 2#32
  let c0_i32_610 : BitVec 32 := 0#32
  let v1097 : BitVec 1 := Scalar.cmpi .sgt c2_i32_607 c0_i32_610
  let v1098 : BitVec 32 := Scalar.extui v1097
  let c0_i32_611 : BitVec 32 := 0#32
  let v1099 : BitVec 1 := Scalar.cmpi .slt c2_i32_607 c0_i32_611
  let v1100 : BitVec 32 := Scalar.extui v1099
  let v1101 : BitVec 32 := Scalar.subi v1098 v1100
  let v1102 : BitVec 1 := Scalar.cmpi .ne v1096 v1101
  let v1103 : BitVec 32 := Scalar.remsi v1071 c2_i32_607
  let c0_i32_612 : BitVec 32 := 0#32
  let v1104 : BitVec 1 := Scalar.cmpi .ne v1103 c0_i32_612
  let v1105 : BitVec 1 := Scalar.andi v1102 v1104
  let v1091 : BitVec 32 := Scalar.divsi v1071 c2_i32_607
  let c1_i32_613 : BitVec 32 := 1#32
  let v1106 : BitVec 32 := Scalar.subi v1091 c1_i32_613
  let v1107 : BitVec 32 := Scalar.select v1105 v1106 v1091
  let c2_i32_614 : BitVec 32 := 2#32
  let c0_i32_615 : BitVec 32 := 0#32
  let v1108 : BitVec 1 := Scalar.cmpi .eq c2_i32_614 c0_i32_615
  let c1_i32_616 : BitVec 32 := 1#32
  let v1109 : BitVec 32 := Scalar.select v1108 c1_i32_616 c2_i32_614
  let v1110 : BitVec 32 := Scalar.remsi v1107 v1109
  let c0_i32_618 : BitVec 32 := 0#32
  let v1112 : BitVec 1 := Scalar.cmpi .slt v1110 c0_i32_618
  let c0_i32_619 : BitVec 32 := 0#32
  let v1113 : BitVec 1 := Scalar.cmpi .slt v1109 c0_i32_619
  let v1114 : BitVec 1 := Scalar.xori v1112 v1113
  let c0_i32_617 : BitVec 32 := 0#32
  let v1111 : BitVec 1 := Scalar.cmpi .ne v1110 c0_i32_617
  let v1115 : BitVec 1 := Scalar.andi v1114 v1111
  let v1116 : BitVec 32 := Scalar.addi v1110 v1109
  let v1117 : BitVec 32 := Scalar.select v1115 v1116 v1110
  let c4_i32_635 : BitVec 32 := 4#32
  let v1132 : BitVec 32 := Scalar.muli v1117 c4_i32_635
  let v1133 : BitVec 32 := Scalar.addi v1131 v1132
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_620 : BitVec 32 := 2#32
  let v1118 : BitVec 32 := Scalar.muli v25 c2_i32_620
  let c2_i32_621 : BitVec 32 := 2#32
  let c0_i32_622 : BitVec 32 := 0#32
  let v1119 : BitVec 1 := Scalar.cmpi .eq c2_i32_621 c0_i32_622
  let c1_i32_623 : BitVec 32 := 1#32
  let v1120 : BitVec 32 := Scalar.select v1119 c1_i32_623 c2_i32_621
  let v1121 : BitVec 32 := Scalar.remsi v1071 v1120
  let c0_i32_625 : BitVec 32 := 0#32
  let v1123 : BitVec 1 := Scalar.cmpi .slt v1121 c0_i32_625
  let c0_i32_626 : BitVec 32 := 0#32
  let v1124 : BitVec 1 := Scalar.cmpi .slt v1120 c0_i32_626
  let v1125 : BitVec 1 := Scalar.xori v1123 v1124
  let c0_i32_624 : BitVec 32 := 0#32
  let v1122 : BitVec 1 := Scalar.cmpi .ne v1121 c0_i32_624
  let v1126 : BitVec 1 := Scalar.andi v1125 v1122
  let v1127 : BitVec 32 := Scalar.addi v1121 v1120
  let v1128 : BitVec 32 := Scalar.select v1126 v1127 v1121
  let v1129 : BitVec 32 := Scalar.addi v1118 v1128
  let c1_i32_636 : BitVec 32 := 1#32
  let v1134 : BitVec 32 := Scalar.muli v1129 c1_i32_636
  let v1135 : BitVec 32 := Scalar.addi v1133 v1134
  v1135.toNat
def k0_dev16 (d0 : Dev nD) : Nat :=
  let c0_i32_682 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_640 : BitVec 32 := 1#32
  let v1143 : BitVec 32 := Scalar.addi v39 c1_i32_640
  let c8_i32_641 : BitVec 32 := 8#32
  let c0_i32_642 : BitVec 32 := 0#32
  let v1144 : BitVec 1 := Scalar.cmpi .eq c8_i32_641 c0_i32_642
  let c1_i32_643 : BitVec 32 := 1#32
  let v1145 : BitVec 32 := Scalar.select v1144 c1_i32_643 c8_i32_641
  let v1146 : BitVec 32 := Scalar.remsi v1143 v1145
  let c0_i32_645 : BitVec 32 := 0#32
  let v1148 : BitVec 1 := Scalar.cmpi .slt v1146 c0_i32_645
  let c0_i32_646 : BitVec 32 := 0#32
  let v1149 : BitVec 1 := Scalar.cmpi .slt v1145 c0_i32_646
  let v1150 : BitVec 1 := Scalar.xori v1148 v1149
  let c0_i32_644 : BitVec 32 := 0#32
  let v1147 : BitVec 1 := Scalar.cmpi .ne v1146 c0_i32_644
  let v1151 : BitVec 1 := Scalar.andi v1150 v1147
  let v1152 : BitVec 32 := Scalar.addi v1146 v1145
  let v1153 : BitVec 32 := Scalar.select v1151 v1152 v1146
  let c0_i32_649 : BitVec 32 := 0#32
  let v1157 : BitVec 1 := Scalar.cmpi .sgt v1153 c0_i32_649
  let v1158 : BitVec 32 := Scalar.extui v1157
  let c0_i32_650 : BitVec 32 := 0#32
  let v1159 : BitVec 1 := Scalar.cmpi .slt v1153 c0_i32_650
  let v1160 : BitVec 32 := Scalar.extui v1159
  let v1161 : BitVec 32 := Scalar.subi v1158 v1160
  let c4_i32_648 : BitVec 32 := 4#32
  let c0_i32_651 : BitVec 32 := 0#32
  let v1162 : BitVec 1 := Scalar.cmpi .sgt c4_i32_648 c0_i32_651
  let v1163 : BitVec 32 := Scalar.extui v1162
  let c0_i32_652 : BitVec 32 := 0#32
  let v1164 : BitVec 1 := Scalar.cmpi .slt c4_i32_648 c0_i32_652
  let v1165 : BitVec 32 := Scalar.extui v1164
  let v1166 : BitVec 32 := Scalar.subi v1163 v1165
  let v1167 : BitVec 1 := Scalar.cmpi .ne v1161 v1166
  let v1168 : BitVec 32 := Scalar.remsi v1153 c4_i32_648
  let c0_i32_653 : BitVec 32 := 0#32
  let v1169 : BitVec 1 := Scalar.cmpi .ne v1168 c0_i32_653
  let v1170 : BitVec 1 := Scalar.andi v1167 v1169
  let v1156 : BitVec 32 := Scalar.divsi v1153 c4_i32_648
  let c1_i32_654 : BitVec 32 := 1#32
  let v1171 : BitVec 32 := Scalar.subi v1156 c1_i32_654
  let v1172 : BitVec 32 := Scalar.select v1170 v1171 v1156
  let c8_i32_681 : BitVec 32 := 8#32
  let v1212 : BitVec 32 := Scalar.muli v1172 c8_i32_681
  let v1213 : BitVec 32 := Scalar.addi c0_i32_682 v1212
  let c0_i32_656 : BitVec 32 := 0#32
  let v1174 : BitVec 1 := Scalar.cmpi .sgt v1153 c0_i32_656
  let v1175 : BitVec 32 := Scalar.extui v1174
  let c0_i32_657 : BitVec 32 := 0#32
  let v1176 : BitVec 1 := Scalar.cmpi .slt v1153 c0_i32_657
  let v1177 : BitVec 32 := Scalar.extui v1176
  let v1178 : BitVec 32 := Scalar.subi v1175 v1177
  let c2_i32_655 : BitVec 32 := 2#32
  let c0_i32_658 : BitVec 32 := 0#32
  let v1179 : BitVec 1 := Scalar.cmpi .sgt c2_i32_655 c0_i32_658
  let v1180 : BitVec 32 := Scalar.extui v1179
  let c0_i32_659 : BitVec 32 := 0#32
  let v1181 : BitVec 1 := Scalar.cmpi .slt c2_i32_655 c0_i32_659
  let v1182 : BitVec 32 := Scalar.extui v1181
  let v1183 : BitVec 32 := Scalar.subi v1180 v1182
  let v1184 : BitVec 1 := Scalar.cmpi .ne v1178 v1183
  let v1185 : BitVec 32 := Scalar.remsi v1153 c2_i32_655
  let c0_i32_660 : BitVec 32 := 0#32
  let v1186 : BitVec 1 := Scalar.cmpi .ne v1185 c0_i32_660
  let v1187 : BitVec 1 := Scalar.andi v1184 v1186
  let v1173 : BitVec 32 := Scalar.divsi v1153 c2_i32_655
  let c1_i32_661 : BitVec 32 := 1#32
  let v1188 : BitVec 32 := Scalar.subi v1173 c1_i32_661
  let v1189 : BitVec 32 := Scalar.select v1187 v1188 v1173
  let c2_i32_662 : BitVec 32 := 2#32
  let c0_i32_663 : BitVec 32 := 0#32
  let v1190 : BitVec 1 := Scalar.cmpi .eq c2_i32_662 c0_i32_663
  let c1_i32_664 : BitVec 32 := 1#32
  let v1191 : BitVec 32 := Scalar.select v1190 c1_i32_664 c2_i32_662
  let v1192 : BitVec 32 := Scalar.remsi v1189 v1191
  let c0_i32_666 : BitVec 32 := 0#32
  let v1194 : BitVec 1 := Scalar.cmpi .slt v1192 c0_i32_666
  let c0_i32_667 : BitVec 32 := 0#32
  let v1195 : BitVec 1 := Scalar.cmpi .slt v1191 c0_i32_667
  let v1196 : BitVec 1 := Scalar.xori v1194 v1195
  let c0_i32_665 : BitVec 32 := 0#32
  let v1193 : BitVec 1 := Scalar.cmpi .ne v1192 c0_i32_665
  let v1197 : BitVec 1 := Scalar.andi v1196 v1193
  let v1198 : BitVec 32 := Scalar.addi v1192 v1191
  let v1199 : BitVec 32 := Scalar.select v1197 v1198 v1192
  let c4_i32_683 : BitVec 32 := 4#32
  let v1214 : BitVec 32 := Scalar.muli v1199 c4_i32_683
  let v1215 : BitVec 32 := Scalar.addi v1213 v1214
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_668 : BitVec 32 := 2#32
  let v1200 : BitVec 32 := Scalar.muli v25 c2_i32_668
  let c2_i32_669 : BitVec 32 := 2#32
  let c0_i32_670 : BitVec 32 := 0#32
  let v1201 : BitVec 1 := Scalar.cmpi .eq c2_i32_669 c0_i32_670
  let c1_i32_671 : BitVec 32 := 1#32
  let v1202 : BitVec 32 := Scalar.select v1201 c1_i32_671 c2_i32_669
  let v1203 : BitVec 32 := Scalar.remsi v1153 v1202
  let c0_i32_673 : BitVec 32 := 0#32
  let v1205 : BitVec 1 := Scalar.cmpi .slt v1203 c0_i32_673
  let c0_i32_674 : BitVec 32 := 0#32
  let v1206 : BitVec 1 := Scalar.cmpi .slt v1202 c0_i32_674
  let v1207 : BitVec 1 := Scalar.xori v1205 v1206
  let c0_i32_672 : BitVec 32 := 0#32
  let v1204 : BitVec 1 := Scalar.cmpi .ne v1203 c0_i32_672
  let v1208 : BitVec 1 := Scalar.andi v1207 v1204
  let v1209 : BitVec 32 := Scalar.addi v1203 v1202
  let v1210 : BitVec 32 := Scalar.select v1208 v1209 v1203
  let v1211 : BitVec 32 := Scalar.addi v1200 v1210
  let c1_i32_684 : BitVec 32 := 1#32
  let v1216 : BitVec 32 := Scalar.muli v1211 c1_i32_684
  let v1217 : BitVec 32 := Scalar.addi v1215 v1216
  v1217.toNat
def k0_dev17 (d0 : Dev nD) : Nat :=
  let c0_i32_731 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_688 : BitVec 32 := 2#32
  let v1225 : BitVec 32 := Scalar.addi v39 c2_i32_688
  let c8_i32_689 : BitVec 32 := 8#32
  let c0_i32_690 : BitVec 32 := 0#32
  let v1226 : BitVec 1 := Scalar.cmpi .eq c8_i32_689 c0_i32_690
  let c1_i32_691 : BitVec 32 := 1#32
  let v1227 : BitVec 32 := Scalar.select v1226 c1_i32_691 c8_i32_689
  let v1228 : BitVec 32 := Scalar.remsi v1225 v1227
  let c0_i32_693 : BitVec 32 := 0#32
  let v1230 : BitVec 1 := Scalar.cmpi .slt v1228 c0_i32_693
  let c0_i32_694 : BitVec 32 := 0#32
  let v1231 : BitVec 1 := Scalar.cmpi .slt v1227 c0_i32_694
  let v1232 : BitVec 1 := Scalar.xori v1230 v1231
  let c0_i32_692 : BitVec 32 := 0#32
  let v1229 : BitVec 1 := Scalar.cmpi .ne v1228 c0_i32_692
  let v1233 : BitVec 1 := Scalar.andi v1232 v1229
  let v1234 : BitVec 32 := Scalar.addi v1228 v1227
  let v1235 : BitVec 32 := Scalar.select v1233 v1234 v1228
  let c0_i32_698 : BitVec 32 := 0#32
  let v1239 : BitVec 1 := Scalar.cmpi .sgt v1235 c0_i32_698
  let v1240 : BitVec 32 := Scalar.extui v1239
  let c0_i32_699 : BitVec 32 := 0#32
  let v1241 : BitVec 1 := Scalar.cmpi .slt v1235 c0_i32_699
  let v1242 : BitVec 32 := Scalar.extui v1241
  let v1243 : BitVec 32 := Scalar.subi v1240 v1242
  let c4_i32_697 : BitVec 32 := 4#32
  let c0_i32_700 : BitVec 32 := 0#32
  let v1244 : BitVec 1 := Scalar.cmpi .sgt c4_i32_697 c0_i32_700
  let v1245 : BitVec 32 := Scalar.extui v1244
  let c0_i32_701 : BitVec 32 := 0#32
  let v1246 : BitVec 1 := Scalar.cmpi .slt c4_i32_697 c0_i32_701
  let v1247 : BitVec 32 := Scalar.extui v1246
  let v1248 : BitVec 32 := Scalar.subi v1245 v1247
  let v1249 : BitVec 1 := Scalar.cmpi .ne v1243 v1248
  let v1250 : BitVec 32 := Scalar.remsi v1235 c4_i32_697
  let c0_i32_702 : BitVec 32 := 0#32
  let v1251 : BitVec 1 := Scalar.cmpi .ne v1250 c0_i32_702
  let v1252 : BitVec 1 := Scalar.andi v1249 v1251
  let v1238 : BitVec 32 := Scalar.divsi v1235 c4_i32_697
  let c1_i32_703 : BitVec 32 := 1#32
  let v1253 : BitVec 32 := Scalar.subi v1238 c1_i32_703
  let v1254 : BitVec 32 := Scalar.select v1252 v1253 v1238
  let c8_i32_730 : BitVec 32 := 8#32
  let v1294 : BitVec 32 := Scalar.muli v1254 c8_i32_730
  let v1295 : BitVec 32 := Scalar.addi c0_i32_731 v1294
  let c0_i32_705 : BitVec 32 := 0#32
  let v1256 : BitVec 1 := Scalar.cmpi .sgt v1235 c0_i32_705
  let v1257 : BitVec 32 := Scalar.extui v1256
  let c0_i32_706 : BitVec 32 := 0#32
  let v1258 : BitVec 1 := Scalar.cmpi .slt v1235 c0_i32_706
  let v1259 : BitVec 32 := Scalar.extui v1258
  let v1260 : BitVec 32 := Scalar.subi v1257 v1259
  let c2_i32_704 : BitVec 32 := 2#32
  let c0_i32_707 : BitVec 32 := 0#32
  let v1261 : BitVec 1 := Scalar.cmpi .sgt c2_i32_704 c0_i32_707
  let v1262 : BitVec 32 := Scalar.extui v1261
  let c0_i32_708 : BitVec 32 := 0#32
  let v1263 : BitVec 1 := Scalar.cmpi .slt c2_i32_704 c0_i32_708
  let v1264 : BitVec 32 := Scalar.extui v1263
  let v1265 : BitVec 32 := Scalar.subi v1262 v1264
  let v1266 : BitVec 1 := Scalar.cmpi .ne v1260 v1265
  let v1267 : BitVec 32 := Scalar.remsi v1235 c2_i32_704
  let c0_i32_709 : BitVec 32 := 0#32
  let v1268 : BitVec 1 := Scalar.cmpi .ne v1267 c0_i32_709
  let v1269 : BitVec 1 := Scalar.andi v1266 v1268
  let v1255 : BitVec 32 := Scalar.divsi v1235 c2_i32_704
  let c1_i32_710 : BitVec 32 := 1#32
  let v1270 : BitVec 32 := Scalar.subi v1255 c1_i32_710
  let v1271 : BitVec 32 := Scalar.select v1269 v1270 v1255
  let c2_i32_711 : BitVec 32 := 2#32
  let c0_i32_712 : BitVec 32 := 0#32
  let v1272 : BitVec 1 := Scalar.cmpi .eq c2_i32_711 c0_i32_712
  let c1_i32_713 : BitVec 32 := 1#32
  let v1273 : BitVec 32 := Scalar.select v1272 c1_i32_713 c2_i32_711
  let v1274 : BitVec 32 := Scalar.remsi v1271 v1273
  let c0_i32_715 : BitVec 32 := 0#32
  let v1276 : BitVec 1 := Scalar.cmpi .slt v1274 c0_i32_715
  let c0_i32_716 : BitVec 32 := 0#32
  let v1277 : BitVec 1 := Scalar.cmpi .slt v1273 c0_i32_716
  let v1278 : BitVec 1 := Scalar.xori v1276 v1277
  let c0_i32_714 : BitVec 32 := 0#32
  let v1275 : BitVec 1 := Scalar.cmpi .ne v1274 c0_i32_714
  let v1279 : BitVec 1 := Scalar.andi v1278 v1275
  let v1280 : BitVec 32 := Scalar.addi v1274 v1273
  let v1281 : BitVec 32 := Scalar.select v1279 v1280 v1274
  let c4_i32_732 : BitVec 32 := 4#32
  let v1296 : BitVec 32 := Scalar.muli v1281 c4_i32_732
  let v1297 : BitVec 32 := Scalar.addi v1295 v1296
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_717 : BitVec 32 := 2#32
  let v1282 : BitVec 32 := Scalar.muli v25 c2_i32_717
  let c2_i32_718 : BitVec 32 := 2#32
  let c0_i32_719 : BitVec 32 := 0#32
  let v1283 : BitVec 1 := Scalar.cmpi .eq c2_i32_718 c0_i32_719
  let c1_i32_720 : BitVec 32 := 1#32
  let v1284 : BitVec 32 := Scalar.select v1283 c1_i32_720 c2_i32_718
  let v1285 : BitVec 32 := Scalar.remsi v1235 v1284
  let c0_i32_722 : BitVec 32 := 0#32
  let v1287 : BitVec 1 := Scalar.cmpi .slt v1285 c0_i32_722
  let c0_i32_723 : BitVec 32 := 0#32
  let v1288 : BitVec 1 := Scalar.cmpi .slt v1284 c0_i32_723
  let v1289 : BitVec 1 := Scalar.xori v1287 v1288
  let c0_i32_721 : BitVec 32 := 0#32
  let v1286 : BitVec 1 := Scalar.cmpi .ne v1285 c0_i32_721
  let v1290 : BitVec 1 := Scalar.andi v1289 v1286
  let v1291 : BitVec 32 := Scalar.addi v1285 v1284
  let v1292 : BitVec 32 := Scalar.select v1290 v1291 v1285
  let v1293 : BitVec 32 := Scalar.addi v1282 v1292
  let c1_i32_733 : BitVec 32 := 1#32
  let v1298 : BitVec 32 := Scalar.muli v1293 c1_i32_733
  let v1299 : BitVec 32 := Scalar.addi v1297 v1298
  v1299.toNat
def k0_dev18 (d0 : Dev nD) : Nat :=
  let c0_i32_780 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_737 : BitVec 32 := 3#32
  let v1307 : BitVec 32 := Scalar.addi v39 c3_i32_737
  let c8_i32_738 : BitVec 32 := 8#32
  let c0_i32_739 : BitVec 32 := 0#32
  let v1308 : BitVec 1 := Scalar.cmpi .eq c8_i32_738 c0_i32_739
  let c1_i32_740 : BitVec 32 := 1#32
  let v1309 : BitVec 32 := Scalar.select v1308 c1_i32_740 c8_i32_738
  let v1310 : BitVec 32 := Scalar.remsi v1307 v1309
  let c0_i32_742 : BitVec 32 := 0#32
  let v1312 : BitVec 1 := Scalar.cmpi .slt v1310 c0_i32_742
  let c0_i32_743 : BitVec 32 := 0#32
  let v1313 : BitVec 1 := Scalar.cmpi .slt v1309 c0_i32_743
  let v1314 : BitVec 1 := Scalar.xori v1312 v1313
  let c0_i32_741 : BitVec 32 := 0#32
  let v1311 : BitVec 1 := Scalar.cmpi .ne v1310 c0_i32_741
  let v1315 : BitVec 1 := Scalar.andi v1314 v1311
  let v1316 : BitVec 32 := Scalar.addi v1310 v1309
  let v1317 : BitVec 32 := Scalar.select v1315 v1316 v1310
  let c0_i32_747 : BitVec 32 := 0#32
  let v1321 : BitVec 1 := Scalar.cmpi .sgt v1317 c0_i32_747
  let v1322 : BitVec 32 := Scalar.extui v1321
  let c0_i32_748 : BitVec 32 := 0#32
  let v1323 : BitVec 1 := Scalar.cmpi .slt v1317 c0_i32_748
  let v1324 : BitVec 32 := Scalar.extui v1323
  let v1325 : BitVec 32 := Scalar.subi v1322 v1324
  let c4_i32_746 : BitVec 32 := 4#32
  let c0_i32_749 : BitVec 32 := 0#32
  let v1326 : BitVec 1 := Scalar.cmpi .sgt c4_i32_746 c0_i32_749
  let v1327 : BitVec 32 := Scalar.extui v1326
  let c0_i32_750 : BitVec 32 := 0#32
  let v1328 : BitVec 1 := Scalar.cmpi .slt c4_i32_746 c0_i32_750
  let v1329 : BitVec 32 := Scalar.extui v1328
  let v1330 : BitVec 32 := Scalar.subi v1327 v1329
  let v1331 : BitVec 1 := Scalar.cmpi .ne v1325 v1330
  let v1332 : BitVec 32 := Scalar.remsi v1317 c4_i32_746
  let c0_i32_751 : BitVec 32 := 0#32
  let v1333 : BitVec 1 := Scalar.cmpi .ne v1332 c0_i32_751
  let v1334 : BitVec 1 := Scalar.andi v1331 v1333
  let v1320 : BitVec 32 := Scalar.divsi v1317 c4_i32_746
  let c1_i32_752 : BitVec 32 := 1#32
  let v1335 : BitVec 32 := Scalar.subi v1320 c1_i32_752
  let v1336 : BitVec 32 := Scalar.select v1334 v1335 v1320
  let c8_i32_779 : BitVec 32 := 8#32
  let v1376 : BitVec 32 := Scalar.muli v1336 c8_i32_779
  let v1377 : BitVec 32 := Scalar.addi c0_i32_780 v1376
  let c0_i32_754 : BitVec 32 := 0#32
  let v1338 : BitVec 1 := Scalar.cmpi .sgt v1317 c0_i32_754
  let v1339 : BitVec 32 := Scalar.extui v1338
  let c0_i32_755 : BitVec 32 := 0#32
  let v1340 : BitVec 1 := Scalar.cmpi .slt v1317 c0_i32_755
  let v1341 : BitVec 32 := Scalar.extui v1340
  let v1342 : BitVec 32 := Scalar.subi v1339 v1341
  let c2_i32_753 : BitVec 32 := 2#32
  let c0_i32_756 : BitVec 32 := 0#32
  let v1343 : BitVec 1 := Scalar.cmpi .sgt c2_i32_753 c0_i32_756
  let v1344 : BitVec 32 := Scalar.extui v1343
  let c0_i32_757 : BitVec 32 := 0#32
  let v1345 : BitVec 1 := Scalar.cmpi .slt c2_i32_753 c0_i32_757
  let v1346 : BitVec 32 := Scalar.extui v1345
  let v1347 : BitVec 32 := Scalar.subi v1344 v1346
  let v1348 : BitVec 1 := Scalar.cmpi .ne v1342 v1347
  let v1349 : BitVec 32 := Scalar.remsi v1317 c2_i32_753
  let c0_i32_758 : BitVec 32 := 0#32
  let v1350 : BitVec 1 := Scalar.cmpi .ne v1349 c0_i32_758
  let v1351 : BitVec 1 := Scalar.andi v1348 v1350
  let v1337 : BitVec 32 := Scalar.divsi v1317 c2_i32_753
  let c1_i32_759 : BitVec 32 := 1#32
  let v1352 : BitVec 32 := Scalar.subi v1337 c1_i32_759
  let v1353 : BitVec 32 := Scalar.select v1351 v1352 v1337
  let c2_i32_760 : BitVec 32 := 2#32
  let c0_i32_761 : BitVec 32 := 0#32
  let v1354 : BitVec 1 := Scalar.cmpi .eq c2_i32_760 c0_i32_761
  let c1_i32_762 : BitVec 32 := 1#32
  let v1355 : BitVec 32 := Scalar.select v1354 c1_i32_762 c2_i32_760
  let v1356 : BitVec 32 := Scalar.remsi v1353 v1355
  let c0_i32_764 : BitVec 32 := 0#32
  let v1358 : BitVec 1 := Scalar.cmpi .slt v1356 c0_i32_764
  let c0_i32_765 : BitVec 32 := 0#32
  let v1359 : BitVec 1 := Scalar.cmpi .slt v1355 c0_i32_765
  let v1360 : BitVec 1 := Scalar.xori v1358 v1359
  let c0_i32_763 : BitVec 32 := 0#32
  let v1357 : BitVec 1 := Scalar.cmpi .ne v1356 c0_i32_763
  let v1361 : BitVec 1 := Scalar.andi v1360 v1357
  let v1362 : BitVec 32 := Scalar.addi v1356 v1355
  let v1363 : BitVec 32 := Scalar.select v1361 v1362 v1356
  let c4_i32_781 : BitVec 32 := 4#32
  let v1378 : BitVec 32 := Scalar.muli v1363 c4_i32_781
  let v1379 : BitVec 32 := Scalar.addi v1377 v1378
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_766 : BitVec 32 := 2#32
  let v1364 : BitVec 32 := Scalar.muli v25 c2_i32_766
  let c2_i32_767 : BitVec 32 := 2#32
  let c0_i32_768 : BitVec 32 := 0#32
  let v1365 : BitVec 1 := Scalar.cmpi .eq c2_i32_767 c0_i32_768
  let c1_i32_769 : BitVec 32 := 1#32
  let v1366 : BitVec 32 := Scalar.select v1365 c1_i32_769 c2_i32_767
  let v1367 : BitVec 32 := Scalar.remsi v1317 v1366
  let c0_i32_771 : BitVec 32 := 0#32
  let v1369 : BitVec 1 := Scalar.cmpi .slt v1367 c0_i32_771
  let c0_i32_772 : BitVec 32 := 0#32
  let v1370 : BitVec 1 := Scalar.cmpi .slt v1366 c0_i32_772
  let v1371 : BitVec 1 := Scalar.xori v1369 v1370
  let c0_i32_770 : BitVec 32 := 0#32
  let v1368 : BitVec 1 := Scalar.cmpi .ne v1367 c0_i32_770
  let v1372 : BitVec 1 := Scalar.andi v1371 v1368
  let v1373 : BitVec 32 := Scalar.addi v1367 v1366
  let v1374 : BitVec 32 := Scalar.select v1372 v1373 v1367
  let v1375 : BitVec 32 := Scalar.addi v1364 v1374
  let c1_i32_782 : BitVec 32 := 1#32
  let v1380 : BitVec 32 := Scalar.muli v1375 c1_i32_782
  let v1381 : BitVec 32 := Scalar.addi v1379 v1380
  v1381.toNat
def k0_dev19 (d0 : Dev nD) : Nat :=
  let c0_i32_829 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_786 : BitVec 32 := 4#32
  let v1389 : BitVec 32 := Scalar.addi v39 c4_i32_786
  let c8_i32_787 : BitVec 32 := 8#32
  let c0_i32_788 : BitVec 32 := 0#32
  let v1390 : BitVec 1 := Scalar.cmpi .eq c8_i32_787 c0_i32_788
  let c1_i32_789 : BitVec 32 := 1#32
  let v1391 : BitVec 32 := Scalar.select v1390 c1_i32_789 c8_i32_787
  let v1392 : BitVec 32 := Scalar.remsi v1389 v1391
  let c0_i32_791 : BitVec 32 := 0#32
  let v1394 : BitVec 1 := Scalar.cmpi .slt v1392 c0_i32_791
  let c0_i32_792 : BitVec 32 := 0#32
  let v1395 : BitVec 1 := Scalar.cmpi .slt v1391 c0_i32_792
  let v1396 : BitVec 1 := Scalar.xori v1394 v1395
  let c0_i32_790 : BitVec 32 := 0#32
  let v1393 : BitVec 1 := Scalar.cmpi .ne v1392 c0_i32_790
  let v1397 : BitVec 1 := Scalar.andi v1396 v1393
  let v1398 : BitVec 32 := Scalar.addi v1392 v1391
  let v1399 : BitVec 32 := Scalar.select v1397 v1398 v1392
  let c0_i32_796 : BitVec 32 := 0#32
  let v1403 : BitVec 1 := Scalar.cmpi .sgt v1399 c0_i32_796
  let v1404 : BitVec 32 := Scalar.extui v1403
  let c0_i32_797 : BitVec 32 := 0#32
  let v1405 : BitVec 1 := Scalar.cmpi .slt v1399 c0_i32_797
  let v1406 : BitVec 32 := Scalar.extui v1405
  let v1407 : BitVec 32 := Scalar.subi v1404 v1406
  let c4_i32_795 : BitVec 32 := 4#32
  let c0_i32_798 : BitVec 32 := 0#32
  let v1408 : BitVec 1 := Scalar.cmpi .sgt c4_i32_795 c0_i32_798
  let v1409 : BitVec 32 := Scalar.extui v1408
  let c0_i32_799 : BitVec 32 := 0#32
  let v1410 : BitVec 1 := Scalar.cmpi .slt c4_i32_795 c0_i32_799
  let v1411 : BitVec 32 := Scalar.extui v1410
  let v1412 : BitVec 32 := Scalar.subi v1409 v1411
  let v1413 : BitVec 1 := Scalar.cmpi .ne v1407 v1412
  let v1414 : BitVec 32 := Scalar.remsi v1399 c4_i32_795
  let c0_i32_800 : BitVec 32 := 0#32
  let v1415 : BitVec 1 := Scalar.cmpi .ne v1414 c0_i32_800
  let v1416 : BitVec 1 := Scalar.andi v1413 v1415
  let v1402 : BitVec 32 := Scalar.divsi v1399 c4_i32_795
  let c1_i32_801 : BitVec 32 := 1#32
  let v1417 : BitVec 32 := Scalar.subi v1402 c1_i32_801
  let v1418 : BitVec 32 := Scalar.select v1416 v1417 v1402
  let c8_i32_828 : BitVec 32 := 8#32
  let v1458 : BitVec 32 := Scalar.muli v1418 c8_i32_828
  let v1459 : BitVec 32 := Scalar.addi c0_i32_829 v1458
  let c0_i32_803 : BitVec 32 := 0#32
  let v1420 : BitVec 1 := Scalar.cmpi .sgt v1399 c0_i32_803
  let v1421 : BitVec 32 := Scalar.extui v1420
  let c0_i32_804 : BitVec 32 := 0#32
  let v1422 : BitVec 1 := Scalar.cmpi .slt v1399 c0_i32_804
  let v1423 : BitVec 32 := Scalar.extui v1422
  let v1424 : BitVec 32 := Scalar.subi v1421 v1423
  let c2_i32_802 : BitVec 32 := 2#32
  let c0_i32_805 : BitVec 32 := 0#32
  let v1425 : BitVec 1 := Scalar.cmpi .sgt c2_i32_802 c0_i32_805
  let v1426 : BitVec 32 := Scalar.extui v1425
  let c0_i32_806 : BitVec 32 := 0#32
  let v1427 : BitVec 1 := Scalar.cmpi .slt c2_i32_802 c0_i32_806
  let v1428 : BitVec 32 := Scalar.extui v1427
  let v1429 : BitVec 32 := Scalar.subi v1426 v1428
  let v1430 : BitVec 1 := Scalar.cmpi .ne v1424 v1429
  let v1431 : BitVec 32 := Scalar.remsi v1399 c2_i32_802
  let c0_i32_807 : BitVec 32 := 0#32
  let v1432 : BitVec 1 := Scalar.cmpi .ne v1431 c0_i32_807
  let v1433 : BitVec 1 := Scalar.andi v1430 v1432
  let v1419 : BitVec 32 := Scalar.divsi v1399 c2_i32_802
  let c1_i32_808 : BitVec 32 := 1#32
  let v1434 : BitVec 32 := Scalar.subi v1419 c1_i32_808
  let v1435 : BitVec 32 := Scalar.select v1433 v1434 v1419
  let c2_i32_809 : BitVec 32 := 2#32
  let c0_i32_810 : BitVec 32 := 0#32
  let v1436 : BitVec 1 := Scalar.cmpi .eq c2_i32_809 c0_i32_810
  let c1_i32_811 : BitVec 32 := 1#32
  let v1437 : BitVec 32 := Scalar.select v1436 c1_i32_811 c2_i32_809
  let v1438 : BitVec 32 := Scalar.remsi v1435 v1437
  let c0_i32_813 : BitVec 32 := 0#32
  let v1440 : BitVec 1 := Scalar.cmpi .slt v1438 c0_i32_813
  let c0_i32_814 : BitVec 32 := 0#32
  let v1441 : BitVec 1 := Scalar.cmpi .slt v1437 c0_i32_814
  let v1442 : BitVec 1 := Scalar.xori v1440 v1441
  let c0_i32_812 : BitVec 32 := 0#32
  let v1439 : BitVec 1 := Scalar.cmpi .ne v1438 c0_i32_812
  let v1443 : BitVec 1 := Scalar.andi v1442 v1439
  let v1444 : BitVec 32 := Scalar.addi v1438 v1437
  let v1445 : BitVec 32 := Scalar.select v1443 v1444 v1438
  let c4_i32_830 : BitVec 32 := 4#32
  let v1460 : BitVec 32 := Scalar.muli v1445 c4_i32_830
  let v1461 : BitVec 32 := Scalar.addi v1459 v1460
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_815 : BitVec 32 := 2#32
  let v1446 : BitVec 32 := Scalar.muli v25 c2_i32_815
  let c2_i32_816 : BitVec 32 := 2#32
  let c0_i32_817 : BitVec 32 := 0#32
  let v1447 : BitVec 1 := Scalar.cmpi .eq c2_i32_816 c0_i32_817
  let c1_i32_818 : BitVec 32 := 1#32
  let v1448 : BitVec 32 := Scalar.select v1447 c1_i32_818 c2_i32_816
  let v1449 : BitVec 32 := Scalar.remsi v1399 v1448
  let c0_i32_820 : BitVec 32 := 0#32
  let v1451 : BitVec 1 := Scalar.cmpi .slt v1449 c0_i32_820
  let c0_i32_821 : BitVec 32 := 0#32
  let v1452 : BitVec 1 := Scalar.cmpi .slt v1448 c0_i32_821
  let v1453 : BitVec 1 := Scalar.xori v1451 v1452
  let c0_i32_819 : BitVec 32 := 0#32
  let v1450 : BitVec 1 := Scalar.cmpi .ne v1449 c0_i32_819
  let v1454 : BitVec 1 := Scalar.andi v1453 v1450
  let v1455 : BitVec 32 := Scalar.addi v1449 v1448
  let v1456 : BitVec 32 := Scalar.select v1454 v1455 v1449
  let v1457 : BitVec 32 := Scalar.addi v1446 v1456
  let c1_i32_831 : BitVec 32 := 1#32
  let v1462 : BitVec 32 := Scalar.muli v1457 c1_i32_831
  let v1463 : BitVec 32 := Scalar.addi v1461 v1462
  v1463.toNat
def k0_dev20 (d0 : Dev nD) : Nat :=
  let c0_i32_878 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_835 : BitVec 32 := 5#32
  let v1471 : BitVec 32 := Scalar.addi v39 c5_i32_835
  let c8_i32_836 : BitVec 32 := 8#32
  let c0_i32_837 : BitVec 32 := 0#32
  let v1472 : BitVec 1 := Scalar.cmpi .eq c8_i32_836 c0_i32_837
  let c1_i32_838 : BitVec 32 := 1#32
  let v1473 : BitVec 32 := Scalar.select v1472 c1_i32_838 c8_i32_836
  let v1474 : BitVec 32 := Scalar.remsi v1471 v1473
  let c0_i32_840 : BitVec 32 := 0#32
  let v1476 : BitVec 1 := Scalar.cmpi .slt v1474 c0_i32_840
  let c0_i32_841 : BitVec 32 := 0#32
  let v1477 : BitVec 1 := Scalar.cmpi .slt v1473 c0_i32_841
  let v1478 : BitVec 1 := Scalar.xori v1476 v1477
  let c0_i32_839 : BitVec 32 := 0#32
  let v1475 : BitVec 1 := Scalar.cmpi .ne v1474 c0_i32_839
  let v1479 : BitVec 1 := Scalar.andi v1478 v1475
  let v1480 : BitVec 32 := Scalar.addi v1474 v1473
  let v1481 : BitVec 32 := Scalar.select v1479 v1480 v1474
  let c0_i32_845 : BitVec 32 := 0#32
  let v1485 : BitVec 1 := Scalar.cmpi .sgt v1481 c0_i32_845
  let v1486 : BitVec 32 := Scalar.extui v1485
  let c0_i32_846 : BitVec 32 := 0#32
  let v1487 : BitVec 1 := Scalar.cmpi .slt v1481 c0_i32_846
  let v1488 : BitVec 32 := Scalar.extui v1487
  let v1489 : BitVec 32 := Scalar.subi v1486 v1488
  let c4_i32_844 : BitVec 32 := 4#32
  let c0_i32_847 : BitVec 32 := 0#32
  let v1490 : BitVec 1 := Scalar.cmpi .sgt c4_i32_844 c0_i32_847
  let v1491 : BitVec 32 := Scalar.extui v1490
  let c0_i32_848 : BitVec 32 := 0#32
  let v1492 : BitVec 1 := Scalar.cmpi .slt c4_i32_844 c0_i32_848
  let v1493 : BitVec 32 := Scalar.extui v1492
  let v1494 : BitVec 32 := Scalar.subi v1491 v1493
  let v1495 : BitVec 1 := Scalar.cmpi .ne v1489 v1494
  let v1496 : BitVec 32 := Scalar.remsi v1481 c4_i32_844
  let c0_i32_849 : BitVec 32 := 0#32
  let v1497 : BitVec 1 := Scalar.cmpi .ne v1496 c0_i32_849
  let v1498 : BitVec 1 := Scalar.andi v1495 v1497
  let v1484 : BitVec 32 := Scalar.divsi v1481 c4_i32_844
  let c1_i32_850 : BitVec 32 := 1#32
  let v1499 : BitVec 32 := Scalar.subi v1484 c1_i32_850
  let v1500 : BitVec 32 := Scalar.select v1498 v1499 v1484
  let c8_i32_877 : BitVec 32 := 8#32
  let v1540 : BitVec 32 := Scalar.muli v1500 c8_i32_877
  let v1541 : BitVec 32 := Scalar.addi c0_i32_878 v1540
  let c0_i32_852 : BitVec 32 := 0#32
  let v1502 : BitVec 1 := Scalar.cmpi .sgt v1481 c0_i32_852
  let v1503 : BitVec 32 := Scalar.extui v1502
  let c0_i32_853 : BitVec 32 := 0#32
  let v1504 : BitVec 1 := Scalar.cmpi .slt v1481 c0_i32_853
  let v1505 : BitVec 32 := Scalar.extui v1504
  let v1506 : BitVec 32 := Scalar.subi v1503 v1505
  let c2_i32_851 : BitVec 32 := 2#32
  let c0_i32_854 : BitVec 32 := 0#32
  let v1507 : BitVec 1 := Scalar.cmpi .sgt c2_i32_851 c0_i32_854
  let v1508 : BitVec 32 := Scalar.extui v1507
  let c0_i32_855 : BitVec 32 := 0#32
  let v1509 : BitVec 1 := Scalar.cmpi .slt c2_i32_851 c0_i32_855
  let v1510 : BitVec 32 := Scalar.extui v1509
  let v1511 : BitVec 32 := Scalar.subi v1508 v1510
  let v1512 : BitVec 1 := Scalar.cmpi .ne v1506 v1511
  let v1513 : BitVec 32 := Scalar.remsi v1481 c2_i32_851
  let c0_i32_856 : BitVec 32 := 0#32
  let v1514 : BitVec 1 := Scalar.cmpi .ne v1513 c0_i32_856
  let v1515 : BitVec 1 := Scalar.andi v1512 v1514
  let v1501 : BitVec 32 := Scalar.divsi v1481 c2_i32_851
  let c1_i32_857 : BitVec 32 := 1#32
  let v1516 : BitVec 32 := Scalar.subi v1501 c1_i32_857
  let v1517 : BitVec 32 := Scalar.select v1515 v1516 v1501
  let c2_i32_858 : BitVec 32 := 2#32
  let c0_i32_859 : BitVec 32 := 0#32
  let v1518 : BitVec 1 := Scalar.cmpi .eq c2_i32_858 c0_i32_859
  let c1_i32_860 : BitVec 32 := 1#32
  let v1519 : BitVec 32 := Scalar.select v1518 c1_i32_860 c2_i32_858
  let v1520 : BitVec 32 := Scalar.remsi v1517 v1519
  let c0_i32_862 : BitVec 32 := 0#32
  let v1522 : BitVec 1 := Scalar.cmpi .slt v1520 c0_i32_862
  let c0_i32_863 : BitVec 32 := 0#32
  let v1523 : BitVec 1 := Scalar.cmpi .slt v1519 c0_i32_863
  let v1524 : BitVec 1 := Scalar.xori v1522 v1523
  let c0_i32_861 : BitVec 32 := 0#32
  let v1521 : BitVec 1 := Scalar.cmpi .ne v1520 c0_i32_861
  let v1525 : BitVec 1 := Scalar.andi v1524 v1521
  let v1526 : BitVec 32 := Scalar.addi v1520 v1519
  let v1527 : BitVec 32 := Scalar.select v1525 v1526 v1520
  let c4_i32_879 : BitVec 32 := 4#32
  let v1542 : BitVec 32 := Scalar.muli v1527 c4_i32_879
  let v1543 : BitVec 32 := Scalar.addi v1541 v1542
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_864 : BitVec 32 := 2#32
  let v1528 : BitVec 32 := Scalar.muli v25 c2_i32_864
  let c2_i32_865 : BitVec 32 := 2#32
  let c0_i32_866 : BitVec 32 := 0#32
  let v1529 : BitVec 1 := Scalar.cmpi .eq c2_i32_865 c0_i32_866
  let c1_i32_867 : BitVec 32 := 1#32
  let v1530 : BitVec 32 := Scalar.select v1529 c1_i32_867 c2_i32_865
  let v1531 : BitVec 32 := Scalar.remsi v1481 v1530
  let c0_i32_869 : BitVec 32 := 0#32
  let v1533 : BitVec 1 := Scalar.cmpi .slt v1531 c0_i32_869
  let c0_i32_870 : BitVec 32 := 0#32
  let v1534 : BitVec 1 := Scalar.cmpi .slt v1530 c0_i32_870
  let v1535 : BitVec 1 := Scalar.xori v1533 v1534
  let c0_i32_868 : BitVec 32 := 0#32
  let v1532 : BitVec 1 := Scalar.cmpi .ne v1531 c0_i32_868
  let v1536 : BitVec 1 := Scalar.andi v1535 v1532
  let v1537 : BitVec 32 := Scalar.addi v1531 v1530
  let v1538 : BitVec 32 := Scalar.select v1536 v1537 v1531
  let v1539 : BitVec 32 := Scalar.addi v1528 v1538
  let c1_i32_880 : BitVec 32 := 1#32
  let v1544 : BitVec 32 := Scalar.muli v1539 c1_i32_880
  let v1545 : BitVec 32 := Scalar.addi v1543 v1544
  v1545.toNat
def k0_dev21 (d0 : Dev nD) : Nat :=
  let c0_i32_927 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_884 : BitVec 32 := 6#32
  let v1553 : BitVec 32 := Scalar.addi v39 c6_i32_884
  let c8_i32_885 : BitVec 32 := 8#32
  let c0_i32_886 : BitVec 32 := 0#32
  let v1554 : BitVec 1 := Scalar.cmpi .eq c8_i32_885 c0_i32_886
  let c1_i32_887 : BitVec 32 := 1#32
  let v1555 : BitVec 32 := Scalar.select v1554 c1_i32_887 c8_i32_885
  let v1556 : BitVec 32 := Scalar.remsi v1553 v1555
  let c0_i32_889 : BitVec 32 := 0#32
  let v1558 : BitVec 1 := Scalar.cmpi .slt v1556 c0_i32_889
  let c0_i32_890 : BitVec 32 := 0#32
  let v1559 : BitVec 1 := Scalar.cmpi .slt v1555 c0_i32_890
  let v1560 : BitVec 1 := Scalar.xori v1558 v1559
  let c0_i32_888 : BitVec 32 := 0#32
  let v1557 : BitVec 1 := Scalar.cmpi .ne v1556 c0_i32_888
  let v1561 : BitVec 1 := Scalar.andi v1560 v1557
  let v1562 : BitVec 32 := Scalar.addi v1556 v1555
  let v1563 : BitVec 32 := Scalar.select v1561 v1562 v1556
  let c0_i32_894 : BitVec 32 := 0#32
  let v1567 : BitVec 1 := Scalar.cmpi .sgt v1563 c0_i32_894
  let v1568 : BitVec 32 := Scalar.extui v1567
  let c0_i32_895 : BitVec 32 := 0#32
  let v1569 : BitVec 1 := Scalar.cmpi .slt v1563 c0_i32_895
  let v1570 : BitVec 32 := Scalar.extui v1569
  let v1571 : BitVec 32 := Scalar.subi v1568 v1570
  let c4_i32_893 : BitVec 32 := 4#32
  let c0_i32_896 : BitVec 32 := 0#32
  let v1572 : BitVec 1 := Scalar.cmpi .sgt c4_i32_893 c0_i32_896
  let v1573 : BitVec 32 := Scalar.extui v1572
  let c0_i32_897 : BitVec 32 := 0#32
  let v1574 : BitVec 1 := Scalar.cmpi .slt c4_i32_893 c0_i32_897
  let v1575 : BitVec 32 := Scalar.extui v1574
  let v1576 : BitVec 32 := Scalar.subi v1573 v1575
  let v1577 : BitVec 1 := Scalar.cmpi .ne v1571 v1576
  let v1578 : BitVec 32 := Scalar.remsi v1563 c4_i32_893
  let c0_i32_898 : BitVec 32 := 0#32
  let v1579 : BitVec 1 := Scalar.cmpi .ne v1578 c0_i32_898
  let v1580 : BitVec 1 := Scalar.andi v1577 v1579
  let v1566 : BitVec 32 := Scalar.divsi v1563 c4_i32_893
  let c1_i32_899 : BitVec 32 := 1#32
  let v1581 : BitVec 32 := Scalar.subi v1566 c1_i32_899
  let v1582 : BitVec 32 := Scalar.select v1580 v1581 v1566
  let c8_i32_926 : BitVec 32 := 8#32
  let v1622 : BitVec 32 := Scalar.muli v1582 c8_i32_926
  let v1623 : BitVec 32 := Scalar.addi c0_i32_927 v1622
  let c0_i32_901 : BitVec 32 := 0#32
  let v1584 : BitVec 1 := Scalar.cmpi .sgt v1563 c0_i32_901
  let v1585 : BitVec 32 := Scalar.extui v1584
  let c0_i32_902 : BitVec 32 := 0#32
  let v1586 : BitVec 1 := Scalar.cmpi .slt v1563 c0_i32_902
  let v1587 : BitVec 32 := Scalar.extui v1586
  let v1588 : BitVec 32 := Scalar.subi v1585 v1587
  let c2_i32_900 : BitVec 32 := 2#32
  let c0_i32_903 : BitVec 32 := 0#32
  let v1589 : BitVec 1 := Scalar.cmpi .sgt c2_i32_900 c0_i32_903
  let v1590 : BitVec 32 := Scalar.extui v1589
  let c0_i32_904 : BitVec 32 := 0#32
  let v1591 : BitVec 1 := Scalar.cmpi .slt c2_i32_900 c0_i32_904
  let v1592 : BitVec 32 := Scalar.extui v1591
  let v1593 : BitVec 32 := Scalar.subi v1590 v1592
  let v1594 : BitVec 1 := Scalar.cmpi .ne v1588 v1593
  let v1595 : BitVec 32 := Scalar.remsi v1563 c2_i32_900
  let c0_i32_905 : BitVec 32 := 0#32
  let v1596 : BitVec 1 := Scalar.cmpi .ne v1595 c0_i32_905
  let v1597 : BitVec 1 := Scalar.andi v1594 v1596
  let v1583 : BitVec 32 := Scalar.divsi v1563 c2_i32_900
  let c1_i32_906 : BitVec 32 := 1#32
  let v1598 : BitVec 32 := Scalar.subi v1583 c1_i32_906
  let v1599 : BitVec 32 := Scalar.select v1597 v1598 v1583
  let c2_i32_907 : BitVec 32 := 2#32
  let c0_i32_908 : BitVec 32 := 0#32
  let v1600 : BitVec 1 := Scalar.cmpi .eq c2_i32_907 c0_i32_908
  let c1_i32_909 : BitVec 32 := 1#32
  let v1601 : BitVec 32 := Scalar.select v1600 c1_i32_909 c2_i32_907
  let v1602 : BitVec 32 := Scalar.remsi v1599 v1601
  let c0_i32_911 : BitVec 32 := 0#32
  let v1604 : BitVec 1 := Scalar.cmpi .slt v1602 c0_i32_911
  let c0_i32_912 : BitVec 32 := 0#32
  let v1605 : BitVec 1 := Scalar.cmpi .slt v1601 c0_i32_912
  let v1606 : BitVec 1 := Scalar.xori v1604 v1605
  let c0_i32_910 : BitVec 32 := 0#32
  let v1603 : BitVec 1 := Scalar.cmpi .ne v1602 c0_i32_910
  let v1607 : BitVec 1 := Scalar.andi v1606 v1603
  let v1608 : BitVec 32 := Scalar.addi v1602 v1601
  let v1609 : BitVec 32 := Scalar.select v1607 v1608 v1602
  let c4_i32_928 : BitVec 32 := 4#32
  let v1624 : BitVec 32 := Scalar.muli v1609 c4_i32_928
  let v1625 : BitVec 32 := Scalar.addi v1623 v1624
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_913 : BitVec 32 := 2#32
  let v1610 : BitVec 32 := Scalar.muli v25 c2_i32_913
  let c2_i32_914 : BitVec 32 := 2#32
  let c0_i32_915 : BitVec 32 := 0#32
  let v1611 : BitVec 1 := Scalar.cmpi .eq c2_i32_914 c0_i32_915
  let c1_i32_916 : BitVec 32 := 1#32
  let v1612 : BitVec 32 := Scalar.select v1611 c1_i32_916 c2_i32_914
  let v1613 : BitVec 32 := Scalar.remsi v1563 v1612
  let c0_i32_918 : BitVec 32 := 0#32
  let v1615 : BitVec 1 := Scalar.cmpi .slt v1613 c0_i32_918
  let c0_i32_919 : BitVec 32 := 0#32
  let v1616 : BitVec 1 := Scalar.cmpi .slt v1612 c0_i32_919
  let v1617 : BitVec 1 := Scalar.xori v1615 v1616
  let c0_i32_917 : BitVec 32 := 0#32
  let v1614 : BitVec 1 := Scalar.cmpi .ne v1613 c0_i32_917
  let v1618 : BitVec 1 := Scalar.andi v1617 v1614
  let v1619 : BitVec 32 := Scalar.addi v1613 v1612
  let v1620 : BitVec 32 := Scalar.select v1618 v1619 v1613
  let v1621 : BitVec 32 := Scalar.addi v1610 v1620
  let c1_i32_929 : BitVec 32 := 1#32
  let v1626 : BitVec 32 := Scalar.muli v1621 c1_i32_929
  let v1627 : BitVec 32 := Scalar.addi v1625 v1626
  v1627.toNat
def k0_dev22 (d0 : Dev nD) : Nat :=
  let c0_i32_976 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_933 : BitVec 32 := 7#32
  let v1635 : BitVec 32 := Scalar.addi v39 c7_i32_933
  let c8_i32_934 : BitVec 32 := 8#32
  let c0_i32_935 : BitVec 32 := 0#32
  let v1636 : BitVec 1 := Scalar.cmpi .eq c8_i32_934 c0_i32_935
  let c1_i32_936 : BitVec 32 := 1#32
  let v1637 : BitVec 32 := Scalar.select v1636 c1_i32_936 c8_i32_934
  let v1638 : BitVec 32 := Scalar.remsi v1635 v1637
  let c0_i32_938 : BitVec 32 := 0#32
  let v1640 : BitVec 1 := Scalar.cmpi .slt v1638 c0_i32_938
  let c0_i32_939 : BitVec 32 := 0#32
  let v1641 : BitVec 1 := Scalar.cmpi .slt v1637 c0_i32_939
  let v1642 : BitVec 1 := Scalar.xori v1640 v1641
  let c0_i32_937 : BitVec 32 := 0#32
  let v1639 : BitVec 1 := Scalar.cmpi .ne v1638 c0_i32_937
  let v1643 : BitVec 1 := Scalar.andi v1642 v1639
  let v1644 : BitVec 32 := Scalar.addi v1638 v1637
  let v1645 : BitVec 32 := Scalar.select v1643 v1644 v1638
  let c0_i32_943 : BitVec 32 := 0#32
  let v1649 : BitVec 1 := Scalar.cmpi .sgt v1645 c0_i32_943
  let v1650 : BitVec 32 := Scalar.extui v1649
  let c0_i32_944 : BitVec 32 := 0#32
  let v1651 : BitVec 1 := Scalar.cmpi .slt v1645 c0_i32_944
  let v1652 : BitVec 32 := Scalar.extui v1651
  let v1653 : BitVec 32 := Scalar.subi v1650 v1652
  let c4_i32_942 : BitVec 32 := 4#32
  let c0_i32_945 : BitVec 32 := 0#32
  let v1654 : BitVec 1 := Scalar.cmpi .sgt c4_i32_942 c0_i32_945
  let v1655 : BitVec 32 := Scalar.extui v1654
  let c0_i32_946 : BitVec 32 := 0#32
  let v1656 : BitVec 1 := Scalar.cmpi .slt c4_i32_942 c0_i32_946
  let v1657 : BitVec 32 := Scalar.extui v1656
  let v1658 : BitVec 32 := Scalar.subi v1655 v1657
  let v1659 : BitVec 1 := Scalar.cmpi .ne v1653 v1658
  let v1660 : BitVec 32 := Scalar.remsi v1645 c4_i32_942
  let c0_i32_947 : BitVec 32 := 0#32
  let v1661 : BitVec 1 := Scalar.cmpi .ne v1660 c0_i32_947
  let v1662 : BitVec 1 := Scalar.andi v1659 v1661
  let v1648 : BitVec 32 := Scalar.divsi v1645 c4_i32_942
  let c1_i32_948 : BitVec 32 := 1#32
  let v1663 : BitVec 32 := Scalar.subi v1648 c1_i32_948
  let v1664 : BitVec 32 := Scalar.select v1662 v1663 v1648
  let c8_i32_975 : BitVec 32 := 8#32
  let v1704 : BitVec 32 := Scalar.muli v1664 c8_i32_975
  let v1705 : BitVec 32 := Scalar.addi c0_i32_976 v1704
  let c0_i32_950 : BitVec 32 := 0#32
  let v1666 : BitVec 1 := Scalar.cmpi .sgt v1645 c0_i32_950
  let v1667 : BitVec 32 := Scalar.extui v1666
  let c0_i32_951 : BitVec 32 := 0#32
  let v1668 : BitVec 1 := Scalar.cmpi .slt v1645 c0_i32_951
  let v1669 : BitVec 32 := Scalar.extui v1668
  let v1670 : BitVec 32 := Scalar.subi v1667 v1669
  let c2_i32_949 : BitVec 32 := 2#32
  let c0_i32_952 : BitVec 32 := 0#32
  let v1671 : BitVec 1 := Scalar.cmpi .sgt c2_i32_949 c0_i32_952
  let v1672 : BitVec 32 := Scalar.extui v1671
  let c0_i32_953 : BitVec 32 := 0#32
  let v1673 : BitVec 1 := Scalar.cmpi .slt c2_i32_949 c0_i32_953
  let v1674 : BitVec 32 := Scalar.extui v1673
  let v1675 : BitVec 32 := Scalar.subi v1672 v1674
  let v1676 : BitVec 1 := Scalar.cmpi .ne v1670 v1675
  let v1677 : BitVec 32 := Scalar.remsi v1645 c2_i32_949
  let c0_i32_954 : BitVec 32 := 0#32
  let v1678 : BitVec 1 := Scalar.cmpi .ne v1677 c0_i32_954
  let v1679 : BitVec 1 := Scalar.andi v1676 v1678
  let v1665 : BitVec 32 := Scalar.divsi v1645 c2_i32_949
  let c1_i32_955 : BitVec 32 := 1#32
  let v1680 : BitVec 32 := Scalar.subi v1665 c1_i32_955
  let v1681 : BitVec 32 := Scalar.select v1679 v1680 v1665
  let c2_i32_956 : BitVec 32 := 2#32
  let c0_i32_957 : BitVec 32 := 0#32
  let v1682 : BitVec 1 := Scalar.cmpi .eq c2_i32_956 c0_i32_957
  let c1_i32_958 : BitVec 32 := 1#32
  let v1683 : BitVec 32 := Scalar.select v1682 c1_i32_958 c2_i32_956
  let v1684 : BitVec 32 := Scalar.remsi v1681 v1683
  let c0_i32_960 : BitVec 32 := 0#32
  let v1686 : BitVec 1 := Scalar.cmpi .slt v1684 c0_i32_960
  let c0_i32_961 : BitVec 32 := 0#32
  let v1687 : BitVec 1 := Scalar.cmpi .slt v1683 c0_i32_961
  let v1688 : BitVec 1 := Scalar.xori v1686 v1687
  let c0_i32_959 : BitVec 32 := 0#32
  let v1685 : BitVec 1 := Scalar.cmpi .ne v1684 c0_i32_959
  let v1689 : BitVec 1 := Scalar.andi v1688 v1685
  let v1690 : BitVec 32 := Scalar.addi v1684 v1683
  let v1691 : BitVec 32 := Scalar.select v1689 v1690 v1684
  let c4_i32_977 : BitVec 32 := 4#32
  let v1706 : BitVec 32 := Scalar.muli v1691 c4_i32_977
  let v1707 : BitVec 32 := Scalar.addi v1705 v1706
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_962 : BitVec 32 := 2#32
  let v1692 : BitVec 32 := Scalar.muli v25 c2_i32_962
  let c2_i32_963 : BitVec 32 := 2#32
  let c0_i32_964 : BitVec 32 := 0#32
  let v1693 : BitVec 1 := Scalar.cmpi .eq c2_i32_963 c0_i32_964
  let c1_i32_965 : BitVec 32 := 1#32
  let v1694 : BitVec 32 := Scalar.select v1693 c1_i32_965 c2_i32_963
  let v1695 : BitVec 32 := Scalar.remsi v1645 v1694
  let c0_i32_967 : BitVec 32 := 0#32
  let v1697 : BitVec 1 := Scalar.cmpi .slt v1695 c0_i32_967
  let c0_i32_968 : BitVec 32 := 0#32
  let v1698 : BitVec 1 := Scalar.cmpi .slt v1694 c0_i32_968
  let v1699 : BitVec 1 := Scalar.xori v1697 v1698
  let c0_i32_966 : BitVec 32 := 0#32
  let v1696 : BitVec 1 := Scalar.cmpi .ne v1695 c0_i32_966
  let v1700 : BitVec 1 := Scalar.andi v1699 v1696
  let v1701 : BitVec 32 := Scalar.addi v1695 v1694
  let v1702 : BitVec 32 := Scalar.select v1700 v1701 v1695
  let v1703 : BitVec 32 := Scalar.addi v1692 v1702
  let c1_i32_978 : BitVec 32 := 1#32
  let v1708 : BitVec 32 := Scalar.muli v1703 c1_i32_978
  let v1709 : BitVec 32 := Scalar.addi v1707 v1708
  v1709.toNat
def k0_dev23 (d0 : Dev nD) : Nat :=
  let c0_i32_1024 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_982 : BitVec 32 := 1#32
  let v1717 : BitVec 32 := Scalar.addi v39 c1_i32_982
  let c8_i32_983 : BitVec 32 := 8#32
  let c0_i32_984 : BitVec 32 := 0#32
  let v1718 : BitVec 1 := Scalar.cmpi .eq c8_i32_983 c0_i32_984
  let c1_i32_985 : BitVec 32 := 1#32
  let v1719 : BitVec 32 := Scalar.select v1718 c1_i32_985 c8_i32_983
  let v1720 : BitVec 32 := Scalar.remsi v1717 v1719
  let c0_i32_987 : BitVec 32 := 0#32
  let v1722 : BitVec 1 := Scalar.cmpi .slt v1720 c0_i32_987
  let c0_i32_988 : BitVec 32 := 0#32
  let v1723 : BitVec 1 := Scalar.cmpi .slt v1719 c0_i32_988
  let v1724 : BitVec 1 := Scalar.xori v1722 v1723
  let c0_i32_986 : BitVec 32 := 0#32
  let v1721 : BitVec 1 := Scalar.cmpi .ne v1720 c0_i32_986
  let v1725 : BitVec 1 := Scalar.andi v1724 v1721
  let v1726 : BitVec 32 := Scalar.addi v1720 v1719
  let v1727 : BitVec 32 := Scalar.select v1725 v1726 v1720
  let c0_i32_991 : BitVec 32 := 0#32
  let v1731 : BitVec 1 := Scalar.cmpi .sgt v1727 c0_i32_991
  let v1732 : BitVec 32 := Scalar.extui v1731
  let c0_i32_992 : BitVec 32 := 0#32
  let v1733 : BitVec 1 := Scalar.cmpi .slt v1727 c0_i32_992
  let v1734 : BitVec 32 := Scalar.extui v1733
  let v1735 : BitVec 32 := Scalar.subi v1732 v1734
  let c4_i32_990 : BitVec 32 := 4#32
  let c0_i32_993 : BitVec 32 := 0#32
  let v1736 : BitVec 1 := Scalar.cmpi .sgt c4_i32_990 c0_i32_993
  let v1737 : BitVec 32 := Scalar.extui v1736
  let c0_i32_994 : BitVec 32 := 0#32
  let v1738 : BitVec 1 := Scalar.cmpi .slt c4_i32_990 c0_i32_994
  let v1739 : BitVec 32 := Scalar.extui v1738
  let v1740 : BitVec 32 := Scalar.subi v1737 v1739
  let v1741 : BitVec 1 := Scalar.cmpi .ne v1735 v1740
  let v1742 : BitVec 32 := Scalar.remsi v1727 c4_i32_990
  let c0_i32_995 : BitVec 32 := 0#32
  let v1743 : BitVec 1 := Scalar.cmpi .ne v1742 c0_i32_995
  let v1744 : BitVec 1 := Scalar.andi v1741 v1743
  let v1730 : BitVec 32 := Scalar.divsi v1727 c4_i32_990
  let c1_i32_996 : BitVec 32 := 1#32
  let v1745 : BitVec 32 := Scalar.subi v1730 c1_i32_996
  let v1746 : BitVec 32 := Scalar.select v1744 v1745 v1730
  let c8_i32_1023 : BitVec 32 := 8#32
  let v1786 : BitVec 32 := Scalar.muli v1746 c8_i32_1023
  let v1787 : BitVec 32 := Scalar.addi c0_i32_1024 v1786
  let c0_i32_998 : BitVec 32 := 0#32
  let v1748 : BitVec 1 := Scalar.cmpi .sgt v1727 c0_i32_998
  let v1749 : BitVec 32 := Scalar.extui v1748
  let c0_i32_999 : BitVec 32 := 0#32
  let v1750 : BitVec 1 := Scalar.cmpi .slt v1727 c0_i32_999
  let v1751 : BitVec 32 := Scalar.extui v1750
  let v1752 : BitVec 32 := Scalar.subi v1749 v1751
  let c2_i32_997 : BitVec 32 := 2#32
  let c0_i32_1000 : BitVec 32 := 0#32
  let v1753 : BitVec 1 := Scalar.cmpi .sgt c2_i32_997 c0_i32_1000
  let v1754 : BitVec 32 := Scalar.extui v1753
  let c0_i32_1001 : BitVec 32 := 0#32
  let v1755 : BitVec 1 := Scalar.cmpi .slt c2_i32_997 c0_i32_1001
  let v1756 : BitVec 32 := Scalar.extui v1755
  let v1757 : BitVec 32 := Scalar.subi v1754 v1756
  let v1758 : BitVec 1 := Scalar.cmpi .ne v1752 v1757
  let v1759 : BitVec 32 := Scalar.remsi v1727 c2_i32_997
  let c0_i32_1002 : BitVec 32 := 0#32
  let v1760 : BitVec 1 := Scalar.cmpi .ne v1759 c0_i32_1002
  let v1761 : BitVec 1 := Scalar.andi v1758 v1760
  let v1747 : BitVec 32 := Scalar.divsi v1727 c2_i32_997
  let c1_i32_1003 : BitVec 32 := 1#32
  let v1762 : BitVec 32 := Scalar.subi v1747 c1_i32_1003
  let v1763 : BitVec 32 := Scalar.select v1761 v1762 v1747
  let c2_i32_1004 : BitVec 32 := 2#32
  let c0_i32_1005 : BitVec 32 := 0#32
  let v1764 : BitVec 1 := Scalar.cmpi .eq c2_i32_1004 c0_i32_1005
  let c1_i32_1006 : BitVec 32 := 1#32
  let v1765 : BitVec 32 := Scalar.select v1764 c1_i32_1006 c2_i32_1004
  let v1766 : BitVec 32 := Scalar.remsi v1763 v1765
  let c0_i32_1008 : BitVec 32 := 0#32
  let v1768 : BitVec 1 := Scalar.cmpi .slt v1766 c0_i32_1008
  let c0_i32_1009 : BitVec 32 := 0#32
  let v1769 : BitVec 1 := Scalar.cmpi .slt v1765 c0_i32_1009
  let v1770 : BitVec 1 := Scalar.xori v1768 v1769
  let c0_i32_1007 : BitVec 32 := 0#32
  let v1767 : BitVec 1 := Scalar.cmpi .ne v1766 c0_i32_1007
  let v1771 : BitVec 1 := Scalar.andi v1770 v1767
  let v1772 : BitVec 32 := Scalar.addi v1766 v1765
  let v1773 : BitVec 32 := Scalar.select v1771 v1772 v1766
  let c4_i32_1025 : BitVec 32 := 4#32
  let v1788 : BitVec 32 := Scalar.muli v1773 c4_i32_1025
  let v1789 : BitVec 32 := Scalar.addi v1787 v1788
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1010 : BitVec 32 := 2#32
  let v1774 : BitVec 32 := Scalar.muli v25 c2_i32_1010
  let c2_i32_1011 : BitVec 32 := 2#32
  let c0_i32_1012 : BitVec 32 := 0#32
  let v1775 : BitVec 1 := Scalar.cmpi .eq c2_i32_1011 c0_i32_1012
  let c1_i32_1013 : BitVec 32 := 1#32
  let v1776 : BitVec 32 := Scalar.select v1775 c1_i32_1013 c2_i32_1011
  let v1777 : BitVec 32 := Scalar.remsi v1727 v1776
  let c0_i32_1015 : BitVec 32 := 0#32
  let v1779 : BitVec 1 := Scalar.cmpi .slt v1777 c0_i32_1015
  let c0_i32_1016 : BitVec 32 := 0#32
  let v1780 : BitVec 1 := Scalar.cmpi .slt v1776 c0_i32_1016
  let v1781 : BitVec 1 := Scalar.xori v1779 v1780
  let c0_i32_1014 : BitVec 32 := 0#32
  let v1778 : BitVec 1 := Scalar.cmpi .ne v1777 c0_i32_1014
  let v1782 : BitVec 1 := Scalar.andi v1781 v1778
  let v1783 : BitVec 32 := Scalar.addi v1777 v1776
  let v1784 : BitVec 32 := Scalar.select v1782 v1783 v1777
  let v1785 : BitVec 32 := Scalar.addi v1774 v1784
  let c1_i32_1026 : BitVec 32 := 1#32
  let v1790 : BitVec 32 := Scalar.muli v1785 c1_i32_1026
  let v1791 : BitVec 32 := Scalar.addi v1789 v1790
  v1791.toNat
def k0_dev24 (d0 : Dev nD) : Nat :=
  let c0_i32_1073 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_1030 : BitVec 32 := 2#32
  let v1799 : BitVec 32 := Scalar.addi v39 c2_i32_1030
  let c8_i32_1031 : BitVec 32 := 8#32
  let c0_i32_1032 : BitVec 32 := 0#32
  let v1800 : BitVec 1 := Scalar.cmpi .eq c8_i32_1031 c0_i32_1032
  let c1_i32_1033 : BitVec 32 := 1#32
  let v1801 : BitVec 32 := Scalar.select v1800 c1_i32_1033 c8_i32_1031
  let v1802 : BitVec 32 := Scalar.remsi v1799 v1801
  let c0_i32_1035 : BitVec 32 := 0#32
  let v1804 : BitVec 1 := Scalar.cmpi .slt v1802 c0_i32_1035
  let c0_i32_1036 : BitVec 32 := 0#32
  let v1805 : BitVec 1 := Scalar.cmpi .slt v1801 c0_i32_1036
  let v1806 : BitVec 1 := Scalar.xori v1804 v1805
  let c0_i32_1034 : BitVec 32 := 0#32
  let v1803 : BitVec 1 := Scalar.cmpi .ne v1802 c0_i32_1034
  let v1807 : BitVec 1 := Scalar.andi v1806 v1803
  let v1808 : BitVec 32 := Scalar.addi v1802 v1801
  let v1809 : BitVec 32 := Scalar.select v1807 v1808 v1802
  let c0_i32_1040 : BitVec 32 := 0#32
  let v1813 : BitVec 1 := Scalar.cmpi .sgt v1809 c0_i32_1040
  let v1814 : BitVec 32 := Scalar.extui v1813
  let c0_i32_1041 : BitVec 32 := 0#32
  let v1815 : BitVec 1 := Scalar.cmpi .slt v1809 c0_i32_1041
  let v1816 : BitVec 32 := Scalar.extui v1815
  let v1817 : BitVec 32 := Scalar.subi v1814 v1816
  let c4_i32_1039 : BitVec 32 := 4#32
  let c0_i32_1042 : BitVec 32 := 0#32
  let v1818 : BitVec 1 := Scalar.cmpi .sgt c4_i32_1039 c0_i32_1042
  let v1819 : BitVec 32 := Scalar.extui v1818
  let c0_i32_1043 : BitVec 32 := 0#32
  let v1820 : BitVec 1 := Scalar.cmpi .slt c4_i32_1039 c0_i32_1043
  let v1821 : BitVec 32 := Scalar.extui v1820
  let v1822 : BitVec 32 := Scalar.subi v1819 v1821
  let v1823 : BitVec 1 := Scalar.cmpi .ne v1817 v1822
  let v1824 : BitVec 32 := Scalar.remsi v1809 c4_i32_1039
  let c0_i32_1044 : BitVec 32 := 0#32
  let v1825 : BitVec 1 := Scalar.cmpi .ne v1824 c0_i32_1044
  let v1826 : BitVec 1 := Scalar.andi v1823 v1825
  let v1812 : BitVec 32 := Scalar.divsi v1809 c4_i32_1039
  let c1_i32_1045 : BitVec 32 := 1#32
  let v1827 : BitVec 32 := Scalar.subi v1812 c1_i32_1045
  let v1828 : BitVec 32 := Scalar.select v1826 v1827 v1812
  let c8_i32_1072 : BitVec 32 := 8#32
  let v1868 : BitVec 32 := Scalar.muli v1828 c8_i32_1072
  let v1869 : BitVec 32 := Scalar.addi c0_i32_1073 v1868
  let c0_i32_1047 : BitVec 32 := 0#32
  let v1830 : BitVec 1 := Scalar.cmpi .sgt v1809 c0_i32_1047
  let v1831 : BitVec 32 := Scalar.extui v1830
  let c0_i32_1048 : BitVec 32 := 0#32
  let v1832 : BitVec 1 := Scalar.cmpi .slt v1809 c0_i32_1048
  let v1833 : BitVec 32 := Scalar.extui v1832
  let v1834 : BitVec 32 := Scalar.subi v1831 v1833
  let c2_i32_1046 : BitVec 32 := 2#32
  let c0_i32_1049 : BitVec 32 := 0#32
  let v1835 : BitVec 1 := Scalar.cmpi .sgt c2_i32_1046 c0_i32_1049
  let v1836 : BitVec 32 := Scalar.extui v1835
  let c0_i32_1050 : BitVec 32 := 0#32
  let v1837 : BitVec 1 := Scalar.cmpi .slt c2_i32_1046 c0_i32_1050
  let v1838 : BitVec 32 := Scalar.extui v1837
  let v1839 : BitVec 32 := Scalar.subi v1836 v1838
  let v1840 : BitVec 1 := Scalar.cmpi .ne v1834 v1839
  let v1841 : BitVec 32 := Scalar.remsi v1809 c2_i32_1046
  let c0_i32_1051 : BitVec 32 := 0#32
  let v1842 : BitVec 1 := Scalar.cmpi .ne v1841 c0_i32_1051
  let v1843 : BitVec 1 := Scalar.andi v1840 v1842
  let v1829 : BitVec 32 := Scalar.divsi v1809 c2_i32_1046
  let c1_i32_1052 : BitVec 32 := 1#32
  let v1844 : BitVec 32 := Scalar.subi v1829 c1_i32_1052
  let v1845 : BitVec 32 := Scalar.select v1843 v1844 v1829
  let c2_i32_1053 : BitVec 32 := 2#32
  let c0_i32_1054 : BitVec 32 := 0#32
  let v1846 : BitVec 1 := Scalar.cmpi .eq c2_i32_1053 c0_i32_1054
  let c1_i32_1055 : BitVec 32 := 1#32
  let v1847 : BitVec 32 := Scalar.select v1846 c1_i32_1055 c2_i32_1053
  let v1848 : BitVec 32 := Scalar.remsi v1845 v1847
  let c0_i32_1057 : BitVec 32 := 0#32
  let v1850 : BitVec 1 := Scalar.cmpi .slt v1848 c0_i32_1057
  let c0_i32_1058 : BitVec 32 := 0#32
  let v1851 : BitVec 1 := Scalar.cmpi .slt v1847 c0_i32_1058
  let v1852 : BitVec 1 := Scalar.xori v1850 v1851
  let c0_i32_1056 : BitVec 32 := 0#32
  let v1849 : BitVec 1 := Scalar.cmpi .ne v1848 c0_i32_1056
  let v1853 : BitVec 1 := Scalar.andi v1852 v1849
  let v1854 : BitVec 32 := Scalar.addi v1848 v1847
  let v1855 : BitVec 32 := Scalar.select v1853 v1854 v1848
  let c4_i32_1074 : BitVec 32 := 4#32
  let v1870 : BitVec 32 := Scalar.muli v1855 c4_i32_1074
  let v1871 : BitVec 32 := Scalar.addi v1869 v1870
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1059 : BitVec 32 := 2#32
  let v1856 : BitVec 32 := Scalar.muli v25 c2_i32_1059
  let c2_i32_1060 : BitVec 32 := 2#32
  let c0_i32_1061 : BitVec 32 := 0#32
  let v1857 : BitVec 1 := Scalar.cmpi .eq c2_i32_1060 c0_i32_1061
  let c1_i32_1062 : BitVec 32 := 1#32
  let v1858 : BitVec 32 := Scalar.select v1857 c1_i32_1062 c2_i32_1060
  let v1859 : BitVec 32 := Scalar.remsi v1809 v1858
  let c0_i32_1064 : BitVec 32 := 0#32
  let v1861 : BitVec 1 := Scalar.cmpi .slt v1859 c0_i32_1064
  let c0_i32_1065 : BitVec 32 := 0#32
  let v1862 : BitVec 1 := Scalar.cmpi .slt v1858 c0_i32_1065
  let v1863 : BitVec 1 := Scalar.xori v1861 v1862
  let c0_i32_1063 : BitVec 32 := 0#32
  let v1860 : BitVec 1 := Scalar.cmpi .ne v1859 c0_i32_1063
  let v1864 : BitVec 1 := Scalar.andi v1863 v1860
  let v1865 : BitVec 32 := Scalar.addi v1859 v1858
  let v1866 : BitVec 32 := Scalar.select v1864 v1865 v1859
  let v1867 : BitVec 32 := Scalar.addi v1856 v1866
  let c1_i32_1075 : BitVec 32 := 1#32
  let v1872 : BitVec 32 := Scalar.muli v1867 c1_i32_1075
  let v1873 : BitVec 32 := Scalar.addi v1871 v1872
  v1873.toNat
def k0_dev25 (d0 : Dev nD) : Nat :=
  let c0_i32_1122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_1079 : BitVec 32 := 3#32
  let v1881 : BitVec 32 := Scalar.addi v39 c3_i32_1079
  let c8_i32_1080 : BitVec 32 := 8#32
  let c0_i32_1081 : BitVec 32 := 0#32
  let v1882 : BitVec 1 := Scalar.cmpi .eq c8_i32_1080 c0_i32_1081
  let c1_i32_1082 : BitVec 32 := 1#32
  let v1883 : BitVec 32 := Scalar.select v1882 c1_i32_1082 c8_i32_1080
  let v1884 : BitVec 32 := Scalar.remsi v1881 v1883
  let c0_i32_1084 : BitVec 32 := 0#32
  let v1886 : BitVec 1 := Scalar.cmpi .slt v1884 c0_i32_1084
  let c0_i32_1085 : BitVec 32 := 0#32
  let v1887 : BitVec 1 := Scalar.cmpi .slt v1883 c0_i32_1085
  let v1888 : BitVec 1 := Scalar.xori v1886 v1887
  let c0_i32_1083 : BitVec 32 := 0#32
  let v1885 : BitVec 1 := Scalar.cmpi .ne v1884 c0_i32_1083
  let v1889 : BitVec 1 := Scalar.andi v1888 v1885
  let v1890 : BitVec 32 := Scalar.addi v1884 v1883
  let v1891 : BitVec 32 := Scalar.select v1889 v1890 v1884
  let c0_i32_1089 : BitVec 32 := 0#32
  let v1895 : BitVec 1 := Scalar.cmpi .sgt v1891 c0_i32_1089
  let v1896 : BitVec 32 := Scalar.extui v1895
  let c0_i32_1090 : BitVec 32 := 0#32
  let v1897 : BitVec 1 := Scalar.cmpi .slt v1891 c0_i32_1090
  let v1898 : BitVec 32 := Scalar.extui v1897
  let v1899 : BitVec 32 := Scalar.subi v1896 v1898
  let c4_i32_1088 : BitVec 32 := 4#32
  let c0_i32_1091 : BitVec 32 := 0#32
  let v1900 : BitVec 1 := Scalar.cmpi .sgt c4_i32_1088 c0_i32_1091
  let v1901 : BitVec 32 := Scalar.extui v1900
  let c0_i32_1092 : BitVec 32 := 0#32
  let v1902 : BitVec 1 := Scalar.cmpi .slt c4_i32_1088 c0_i32_1092
  let v1903 : BitVec 32 := Scalar.extui v1902
  let v1904 : BitVec 32 := Scalar.subi v1901 v1903
  let v1905 : BitVec 1 := Scalar.cmpi .ne v1899 v1904
  let v1906 : BitVec 32 := Scalar.remsi v1891 c4_i32_1088
  let c0_i32_1093 : BitVec 32 := 0#32
  let v1907 : BitVec 1 := Scalar.cmpi .ne v1906 c0_i32_1093
  let v1908 : BitVec 1 := Scalar.andi v1905 v1907
  let v1894 : BitVec 32 := Scalar.divsi v1891 c4_i32_1088
  let c1_i32_1094 : BitVec 32 := 1#32
  let v1909 : BitVec 32 := Scalar.subi v1894 c1_i32_1094
  let v1910 : BitVec 32 := Scalar.select v1908 v1909 v1894
  let c8_i32_1121 : BitVec 32 := 8#32
  let v1950 : BitVec 32 := Scalar.muli v1910 c8_i32_1121
  let v1951 : BitVec 32 := Scalar.addi c0_i32_1122 v1950
  let c0_i32_1096 : BitVec 32 := 0#32
  let v1912 : BitVec 1 := Scalar.cmpi .sgt v1891 c0_i32_1096
  let v1913 : BitVec 32 := Scalar.extui v1912
  let c0_i32_1097 : BitVec 32 := 0#32
  let v1914 : BitVec 1 := Scalar.cmpi .slt v1891 c0_i32_1097
  let v1915 : BitVec 32 := Scalar.extui v1914
  let v1916 : BitVec 32 := Scalar.subi v1913 v1915
  let c2_i32_1095 : BitVec 32 := 2#32
  let c0_i32_1098 : BitVec 32 := 0#32
  let v1917 : BitVec 1 := Scalar.cmpi .sgt c2_i32_1095 c0_i32_1098
  let v1918 : BitVec 32 := Scalar.extui v1917
  let c0_i32_1099 : BitVec 32 := 0#32
  let v1919 : BitVec 1 := Scalar.cmpi .slt c2_i32_1095 c0_i32_1099
  let v1920 : BitVec 32 := Scalar.extui v1919
  let v1921 : BitVec 32 := Scalar.subi v1918 v1920
  let v1922 : BitVec 1 := Scalar.cmpi .ne v1916 v1921
  let v1923 : BitVec 32 := Scalar.remsi v1891 c2_i32_1095
  let c0_i32_1100 : BitVec 32 := 0#32
  let v1924 : BitVec 1 := Scalar.cmpi .ne v1923 c0_i32_1100
  let v1925 : BitVec 1 := Scalar.andi v1922 v1924
  let v1911 : BitVec 32 := Scalar.divsi v1891 c2_i32_1095
  let c1_i32_1101 : BitVec 32 := 1#32
  let v1926 : BitVec 32 := Scalar.subi v1911 c1_i32_1101
  let v1927 : BitVec 32 := Scalar.select v1925 v1926 v1911
  let c2_i32_1102 : BitVec 32 := 2#32
  let c0_i32_1103 : BitVec 32 := 0#32
  let v1928 : BitVec 1 := Scalar.cmpi .eq c2_i32_1102 c0_i32_1103
  let c1_i32_1104 : BitVec 32 := 1#32
  let v1929 : BitVec 32 := Scalar.select v1928 c1_i32_1104 c2_i32_1102
  let v1930 : BitVec 32 := Scalar.remsi v1927 v1929
  let c0_i32_1106 : BitVec 32 := 0#32
  let v1932 : BitVec 1 := Scalar.cmpi .slt v1930 c0_i32_1106
  let c0_i32_1107 : BitVec 32 := 0#32
  let v1933 : BitVec 1 := Scalar.cmpi .slt v1929 c0_i32_1107
  let v1934 : BitVec 1 := Scalar.xori v1932 v1933
  let c0_i32_1105 : BitVec 32 := 0#32
  let v1931 : BitVec 1 := Scalar.cmpi .ne v1930 c0_i32_1105
  let v1935 : BitVec 1 := Scalar.andi v1934 v1931
  let v1936 : BitVec 32 := Scalar.addi v1930 v1929
  let v1937 : BitVec 32 := Scalar.select v1935 v1936 v1930
  let c4_i32_1123 : BitVec 32 := 4#32
  let v1952 : BitVec 32 := Scalar.muli v1937 c4_i32_1123
  let v1953 : BitVec 32 := Scalar.addi v1951 v1952
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1108 : BitVec 32 := 2#32
  let v1938 : BitVec 32 := Scalar.muli v25 c2_i32_1108
  let c2_i32_1109 : BitVec 32 := 2#32
  let c0_i32_1110 : BitVec 32 := 0#32
  let v1939 : BitVec 1 := Scalar.cmpi .eq c2_i32_1109 c0_i32_1110
  let c1_i32_1111 : BitVec 32 := 1#32
  let v1940 : BitVec 32 := Scalar.select v1939 c1_i32_1111 c2_i32_1109
  let v1941 : BitVec 32 := Scalar.remsi v1891 v1940
  let c0_i32_1113 : BitVec 32 := 0#32
  let v1943 : BitVec 1 := Scalar.cmpi .slt v1941 c0_i32_1113
  let c0_i32_1114 : BitVec 32 := 0#32
  let v1944 : BitVec 1 := Scalar.cmpi .slt v1940 c0_i32_1114
  let v1945 : BitVec 1 := Scalar.xori v1943 v1944
  let c0_i32_1112 : BitVec 32 := 0#32
  let v1942 : BitVec 1 := Scalar.cmpi .ne v1941 c0_i32_1112
  let v1946 : BitVec 1 := Scalar.andi v1945 v1942
  let v1947 : BitVec 32 := Scalar.addi v1941 v1940
  let v1948 : BitVec 32 := Scalar.select v1946 v1947 v1941
  let v1949 : BitVec 32 := Scalar.addi v1938 v1948
  let c1_i32_1124 : BitVec 32 := 1#32
  let v1954 : BitVec 32 := Scalar.muli v1949 c1_i32_1124
  let v1955 : BitVec 32 := Scalar.addi v1953 v1954
  v1955.toNat
def k0_dev26 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_1128 : BitVec 32 := 4#32
  let v1963 : BitVec 32 := Scalar.addi v39 c4_i32_1128
  let c8_i32_1129 : BitVec 32 := 8#32
  let c0_i32_1130 : BitVec 32 := 0#32
  let v1964 : BitVec 1 := Scalar.cmpi .eq c8_i32_1129 c0_i32_1130
  let c1_i32_1131 : BitVec 32 := 1#32
  let v1965 : BitVec 32 := Scalar.select v1964 c1_i32_1131 c8_i32_1129
  let v1966 : BitVec 32 := Scalar.remsi v1963 v1965
  let c0_i32_1133 : BitVec 32 := 0#32
  let v1968 : BitVec 1 := Scalar.cmpi .slt v1966 c0_i32_1133
  let c0_i32_1134 : BitVec 32 := 0#32
  let v1969 : BitVec 1 := Scalar.cmpi .slt v1965 c0_i32_1134
  let v1970 : BitVec 1 := Scalar.xori v1968 v1969
  let c0_i32_1132 : BitVec 32 := 0#32
  let v1967 : BitVec 1 := Scalar.cmpi .ne v1966 c0_i32_1132
  let v1971 : BitVec 1 := Scalar.andi v1970 v1967
  let v1972 : BitVec 32 := Scalar.addi v1966 v1965
  let v1973 : BitVec 32 := Scalar.select v1971 v1972 v1966
  let c0_i32_1138 : BitVec 32 := 0#32
  let v1977 : BitVec 1 := Scalar.cmpi .sgt v1973 c0_i32_1138
  let v1978 : BitVec 32 := Scalar.extui v1977
  let c0_i32_1139 : BitVec 32 := 0#32
  let v1979 : BitVec 1 := Scalar.cmpi .slt v1973 c0_i32_1139
  let v1980 : BitVec 32 := Scalar.extui v1979
  let v1981 : BitVec 32 := Scalar.subi v1978 v1980
  let c4_i32_1137 : BitVec 32 := 4#32
  let c0_i32_1140 : BitVec 32 := 0#32
  let v1982 : BitVec 1 := Scalar.cmpi .sgt c4_i32_1137 c0_i32_1140
  let v1983 : BitVec 32 := Scalar.extui v1982
  let c0_i32_1141 : BitVec 32 := 0#32
  let v1984 : BitVec 1 := Scalar.cmpi .slt c4_i32_1137 c0_i32_1141
  let v1985 : BitVec 32 := Scalar.extui v1984
  let v1986 : BitVec 32 := Scalar.subi v1983 v1985
  let v1987 : BitVec 1 := Scalar.cmpi .ne v1981 v1986
  let v1988 : BitVec 32 := Scalar.remsi v1973 c4_i32_1137
  let c0_i32_1142 : BitVec 32 := 0#32
  let v1989 : BitVec 1 := Scalar.cmpi .ne v1988 c0_i32_1142
  let v1990 : BitVec 1 := Scalar.andi v1987 v1989
  let v1976 : BitVec 32 := Scalar.divsi v1973 c4_i32_1137
  let c1_i32_1143 : BitVec 32 := 1#32
  let v1991 : BitVec 32 := Scalar.subi v1976 c1_i32_1143
  let v1992 : BitVec 32 := Scalar.select v1990 v1991 v1976
  let c8_i32_1170 : BitVec 32 := 8#32
  let v2032 : BitVec 32 := Scalar.muli v1992 c8_i32_1170
  let v2033 : BitVec 32 := Scalar.addi c0_i32_1171 v2032
  let c0_i32_1145 : BitVec 32 := 0#32
  let v1994 : BitVec 1 := Scalar.cmpi .sgt v1973 c0_i32_1145
  let v1995 : BitVec 32 := Scalar.extui v1994
  let c0_i32_1146 : BitVec 32 := 0#32
  let v1996 : BitVec 1 := Scalar.cmpi .slt v1973 c0_i32_1146
  let v1997 : BitVec 32 := Scalar.extui v1996
  let v1998 : BitVec 32 := Scalar.subi v1995 v1997
  let c2_i32_1144 : BitVec 32 := 2#32
  let c0_i32_1147 : BitVec 32 := 0#32
  let v1999 : BitVec 1 := Scalar.cmpi .sgt c2_i32_1144 c0_i32_1147
  let v2000 : BitVec 32 := Scalar.extui v1999
  let c0_i32_1148 : BitVec 32 := 0#32
  let v2001 : BitVec 1 := Scalar.cmpi .slt c2_i32_1144 c0_i32_1148
  let v2002 : BitVec 32 := Scalar.extui v2001
  let v2003 : BitVec 32 := Scalar.subi v2000 v2002
  let v2004 : BitVec 1 := Scalar.cmpi .ne v1998 v2003
  let v2005 : BitVec 32 := Scalar.remsi v1973 c2_i32_1144
  let c0_i32_1149 : BitVec 32 := 0#32
  let v2006 : BitVec 1 := Scalar.cmpi .ne v2005 c0_i32_1149
  let v2007 : BitVec 1 := Scalar.andi v2004 v2006
  let v1993 : BitVec 32 := Scalar.divsi v1973 c2_i32_1144
  let c1_i32_1150 : BitVec 32 := 1#32
  let v2008 : BitVec 32 := Scalar.subi v1993 c1_i32_1150
  let v2009 : BitVec 32 := Scalar.select v2007 v2008 v1993
  let c2_i32_1151 : BitVec 32 := 2#32
  let c0_i32_1152 : BitVec 32 := 0#32
  let v2010 : BitVec 1 := Scalar.cmpi .eq c2_i32_1151 c0_i32_1152
  let c1_i32_1153 : BitVec 32 := 1#32
  let v2011 : BitVec 32 := Scalar.select v2010 c1_i32_1153 c2_i32_1151
  let v2012 : BitVec 32 := Scalar.remsi v2009 v2011
  let c0_i32_1155 : BitVec 32 := 0#32
  let v2014 : BitVec 1 := Scalar.cmpi .slt v2012 c0_i32_1155
  let c0_i32_1156 : BitVec 32 := 0#32
  let v2015 : BitVec 1 := Scalar.cmpi .slt v2011 c0_i32_1156
  let v2016 : BitVec 1 := Scalar.xori v2014 v2015
  let c0_i32_1154 : BitVec 32 := 0#32
  let v2013 : BitVec 1 := Scalar.cmpi .ne v2012 c0_i32_1154
  let v2017 : BitVec 1 := Scalar.andi v2016 v2013
  let v2018 : BitVec 32 := Scalar.addi v2012 v2011
  let v2019 : BitVec 32 := Scalar.select v2017 v2018 v2012
  let c4_i32_1172 : BitVec 32 := 4#32
  let v2034 : BitVec 32 := Scalar.muli v2019 c4_i32_1172
  let v2035 : BitVec 32 := Scalar.addi v2033 v2034
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1157 : BitVec 32 := 2#32
  let v2020 : BitVec 32 := Scalar.muli v25 c2_i32_1157
  let c2_i32_1158 : BitVec 32 := 2#32
  let c0_i32_1159 : BitVec 32 := 0#32
  let v2021 : BitVec 1 := Scalar.cmpi .eq c2_i32_1158 c0_i32_1159
  let c1_i32_1160 : BitVec 32 := 1#32
  let v2022 : BitVec 32 := Scalar.select v2021 c1_i32_1160 c2_i32_1158
  let v2023 : BitVec 32 := Scalar.remsi v1973 v2022
  let c0_i32_1162 : BitVec 32 := 0#32
  let v2025 : BitVec 1 := Scalar.cmpi .slt v2023 c0_i32_1162
  let c0_i32_1163 : BitVec 32 := 0#32
  let v2026 : BitVec 1 := Scalar.cmpi .slt v2022 c0_i32_1163
  let v2027 : BitVec 1 := Scalar.xori v2025 v2026
  let c0_i32_1161 : BitVec 32 := 0#32
  let v2024 : BitVec 1 := Scalar.cmpi .ne v2023 c0_i32_1161
  let v2028 : BitVec 1 := Scalar.andi v2027 v2024
  let v2029 : BitVec 32 := Scalar.addi v2023 v2022
  let v2030 : BitVec 32 := Scalar.select v2028 v2029 v2023
  let v2031 : BitVec 32 := Scalar.addi v2020 v2030
  let c1_i32_1173 : BitVec 32 := 1#32
  let v2036 : BitVec 32 := Scalar.muli v2031 c1_i32_1173
  let v2037 : BitVec 32 := Scalar.addi v2035 v2036
  v2037.toNat
def k0_dev27 (d0 : Dev nD) : Nat :=
  let c0_i32_1220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_1177 : BitVec 32 := 5#32
  let v2045 : BitVec 32 := Scalar.addi v39 c5_i32_1177
  let c8_i32_1178 : BitVec 32 := 8#32
  let c0_i32_1179 : BitVec 32 := 0#32
  let v2046 : BitVec 1 := Scalar.cmpi .eq c8_i32_1178 c0_i32_1179
  let c1_i32_1180 : BitVec 32 := 1#32
  let v2047 : BitVec 32 := Scalar.select v2046 c1_i32_1180 c8_i32_1178
  let v2048 : BitVec 32 := Scalar.remsi v2045 v2047
  let c0_i32_1182 : BitVec 32 := 0#32
  let v2050 : BitVec 1 := Scalar.cmpi .slt v2048 c0_i32_1182
  let c0_i32_1183 : BitVec 32 := 0#32
  let v2051 : BitVec 1 := Scalar.cmpi .slt v2047 c0_i32_1183
  let v2052 : BitVec 1 := Scalar.xori v2050 v2051
  let c0_i32_1181 : BitVec 32 := 0#32
  let v2049 : BitVec 1 := Scalar.cmpi .ne v2048 c0_i32_1181
  let v2053 : BitVec 1 := Scalar.andi v2052 v2049
  let v2054 : BitVec 32 := Scalar.addi v2048 v2047
  let v2055 : BitVec 32 := Scalar.select v2053 v2054 v2048
  let c0_i32_1187 : BitVec 32 := 0#32
  let v2059 : BitVec 1 := Scalar.cmpi .sgt v2055 c0_i32_1187
  let v2060 : BitVec 32 := Scalar.extui v2059
  let c0_i32_1188 : BitVec 32 := 0#32
  let v2061 : BitVec 1 := Scalar.cmpi .slt v2055 c0_i32_1188
  let v2062 : BitVec 32 := Scalar.extui v2061
  let v2063 : BitVec 32 := Scalar.subi v2060 v2062
  let c4_i32_1186 : BitVec 32 := 4#32
  let c0_i32_1189 : BitVec 32 := 0#32
  let v2064 : BitVec 1 := Scalar.cmpi .sgt c4_i32_1186 c0_i32_1189
  let v2065 : BitVec 32 := Scalar.extui v2064
  let c0_i32_1190 : BitVec 32 := 0#32
  let v2066 : BitVec 1 := Scalar.cmpi .slt c4_i32_1186 c0_i32_1190
  let v2067 : BitVec 32 := Scalar.extui v2066
  let v2068 : BitVec 32 := Scalar.subi v2065 v2067
  let v2069 : BitVec 1 := Scalar.cmpi .ne v2063 v2068
  let v2070 : BitVec 32 := Scalar.remsi v2055 c4_i32_1186
  let c0_i32_1191 : BitVec 32 := 0#32
  let v2071 : BitVec 1 := Scalar.cmpi .ne v2070 c0_i32_1191
  let v2072 : BitVec 1 := Scalar.andi v2069 v2071
  let v2058 : BitVec 32 := Scalar.divsi v2055 c4_i32_1186
  let c1_i32_1192 : BitVec 32 := 1#32
  let v2073 : BitVec 32 := Scalar.subi v2058 c1_i32_1192
  let v2074 : BitVec 32 := Scalar.select v2072 v2073 v2058
  let c8_i32_1219 : BitVec 32 := 8#32
  let v2114 : BitVec 32 := Scalar.muli v2074 c8_i32_1219
  let v2115 : BitVec 32 := Scalar.addi c0_i32_1220 v2114
  let c0_i32_1194 : BitVec 32 := 0#32
  let v2076 : BitVec 1 := Scalar.cmpi .sgt v2055 c0_i32_1194
  let v2077 : BitVec 32 := Scalar.extui v2076
  let c0_i32_1195 : BitVec 32 := 0#32
  let v2078 : BitVec 1 := Scalar.cmpi .slt v2055 c0_i32_1195
  let v2079 : BitVec 32 := Scalar.extui v2078
  let v2080 : BitVec 32 := Scalar.subi v2077 v2079
  let c2_i32_1193 : BitVec 32 := 2#32
  let c0_i32_1196 : BitVec 32 := 0#32
  let v2081 : BitVec 1 := Scalar.cmpi .sgt c2_i32_1193 c0_i32_1196
  let v2082 : BitVec 32 := Scalar.extui v2081
  let c0_i32_1197 : BitVec 32 := 0#32
  let v2083 : BitVec 1 := Scalar.cmpi .slt c2_i32_1193 c0_i32_1197
  let v2084 : BitVec 32 := Scalar.extui v2083
  let v2085 : BitVec 32 := Scalar.subi v2082 v2084
  let v2086 : BitVec 1 := Scalar.cmpi .ne v2080 v2085
  let v2087 : BitVec 32 := Scalar.remsi v2055 c2_i32_1193
  let c0_i32_1198 : BitVec 32 := 0#32
  let v2088 : BitVec 1 := Scalar.cmpi .ne v2087 c0_i32_1198
  let v2089 : BitVec 1 := Scalar.andi v2086 v2088
  let v2075 : BitVec 32 := Scalar.divsi v2055 c2_i32_1193
  let c1_i32_1199 : BitVec 32 := 1#32
  let v2090 : BitVec 32 := Scalar.subi v2075 c1_i32_1199
  let v2091 : BitVec 32 := Scalar.select v2089 v2090 v2075
  let c2_i32_1200 : BitVec 32 := 2#32
  let c0_i32_1201 : BitVec 32 := 0#32
  let v2092 : BitVec 1 := Scalar.cmpi .eq c2_i32_1200 c0_i32_1201
  let c1_i32_1202 : BitVec 32 := 1#32
  let v2093 : BitVec 32 := Scalar.select v2092 c1_i32_1202 c2_i32_1200
  let v2094 : BitVec 32 := Scalar.remsi v2091 v2093
  let c0_i32_1204 : BitVec 32 := 0#32
  let v2096 : BitVec 1 := Scalar.cmpi .slt v2094 c0_i32_1204
  let c0_i32_1205 : BitVec 32 := 0#32
  let v2097 : BitVec 1 := Scalar.cmpi .slt v2093 c0_i32_1205
  let v2098 : BitVec 1 := Scalar.xori v2096 v2097
  let c0_i32_1203 : BitVec 32 := 0#32
  let v2095 : BitVec 1 := Scalar.cmpi .ne v2094 c0_i32_1203
  let v2099 : BitVec 1 := Scalar.andi v2098 v2095
  let v2100 : BitVec 32 := Scalar.addi v2094 v2093
  let v2101 : BitVec 32 := Scalar.select v2099 v2100 v2094
  let c4_i32_1221 : BitVec 32 := 4#32
  let v2116 : BitVec 32 := Scalar.muli v2101 c4_i32_1221
  let v2117 : BitVec 32 := Scalar.addi v2115 v2116
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1206 : BitVec 32 := 2#32
  let v2102 : BitVec 32 := Scalar.muli v25 c2_i32_1206
  let c2_i32_1207 : BitVec 32 := 2#32
  let c0_i32_1208 : BitVec 32 := 0#32
  let v2103 : BitVec 1 := Scalar.cmpi .eq c2_i32_1207 c0_i32_1208
  let c1_i32_1209 : BitVec 32 := 1#32
  let v2104 : BitVec 32 := Scalar.select v2103 c1_i32_1209 c2_i32_1207
  let v2105 : BitVec 32 := Scalar.remsi v2055 v2104
  let c0_i32_1211 : BitVec 32 := 0#32
  let v2107 : BitVec 1 := Scalar.cmpi .slt v2105 c0_i32_1211
  let c0_i32_1212 : BitVec 32 := 0#32
  let v2108 : BitVec 1 := Scalar.cmpi .slt v2104 c0_i32_1212
  let v2109 : BitVec 1 := Scalar.xori v2107 v2108
  let c0_i32_1210 : BitVec 32 := 0#32
  let v2106 : BitVec 1 := Scalar.cmpi .ne v2105 c0_i32_1210
  let v2110 : BitVec 1 := Scalar.andi v2109 v2106
  let v2111 : BitVec 32 := Scalar.addi v2105 v2104
  let v2112 : BitVec 32 := Scalar.select v2110 v2111 v2105
  let v2113 : BitVec 32 := Scalar.addi v2102 v2112
  let c1_i32_1222 : BitVec 32 := 1#32
  let v2118 : BitVec 32 := Scalar.muli v2113 c1_i32_1222
  let v2119 : BitVec 32 := Scalar.addi v2117 v2118
  v2119.toNat
def k0_dev28 (d0 : Dev nD) : Nat :=
  let c0_i32_1269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_1226 : BitVec 32 := 6#32
  let v2127 : BitVec 32 := Scalar.addi v39 c6_i32_1226
  let c8_i32_1227 : BitVec 32 := 8#32
  let c0_i32_1228 : BitVec 32 := 0#32
  let v2128 : BitVec 1 := Scalar.cmpi .eq c8_i32_1227 c0_i32_1228
  let c1_i32_1229 : BitVec 32 := 1#32
  let v2129 : BitVec 32 := Scalar.select v2128 c1_i32_1229 c8_i32_1227
  let v2130 : BitVec 32 := Scalar.remsi v2127 v2129
  let c0_i32_1231 : BitVec 32 := 0#32
  let v2132 : BitVec 1 := Scalar.cmpi .slt v2130 c0_i32_1231
  let c0_i32_1232 : BitVec 32 := 0#32
  let v2133 : BitVec 1 := Scalar.cmpi .slt v2129 c0_i32_1232
  let v2134 : BitVec 1 := Scalar.xori v2132 v2133
  let c0_i32_1230 : BitVec 32 := 0#32
  let v2131 : BitVec 1 := Scalar.cmpi .ne v2130 c0_i32_1230
  let v2135 : BitVec 1 := Scalar.andi v2134 v2131
  let v2136 : BitVec 32 := Scalar.addi v2130 v2129
  let v2137 : BitVec 32 := Scalar.select v2135 v2136 v2130
  let c0_i32_1236 : BitVec 32 := 0#32
  let v2141 : BitVec 1 := Scalar.cmpi .sgt v2137 c0_i32_1236
  let v2142 : BitVec 32 := Scalar.extui v2141
  let c0_i32_1237 : BitVec 32 := 0#32
  let v2143 : BitVec 1 := Scalar.cmpi .slt v2137 c0_i32_1237
  let v2144 : BitVec 32 := Scalar.extui v2143
  let v2145 : BitVec 32 := Scalar.subi v2142 v2144
  let c4_i32_1235 : BitVec 32 := 4#32
  let c0_i32_1238 : BitVec 32 := 0#32
  let v2146 : BitVec 1 := Scalar.cmpi .sgt c4_i32_1235 c0_i32_1238
  let v2147 : BitVec 32 := Scalar.extui v2146
  let c0_i32_1239 : BitVec 32 := 0#32
  let v2148 : BitVec 1 := Scalar.cmpi .slt c4_i32_1235 c0_i32_1239
  let v2149 : BitVec 32 := Scalar.extui v2148
  let v2150 : BitVec 32 := Scalar.subi v2147 v2149
  let v2151 : BitVec 1 := Scalar.cmpi .ne v2145 v2150
  let v2152 : BitVec 32 := Scalar.remsi v2137 c4_i32_1235
  let c0_i32_1240 : BitVec 32 := 0#32
  let v2153 : BitVec 1 := Scalar.cmpi .ne v2152 c0_i32_1240
  let v2154 : BitVec 1 := Scalar.andi v2151 v2153
  let v2140 : BitVec 32 := Scalar.divsi v2137 c4_i32_1235
  let c1_i32_1241 : BitVec 32 := 1#32
  let v2155 : BitVec 32 := Scalar.subi v2140 c1_i32_1241
  let v2156 : BitVec 32 := Scalar.select v2154 v2155 v2140
  let c8_i32_1268 : BitVec 32 := 8#32
  let v2196 : BitVec 32 := Scalar.muli v2156 c8_i32_1268
  let v2197 : BitVec 32 := Scalar.addi c0_i32_1269 v2196
  let c0_i32_1243 : BitVec 32 := 0#32
  let v2158 : BitVec 1 := Scalar.cmpi .sgt v2137 c0_i32_1243
  let v2159 : BitVec 32 := Scalar.extui v2158
  let c0_i32_1244 : BitVec 32 := 0#32
  let v2160 : BitVec 1 := Scalar.cmpi .slt v2137 c0_i32_1244
  let v2161 : BitVec 32 := Scalar.extui v2160
  let v2162 : BitVec 32 := Scalar.subi v2159 v2161
  let c2_i32_1242 : BitVec 32 := 2#32
  let c0_i32_1245 : BitVec 32 := 0#32
  let v2163 : BitVec 1 := Scalar.cmpi .sgt c2_i32_1242 c0_i32_1245
  let v2164 : BitVec 32 := Scalar.extui v2163
  let c0_i32_1246 : BitVec 32 := 0#32
  let v2165 : BitVec 1 := Scalar.cmpi .slt c2_i32_1242 c0_i32_1246
  let v2166 : BitVec 32 := Scalar.extui v2165
  let v2167 : BitVec 32 := Scalar.subi v2164 v2166
  let v2168 : BitVec 1 := Scalar.cmpi .ne v2162 v2167
  let v2169 : BitVec 32 := Scalar.remsi v2137 c2_i32_1242
  let c0_i32_1247 : BitVec 32 := 0#32
  let v2170 : BitVec 1 := Scalar.cmpi .ne v2169 c0_i32_1247
  let v2171 : BitVec 1 := Scalar.andi v2168 v2170
  let v2157 : BitVec 32 := Scalar.divsi v2137 c2_i32_1242
  let c1_i32_1248 : BitVec 32 := 1#32
  let v2172 : BitVec 32 := Scalar.subi v2157 c1_i32_1248
  let v2173 : BitVec 32 := Scalar.select v2171 v2172 v2157
  let c2_i32_1249 : BitVec 32 := 2#32
  let c0_i32_1250 : BitVec 32 := 0#32
  let v2174 : BitVec 1 := Scalar.cmpi .eq c2_i32_1249 c0_i32_1250
  let c1_i32_1251 : BitVec 32 := 1#32
  let v2175 : BitVec 32 := Scalar.select v2174 c1_i32_1251 c2_i32_1249
  let v2176 : BitVec 32 := Scalar.remsi v2173 v2175
  let c0_i32_1253 : BitVec 32 := 0#32
  let v2178 : BitVec 1 := Scalar.cmpi .slt v2176 c0_i32_1253
  let c0_i32_1254 : BitVec 32 := 0#32
  let v2179 : BitVec 1 := Scalar.cmpi .slt v2175 c0_i32_1254
  let v2180 : BitVec 1 := Scalar.xori v2178 v2179
  let c0_i32_1252 : BitVec 32 := 0#32
  let v2177 : BitVec 1 := Scalar.cmpi .ne v2176 c0_i32_1252
  let v2181 : BitVec 1 := Scalar.andi v2180 v2177
  let v2182 : BitVec 32 := Scalar.addi v2176 v2175
  let v2183 : BitVec 32 := Scalar.select v2181 v2182 v2176
  let c4_i32_1270 : BitVec 32 := 4#32
  let v2198 : BitVec 32 := Scalar.muli v2183 c4_i32_1270
  let v2199 : BitVec 32 := Scalar.addi v2197 v2198
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1255 : BitVec 32 := 2#32
  let v2184 : BitVec 32 := Scalar.muli v25 c2_i32_1255
  let c2_i32_1256 : BitVec 32 := 2#32
  let c0_i32_1257 : BitVec 32 := 0#32
  let v2185 : BitVec 1 := Scalar.cmpi .eq c2_i32_1256 c0_i32_1257
  let c1_i32_1258 : BitVec 32 := 1#32
  let v2186 : BitVec 32 := Scalar.select v2185 c1_i32_1258 c2_i32_1256
  let v2187 : BitVec 32 := Scalar.remsi v2137 v2186
  let c0_i32_1260 : BitVec 32 := 0#32
  let v2189 : BitVec 1 := Scalar.cmpi .slt v2187 c0_i32_1260
  let c0_i32_1261 : BitVec 32 := 0#32
  let v2190 : BitVec 1 := Scalar.cmpi .slt v2186 c0_i32_1261
  let v2191 : BitVec 1 := Scalar.xori v2189 v2190
  let c0_i32_1259 : BitVec 32 := 0#32
  let v2188 : BitVec 1 := Scalar.cmpi .ne v2187 c0_i32_1259
  let v2192 : BitVec 1 := Scalar.andi v2191 v2188
  let v2193 : BitVec 32 := Scalar.addi v2187 v2186
  let v2194 : BitVec 32 := Scalar.select v2192 v2193 v2187
  let v2195 : BitVec 32 := Scalar.addi v2184 v2194
  let c1_i32_1271 : BitVec 32 := 1#32
  let v2200 : BitVec 32 := Scalar.muli v2195 c1_i32_1271
  let v2201 : BitVec 32 := Scalar.addi v2199 v2200
  v2201.toNat
def k0_dev29 (d0 : Dev nD) : Nat :=
  let c0_i32_1318 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_1275 : BitVec 32 := 7#32
  let v2209 : BitVec 32 := Scalar.addi v39 c7_i32_1275
  let c8_i32_1276 : BitVec 32 := 8#32
  let c0_i32_1277 : BitVec 32 := 0#32
  let v2210 : BitVec 1 := Scalar.cmpi .eq c8_i32_1276 c0_i32_1277
  let c1_i32_1278 : BitVec 32 := 1#32
  let v2211 : BitVec 32 := Scalar.select v2210 c1_i32_1278 c8_i32_1276
  let v2212 : BitVec 32 := Scalar.remsi v2209 v2211
  let c0_i32_1280 : BitVec 32 := 0#32
  let v2214 : BitVec 1 := Scalar.cmpi .slt v2212 c0_i32_1280
  let c0_i32_1281 : BitVec 32 := 0#32
  let v2215 : BitVec 1 := Scalar.cmpi .slt v2211 c0_i32_1281
  let v2216 : BitVec 1 := Scalar.xori v2214 v2215
  let c0_i32_1279 : BitVec 32 := 0#32
  let v2213 : BitVec 1 := Scalar.cmpi .ne v2212 c0_i32_1279
  let v2217 : BitVec 1 := Scalar.andi v2216 v2213
  let v2218 : BitVec 32 := Scalar.addi v2212 v2211
  let v2219 : BitVec 32 := Scalar.select v2217 v2218 v2212
  let c0_i32_1285 : BitVec 32 := 0#32
  let v2223 : BitVec 1 := Scalar.cmpi .sgt v2219 c0_i32_1285
  let v2224 : BitVec 32 := Scalar.extui v2223
  let c0_i32_1286 : BitVec 32 := 0#32
  let v2225 : BitVec 1 := Scalar.cmpi .slt v2219 c0_i32_1286
  let v2226 : BitVec 32 := Scalar.extui v2225
  let v2227 : BitVec 32 := Scalar.subi v2224 v2226
  let c4_i32_1284 : BitVec 32 := 4#32
  let c0_i32_1287 : BitVec 32 := 0#32
  let v2228 : BitVec 1 := Scalar.cmpi .sgt c4_i32_1284 c0_i32_1287
  let v2229 : BitVec 32 := Scalar.extui v2228
  let c0_i32_1288 : BitVec 32 := 0#32
  let v2230 : BitVec 1 := Scalar.cmpi .slt c4_i32_1284 c0_i32_1288
  let v2231 : BitVec 32 := Scalar.extui v2230
  let v2232 : BitVec 32 := Scalar.subi v2229 v2231
  let v2233 : BitVec 1 := Scalar.cmpi .ne v2227 v2232
  let v2234 : BitVec 32 := Scalar.remsi v2219 c4_i32_1284
  let c0_i32_1289 : BitVec 32 := 0#32
  let v2235 : BitVec 1 := Scalar.cmpi .ne v2234 c0_i32_1289
  let v2236 : BitVec 1 := Scalar.andi v2233 v2235
  let v2222 : BitVec 32 := Scalar.divsi v2219 c4_i32_1284
  let c1_i32_1290 : BitVec 32 := 1#32
  let v2237 : BitVec 32 := Scalar.subi v2222 c1_i32_1290
  let v2238 : BitVec 32 := Scalar.select v2236 v2237 v2222
  let c8_i32_1317 : BitVec 32 := 8#32
  let v2278 : BitVec 32 := Scalar.muli v2238 c8_i32_1317
  let v2279 : BitVec 32 := Scalar.addi c0_i32_1318 v2278
  let c0_i32_1292 : BitVec 32 := 0#32
  let v2240 : BitVec 1 := Scalar.cmpi .sgt v2219 c0_i32_1292
  let v2241 : BitVec 32 := Scalar.extui v2240
  let c0_i32_1293 : BitVec 32 := 0#32
  let v2242 : BitVec 1 := Scalar.cmpi .slt v2219 c0_i32_1293
  let v2243 : BitVec 32 := Scalar.extui v2242
  let v2244 : BitVec 32 := Scalar.subi v2241 v2243
  let c2_i32_1291 : BitVec 32 := 2#32
  let c0_i32_1294 : BitVec 32 := 0#32
  let v2245 : BitVec 1 := Scalar.cmpi .sgt c2_i32_1291 c0_i32_1294
  let v2246 : BitVec 32 := Scalar.extui v2245
  let c0_i32_1295 : BitVec 32 := 0#32
  let v2247 : BitVec 1 := Scalar.cmpi .slt c2_i32_1291 c0_i32_1295
  let v2248 : BitVec 32 := Scalar.extui v2247
  let v2249 : BitVec 32 := Scalar.subi v2246 v2248
  let v2250 : BitVec 1 := Scalar.cmpi .ne v2244 v2249
  let v2251 : BitVec 32 := Scalar.remsi v2219 c2_i32_1291
  let c0_i32_1296 : BitVec 32 := 0#32
  let v2252 : BitVec 1 := Scalar.cmpi .ne v2251 c0_i32_1296
  let v2253 : BitVec 1 := Scalar.andi v2250 v2252
  let v2239 : BitVec 32 := Scalar.divsi v2219 c2_i32_1291
  let c1_i32_1297 : BitVec 32 := 1#32
  let v2254 : BitVec 32 := Scalar.subi v2239 c1_i32_1297
  let v2255 : BitVec 32 := Scalar.select v2253 v2254 v2239
  let c2_i32_1298 : BitVec 32 := 2#32
  let c0_i32_1299 : BitVec 32 := 0#32
  let v2256 : BitVec 1 := Scalar.cmpi .eq c2_i32_1298 c0_i32_1299
  let c1_i32_1300 : BitVec 32 := 1#32
  let v2257 : BitVec 32 := Scalar.select v2256 c1_i32_1300 c2_i32_1298
  let v2258 : BitVec 32 := Scalar.remsi v2255 v2257
  let c0_i32_1302 : BitVec 32 := 0#32
  let v2260 : BitVec 1 := Scalar.cmpi .slt v2258 c0_i32_1302
  let c0_i32_1303 : BitVec 32 := 0#32
  let v2261 : BitVec 1 := Scalar.cmpi .slt v2257 c0_i32_1303
  let v2262 : BitVec 1 := Scalar.xori v2260 v2261
  let c0_i32_1301 : BitVec 32 := 0#32
  let v2259 : BitVec 1 := Scalar.cmpi .ne v2258 c0_i32_1301
  let v2263 : BitVec 1 := Scalar.andi v2262 v2259
  let v2264 : BitVec 32 := Scalar.addi v2258 v2257
  let v2265 : BitVec 32 := Scalar.select v2263 v2264 v2258
  let c4_i32_1319 : BitVec 32 := 4#32
  let v2280 : BitVec 32 := Scalar.muli v2265 c4_i32_1319
  let v2281 : BitVec 32 := Scalar.addi v2279 v2280
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1304 : BitVec 32 := 2#32
  let v2266 : BitVec 32 := Scalar.muli v25 c2_i32_1304
  let c2_i32_1305 : BitVec 32 := 2#32
  let c0_i32_1306 : BitVec 32 := 0#32
  let v2267 : BitVec 1 := Scalar.cmpi .eq c2_i32_1305 c0_i32_1306
  let c1_i32_1307 : BitVec 32 := 1#32
  let v2268 : BitVec 32 := Scalar.select v2267 c1_i32_1307 c2_i32_1305
  let v2269 : BitVec 32 := Scalar.remsi v2219 v2268
  let c0_i32_1309 : BitVec 32 := 0#32
  let v2271 : BitVec 1 := Scalar.cmpi .slt v2269 c0_i32_1309
  let c0_i32_1310 : BitVec 32 := 0#32
  let v2272 : BitVec 1 := Scalar.cmpi .slt v2268 c0_i32_1310
  let v2273 : BitVec 1 := Scalar.xori v2271 v2272
  let c0_i32_1308 : BitVec 32 := 0#32
  let v2270 : BitVec 1 := Scalar.cmpi .ne v2269 c0_i32_1308
  let v2274 : BitVec 1 := Scalar.andi v2273 v2270
  let v2275 : BitVec 32 := Scalar.addi v2269 v2268
  let v2276 : BitVec 32 := Scalar.select v2274 v2275 v2269
  let v2277 : BitVec 32 := Scalar.addi v2266 v2276
  let c1_i32_1320 : BitVec 32 := 1#32
  let v2282 : BitVec 32 := Scalar.muli v2277 c1_i32_1320
  let v2283 : BitVec 32 := Scalar.addi v2281 v2282
  v2283.toNat
def k0_dev30 (d0 : Dev nD) : Nat :=
  let c0_i32_1366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_1324 : BitVec 32 := 1#32
  let v2291 : BitVec 32 := Scalar.addi v39 c1_i32_1324
  let c8_i32_1325 : BitVec 32 := 8#32
  let c0_i32_1326 : BitVec 32 := 0#32
  let v2292 : BitVec 1 := Scalar.cmpi .eq c8_i32_1325 c0_i32_1326
  let c1_i32_1327 : BitVec 32 := 1#32
  let v2293 : BitVec 32 := Scalar.select v2292 c1_i32_1327 c8_i32_1325
  let v2294 : BitVec 32 := Scalar.remsi v2291 v2293
  let c0_i32_1329 : BitVec 32 := 0#32
  let v2296 : BitVec 1 := Scalar.cmpi .slt v2294 c0_i32_1329
  let c0_i32_1330 : BitVec 32 := 0#32
  let v2297 : BitVec 1 := Scalar.cmpi .slt v2293 c0_i32_1330
  let v2298 : BitVec 1 := Scalar.xori v2296 v2297
  let c0_i32_1328 : BitVec 32 := 0#32
  let v2295 : BitVec 1 := Scalar.cmpi .ne v2294 c0_i32_1328
  let v2299 : BitVec 1 := Scalar.andi v2298 v2295
  let v2300 : BitVec 32 := Scalar.addi v2294 v2293
  let v2301 : BitVec 32 := Scalar.select v2299 v2300 v2294
  let c0_i32_1333 : BitVec 32 := 0#32
  let v2305 : BitVec 1 := Scalar.cmpi .sgt v2301 c0_i32_1333
  let v2306 : BitVec 32 := Scalar.extui v2305
  let c0_i32_1334 : BitVec 32 := 0#32
  let v2307 : BitVec 1 := Scalar.cmpi .slt v2301 c0_i32_1334
  let v2308 : BitVec 32 := Scalar.extui v2307
  let v2309 : BitVec 32 := Scalar.subi v2306 v2308
  let c4_i32_1332 : BitVec 32 := 4#32
  let c0_i32_1335 : BitVec 32 := 0#32
  let v2310 : BitVec 1 := Scalar.cmpi .sgt c4_i32_1332 c0_i32_1335
  let v2311 : BitVec 32 := Scalar.extui v2310
  let c0_i32_1336 : BitVec 32 := 0#32
  let v2312 : BitVec 1 := Scalar.cmpi .slt c4_i32_1332 c0_i32_1336
  let v2313 : BitVec 32 := Scalar.extui v2312
  let v2314 : BitVec 32 := Scalar.subi v2311 v2313
  let v2315 : BitVec 1 := Scalar.cmpi .ne v2309 v2314
  let v2316 : BitVec 32 := Scalar.remsi v2301 c4_i32_1332
  let c0_i32_1337 : BitVec 32 := 0#32
  let v2317 : BitVec 1 := Scalar.cmpi .ne v2316 c0_i32_1337
  let v2318 : BitVec 1 := Scalar.andi v2315 v2317
  let v2304 : BitVec 32 := Scalar.divsi v2301 c4_i32_1332
  let c1_i32_1338 : BitVec 32 := 1#32
  let v2319 : BitVec 32 := Scalar.subi v2304 c1_i32_1338
  let v2320 : BitVec 32 := Scalar.select v2318 v2319 v2304
  let c8_i32_1365 : BitVec 32 := 8#32
  let v2360 : BitVec 32 := Scalar.muli v2320 c8_i32_1365
  let v2361 : BitVec 32 := Scalar.addi c0_i32_1366 v2360
  let c0_i32_1340 : BitVec 32 := 0#32
  let v2322 : BitVec 1 := Scalar.cmpi .sgt v2301 c0_i32_1340
  let v2323 : BitVec 32 := Scalar.extui v2322
  let c0_i32_1341 : BitVec 32 := 0#32
  let v2324 : BitVec 1 := Scalar.cmpi .slt v2301 c0_i32_1341
  let v2325 : BitVec 32 := Scalar.extui v2324
  let v2326 : BitVec 32 := Scalar.subi v2323 v2325
  let c2_i32_1339 : BitVec 32 := 2#32
  let c0_i32_1342 : BitVec 32 := 0#32
  let v2327 : BitVec 1 := Scalar.cmpi .sgt c2_i32_1339 c0_i32_1342
  let v2328 : BitVec 32 := Scalar.extui v2327
  let c0_i32_1343 : BitVec 32 := 0#32
  let v2329 : BitVec 1 := Scalar.cmpi .slt c2_i32_1339 c0_i32_1343
  let v2330 : BitVec 32 := Scalar.extui v2329
  let v2331 : BitVec 32 := Scalar.subi v2328 v2330
  let v2332 : BitVec 1 := Scalar.cmpi .ne v2326 v2331
  let v2333 : BitVec 32 := Scalar.remsi v2301 c2_i32_1339
  let c0_i32_1344 : BitVec 32 := 0#32
  let v2334 : BitVec 1 := Scalar.cmpi .ne v2333 c0_i32_1344
  let v2335 : BitVec 1 := Scalar.andi v2332 v2334
  let v2321 : BitVec 32 := Scalar.divsi v2301 c2_i32_1339
  let c1_i32_1345 : BitVec 32 := 1#32
  let v2336 : BitVec 32 := Scalar.subi v2321 c1_i32_1345
  let v2337 : BitVec 32 := Scalar.select v2335 v2336 v2321
  let c2_i32_1346 : BitVec 32 := 2#32
  let c0_i32_1347 : BitVec 32 := 0#32
  let v2338 : BitVec 1 := Scalar.cmpi .eq c2_i32_1346 c0_i32_1347
  let c1_i32_1348 : BitVec 32 := 1#32
  let v2339 : BitVec 32 := Scalar.select v2338 c1_i32_1348 c2_i32_1346
  let v2340 : BitVec 32 := Scalar.remsi v2337 v2339
  let c0_i32_1350 : BitVec 32 := 0#32
  let v2342 : BitVec 1 := Scalar.cmpi .slt v2340 c0_i32_1350
  let c0_i32_1351 : BitVec 32 := 0#32
  let v2343 : BitVec 1 := Scalar.cmpi .slt v2339 c0_i32_1351
  let v2344 : BitVec 1 := Scalar.xori v2342 v2343
  let c0_i32_1349 : BitVec 32 := 0#32
  let v2341 : BitVec 1 := Scalar.cmpi .ne v2340 c0_i32_1349
  let v2345 : BitVec 1 := Scalar.andi v2344 v2341
  let v2346 : BitVec 32 := Scalar.addi v2340 v2339
  let v2347 : BitVec 32 := Scalar.select v2345 v2346 v2340
  let c4_i32_1367 : BitVec 32 := 4#32
  let v2362 : BitVec 32 := Scalar.muli v2347 c4_i32_1367
  let v2363 : BitVec 32 := Scalar.addi v2361 v2362
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1352 : BitVec 32 := 2#32
  let v2348 : BitVec 32 := Scalar.muli v25 c2_i32_1352
  let c2_i32_1353 : BitVec 32 := 2#32
  let c0_i32_1354 : BitVec 32 := 0#32
  let v2349 : BitVec 1 := Scalar.cmpi .eq c2_i32_1353 c0_i32_1354
  let c1_i32_1355 : BitVec 32 := 1#32
  let v2350 : BitVec 32 := Scalar.select v2349 c1_i32_1355 c2_i32_1353
  let v2351 : BitVec 32 := Scalar.remsi v2301 v2350
  let c0_i32_1357 : BitVec 32 := 0#32
  let v2353 : BitVec 1 := Scalar.cmpi .slt v2351 c0_i32_1357
  let c0_i32_1358 : BitVec 32 := 0#32
  let v2354 : BitVec 1 := Scalar.cmpi .slt v2350 c0_i32_1358
  let v2355 : BitVec 1 := Scalar.xori v2353 v2354
  let c0_i32_1356 : BitVec 32 := 0#32
  let v2352 : BitVec 1 := Scalar.cmpi .ne v2351 c0_i32_1356
  let v2356 : BitVec 1 := Scalar.andi v2355 v2352
  let v2357 : BitVec 32 := Scalar.addi v2351 v2350
  let v2358 : BitVec 32 := Scalar.select v2356 v2357 v2351
  let v2359 : BitVec 32 := Scalar.addi v2348 v2358
  let c1_i32_1368 : BitVec 32 := 1#32
  let v2364 : BitVec 32 := Scalar.muli v2359 c1_i32_1368
  let v2365 : BitVec 32 := Scalar.addi v2363 v2364
  v2365.toNat
def k0_dev31 (d0 : Dev nD) : Nat :=
  let c0_i32_1415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_1372 : BitVec 32 := 2#32
  let v2373 : BitVec 32 := Scalar.addi v39 c2_i32_1372
  let c8_i32_1373 : BitVec 32 := 8#32
  let c0_i32_1374 : BitVec 32 := 0#32
  let v2374 : BitVec 1 := Scalar.cmpi .eq c8_i32_1373 c0_i32_1374
  let c1_i32_1375 : BitVec 32 := 1#32
  let v2375 : BitVec 32 := Scalar.select v2374 c1_i32_1375 c8_i32_1373
  let v2376 : BitVec 32 := Scalar.remsi v2373 v2375
  let c0_i32_1377 : BitVec 32 := 0#32
  let v2378 : BitVec 1 := Scalar.cmpi .slt v2376 c0_i32_1377
  let c0_i32_1378 : BitVec 32 := 0#32
  let v2379 : BitVec 1 := Scalar.cmpi .slt v2375 c0_i32_1378
  let v2380 : BitVec 1 := Scalar.xori v2378 v2379
  let c0_i32_1376 : BitVec 32 := 0#32
  let v2377 : BitVec 1 := Scalar.cmpi .ne v2376 c0_i32_1376
  let v2381 : BitVec 1 := Scalar.andi v2380 v2377
  let v2382 : BitVec 32 := Scalar.addi v2376 v2375
  let v2383 : BitVec 32 := Scalar.select v2381 v2382 v2376
  let c0_i32_1382 : BitVec 32 := 0#32
  let v2387 : BitVec 1 := Scalar.cmpi .sgt v2383 c0_i32_1382
  let v2388 : BitVec 32 := Scalar.extui v2387
  let c0_i32_1383 : BitVec 32 := 0#32
  let v2389 : BitVec 1 := Scalar.cmpi .slt v2383 c0_i32_1383
  let v2390 : BitVec 32 := Scalar.extui v2389
  let v2391 : BitVec 32 := Scalar.subi v2388 v2390
  let c4_i32_1381 : BitVec 32 := 4#32
  let c0_i32_1384 : BitVec 32 := 0#32
  let v2392 : BitVec 1 := Scalar.cmpi .sgt c4_i32_1381 c0_i32_1384
  let v2393 : BitVec 32 := Scalar.extui v2392
  let c0_i32_1385 : BitVec 32 := 0#32
  let v2394 : BitVec 1 := Scalar.cmpi .slt c4_i32_1381 c0_i32_1385
  let v2395 : BitVec 32 := Scalar.extui v2394
  let v2396 : BitVec 32 := Scalar.subi v2393 v2395
  let v2397 : BitVec 1 := Scalar.cmpi .ne v2391 v2396
  let v2398 : BitVec 32 := Scalar.remsi v2383 c4_i32_1381
  let c0_i32_1386 : BitVec 32 := 0#32
  let v2399 : BitVec 1 := Scalar.cmpi .ne v2398 c0_i32_1386
  let v2400 : BitVec 1 := Scalar.andi v2397 v2399
  let v2386 : BitVec 32 := Scalar.divsi v2383 c4_i32_1381
  let c1_i32_1387 : BitVec 32 := 1#32
  let v2401 : BitVec 32 := Scalar.subi v2386 c1_i32_1387
  let v2402 : BitVec 32 := Scalar.select v2400 v2401 v2386
  let c8_i32_1414 : BitVec 32 := 8#32
  let v2442 : BitVec 32 := Scalar.muli v2402 c8_i32_1414
  let v2443 : BitVec 32 := Scalar.addi c0_i32_1415 v2442
  let c0_i32_1389 : BitVec 32 := 0#32
  let v2404 : BitVec 1 := Scalar.cmpi .sgt v2383 c0_i32_1389
  let v2405 : BitVec 32 := Scalar.extui v2404
  let c0_i32_1390 : BitVec 32 := 0#32
  let v2406 : BitVec 1 := Scalar.cmpi .slt v2383 c0_i32_1390
  let v2407 : BitVec 32 := Scalar.extui v2406
  let v2408 : BitVec 32 := Scalar.subi v2405 v2407
  let c2_i32_1388 : BitVec 32 := 2#32
  let c0_i32_1391 : BitVec 32 := 0#32
  let v2409 : BitVec 1 := Scalar.cmpi .sgt c2_i32_1388 c0_i32_1391
  let v2410 : BitVec 32 := Scalar.extui v2409
  let c0_i32_1392 : BitVec 32 := 0#32
  let v2411 : BitVec 1 := Scalar.cmpi .slt c2_i32_1388 c0_i32_1392
  let v2412 : BitVec 32 := Scalar.extui v2411
  let v2413 : BitVec 32 := Scalar.subi v2410 v2412
  let v2414 : BitVec 1 := Scalar.cmpi .ne v2408 v2413
  let v2415 : BitVec 32 := Scalar.remsi v2383 c2_i32_1388
  let c0_i32_1393 : BitVec 32 := 0#32
  let v2416 : BitVec 1 := Scalar.cmpi .ne v2415 c0_i32_1393
  let v2417 : BitVec 1 := Scalar.andi v2414 v2416
  let v2403 : BitVec 32 := Scalar.divsi v2383 c2_i32_1388
  let c1_i32_1394 : BitVec 32 := 1#32
  let v2418 : BitVec 32 := Scalar.subi v2403 c1_i32_1394
  let v2419 : BitVec 32 := Scalar.select v2417 v2418 v2403
  let c2_i32_1395 : BitVec 32 := 2#32
  let c0_i32_1396 : BitVec 32 := 0#32
  let v2420 : BitVec 1 := Scalar.cmpi .eq c2_i32_1395 c0_i32_1396
  let c1_i32_1397 : BitVec 32 := 1#32
  let v2421 : BitVec 32 := Scalar.select v2420 c1_i32_1397 c2_i32_1395
  let v2422 : BitVec 32 := Scalar.remsi v2419 v2421
  let c0_i32_1399 : BitVec 32 := 0#32
  let v2424 : BitVec 1 := Scalar.cmpi .slt v2422 c0_i32_1399
  let c0_i32_1400 : BitVec 32 := 0#32
  let v2425 : BitVec 1 := Scalar.cmpi .slt v2421 c0_i32_1400
  let v2426 : BitVec 1 := Scalar.xori v2424 v2425
  let c0_i32_1398 : BitVec 32 := 0#32
  let v2423 : BitVec 1 := Scalar.cmpi .ne v2422 c0_i32_1398
  let v2427 : BitVec 1 := Scalar.andi v2426 v2423
  let v2428 : BitVec 32 := Scalar.addi v2422 v2421
  let v2429 : BitVec 32 := Scalar.select v2427 v2428 v2422
  let c4_i32_1416 : BitVec 32 := 4#32
  let v2444 : BitVec 32 := Scalar.muli v2429 c4_i32_1416
  let v2445 : BitVec 32 := Scalar.addi v2443 v2444
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1401 : BitVec 32 := 2#32
  let v2430 : BitVec 32 := Scalar.muli v25 c2_i32_1401
  let c2_i32_1402 : BitVec 32 := 2#32
  let c0_i32_1403 : BitVec 32 := 0#32
  let v2431 : BitVec 1 := Scalar.cmpi .eq c2_i32_1402 c0_i32_1403
  let c1_i32_1404 : BitVec 32 := 1#32
  let v2432 : BitVec 32 := Scalar.select v2431 c1_i32_1404 c2_i32_1402
  let v2433 : BitVec 32 := Scalar.remsi v2383 v2432
  let c0_i32_1406 : BitVec 32 := 0#32
  let v2435 : BitVec 1 := Scalar.cmpi .slt v2433 c0_i32_1406
  let c0_i32_1407 : BitVec 32 := 0#32
  let v2436 : BitVec 1 := Scalar.cmpi .slt v2432 c0_i32_1407
  let v2437 : BitVec 1 := Scalar.xori v2435 v2436
  let c0_i32_1405 : BitVec 32 := 0#32
  let v2434 : BitVec 1 := Scalar.cmpi .ne v2433 c0_i32_1405
  let v2438 : BitVec 1 := Scalar.andi v2437 v2434
  let v2439 : BitVec 32 := Scalar.addi v2433 v2432
  let v2440 : BitVec 32 := Scalar.select v2438 v2439 v2433
  let v2441 : BitVec 32 := Scalar.addi v2430 v2440
  let c1_i32_1417 : BitVec 32 := 1#32
  let v2446 : BitVec 32 := Scalar.muli v2441 c1_i32_1417
  let v2447 : BitVec 32 := Scalar.addi v2445 v2446
  v2447.toNat
def k0_dev32 (d0 : Dev nD) : Nat :=
  let c0_i32_1464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_1421 : BitVec 32 := 3#32
  let v2455 : BitVec 32 := Scalar.addi v39 c3_i32_1421
  let c8_i32_1422 : BitVec 32 := 8#32
  let c0_i32_1423 : BitVec 32 := 0#32
  let v2456 : BitVec 1 := Scalar.cmpi .eq c8_i32_1422 c0_i32_1423
  let c1_i32_1424 : BitVec 32 := 1#32
  let v2457 : BitVec 32 := Scalar.select v2456 c1_i32_1424 c8_i32_1422
  let v2458 : BitVec 32 := Scalar.remsi v2455 v2457
  let c0_i32_1426 : BitVec 32 := 0#32
  let v2460 : BitVec 1 := Scalar.cmpi .slt v2458 c0_i32_1426
  let c0_i32_1427 : BitVec 32 := 0#32
  let v2461 : BitVec 1 := Scalar.cmpi .slt v2457 c0_i32_1427
  let v2462 : BitVec 1 := Scalar.xori v2460 v2461
  let c0_i32_1425 : BitVec 32 := 0#32
  let v2459 : BitVec 1 := Scalar.cmpi .ne v2458 c0_i32_1425
  let v2463 : BitVec 1 := Scalar.andi v2462 v2459
  let v2464 : BitVec 32 := Scalar.addi v2458 v2457
  let v2465 : BitVec 32 := Scalar.select v2463 v2464 v2458
  let c0_i32_1431 : BitVec 32 := 0#32
  let v2469 : BitVec 1 := Scalar.cmpi .sgt v2465 c0_i32_1431
  let v2470 : BitVec 32 := Scalar.extui v2469
  let c0_i32_1432 : BitVec 32 := 0#32
  let v2471 : BitVec 1 := Scalar.cmpi .slt v2465 c0_i32_1432
  let v2472 : BitVec 32 := Scalar.extui v2471
  let v2473 : BitVec 32 := Scalar.subi v2470 v2472
  let c4_i32_1430 : BitVec 32 := 4#32
  let c0_i32_1433 : BitVec 32 := 0#32
  let v2474 : BitVec 1 := Scalar.cmpi .sgt c4_i32_1430 c0_i32_1433
  let v2475 : BitVec 32 := Scalar.extui v2474
  let c0_i32_1434 : BitVec 32 := 0#32
  let v2476 : BitVec 1 := Scalar.cmpi .slt c4_i32_1430 c0_i32_1434
  let v2477 : BitVec 32 := Scalar.extui v2476
  let v2478 : BitVec 32 := Scalar.subi v2475 v2477
  let v2479 : BitVec 1 := Scalar.cmpi .ne v2473 v2478
  let v2480 : BitVec 32 := Scalar.remsi v2465 c4_i32_1430
  let c0_i32_1435 : BitVec 32 := 0#32
  let v2481 : BitVec 1 := Scalar.cmpi .ne v2480 c0_i32_1435
  let v2482 : BitVec 1 := Scalar.andi v2479 v2481
  let v2468 : BitVec 32 := Scalar.divsi v2465 c4_i32_1430
  let c1_i32_1436 : BitVec 32 := 1#32
  let v2483 : BitVec 32 := Scalar.subi v2468 c1_i32_1436
  let v2484 : BitVec 32 := Scalar.select v2482 v2483 v2468
  let c8_i32_1463 : BitVec 32 := 8#32
  let v2524 : BitVec 32 := Scalar.muli v2484 c8_i32_1463
  let v2525 : BitVec 32 := Scalar.addi c0_i32_1464 v2524
  let c0_i32_1438 : BitVec 32 := 0#32
  let v2486 : BitVec 1 := Scalar.cmpi .sgt v2465 c0_i32_1438
  let v2487 : BitVec 32 := Scalar.extui v2486
  let c0_i32_1439 : BitVec 32 := 0#32
  let v2488 : BitVec 1 := Scalar.cmpi .slt v2465 c0_i32_1439
  let v2489 : BitVec 32 := Scalar.extui v2488
  let v2490 : BitVec 32 := Scalar.subi v2487 v2489
  let c2_i32_1437 : BitVec 32 := 2#32
  let c0_i32_1440 : BitVec 32 := 0#32
  let v2491 : BitVec 1 := Scalar.cmpi .sgt c2_i32_1437 c0_i32_1440
  let v2492 : BitVec 32 := Scalar.extui v2491
  let c0_i32_1441 : BitVec 32 := 0#32
  let v2493 : BitVec 1 := Scalar.cmpi .slt c2_i32_1437 c0_i32_1441
  let v2494 : BitVec 32 := Scalar.extui v2493
  let v2495 : BitVec 32 := Scalar.subi v2492 v2494
  let v2496 : BitVec 1 := Scalar.cmpi .ne v2490 v2495
  let v2497 : BitVec 32 := Scalar.remsi v2465 c2_i32_1437
  let c0_i32_1442 : BitVec 32 := 0#32
  let v2498 : BitVec 1 := Scalar.cmpi .ne v2497 c0_i32_1442
  let v2499 : BitVec 1 := Scalar.andi v2496 v2498
  let v2485 : BitVec 32 := Scalar.divsi v2465 c2_i32_1437
  let c1_i32_1443 : BitVec 32 := 1#32
  let v2500 : BitVec 32 := Scalar.subi v2485 c1_i32_1443
  let v2501 : BitVec 32 := Scalar.select v2499 v2500 v2485
  let c2_i32_1444 : BitVec 32 := 2#32
  let c0_i32_1445 : BitVec 32 := 0#32
  let v2502 : BitVec 1 := Scalar.cmpi .eq c2_i32_1444 c0_i32_1445
  let c1_i32_1446 : BitVec 32 := 1#32
  let v2503 : BitVec 32 := Scalar.select v2502 c1_i32_1446 c2_i32_1444
  let v2504 : BitVec 32 := Scalar.remsi v2501 v2503
  let c0_i32_1448 : BitVec 32 := 0#32
  let v2506 : BitVec 1 := Scalar.cmpi .slt v2504 c0_i32_1448
  let c0_i32_1449 : BitVec 32 := 0#32
  let v2507 : BitVec 1 := Scalar.cmpi .slt v2503 c0_i32_1449
  let v2508 : BitVec 1 := Scalar.xori v2506 v2507
  let c0_i32_1447 : BitVec 32 := 0#32
  let v2505 : BitVec 1 := Scalar.cmpi .ne v2504 c0_i32_1447
  let v2509 : BitVec 1 := Scalar.andi v2508 v2505
  let v2510 : BitVec 32 := Scalar.addi v2504 v2503
  let v2511 : BitVec 32 := Scalar.select v2509 v2510 v2504
  let c4_i32_1465 : BitVec 32 := 4#32
  let v2526 : BitVec 32 := Scalar.muli v2511 c4_i32_1465
  let v2527 : BitVec 32 := Scalar.addi v2525 v2526
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1450 : BitVec 32 := 2#32
  let v2512 : BitVec 32 := Scalar.muli v25 c2_i32_1450
  let c2_i32_1451 : BitVec 32 := 2#32
  let c0_i32_1452 : BitVec 32 := 0#32
  let v2513 : BitVec 1 := Scalar.cmpi .eq c2_i32_1451 c0_i32_1452
  let c1_i32_1453 : BitVec 32 := 1#32
  let v2514 : BitVec 32 := Scalar.select v2513 c1_i32_1453 c2_i32_1451
  let v2515 : BitVec 32 := Scalar.remsi v2465 v2514
  let c0_i32_1455 : BitVec 32 := 0#32
  let v2517 : BitVec 1 := Scalar.cmpi .slt v2515 c0_i32_1455
  let c0_i32_1456 : BitVec 32 := 0#32
  let v2518 : BitVec 1 := Scalar.cmpi .slt v2514 c0_i32_1456
  let v2519 : BitVec 1 := Scalar.xori v2517 v2518
  let c0_i32_1454 : BitVec 32 := 0#32
  let v2516 : BitVec 1 := Scalar.cmpi .ne v2515 c0_i32_1454
  let v2520 : BitVec 1 := Scalar.andi v2519 v2516
  let v2521 : BitVec 32 := Scalar.addi v2515 v2514
  let v2522 : BitVec 32 := Scalar.select v2520 v2521 v2515
  let v2523 : BitVec 32 := Scalar.addi v2512 v2522
  let c1_i32_1466 : BitVec 32 := 1#32
  let v2528 : BitVec 32 := Scalar.muli v2523 c1_i32_1466
  let v2529 : BitVec 32 := Scalar.addi v2527 v2528
  v2529.toNat
def k0_dev33 (d0 : Dev nD) : Nat :=
  let c0_i32_1513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_1470 : BitVec 32 := 4#32
  let v2537 : BitVec 32 := Scalar.addi v39 c4_i32_1470
  let c8_i32_1471 : BitVec 32 := 8#32
  let c0_i32_1472 : BitVec 32 := 0#32
  let v2538 : BitVec 1 := Scalar.cmpi .eq c8_i32_1471 c0_i32_1472
  let c1_i32_1473 : BitVec 32 := 1#32
  let v2539 : BitVec 32 := Scalar.select v2538 c1_i32_1473 c8_i32_1471
  let v2540 : BitVec 32 := Scalar.remsi v2537 v2539
  let c0_i32_1475 : BitVec 32 := 0#32
  let v2542 : BitVec 1 := Scalar.cmpi .slt v2540 c0_i32_1475
  let c0_i32_1476 : BitVec 32 := 0#32
  let v2543 : BitVec 1 := Scalar.cmpi .slt v2539 c0_i32_1476
  let v2544 : BitVec 1 := Scalar.xori v2542 v2543
  let c0_i32_1474 : BitVec 32 := 0#32
  let v2541 : BitVec 1 := Scalar.cmpi .ne v2540 c0_i32_1474
  let v2545 : BitVec 1 := Scalar.andi v2544 v2541
  let v2546 : BitVec 32 := Scalar.addi v2540 v2539
  let v2547 : BitVec 32 := Scalar.select v2545 v2546 v2540
  let c0_i32_1480 : BitVec 32 := 0#32
  let v2551 : BitVec 1 := Scalar.cmpi .sgt v2547 c0_i32_1480
  let v2552 : BitVec 32 := Scalar.extui v2551
  let c0_i32_1481 : BitVec 32 := 0#32
  let v2553 : BitVec 1 := Scalar.cmpi .slt v2547 c0_i32_1481
  let v2554 : BitVec 32 := Scalar.extui v2553
  let v2555 : BitVec 32 := Scalar.subi v2552 v2554
  let c4_i32_1479 : BitVec 32 := 4#32
  let c0_i32_1482 : BitVec 32 := 0#32
  let v2556 : BitVec 1 := Scalar.cmpi .sgt c4_i32_1479 c0_i32_1482
  let v2557 : BitVec 32 := Scalar.extui v2556
  let c0_i32_1483 : BitVec 32 := 0#32
  let v2558 : BitVec 1 := Scalar.cmpi .slt c4_i32_1479 c0_i32_1483
  let v2559 : BitVec 32 := Scalar.extui v2558
  let v2560 : BitVec 32 := Scalar.subi v2557 v2559
  let v2561 : BitVec 1 := Scalar.cmpi .ne v2555 v2560
  let v2562 : BitVec 32 := Scalar.remsi v2547 c4_i32_1479
  let c0_i32_1484 : BitVec 32 := 0#32
  let v2563 : BitVec 1 := Scalar.cmpi .ne v2562 c0_i32_1484
  let v2564 : BitVec 1 := Scalar.andi v2561 v2563
  let v2550 : BitVec 32 := Scalar.divsi v2547 c4_i32_1479
  let c1_i32_1485 : BitVec 32 := 1#32
  let v2565 : BitVec 32 := Scalar.subi v2550 c1_i32_1485
  let v2566 : BitVec 32 := Scalar.select v2564 v2565 v2550
  let c8_i32_1512 : BitVec 32 := 8#32
  let v2606 : BitVec 32 := Scalar.muli v2566 c8_i32_1512
  let v2607 : BitVec 32 := Scalar.addi c0_i32_1513 v2606
  let c0_i32_1487 : BitVec 32 := 0#32
  let v2568 : BitVec 1 := Scalar.cmpi .sgt v2547 c0_i32_1487
  let v2569 : BitVec 32 := Scalar.extui v2568
  let c0_i32_1488 : BitVec 32 := 0#32
  let v2570 : BitVec 1 := Scalar.cmpi .slt v2547 c0_i32_1488
  let v2571 : BitVec 32 := Scalar.extui v2570
  let v2572 : BitVec 32 := Scalar.subi v2569 v2571
  let c2_i32_1486 : BitVec 32 := 2#32
  let c0_i32_1489 : BitVec 32 := 0#32
  let v2573 : BitVec 1 := Scalar.cmpi .sgt c2_i32_1486 c0_i32_1489
  let v2574 : BitVec 32 := Scalar.extui v2573
  let c0_i32_1490 : BitVec 32 := 0#32
  let v2575 : BitVec 1 := Scalar.cmpi .slt c2_i32_1486 c0_i32_1490
  let v2576 : BitVec 32 := Scalar.extui v2575
  let v2577 : BitVec 32 := Scalar.subi v2574 v2576
  let v2578 : BitVec 1 := Scalar.cmpi .ne v2572 v2577
  let v2579 : BitVec 32 := Scalar.remsi v2547 c2_i32_1486
  let c0_i32_1491 : BitVec 32 := 0#32
  let v2580 : BitVec 1 := Scalar.cmpi .ne v2579 c0_i32_1491
  let v2581 : BitVec 1 := Scalar.andi v2578 v2580
  let v2567 : BitVec 32 := Scalar.divsi v2547 c2_i32_1486
  let c1_i32_1492 : BitVec 32 := 1#32
  let v2582 : BitVec 32 := Scalar.subi v2567 c1_i32_1492
  let v2583 : BitVec 32 := Scalar.select v2581 v2582 v2567
  let c2_i32_1493 : BitVec 32 := 2#32
  let c0_i32_1494 : BitVec 32 := 0#32
  let v2584 : BitVec 1 := Scalar.cmpi .eq c2_i32_1493 c0_i32_1494
  let c1_i32_1495 : BitVec 32 := 1#32
  let v2585 : BitVec 32 := Scalar.select v2584 c1_i32_1495 c2_i32_1493
  let v2586 : BitVec 32 := Scalar.remsi v2583 v2585
  let c0_i32_1497 : BitVec 32 := 0#32
  let v2588 : BitVec 1 := Scalar.cmpi .slt v2586 c0_i32_1497
  let c0_i32_1498 : BitVec 32 := 0#32
  let v2589 : BitVec 1 := Scalar.cmpi .slt v2585 c0_i32_1498
  let v2590 : BitVec 1 := Scalar.xori v2588 v2589
  let c0_i32_1496 : BitVec 32 := 0#32
  let v2587 : BitVec 1 := Scalar.cmpi .ne v2586 c0_i32_1496
  let v2591 : BitVec 1 := Scalar.andi v2590 v2587
  let v2592 : BitVec 32 := Scalar.addi v2586 v2585
  let v2593 : BitVec 32 := Scalar.select v2591 v2592 v2586
  let c4_i32_1514 : BitVec 32 := 4#32
  let v2608 : BitVec 32 := Scalar.muli v2593 c4_i32_1514
  let v2609 : BitVec 32 := Scalar.addi v2607 v2608
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1499 : BitVec 32 := 2#32
  let v2594 : BitVec 32 := Scalar.muli v25 c2_i32_1499
  let c2_i32_1500 : BitVec 32 := 2#32
  let c0_i32_1501 : BitVec 32 := 0#32
  let v2595 : BitVec 1 := Scalar.cmpi .eq c2_i32_1500 c0_i32_1501
  let c1_i32_1502 : BitVec 32 := 1#32
  let v2596 : BitVec 32 := Scalar.select v2595 c1_i32_1502 c2_i32_1500
  let v2597 : BitVec 32 := Scalar.remsi v2547 v2596
  let c0_i32_1504 : BitVec 32 := 0#32
  let v2599 : BitVec 1 := Scalar.cmpi .slt v2597 c0_i32_1504
  let c0_i32_1505 : BitVec 32 := 0#32
  let v2600 : BitVec 1 := Scalar.cmpi .slt v2596 c0_i32_1505
  let v2601 : BitVec 1 := Scalar.xori v2599 v2600
  let c0_i32_1503 : BitVec 32 := 0#32
  let v2598 : BitVec 1 := Scalar.cmpi .ne v2597 c0_i32_1503
  let v2602 : BitVec 1 := Scalar.andi v2601 v2598
  let v2603 : BitVec 32 := Scalar.addi v2597 v2596
  let v2604 : BitVec 32 := Scalar.select v2602 v2603 v2597
  let v2605 : BitVec 32 := Scalar.addi v2594 v2604
  let c1_i32_1515 : BitVec 32 := 1#32
  let v2610 : BitVec 32 := Scalar.muli v2605 c1_i32_1515
  let v2611 : BitVec 32 := Scalar.addi v2609 v2610
  v2611.toNat
def k0_dev34 (d0 : Dev nD) : Nat :=
  let c0_i32_1562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_1519 : BitVec 32 := 5#32
  let v2619 : BitVec 32 := Scalar.addi v39 c5_i32_1519
  let c8_i32_1520 : BitVec 32 := 8#32
  let c0_i32_1521 : BitVec 32 := 0#32
  let v2620 : BitVec 1 := Scalar.cmpi .eq c8_i32_1520 c0_i32_1521
  let c1_i32_1522 : BitVec 32 := 1#32
  let v2621 : BitVec 32 := Scalar.select v2620 c1_i32_1522 c8_i32_1520
  let v2622 : BitVec 32 := Scalar.remsi v2619 v2621
  let c0_i32_1524 : BitVec 32 := 0#32
  let v2624 : BitVec 1 := Scalar.cmpi .slt v2622 c0_i32_1524
  let c0_i32_1525 : BitVec 32 := 0#32
  let v2625 : BitVec 1 := Scalar.cmpi .slt v2621 c0_i32_1525
  let v2626 : BitVec 1 := Scalar.xori v2624 v2625
  let c0_i32_1523 : BitVec 32 := 0#32
  let v2623 : BitVec 1 := Scalar.cmpi .ne v2622 c0_i32_1523
  let v2627 : BitVec 1 := Scalar.andi v2626 v2623
  let v2628 : BitVec 32 := Scalar.addi v2622 v2621
  let v2629 : BitVec 32 := Scalar.select v2627 v2628 v2622
  let c0_i32_1529 : BitVec 32 := 0#32
  let v2633 : BitVec 1 := Scalar.cmpi .sgt v2629 c0_i32_1529
  let v2634 : BitVec 32 := Scalar.extui v2633
  let c0_i32_1530 : BitVec 32 := 0#32
  let v2635 : BitVec 1 := Scalar.cmpi .slt v2629 c0_i32_1530
  let v2636 : BitVec 32 := Scalar.extui v2635
  let v2637 : BitVec 32 := Scalar.subi v2634 v2636
  let c4_i32_1528 : BitVec 32 := 4#32
  let c0_i32_1531 : BitVec 32 := 0#32
  let v2638 : BitVec 1 := Scalar.cmpi .sgt c4_i32_1528 c0_i32_1531
  let v2639 : BitVec 32 := Scalar.extui v2638
  let c0_i32_1532 : BitVec 32 := 0#32
  let v2640 : BitVec 1 := Scalar.cmpi .slt c4_i32_1528 c0_i32_1532
  let v2641 : BitVec 32 := Scalar.extui v2640
  let v2642 : BitVec 32 := Scalar.subi v2639 v2641
  let v2643 : BitVec 1 := Scalar.cmpi .ne v2637 v2642
  let v2644 : BitVec 32 := Scalar.remsi v2629 c4_i32_1528
  let c0_i32_1533 : BitVec 32 := 0#32
  let v2645 : BitVec 1 := Scalar.cmpi .ne v2644 c0_i32_1533
  let v2646 : BitVec 1 := Scalar.andi v2643 v2645
  let v2632 : BitVec 32 := Scalar.divsi v2629 c4_i32_1528
  let c1_i32_1534 : BitVec 32 := 1#32
  let v2647 : BitVec 32 := Scalar.subi v2632 c1_i32_1534
  let v2648 : BitVec 32 := Scalar.select v2646 v2647 v2632
  let c8_i32_1561 : BitVec 32 := 8#32
  let v2688 : BitVec 32 := Scalar.muli v2648 c8_i32_1561
  let v2689 : BitVec 32 := Scalar.addi c0_i32_1562 v2688
  let c0_i32_1536 : BitVec 32 := 0#32
  let v2650 : BitVec 1 := Scalar.cmpi .sgt v2629 c0_i32_1536
  let v2651 : BitVec 32 := Scalar.extui v2650
  let c0_i32_1537 : BitVec 32 := 0#32
  let v2652 : BitVec 1 := Scalar.cmpi .slt v2629 c0_i32_1537
  let v2653 : BitVec 32 := Scalar.extui v2652
  let v2654 : BitVec 32 := Scalar.subi v2651 v2653
  let c2_i32_1535 : BitVec 32 := 2#32
  let c0_i32_1538 : BitVec 32 := 0#32
  let v2655 : BitVec 1 := Scalar.cmpi .sgt c2_i32_1535 c0_i32_1538
  let v2656 : BitVec 32 := Scalar.extui v2655
  let c0_i32_1539 : BitVec 32 := 0#32
  let v2657 : BitVec 1 := Scalar.cmpi .slt c2_i32_1535 c0_i32_1539
  let v2658 : BitVec 32 := Scalar.extui v2657
  let v2659 : BitVec 32 := Scalar.subi v2656 v2658
  let v2660 : BitVec 1 := Scalar.cmpi .ne v2654 v2659
  let v2661 : BitVec 32 := Scalar.remsi v2629 c2_i32_1535
  let c0_i32_1540 : BitVec 32 := 0#32
  let v2662 : BitVec 1 := Scalar.cmpi .ne v2661 c0_i32_1540
  let v2663 : BitVec 1 := Scalar.andi v2660 v2662
  let v2649 : BitVec 32 := Scalar.divsi v2629 c2_i32_1535
  let c1_i32_1541 : BitVec 32 := 1#32
  let v2664 : BitVec 32 := Scalar.subi v2649 c1_i32_1541
  let v2665 : BitVec 32 := Scalar.select v2663 v2664 v2649
  let c2_i32_1542 : BitVec 32 := 2#32
  let c0_i32_1543 : BitVec 32 := 0#32
  let v2666 : BitVec 1 := Scalar.cmpi .eq c2_i32_1542 c0_i32_1543
  let c1_i32_1544 : BitVec 32 := 1#32
  let v2667 : BitVec 32 := Scalar.select v2666 c1_i32_1544 c2_i32_1542
  let v2668 : BitVec 32 := Scalar.remsi v2665 v2667
  let c0_i32_1546 : BitVec 32 := 0#32
  let v2670 : BitVec 1 := Scalar.cmpi .slt v2668 c0_i32_1546
  let c0_i32_1547 : BitVec 32 := 0#32
  let v2671 : BitVec 1 := Scalar.cmpi .slt v2667 c0_i32_1547
  let v2672 : BitVec 1 := Scalar.xori v2670 v2671
  let c0_i32_1545 : BitVec 32 := 0#32
  let v2669 : BitVec 1 := Scalar.cmpi .ne v2668 c0_i32_1545
  let v2673 : BitVec 1 := Scalar.andi v2672 v2669
  let v2674 : BitVec 32 := Scalar.addi v2668 v2667
  let v2675 : BitVec 32 := Scalar.select v2673 v2674 v2668
  let c4_i32_1563 : BitVec 32 := 4#32
  let v2690 : BitVec 32 := Scalar.muli v2675 c4_i32_1563
  let v2691 : BitVec 32 := Scalar.addi v2689 v2690
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1548 : BitVec 32 := 2#32
  let v2676 : BitVec 32 := Scalar.muli v25 c2_i32_1548
  let c2_i32_1549 : BitVec 32 := 2#32
  let c0_i32_1550 : BitVec 32 := 0#32
  let v2677 : BitVec 1 := Scalar.cmpi .eq c2_i32_1549 c0_i32_1550
  let c1_i32_1551 : BitVec 32 := 1#32
  let v2678 : BitVec 32 := Scalar.select v2677 c1_i32_1551 c2_i32_1549
  let v2679 : BitVec 32 := Scalar.remsi v2629 v2678
  let c0_i32_1553 : BitVec 32 := 0#32
  let v2681 : BitVec 1 := Scalar.cmpi .slt v2679 c0_i32_1553
  let c0_i32_1554 : BitVec 32 := 0#32
  let v2682 : BitVec 1 := Scalar.cmpi .slt v2678 c0_i32_1554
  let v2683 : BitVec 1 := Scalar.xori v2681 v2682
  let c0_i32_1552 : BitVec 32 := 0#32
  let v2680 : BitVec 1 := Scalar.cmpi .ne v2679 c0_i32_1552
  let v2684 : BitVec 1 := Scalar.andi v2683 v2680
  let v2685 : BitVec 32 := Scalar.addi v2679 v2678
  let v2686 : BitVec 32 := Scalar.select v2684 v2685 v2679
  let v2687 : BitVec 32 := Scalar.addi v2676 v2686
  let c1_i32_1564 : BitVec 32 := 1#32
  let v2692 : BitVec 32 := Scalar.muli v2687 c1_i32_1564
  let v2693 : BitVec 32 := Scalar.addi v2691 v2692
  v2693.toNat
def k0_dev35 (d0 : Dev nD) : Nat :=
  let c0_i32_1611 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_1568 : BitVec 32 := 6#32
  let v2701 : BitVec 32 := Scalar.addi v39 c6_i32_1568
  let c8_i32_1569 : BitVec 32 := 8#32
  let c0_i32_1570 : BitVec 32 := 0#32
  let v2702 : BitVec 1 := Scalar.cmpi .eq c8_i32_1569 c0_i32_1570
  let c1_i32_1571 : BitVec 32 := 1#32
  let v2703 : BitVec 32 := Scalar.select v2702 c1_i32_1571 c8_i32_1569
  let v2704 : BitVec 32 := Scalar.remsi v2701 v2703
  let c0_i32_1573 : BitVec 32 := 0#32
  let v2706 : BitVec 1 := Scalar.cmpi .slt v2704 c0_i32_1573
  let c0_i32_1574 : BitVec 32 := 0#32
  let v2707 : BitVec 1 := Scalar.cmpi .slt v2703 c0_i32_1574
  let v2708 : BitVec 1 := Scalar.xori v2706 v2707
  let c0_i32_1572 : BitVec 32 := 0#32
  let v2705 : BitVec 1 := Scalar.cmpi .ne v2704 c0_i32_1572
  let v2709 : BitVec 1 := Scalar.andi v2708 v2705
  let v2710 : BitVec 32 := Scalar.addi v2704 v2703
  let v2711 : BitVec 32 := Scalar.select v2709 v2710 v2704
  let c0_i32_1578 : BitVec 32 := 0#32
  let v2715 : BitVec 1 := Scalar.cmpi .sgt v2711 c0_i32_1578
  let v2716 : BitVec 32 := Scalar.extui v2715
  let c0_i32_1579 : BitVec 32 := 0#32
  let v2717 : BitVec 1 := Scalar.cmpi .slt v2711 c0_i32_1579
  let v2718 : BitVec 32 := Scalar.extui v2717
  let v2719 : BitVec 32 := Scalar.subi v2716 v2718
  let c4_i32_1577 : BitVec 32 := 4#32
  let c0_i32_1580 : BitVec 32 := 0#32
  let v2720 : BitVec 1 := Scalar.cmpi .sgt c4_i32_1577 c0_i32_1580
  let v2721 : BitVec 32 := Scalar.extui v2720
  let c0_i32_1581 : BitVec 32 := 0#32
  let v2722 : BitVec 1 := Scalar.cmpi .slt c4_i32_1577 c0_i32_1581
  let v2723 : BitVec 32 := Scalar.extui v2722
  let v2724 : BitVec 32 := Scalar.subi v2721 v2723
  let v2725 : BitVec 1 := Scalar.cmpi .ne v2719 v2724
  let v2726 : BitVec 32 := Scalar.remsi v2711 c4_i32_1577
  let c0_i32_1582 : BitVec 32 := 0#32
  let v2727 : BitVec 1 := Scalar.cmpi .ne v2726 c0_i32_1582
  let v2728 : BitVec 1 := Scalar.andi v2725 v2727
  let v2714 : BitVec 32 := Scalar.divsi v2711 c4_i32_1577
  let c1_i32_1583 : BitVec 32 := 1#32
  let v2729 : BitVec 32 := Scalar.subi v2714 c1_i32_1583
  let v2730 : BitVec 32 := Scalar.select v2728 v2729 v2714
  let c8_i32_1610 : BitVec 32 := 8#32
  let v2770 : BitVec 32 := Scalar.muli v2730 c8_i32_1610
  let v2771 : BitVec 32 := Scalar.addi c0_i32_1611 v2770
  let c0_i32_1585 : BitVec 32 := 0#32
  let v2732 : BitVec 1 := Scalar.cmpi .sgt v2711 c0_i32_1585
  let v2733 : BitVec 32 := Scalar.extui v2732
  let c0_i32_1586 : BitVec 32 := 0#32
  let v2734 : BitVec 1 := Scalar.cmpi .slt v2711 c0_i32_1586
  let v2735 : BitVec 32 := Scalar.extui v2734
  let v2736 : BitVec 32 := Scalar.subi v2733 v2735
  let c2_i32_1584 : BitVec 32 := 2#32
  let c0_i32_1587 : BitVec 32 := 0#32
  let v2737 : BitVec 1 := Scalar.cmpi .sgt c2_i32_1584 c0_i32_1587
  let v2738 : BitVec 32 := Scalar.extui v2737
  let c0_i32_1588 : BitVec 32 := 0#32
  let v2739 : BitVec 1 := Scalar.cmpi .slt c2_i32_1584 c0_i32_1588
  let v2740 : BitVec 32 := Scalar.extui v2739
  let v2741 : BitVec 32 := Scalar.subi v2738 v2740
  let v2742 : BitVec 1 := Scalar.cmpi .ne v2736 v2741
  let v2743 : BitVec 32 := Scalar.remsi v2711 c2_i32_1584
  let c0_i32_1589 : BitVec 32 := 0#32
  let v2744 : BitVec 1 := Scalar.cmpi .ne v2743 c0_i32_1589
  let v2745 : BitVec 1 := Scalar.andi v2742 v2744
  let v2731 : BitVec 32 := Scalar.divsi v2711 c2_i32_1584
  let c1_i32_1590 : BitVec 32 := 1#32
  let v2746 : BitVec 32 := Scalar.subi v2731 c1_i32_1590
  let v2747 : BitVec 32 := Scalar.select v2745 v2746 v2731
  let c2_i32_1591 : BitVec 32 := 2#32
  let c0_i32_1592 : BitVec 32 := 0#32
  let v2748 : BitVec 1 := Scalar.cmpi .eq c2_i32_1591 c0_i32_1592
  let c1_i32_1593 : BitVec 32 := 1#32
  let v2749 : BitVec 32 := Scalar.select v2748 c1_i32_1593 c2_i32_1591
  let v2750 : BitVec 32 := Scalar.remsi v2747 v2749
  let c0_i32_1595 : BitVec 32 := 0#32
  let v2752 : BitVec 1 := Scalar.cmpi .slt v2750 c0_i32_1595
  let c0_i32_1596 : BitVec 32 := 0#32
  let v2753 : BitVec 1 := Scalar.cmpi .slt v2749 c0_i32_1596
  let v2754 : BitVec 1 := Scalar.xori v2752 v2753
  let c0_i32_1594 : BitVec 32 := 0#32
  let v2751 : BitVec 1 := Scalar.cmpi .ne v2750 c0_i32_1594
  let v2755 : BitVec 1 := Scalar.andi v2754 v2751
  let v2756 : BitVec 32 := Scalar.addi v2750 v2749
  let v2757 : BitVec 32 := Scalar.select v2755 v2756 v2750
  let c4_i32_1612 : BitVec 32 := 4#32
  let v2772 : BitVec 32 := Scalar.muli v2757 c4_i32_1612
  let v2773 : BitVec 32 := Scalar.addi v2771 v2772
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1597 : BitVec 32 := 2#32
  let v2758 : BitVec 32 := Scalar.muli v25 c2_i32_1597
  let c2_i32_1598 : BitVec 32 := 2#32
  let c0_i32_1599 : BitVec 32 := 0#32
  let v2759 : BitVec 1 := Scalar.cmpi .eq c2_i32_1598 c0_i32_1599
  let c1_i32_1600 : BitVec 32 := 1#32
  let v2760 : BitVec 32 := Scalar.select v2759 c1_i32_1600 c2_i32_1598
  let v2761 : BitVec 32 := Scalar.remsi v2711 v2760
  let c0_i32_1602 : BitVec 32 := 0#32
  let v2763 : BitVec 1 := Scalar.cmpi .slt v2761 c0_i32_1602
  let c0_i32_1603 : BitVec 32 := 0#32
  let v2764 : BitVec 1 := Scalar.cmpi .slt v2760 c0_i32_1603
  let v2765 : BitVec 1 := Scalar.xori v2763 v2764
  let c0_i32_1601 : BitVec 32 := 0#32
  let v2762 : BitVec 1 := Scalar.cmpi .ne v2761 c0_i32_1601
  let v2766 : BitVec 1 := Scalar.andi v2765 v2762
  let v2767 : BitVec 32 := Scalar.addi v2761 v2760
  let v2768 : BitVec 32 := Scalar.select v2766 v2767 v2761
  let v2769 : BitVec 32 := Scalar.addi v2758 v2768
  let c1_i32_1613 : BitVec 32 := 1#32
  let v2774 : BitVec 32 := Scalar.muli v2769 c1_i32_1613
  let v2775 : BitVec 32 := Scalar.addi v2773 v2774
  v2775.toNat
def k0_dev36 (d0 : Dev nD) : Nat :=
  let c0_i32_1660 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_1617 : BitVec 32 := 7#32
  let v2783 : BitVec 32 := Scalar.addi v39 c7_i32_1617
  let c8_i32_1618 : BitVec 32 := 8#32
  let c0_i32_1619 : BitVec 32 := 0#32
  let v2784 : BitVec 1 := Scalar.cmpi .eq c8_i32_1618 c0_i32_1619
  let c1_i32_1620 : BitVec 32 := 1#32
  let v2785 : BitVec 32 := Scalar.select v2784 c1_i32_1620 c8_i32_1618
  let v2786 : BitVec 32 := Scalar.remsi v2783 v2785
  let c0_i32_1622 : BitVec 32 := 0#32
  let v2788 : BitVec 1 := Scalar.cmpi .slt v2786 c0_i32_1622
  let c0_i32_1623 : BitVec 32 := 0#32
  let v2789 : BitVec 1 := Scalar.cmpi .slt v2785 c0_i32_1623
  let v2790 : BitVec 1 := Scalar.xori v2788 v2789
  let c0_i32_1621 : BitVec 32 := 0#32
  let v2787 : BitVec 1 := Scalar.cmpi .ne v2786 c0_i32_1621
  let v2791 : BitVec 1 := Scalar.andi v2790 v2787
  let v2792 : BitVec 32 := Scalar.addi v2786 v2785
  let v2793 : BitVec 32 := Scalar.select v2791 v2792 v2786
  let c0_i32_1627 : BitVec 32 := 0#32
  let v2797 : BitVec 1 := Scalar.cmpi .sgt v2793 c0_i32_1627
  let v2798 : BitVec 32 := Scalar.extui v2797
  let c0_i32_1628 : BitVec 32 := 0#32
  let v2799 : BitVec 1 := Scalar.cmpi .slt v2793 c0_i32_1628
  let v2800 : BitVec 32 := Scalar.extui v2799
  let v2801 : BitVec 32 := Scalar.subi v2798 v2800
  let c4_i32_1626 : BitVec 32 := 4#32
  let c0_i32_1629 : BitVec 32 := 0#32
  let v2802 : BitVec 1 := Scalar.cmpi .sgt c4_i32_1626 c0_i32_1629
  let v2803 : BitVec 32 := Scalar.extui v2802
  let c0_i32_1630 : BitVec 32 := 0#32
  let v2804 : BitVec 1 := Scalar.cmpi .slt c4_i32_1626 c0_i32_1630
  let v2805 : BitVec 32 := Scalar.extui v2804
  let v2806 : BitVec 32 := Scalar.subi v2803 v2805
  let v2807 : BitVec 1 := Scalar.cmpi .ne v2801 v2806
  let v2808 : BitVec 32 := Scalar.remsi v2793 c4_i32_1626
  let c0_i32_1631 : BitVec 32 := 0#32
  let v2809 : BitVec 1 := Scalar.cmpi .ne v2808 c0_i32_1631
  let v2810 : BitVec 1 := Scalar.andi v2807 v2809
  let v2796 : BitVec 32 := Scalar.divsi v2793 c4_i32_1626
  let c1_i32_1632 : BitVec 32 := 1#32
  let v2811 : BitVec 32 := Scalar.subi v2796 c1_i32_1632
  let v2812 : BitVec 32 := Scalar.select v2810 v2811 v2796
  let c8_i32_1659 : BitVec 32 := 8#32
  let v2852 : BitVec 32 := Scalar.muli v2812 c8_i32_1659
  let v2853 : BitVec 32 := Scalar.addi c0_i32_1660 v2852
  let c0_i32_1634 : BitVec 32 := 0#32
  let v2814 : BitVec 1 := Scalar.cmpi .sgt v2793 c0_i32_1634
  let v2815 : BitVec 32 := Scalar.extui v2814
  let c0_i32_1635 : BitVec 32 := 0#32
  let v2816 : BitVec 1 := Scalar.cmpi .slt v2793 c0_i32_1635
  let v2817 : BitVec 32 := Scalar.extui v2816
  let v2818 : BitVec 32 := Scalar.subi v2815 v2817
  let c2_i32_1633 : BitVec 32 := 2#32
  let c0_i32_1636 : BitVec 32 := 0#32
  let v2819 : BitVec 1 := Scalar.cmpi .sgt c2_i32_1633 c0_i32_1636
  let v2820 : BitVec 32 := Scalar.extui v2819
  let c0_i32_1637 : BitVec 32 := 0#32
  let v2821 : BitVec 1 := Scalar.cmpi .slt c2_i32_1633 c0_i32_1637
  let v2822 : BitVec 32 := Scalar.extui v2821
  let v2823 : BitVec 32 := Scalar.subi v2820 v2822
  let v2824 : BitVec 1 := Scalar.cmpi .ne v2818 v2823
  let v2825 : BitVec 32 := Scalar.remsi v2793 c2_i32_1633
  let c0_i32_1638 : BitVec 32 := 0#32
  let v2826 : BitVec 1 := Scalar.cmpi .ne v2825 c0_i32_1638
  let v2827 : BitVec 1 := Scalar.andi v2824 v2826
  let v2813 : BitVec 32 := Scalar.divsi v2793 c2_i32_1633
  let c1_i32_1639 : BitVec 32 := 1#32
  let v2828 : BitVec 32 := Scalar.subi v2813 c1_i32_1639
  let v2829 : BitVec 32 := Scalar.select v2827 v2828 v2813
  let c2_i32_1640 : BitVec 32 := 2#32
  let c0_i32_1641 : BitVec 32 := 0#32
  let v2830 : BitVec 1 := Scalar.cmpi .eq c2_i32_1640 c0_i32_1641
  let c1_i32_1642 : BitVec 32 := 1#32
  let v2831 : BitVec 32 := Scalar.select v2830 c1_i32_1642 c2_i32_1640
  let v2832 : BitVec 32 := Scalar.remsi v2829 v2831
  let c0_i32_1644 : BitVec 32 := 0#32
  let v2834 : BitVec 1 := Scalar.cmpi .slt v2832 c0_i32_1644
  let c0_i32_1645 : BitVec 32 := 0#32
  let v2835 : BitVec 1 := Scalar.cmpi .slt v2831 c0_i32_1645
  let v2836 : BitVec 1 := Scalar.xori v2834 v2835
  let c0_i32_1643 : BitVec 32 := 0#32
  let v2833 : BitVec 1 := Scalar.cmpi .ne v2832 c0_i32_1643
  let v2837 : BitVec 1 := Scalar.andi v2836 v2833
  let v2838 : BitVec 32 := Scalar.addi v2832 v2831
  let v2839 : BitVec 32 := Scalar.select v2837 v2838 v2832
  let c4_i32_1661 : BitVec 32 := 4#32
  let v2854 : BitVec 32 := Scalar.muli v2839 c4_i32_1661
  let v2855 : BitVec 32 := Scalar.addi v2853 v2854
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_1646 : BitVec 32 := 2#32
  let v2840 : BitVec 32 := Scalar.muli v25 c2_i32_1646
  let c2_i32_1647 : BitVec 32 := 2#32
  let c0_i32_1648 : BitVec 32 := 0#32
  let v2841 : BitVec 1 := Scalar.cmpi .eq c2_i32_1647 c0_i32_1648
  let c1_i32_1649 : BitVec 32 := 1#32
  let v2842 : BitVec 32 := Scalar.select v2841 c1_i32_1649 c2_i32_1647
  let v2843 : BitVec 32 := Scalar.remsi v2793 v2842
  let c0_i32_1651 : BitVec 32 := 0#32
  let v2845 : BitVec 1 := Scalar.cmpi .slt v2843 c0_i32_1651
  let c0_i32_1652 : BitVec 32 := 0#32
  let v2846 : BitVec 1 := Scalar.cmpi .slt v2842 c0_i32_1652
  let v2847 : BitVec 1 := Scalar.xori v2845 v2846
  let c0_i32_1650 : BitVec 32 := 0#32
  let v2844 : BitVec 1 := Scalar.cmpi .ne v2843 c0_i32_1650
  let v2848 : BitVec 1 := Scalar.andi v2847 v2844
  let v2849 : BitVec 32 := Scalar.addi v2843 v2842
  let v2850 : BitVec 32 := Scalar.select v2848 v2849 v2843
  let v2851 : BitVec 32 := Scalar.addi v2840 v2850
  let c1_i32_1662 : BitVec 32 := 1#32
  let v2856 : BitVec 32 := Scalar.muli v2851 c1_i32_1662
  let v2857 : BitVec 32 := Scalar.addi v2855 v2856
  v2857.toNat
def k0_off2 (d0 : Dev nD) (c0_i32_1828 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c64_i32_1827 : BitVec 32 := 64#32
  let v2977 : BitVec 32 := Scalar.muli v39 c64_i32_1827
  let v2978 : BitVec 32 := Scalar.addi v2977 c0_i32_1828
  let v2979 : Index := Scalar.indexCast v2978
  let c0 : Index := 0#32
  ![v2979.toNat, 0]
def k0_dev37 (d0 : Dev nD) : Nat :=
  let c0_i32_1841 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1840 : BitVec 32 := 8#32
  let v2992 : BitVec 32 := Scalar.muli v2 c8_i32_1840
  let v2993 : BitVec 32 := Scalar.addi c0_i32_1841 v2992
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1842 : BitVec 32 := 4#32
  let v2994 : BitVec 32 := Scalar.muli v5 c4_i32_1842
  let v2995 : BitVec 32 := Scalar.addi v2993 v2994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v40 : BitVec 32 := Scalar.addi v8 c2_i32_16
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_1843 : BitVec 32 := 1#32
  let v2996 : BitVec 32 := Scalar.muli v50 c1_i32_1843
  let v2997 : BitVec 32 := Scalar.addi v2995 v2996
  v2997.toNat
def k0_dev38 (d0 : Dev nD) : Nat :=
  let c0_i32_2024 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2023 : BitVec 32 := 8#32
  let v3133 : BitVec 32 := Scalar.muli v2 c8_i32_2023
  let v3134 : BitVec 32 := Scalar.addi c0_i32_2024 v3133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2025 : BitVec 32 := 4#32
  let v3135 : BitVec 32 := Scalar.muli v5 c4_i32_2025
  let v3136 : BitVec 32 := Scalar.addi v3134 v3135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v40 : BitVec 32 := Scalar.addi v8 c2_i32_16
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_2026 : BitVec 32 := 1#32
  let v3137 : BitVec 32 := Scalar.muli v50 c1_i32_2026
  let v3138 : BitVec 32 := Scalar.addi v3136 v3137
  v3138.toNat
def k0_dev39 (d0 : Dev nD) : Nat :=
  let c0_i32_2207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2206 : BitVec 32 := 8#32
  let v3274 : BitVec 32 := Scalar.muli v2 c8_i32_2206
  let v3275 : BitVec 32 := Scalar.addi c0_i32_2207 v3274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2208 : BitVec 32 := 4#32
  let v3276 : BitVec 32 := Scalar.muli v5 c4_i32_2208
  let v3277 : BitVec 32 := Scalar.addi v3275 v3276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v40 : BitVec 32 := Scalar.addi v8 c2_i32_16
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_2209 : BitVec 32 := 1#32
  let v3278 : BitVec 32 := Scalar.muli v50 c1_i32_2209
  let v3279 : BitVec 32 := Scalar.addi v3277 v3278
  v3279.toNat
def k0_dev40 (d0 : Dev nD) : Nat :=
  let c0_i32_2390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2389 : BitVec 32 := 8#32
  let v3415 : BitVec 32 := Scalar.muli v2 c8_i32_2389
  let v3416 : BitVec 32 := Scalar.addi c0_i32_2390 v3415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2391 : BitVec 32 := 4#32
  let v3417 : BitVec 32 := Scalar.muli v5 c4_i32_2391
  let v3418 : BitVec 32 := Scalar.addi v3416 v3417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v40 : BitVec 32 := Scalar.addi v8 c2_i32_16
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_2392 : BitVec 32 := 1#32
  let v3419 : BitVec 32 := Scalar.muli v50 c1_i32_2392
  let v3420 : BitVec 32 := Scalar.addi v3418 v3419
  v3420.toNat
def k0_off3 (d0 : Dev nD) (c0_i32_2438 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c64_i32_2437 : BitVec 32 := 64#32
  let v3472 : BitVec 32 := Scalar.muli v39 c64_i32_2437
  let v3473 : BitVec 32 := Scalar.addi v3472 c0_i32_2438
  let c0_i32_2475 : BitVec 32 := 0#32
  ![v3473.toNat, 0]
def k0_dev41 (d0 : Dev nD) : Nat :=
  let c0_i32_2472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_2430 : BitVec 32 := 1#32
  let v3461 : BitVec 32 := Scalar.addi v39 c1_i32_2430
  let c8_i32_2431 : BitVec 32 := 8#32
  let c0_i32_2432 : BitVec 32 := 0#32
  let v3462 : BitVec 1 := Scalar.cmpi .eq c8_i32_2431 c0_i32_2432
  let c1_i32_2433 : BitVec 32 := 1#32
  let v3463 : BitVec 32 := Scalar.select v3462 c1_i32_2433 c8_i32_2431
  let v3464 : BitVec 32 := Scalar.remsi v3461 v3463
  let c0_i32_2435 : BitVec 32 := 0#32
  let v3466 : BitVec 1 := Scalar.cmpi .slt v3464 c0_i32_2435
  let c0_i32_2436 : BitVec 32 := 0#32
  let v3467 : BitVec 1 := Scalar.cmpi .slt v3463 c0_i32_2436
  let v3468 : BitVec 1 := Scalar.xori v3466 v3467
  let c0_i32_2434 : BitVec 32 := 0#32
  let v3465 : BitVec 1 := Scalar.cmpi .ne v3464 c0_i32_2434
  let v3469 : BitVec 1 := Scalar.andi v3468 v3465
  let v3470 : BitVec 32 := Scalar.addi v3464 v3463
  let v3471 : BitVec 32 := Scalar.select v3469 v3470 v3464
  let c0_i32_2440 : BitVec 32 := 0#32
  let v3475 : BitVec 1 := Scalar.cmpi .sgt v3471 c0_i32_2440
  let v3476 : BitVec 32 := Scalar.extui v3475
  let c0_i32_2441 : BitVec 32 := 0#32
  let v3477 : BitVec 1 := Scalar.cmpi .slt v3471 c0_i32_2441
  let v3478 : BitVec 32 := Scalar.extui v3477
  let v3479 : BitVec 32 := Scalar.subi v3476 v3478
  let c4_i32_2439 : BitVec 32 := 4#32
  let c0_i32_2442 : BitVec 32 := 0#32
  let v3480 : BitVec 1 := Scalar.cmpi .sgt c4_i32_2439 c0_i32_2442
  let v3481 : BitVec 32 := Scalar.extui v3480
  let c0_i32_2443 : BitVec 32 := 0#32
  let v3482 : BitVec 1 := Scalar.cmpi .slt c4_i32_2439 c0_i32_2443
  let v3483 : BitVec 32 := Scalar.extui v3482
  let v3484 : BitVec 32 := Scalar.subi v3481 v3483
  let v3485 : BitVec 1 := Scalar.cmpi .ne v3479 v3484
  let v3486 : BitVec 32 := Scalar.remsi v3471 c4_i32_2439
  let c0_i32_2444 : BitVec 32 := 0#32
  let v3487 : BitVec 1 := Scalar.cmpi .ne v3486 c0_i32_2444
  let v3488 : BitVec 1 := Scalar.andi v3485 v3487
  let v3474 : BitVec 32 := Scalar.divsi v3471 c4_i32_2439
  let c1_i32_2445 : BitVec 32 := 1#32
  let v3489 : BitVec 32 := Scalar.subi v3474 c1_i32_2445
  let v3490 : BitVec 32 := Scalar.select v3488 v3489 v3474
  let c8_i32_2471 : BitVec 32 := 8#32
  let v3530 : BitVec 32 := Scalar.muli v3490 c8_i32_2471
  let v3531 : BitVec 32 := Scalar.addi c0_i32_2472 v3530
  let c0_i32_2447 : BitVec 32 := 0#32
  let v3492 : BitVec 1 := Scalar.cmpi .sgt v3471 c0_i32_2447
  let v3493 : BitVec 32 := Scalar.extui v3492
  let c0_i32_2448 : BitVec 32 := 0#32
  let v3494 : BitVec 1 := Scalar.cmpi .slt v3471 c0_i32_2448
  let v3495 : BitVec 32 := Scalar.extui v3494
  let v3496 : BitVec 32 := Scalar.subi v3493 v3495
  let c2_i32_2446 : BitVec 32 := 2#32
  let c0_i32_2449 : BitVec 32 := 0#32
  let v3497 : BitVec 1 := Scalar.cmpi .sgt c2_i32_2446 c0_i32_2449
  let v3498 : BitVec 32 := Scalar.extui v3497
  let c0_i32_2450 : BitVec 32 := 0#32
  let v3499 : BitVec 1 := Scalar.cmpi .slt c2_i32_2446 c0_i32_2450
  let v3500 : BitVec 32 := Scalar.extui v3499
  let v3501 : BitVec 32 := Scalar.subi v3498 v3500
  let v3502 : BitVec 1 := Scalar.cmpi .ne v3496 v3501
  let v3503 : BitVec 32 := Scalar.remsi v3471 c2_i32_2446
  let c0_i32_2451 : BitVec 32 := 0#32
  let v3504 : BitVec 1 := Scalar.cmpi .ne v3503 c0_i32_2451
  let v3505 : BitVec 1 := Scalar.andi v3502 v3504
  let v3491 : BitVec 32 := Scalar.divsi v3471 c2_i32_2446
  let c1_i32_2452 : BitVec 32 := 1#32
  let v3506 : BitVec 32 := Scalar.subi v3491 c1_i32_2452
  let v3507 : BitVec 32 := Scalar.select v3505 v3506 v3491
  let c2_i32_2453 : BitVec 32 := 2#32
  let c0_i32_2454 : BitVec 32 := 0#32
  let v3508 : BitVec 1 := Scalar.cmpi .eq c2_i32_2453 c0_i32_2454
  let c1_i32_2455 : BitVec 32 := 1#32
  let v3509 : BitVec 32 := Scalar.select v3508 c1_i32_2455 c2_i32_2453
  let v3510 : BitVec 32 := Scalar.remsi v3507 v3509
  let c0_i32_2457 : BitVec 32 := 0#32
  let v3512 : BitVec 1 := Scalar.cmpi .slt v3510 c0_i32_2457
  let c0_i32_2458 : BitVec 32 := 0#32
  let v3513 : BitVec 1 := Scalar.cmpi .slt v3509 c0_i32_2458
  let v3514 : BitVec 1 := Scalar.xori v3512 v3513
  let c0_i32_2456 : BitVec 32 := 0#32
  let v3511 : BitVec 1 := Scalar.cmpi .ne v3510 c0_i32_2456
  let v3515 : BitVec 1 := Scalar.andi v3514 v3511
  let v3516 : BitVec 32 := Scalar.addi v3510 v3509
  let v3517 : BitVec 32 := Scalar.select v3515 v3516 v3510
  let c4_i32_2473 : BitVec 32 := 4#32
  let v3532 : BitVec 32 := Scalar.muli v3517 c4_i32_2473
  let v3533 : BitVec 32 := Scalar.addi v3531 v3532
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2459 : BitVec 32 := 2#32
  let v3518 : BitVec 32 := Scalar.muli v25 c2_i32_2459
  let c2_i32_2460 : BitVec 32 := 2#32
  let c0_i32_2461 : BitVec 32 := 0#32
  let v3519 : BitVec 1 := Scalar.cmpi .eq c2_i32_2460 c0_i32_2461
  let c1_i32_2462 : BitVec 32 := 1#32
  let v3520 : BitVec 32 := Scalar.select v3519 c1_i32_2462 c2_i32_2460
  let v3521 : BitVec 32 := Scalar.remsi v3471 v3520
  let c0_i32_2464 : BitVec 32 := 0#32
  let v3523 : BitVec 1 := Scalar.cmpi .slt v3521 c0_i32_2464
  let c0_i32_2465 : BitVec 32 := 0#32
  let v3524 : BitVec 1 := Scalar.cmpi .slt v3520 c0_i32_2465
  let v3525 : BitVec 1 := Scalar.xori v3523 v3524
  let c0_i32_2463 : BitVec 32 := 0#32
  let v3522 : BitVec 1 := Scalar.cmpi .ne v3521 c0_i32_2463
  let v3526 : BitVec 1 := Scalar.andi v3525 v3522
  let v3527 : BitVec 32 := Scalar.addi v3521 v3520
  let v3528 : BitVec 32 := Scalar.select v3526 v3527 v3521
  let v3529 : BitVec 32 := Scalar.addi v3518 v3528
  let c1_i32_2474 : BitVec 32 := 1#32
  let v3534 : BitVec 32 := Scalar.muli v3529 c1_i32_2474
  let v3535 : BitVec 32 := Scalar.addi v3533 v3534
  v3535.toNat
def k0_dev42 (d0 : Dev nD) : Nat :=
  let c0_i32_2520 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_2478 : BitVec 32 := 2#32
  let v3543 : BitVec 32 := Scalar.addi v39 c2_i32_2478
  let c8_i32_2479 : BitVec 32 := 8#32
  let c0_i32_2480 : BitVec 32 := 0#32
  let v3544 : BitVec 1 := Scalar.cmpi .eq c8_i32_2479 c0_i32_2480
  let c1_i32_2481 : BitVec 32 := 1#32
  let v3545 : BitVec 32 := Scalar.select v3544 c1_i32_2481 c8_i32_2479
  let v3546 : BitVec 32 := Scalar.remsi v3543 v3545
  let c0_i32_2483 : BitVec 32 := 0#32
  let v3548 : BitVec 1 := Scalar.cmpi .slt v3546 c0_i32_2483
  let c0_i32_2484 : BitVec 32 := 0#32
  let v3549 : BitVec 1 := Scalar.cmpi .slt v3545 c0_i32_2484
  let v3550 : BitVec 1 := Scalar.xori v3548 v3549
  let c0_i32_2482 : BitVec 32 := 0#32
  let v3547 : BitVec 1 := Scalar.cmpi .ne v3546 c0_i32_2482
  let v3551 : BitVec 1 := Scalar.andi v3550 v3547
  let v3552 : BitVec 32 := Scalar.addi v3546 v3545
  let v3553 : BitVec 32 := Scalar.select v3551 v3552 v3546
  let c0_i32_2488 : BitVec 32 := 0#32
  let v3557 : BitVec 1 := Scalar.cmpi .sgt v3553 c0_i32_2488
  let v3558 : BitVec 32 := Scalar.extui v3557
  let c0_i32_2489 : BitVec 32 := 0#32
  let v3559 : BitVec 1 := Scalar.cmpi .slt v3553 c0_i32_2489
  let v3560 : BitVec 32 := Scalar.extui v3559
  let v3561 : BitVec 32 := Scalar.subi v3558 v3560
  let c4_i32_2487 : BitVec 32 := 4#32
  let c0_i32_2490 : BitVec 32 := 0#32
  let v3562 : BitVec 1 := Scalar.cmpi .sgt c4_i32_2487 c0_i32_2490
  let v3563 : BitVec 32 := Scalar.extui v3562
  let c0_i32_2491 : BitVec 32 := 0#32
  let v3564 : BitVec 1 := Scalar.cmpi .slt c4_i32_2487 c0_i32_2491
  let v3565 : BitVec 32 := Scalar.extui v3564
  let v3566 : BitVec 32 := Scalar.subi v3563 v3565
  let v3567 : BitVec 1 := Scalar.cmpi .ne v3561 v3566
  let v3568 : BitVec 32 := Scalar.remsi v3553 c4_i32_2487
  let c0_i32_2492 : BitVec 32 := 0#32
  let v3569 : BitVec 1 := Scalar.cmpi .ne v3568 c0_i32_2492
  let v3570 : BitVec 1 := Scalar.andi v3567 v3569
  let v3556 : BitVec 32 := Scalar.divsi v3553 c4_i32_2487
  let c1_i32_2493 : BitVec 32 := 1#32
  let v3571 : BitVec 32 := Scalar.subi v3556 c1_i32_2493
  let v3572 : BitVec 32 := Scalar.select v3570 v3571 v3556
  let c8_i32_2519 : BitVec 32 := 8#32
  let v3612 : BitVec 32 := Scalar.muli v3572 c8_i32_2519
  let v3613 : BitVec 32 := Scalar.addi c0_i32_2520 v3612
  let c0_i32_2495 : BitVec 32 := 0#32
  let v3574 : BitVec 1 := Scalar.cmpi .sgt v3553 c0_i32_2495
  let v3575 : BitVec 32 := Scalar.extui v3574
  let c0_i32_2496 : BitVec 32 := 0#32
  let v3576 : BitVec 1 := Scalar.cmpi .slt v3553 c0_i32_2496
  let v3577 : BitVec 32 := Scalar.extui v3576
  let v3578 : BitVec 32 := Scalar.subi v3575 v3577
  let c2_i32_2494 : BitVec 32 := 2#32
  let c0_i32_2497 : BitVec 32 := 0#32
  let v3579 : BitVec 1 := Scalar.cmpi .sgt c2_i32_2494 c0_i32_2497
  let v3580 : BitVec 32 := Scalar.extui v3579
  let c0_i32_2498 : BitVec 32 := 0#32
  let v3581 : BitVec 1 := Scalar.cmpi .slt c2_i32_2494 c0_i32_2498
  let v3582 : BitVec 32 := Scalar.extui v3581
  let v3583 : BitVec 32 := Scalar.subi v3580 v3582
  let v3584 : BitVec 1 := Scalar.cmpi .ne v3578 v3583
  let v3585 : BitVec 32 := Scalar.remsi v3553 c2_i32_2494
  let c0_i32_2499 : BitVec 32 := 0#32
  let v3586 : BitVec 1 := Scalar.cmpi .ne v3585 c0_i32_2499
  let v3587 : BitVec 1 := Scalar.andi v3584 v3586
  let v3573 : BitVec 32 := Scalar.divsi v3553 c2_i32_2494
  let c1_i32_2500 : BitVec 32 := 1#32
  let v3588 : BitVec 32 := Scalar.subi v3573 c1_i32_2500
  let v3589 : BitVec 32 := Scalar.select v3587 v3588 v3573
  let c2_i32_2501 : BitVec 32 := 2#32
  let c0_i32_2502 : BitVec 32 := 0#32
  let v3590 : BitVec 1 := Scalar.cmpi .eq c2_i32_2501 c0_i32_2502
  let c1_i32_2503 : BitVec 32 := 1#32
  let v3591 : BitVec 32 := Scalar.select v3590 c1_i32_2503 c2_i32_2501
  let v3592 : BitVec 32 := Scalar.remsi v3589 v3591
  let c0_i32_2505 : BitVec 32 := 0#32
  let v3594 : BitVec 1 := Scalar.cmpi .slt v3592 c0_i32_2505
  let c0_i32_2506 : BitVec 32 := 0#32
  let v3595 : BitVec 1 := Scalar.cmpi .slt v3591 c0_i32_2506
  let v3596 : BitVec 1 := Scalar.xori v3594 v3595
  let c0_i32_2504 : BitVec 32 := 0#32
  let v3593 : BitVec 1 := Scalar.cmpi .ne v3592 c0_i32_2504
  let v3597 : BitVec 1 := Scalar.andi v3596 v3593
  let v3598 : BitVec 32 := Scalar.addi v3592 v3591
  let v3599 : BitVec 32 := Scalar.select v3597 v3598 v3592
  let c4_i32_2521 : BitVec 32 := 4#32
  let v3614 : BitVec 32 := Scalar.muli v3599 c4_i32_2521
  let v3615 : BitVec 32 := Scalar.addi v3613 v3614
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2507 : BitVec 32 := 2#32
  let v3600 : BitVec 32 := Scalar.muli v25 c2_i32_2507
  let c2_i32_2508 : BitVec 32 := 2#32
  let c0_i32_2509 : BitVec 32 := 0#32
  let v3601 : BitVec 1 := Scalar.cmpi .eq c2_i32_2508 c0_i32_2509
  let c1_i32_2510 : BitVec 32 := 1#32
  let v3602 : BitVec 32 := Scalar.select v3601 c1_i32_2510 c2_i32_2508
  let v3603 : BitVec 32 := Scalar.remsi v3553 v3602
  let c0_i32_2512 : BitVec 32 := 0#32
  let v3605 : BitVec 1 := Scalar.cmpi .slt v3603 c0_i32_2512
  let c0_i32_2513 : BitVec 32 := 0#32
  let v3606 : BitVec 1 := Scalar.cmpi .slt v3602 c0_i32_2513
  let v3607 : BitVec 1 := Scalar.xori v3605 v3606
  let c0_i32_2511 : BitVec 32 := 0#32
  let v3604 : BitVec 1 := Scalar.cmpi .ne v3603 c0_i32_2511
  let v3608 : BitVec 1 := Scalar.andi v3607 v3604
  let v3609 : BitVec 32 := Scalar.addi v3603 v3602
  let v3610 : BitVec 32 := Scalar.select v3608 v3609 v3603
  let v3611 : BitVec 32 := Scalar.addi v3600 v3610
  let c1_i32_2522 : BitVec 32 := 1#32
  let v3616 : BitVec 32 := Scalar.muli v3611 c1_i32_2522
  let v3617 : BitVec 32 := Scalar.addi v3615 v3616
  v3617.toNat
def k0_dev43 (d0 : Dev nD) : Nat :=
  let c0_i32_2568 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_2526 : BitVec 32 := 3#32
  let v3625 : BitVec 32 := Scalar.addi v39 c3_i32_2526
  let c8_i32_2527 : BitVec 32 := 8#32
  let c0_i32_2528 : BitVec 32 := 0#32
  let v3626 : BitVec 1 := Scalar.cmpi .eq c8_i32_2527 c0_i32_2528
  let c1_i32_2529 : BitVec 32 := 1#32
  let v3627 : BitVec 32 := Scalar.select v3626 c1_i32_2529 c8_i32_2527
  let v3628 : BitVec 32 := Scalar.remsi v3625 v3627
  let c0_i32_2531 : BitVec 32 := 0#32
  let v3630 : BitVec 1 := Scalar.cmpi .slt v3628 c0_i32_2531
  let c0_i32_2532 : BitVec 32 := 0#32
  let v3631 : BitVec 1 := Scalar.cmpi .slt v3627 c0_i32_2532
  let v3632 : BitVec 1 := Scalar.xori v3630 v3631
  let c0_i32_2530 : BitVec 32 := 0#32
  let v3629 : BitVec 1 := Scalar.cmpi .ne v3628 c0_i32_2530
  let v3633 : BitVec 1 := Scalar.andi v3632 v3629
  let v3634 : BitVec 32 := Scalar.addi v3628 v3627
  let v3635 : BitVec 32 := Scalar.select v3633 v3634 v3628
  let c0_i32_2536 : BitVec 32 := 0#32
  let v3639 : BitVec 1 := Scalar.cmpi .sgt v3635 c0_i32_2536
  let v3640 : BitVec 32 := Scalar.extui v3639
  let c0_i32_2537 : BitVec 32 := 0#32
  let v3641 : BitVec 1 := Scalar.cmpi .slt v3635 c0_i32_2537
  let v3642 : BitVec 32 := Scalar.extui v3641
  let v3643 : BitVec 32 := Scalar.subi v3640 v3642
  let c4_i32_2535 : BitVec 32 := 4#32
  let c0_i32_2538 : BitVec 32 := 0#32
  let v3644 : BitVec 1 := Scalar.cmpi .sgt c4_i32_2535 c0_i32_2538
  let v3645 : BitVec 32 := Scalar.extui v3644
  let c0_i32_2539 : BitVec 32 := 0#32
  let v3646 : BitVec 1 := Scalar.cmpi .slt c4_i32_2535 c0_i32_2539
  let v3647 : BitVec 32 := Scalar.extui v3646
  let v3648 : BitVec 32 := Scalar.subi v3645 v3647
  let v3649 : BitVec 1 := Scalar.cmpi .ne v3643 v3648
  let v3650 : BitVec 32 := Scalar.remsi v3635 c4_i32_2535
  let c0_i32_2540 : BitVec 32 := 0#32
  let v3651 : BitVec 1 := Scalar.cmpi .ne v3650 c0_i32_2540
  let v3652 : BitVec 1 := Scalar.andi v3649 v3651
  let v3638 : BitVec 32 := Scalar.divsi v3635 c4_i32_2535
  let c1_i32_2541 : BitVec 32 := 1#32
  let v3653 : BitVec 32 := Scalar.subi v3638 c1_i32_2541
  let v3654 : BitVec 32 := Scalar.select v3652 v3653 v3638
  let c8_i32_2567 : BitVec 32 := 8#32
  let v3694 : BitVec 32 := Scalar.muli v3654 c8_i32_2567
  let v3695 : BitVec 32 := Scalar.addi c0_i32_2568 v3694
  let c0_i32_2543 : BitVec 32 := 0#32
  let v3656 : BitVec 1 := Scalar.cmpi .sgt v3635 c0_i32_2543
  let v3657 : BitVec 32 := Scalar.extui v3656
  let c0_i32_2544 : BitVec 32 := 0#32
  let v3658 : BitVec 1 := Scalar.cmpi .slt v3635 c0_i32_2544
  let v3659 : BitVec 32 := Scalar.extui v3658
  let v3660 : BitVec 32 := Scalar.subi v3657 v3659
  let c2_i32_2542 : BitVec 32 := 2#32
  let c0_i32_2545 : BitVec 32 := 0#32
  let v3661 : BitVec 1 := Scalar.cmpi .sgt c2_i32_2542 c0_i32_2545
  let v3662 : BitVec 32 := Scalar.extui v3661
  let c0_i32_2546 : BitVec 32 := 0#32
  let v3663 : BitVec 1 := Scalar.cmpi .slt c2_i32_2542 c0_i32_2546
  let v3664 : BitVec 32 := Scalar.extui v3663
  let v3665 : BitVec 32 := Scalar.subi v3662 v3664
  let v3666 : BitVec 1 := Scalar.cmpi .ne v3660 v3665
  let v3667 : BitVec 32 := Scalar.remsi v3635 c2_i32_2542
  let c0_i32_2547 : BitVec 32 := 0#32
  let v3668 : BitVec 1 := Scalar.cmpi .ne v3667 c0_i32_2547
  let v3669 : BitVec 1 := Scalar.andi v3666 v3668
  let v3655 : BitVec 32 := Scalar.divsi v3635 c2_i32_2542
  let c1_i32_2548 : BitVec 32 := 1#32
  let v3670 : BitVec 32 := Scalar.subi v3655 c1_i32_2548
  let v3671 : BitVec 32 := Scalar.select v3669 v3670 v3655
  let c2_i32_2549 : BitVec 32 := 2#32
  let c0_i32_2550 : BitVec 32 := 0#32
  let v3672 : BitVec 1 := Scalar.cmpi .eq c2_i32_2549 c0_i32_2550
  let c1_i32_2551 : BitVec 32 := 1#32
  let v3673 : BitVec 32 := Scalar.select v3672 c1_i32_2551 c2_i32_2549
  let v3674 : BitVec 32 := Scalar.remsi v3671 v3673
  let c0_i32_2553 : BitVec 32 := 0#32
  let v3676 : BitVec 1 := Scalar.cmpi .slt v3674 c0_i32_2553
  let c0_i32_2554 : BitVec 32 := 0#32
  let v3677 : BitVec 1 := Scalar.cmpi .slt v3673 c0_i32_2554
  let v3678 : BitVec 1 := Scalar.xori v3676 v3677
  let c0_i32_2552 : BitVec 32 := 0#32
  let v3675 : BitVec 1 := Scalar.cmpi .ne v3674 c0_i32_2552
  let v3679 : BitVec 1 := Scalar.andi v3678 v3675
  let v3680 : BitVec 32 := Scalar.addi v3674 v3673
  let v3681 : BitVec 32 := Scalar.select v3679 v3680 v3674
  let c4_i32_2569 : BitVec 32 := 4#32
  let v3696 : BitVec 32 := Scalar.muli v3681 c4_i32_2569
  let v3697 : BitVec 32 := Scalar.addi v3695 v3696
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2555 : BitVec 32 := 2#32
  let v3682 : BitVec 32 := Scalar.muli v25 c2_i32_2555
  let c2_i32_2556 : BitVec 32 := 2#32
  let c0_i32_2557 : BitVec 32 := 0#32
  let v3683 : BitVec 1 := Scalar.cmpi .eq c2_i32_2556 c0_i32_2557
  let c1_i32_2558 : BitVec 32 := 1#32
  let v3684 : BitVec 32 := Scalar.select v3683 c1_i32_2558 c2_i32_2556
  let v3685 : BitVec 32 := Scalar.remsi v3635 v3684
  let c0_i32_2560 : BitVec 32 := 0#32
  let v3687 : BitVec 1 := Scalar.cmpi .slt v3685 c0_i32_2560
  let c0_i32_2561 : BitVec 32 := 0#32
  let v3688 : BitVec 1 := Scalar.cmpi .slt v3684 c0_i32_2561
  let v3689 : BitVec 1 := Scalar.xori v3687 v3688
  let c0_i32_2559 : BitVec 32 := 0#32
  let v3686 : BitVec 1 := Scalar.cmpi .ne v3685 c0_i32_2559
  let v3690 : BitVec 1 := Scalar.andi v3689 v3686
  let v3691 : BitVec 32 := Scalar.addi v3685 v3684
  let v3692 : BitVec 32 := Scalar.select v3690 v3691 v3685
  let v3693 : BitVec 32 := Scalar.addi v3682 v3692
  let c1_i32_2570 : BitVec 32 := 1#32
  let v3698 : BitVec 32 := Scalar.muli v3693 c1_i32_2570
  let v3699 : BitVec 32 := Scalar.addi v3697 v3698
  v3699.toNat
def k0_dev44 (d0 : Dev nD) : Nat :=
  let c0_i32_2616 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_2574 : BitVec 32 := 4#32
  let v3707 : BitVec 32 := Scalar.addi v39 c4_i32_2574
  let c8_i32_2575 : BitVec 32 := 8#32
  let c0_i32_2576 : BitVec 32 := 0#32
  let v3708 : BitVec 1 := Scalar.cmpi .eq c8_i32_2575 c0_i32_2576
  let c1_i32_2577 : BitVec 32 := 1#32
  let v3709 : BitVec 32 := Scalar.select v3708 c1_i32_2577 c8_i32_2575
  let v3710 : BitVec 32 := Scalar.remsi v3707 v3709
  let c0_i32_2579 : BitVec 32 := 0#32
  let v3712 : BitVec 1 := Scalar.cmpi .slt v3710 c0_i32_2579
  let c0_i32_2580 : BitVec 32 := 0#32
  let v3713 : BitVec 1 := Scalar.cmpi .slt v3709 c0_i32_2580
  let v3714 : BitVec 1 := Scalar.xori v3712 v3713
  let c0_i32_2578 : BitVec 32 := 0#32
  let v3711 : BitVec 1 := Scalar.cmpi .ne v3710 c0_i32_2578
  let v3715 : BitVec 1 := Scalar.andi v3714 v3711
  let v3716 : BitVec 32 := Scalar.addi v3710 v3709
  let v3717 : BitVec 32 := Scalar.select v3715 v3716 v3710
  let c0_i32_2584 : BitVec 32 := 0#32
  let v3721 : BitVec 1 := Scalar.cmpi .sgt v3717 c0_i32_2584
  let v3722 : BitVec 32 := Scalar.extui v3721
  let c0_i32_2585 : BitVec 32 := 0#32
  let v3723 : BitVec 1 := Scalar.cmpi .slt v3717 c0_i32_2585
  let v3724 : BitVec 32 := Scalar.extui v3723
  let v3725 : BitVec 32 := Scalar.subi v3722 v3724
  let c4_i32_2583 : BitVec 32 := 4#32
  let c0_i32_2586 : BitVec 32 := 0#32
  let v3726 : BitVec 1 := Scalar.cmpi .sgt c4_i32_2583 c0_i32_2586
  let v3727 : BitVec 32 := Scalar.extui v3726
  let c0_i32_2587 : BitVec 32 := 0#32
  let v3728 : BitVec 1 := Scalar.cmpi .slt c4_i32_2583 c0_i32_2587
  let v3729 : BitVec 32 := Scalar.extui v3728
  let v3730 : BitVec 32 := Scalar.subi v3727 v3729
  let v3731 : BitVec 1 := Scalar.cmpi .ne v3725 v3730
  let v3732 : BitVec 32 := Scalar.remsi v3717 c4_i32_2583
  let c0_i32_2588 : BitVec 32 := 0#32
  let v3733 : BitVec 1 := Scalar.cmpi .ne v3732 c0_i32_2588
  let v3734 : BitVec 1 := Scalar.andi v3731 v3733
  let v3720 : BitVec 32 := Scalar.divsi v3717 c4_i32_2583
  let c1_i32_2589 : BitVec 32 := 1#32
  let v3735 : BitVec 32 := Scalar.subi v3720 c1_i32_2589
  let v3736 : BitVec 32 := Scalar.select v3734 v3735 v3720
  let c8_i32_2615 : BitVec 32 := 8#32
  let v3776 : BitVec 32 := Scalar.muli v3736 c8_i32_2615
  let v3777 : BitVec 32 := Scalar.addi c0_i32_2616 v3776
  let c0_i32_2591 : BitVec 32 := 0#32
  let v3738 : BitVec 1 := Scalar.cmpi .sgt v3717 c0_i32_2591
  let v3739 : BitVec 32 := Scalar.extui v3738
  let c0_i32_2592 : BitVec 32 := 0#32
  let v3740 : BitVec 1 := Scalar.cmpi .slt v3717 c0_i32_2592
  let v3741 : BitVec 32 := Scalar.extui v3740
  let v3742 : BitVec 32 := Scalar.subi v3739 v3741
  let c2_i32_2590 : BitVec 32 := 2#32
  let c0_i32_2593 : BitVec 32 := 0#32
  let v3743 : BitVec 1 := Scalar.cmpi .sgt c2_i32_2590 c0_i32_2593
  let v3744 : BitVec 32 := Scalar.extui v3743
  let c0_i32_2594 : BitVec 32 := 0#32
  let v3745 : BitVec 1 := Scalar.cmpi .slt c2_i32_2590 c0_i32_2594
  let v3746 : BitVec 32 := Scalar.extui v3745
  let v3747 : BitVec 32 := Scalar.subi v3744 v3746
  let v3748 : BitVec 1 := Scalar.cmpi .ne v3742 v3747
  let v3749 : BitVec 32 := Scalar.remsi v3717 c2_i32_2590
  let c0_i32_2595 : BitVec 32 := 0#32
  let v3750 : BitVec 1 := Scalar.cmpi .ne v3749 c0_i32_2595
  let v3751 : BitVec 1 := Scalar.andi v3748 v3750
  let v3737 : BitVec 32 := Scalar.divsi v3717 c2_i32_2590
  let c1_i32_2596 : BitVec 32 := 1#32
  let v3752 : BitVec 32 := Scalar.subi v3737 c1_i32_2596
  let v3753 : BitVec 32 := Scalar.select v3751 v3752 v3737
  let c2_i32_2597 : BitVec 32 := 2#32
  let c0_i32_2598 : BitVec 32 := 0#32
  let v3754 : BitVec 1 := Scalar.cmpi .eq c2_i32_2597 c0_i32_2598
  let c1_i32_2599 : BitVec 32 := 1#32
  let v3755 : BitVec 32 := Scalar.select v3754 c1_i32_2599 c2_i32_2597
  let v3756 : BitVec 32 := Scalar.remsi v3753 v3755
  let c0_i32_2601 : BitVec 32 := 0#32
  let v3758 : BitVec 1 := Scalar.cmpi .slt v3756 c0_i32_2601
  let c0_i32_2602 : BitVec 32 := 0#32
  let v3759 : BitVec 1 := Scalar.cmpi .slt v3755 c0_i32_2602
  let v3760 : BitVec 1 := Scalar.xori v3758 v3759
  let c0_i32_2600 : BitVec 32 := 0#32
  let v3757 : BitVec 1 := Scalar.cmpi .ne v3756 c0_i32_2600
  let v3761 : BitVec 1 := Scalar.andi v3760 v3757
  let v3762 : BitVec 32 := Scalar.addi v3756 v3755
  let v3763 : BitVec 32 := Scalar.select v3761 v3762 v3756
  let c4_i32_2617 : BitVec 32 := 4#32
  let v3778 : BitVec 32 := Scalar.muli v3763 c4_i32_2617
  let v3779 : BitVec 32 := Scalar.addi v3777 v3778
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2603 : BitVec 32 := 2#32
  let v3764 : BitVec 32 := Scalar.muli v25 c2_i32_2603
  let c2_i32_2604 : BitVec 32 := 2#32
  let c0_i32_2605 : BitVec 32 := 0#32
  let v3765 : BitVec 1 := Scalar.cmpi .eq c2_i32_2604 c0_i32_2605
  let c1_i32_2606 : BitVec 32 := 1#32
  let v3766 : BitVec 32 := Scalar.select v3765 c1_i32_2606 c2_i32_2604
  let v3767 : BitVec 32 := Scalar.remsi v3717 v3766
  let c0_i32_2608 : BitVec 32 := 0#32
  let v3769 : BitVec 1 := Scalar.cmpi .slt v3767 c0_i32_2608
  let c0_i32_2609 : BitVec 32 := 0#32
  let v3770 : BitVec 1 := Scalar.cmpi .slt v3766 c0_i32_2609
  let v3771 : BitVec 1 := Scalar.xori v3769 v3770
  let c0_i32_2607 : BitVec 32 := 0#32
  let v3768 : BitVec 1 := Scalar.cmpi .ne v3767 c0_i32_2607
  let v3772 : BitVec 1 := Scalar.andi v3771 v3768
  let v3773 : BitVec 32 := Scalar.addi v3767 v3766
  let v3774 : BitVec 32 := Scalar.select v3772 v3773 v3767
  let v3775 : BitVec 32 := Scalar.addi v3764 v3774
  let c1_i32_2618 : BitVec 32 := 1#32
  let v3780 : BitVec 32 := Scalar.muli v3775 c1_i32_2618
  let v3781 : BitVec 32 := Scalar.addi v3779 v3780
  v3781.toNat
def k0_dev45 (d0 : Dev nD) : Nat :=
  let c0_i32_2664 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_2622 : BitVec 32 := 5#32
  let v3789 : BitVec 32 := Scalar.addi v39 c5_i32_2622
  let c8_i32_2623 : BitVec 32 := 8#32
  let c0_i32_2624 : BitVec 32 := 0#32
  let v3790 : BitVec 1 := Scalar.cmpi .eq c8_i32_2623 c0_i32_2624
  let c1_i32_2625 : BitVec 32 := 1#32
  let v3791 : BitVec 32 := Scalar.select v3790 c1_i32_2625 c8_i32_2623
  let v3792 : BitVec 32 := Scalar.remsi v3789 v3791
  let c0_i32_2627 : BitVec 32 := 0#32
  let v3794 : BitVec 1 := Scalar.cmpi .slt v3792 c0_i32_2627
  let c0_i32_2628 : BitVec 32 := 0#32
  let v3795 : BitVec 1 := Scalar.cmpi .slt v3791 c0_i32_2628
  let v3796 : BitVec 1 := Scalar.xori v3794 v3795
  let c0_i32_2626 : BitVec 32 := 0#32
  let v3793 : BitVec 1 := Scalar.cmpi .ne v3792 c0_i32_2626
  let v3797 : BitVec 1 := Scalar.andi v3796 v3793
  let v3798 : BitVec 32 := Scalar.addi v3792 v3791
  let v3799 : BitVec 32 := Scalar.select v3797 v3798 v3792
  let c0_i32_2632 : BitVec 32 := 0#32
  let v3803 : BitVec 1 := Scalar.cmpi .sgt v3799 c0_i32_2632
  let v3804 : BitVec 32 := Scalar.extui v3803
  let c0_i32_2633 : BitVec 32 := 0#32
  let v3805 : BitVec 1 := Scalar.cmpi .slt v3799 c0_i32_2633
  let v3806 : BitVec 32 := Scalar.extui v3805
  let v3807 : BitVec 32 := Scalar.subi v3804 v3806
  let c4_i32_2631 : BitVec 32 := 4#32
  let c0_i32_2634 : BitVec 32 := 0#32
  let v3808 : BitVec 1 := Scalar.cmpi .sgt c4_i32_2631 c0_i32_2634
  let v3809 : BitVec 32 := Scalar.extui v3808
  let c0_i32_2635 : BitVec 32 := 0#32
  let v3810 : BitVec 1 := Scalar.cmpi .slt c4_i32_2631 c0_i32_2635
  let v3811 : BitVec 32 := Scalar.extui v3810
  let v3812 : BitVec 32 := Scalar.subi v3809 v3811
  let v3813 : BitVec 1 := Scalar.cmpi .ne v3807 v3812
  let v3814 : BitVec 32 := Scalar.remsi v3799 c4_i32_2631
  let c0_i32_2636 : BitVec 32 := 0#32
  let v3815 : BitVec 1 := Scalar.cmpi .ne v3814 c0_i32_2636
  let v3816 : BitVec 1 := Scalar.andi v3813 v3815
  let v3802 : BitVec 32 := Scalar.divsi v3799 c4_i32_2631
  let c1_i32_2637 : BitVec 32 := 1#32
  let v3817 : BitVec 32 := Scalar.subi v3802 c1_i32_2637
  let v3818 : BitVec 32 := Scalar.select v3816 v3817 v3802
  let c8_i32_2663 : BitVec 32 := 8#32
  let v3858 : BitVec 32 := Scalar.muli v3818 c8_i32_2663
  let v3859 : BitVec 32 := Scalar.addi c0_i32_2664 v3858
  let c0_i32_2639 : BitVec 32 := 0#32
  let v3820 : BitVec 1 := Scalar.cmpi .sgt v3799 c0_i32_2639
  let v3821 : BitVec 32 := Scalar.extui v3820
  let c0_i32_2640 : BitVec 32 := 0#32
  let v3822 : BitVec 1 := Scalar.cmpi .slt v3799 c0_i32_2640
  let v3823 : BitVec 32 := Scalar.extui v3822
  let v3824 : BitVec 32 := Scalar.subi v3821 v3823
  let c2_i32_2638 : BitVec 32 := 2#32
  let c0_i32_2641 : BitVec 32 := 0#32
  let v3825 : BitVec 1 := Scalar.cmpi .sgt c2_i32_2638 c0_i32_2641
  let v3826 : BitVec 32 := Scalar.extui v3825
  let c0_i32_2642 : BitVec 32 := 0#32
  let v3827 : BitVec 1 := Scalar.cmpi .slt c2_i32_2638 c0_i32_2642
  let v3828 : BitVec 32 := Scalar.extui v3827
  let v3829 : BitVec 32 := Scalar.subi v3826 v3828
  let v3830 : BitVec 1 := Scalar.cmpi .ne v3824 v3829
  let v3831 : BitVec 32 := Scalar.remsi v3799 c2_i32_2638
  let c0_i32_2643 : BitVec 32 := 0#32
  let v3832 : BitVec 1 := Scalar.cmpi .ne v3831 c0_i32_2643
  let v3833 : BitVec 1 := Scalar.andi v3830 v3832
  let v3819 : BitVec 32 := Scalar.divsi v3799 c2_i32_2638
  let c1_i32_2644 : BitVec 32 := 1#32
  let v3834 : BitVec 32 := Scalar.subi v3819 c1_i32_2644
  let v3835 : BitVec 32 := Scalar.select v3833 v3834 v3819
  let c2_i32_2645 : BitVec 32 := 2#32
  let c0_i32_2646 : BitVec 32 := 0#32
  let v3836 : BitVec 1 := Scalar.cmpi .eq c2_i32_2645 c0_i32_2646
  let c1_i32_2647 : BitVec 32 := 1#32
  let v3837 : BitVec 32 := Scalar.select v3836 c1_i32_2647 c2_i32_2645
  let v3838 : BitVec 32 := Scalar.remsi v3835 v3837
  let c0_i32_2649 : BitVec 32 := 0#32
  let v3840 : BitVec 1 := Scalar.cmpi .slt v3838 c0_i32_2649
  let c0_i32_2650 : BitVec 32 := 0#32
  let v3841 : BitVec 1 := Scalar.cmpi .slt v3837 c0_i32_2650
  let v3842 : BitVec 1 := Scalar.xori v3840 v3841
  let c0_i32_2648 : BitVec 32 := 0#32
  let v3839 : BitVec 1 := Scalar.cmpi .ne v3838 c0_i32_2648
  let v3843 : BitVec 1 := Scalar.andi v3842 v3839
  let v3844 : BitVec 32 := Scalar.addi v3838 v3837
  let v3845 : BitVec 32 := Scalar.select v3843 v3844 v3838
  let c4_i32_2665 : BitVec 32 := 4#32
  let v3860 : BitVec 32 := Scalar.muli v3845 c4_i32_2665
  let v3861 : BitVec 32 := Scalar.addi v3859 v3860
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2651 : BitVec 32 := 2#32
  let v3846 : BitVec 32 := Scalar.muli v25 c2_i32_2651
  let c2_i32_2652 : BitVec 32 := 2#32
  let c0_i32_2653 : BitVec 32 := 0#32
  let v3847 : BitVec 1 := Scalar.cmpi .eq c2_i32_2652 c0_i32_2653
  let c1_i32_2654 : BitVec 32 := 1#32
  let v3848 : BitVec 32 := Scalar.select v3847 c1_i32_2654 c2_i32_2652
  let v3849 : BitVec 32 := Scalar.remsi v3799 v3848
  let c0_i32_2656 : BitVec 32 := 0#32
  let v3851 : BitVec 1 := Scalar.cmpi .slt v3849 c0_i32_2656
  let c0_i32_2657 : BitVec 32 := 0#32
  let v3852 : BitVec 1 := Scalar.cmpi .slt v3848 c0_i32_2657
  let v3853 : BitVec 1 := Scalar.xori v3851 v3852
  let c0_i32_2655 : BitVec 32 := 0#32
  let v3850 : BitVec 1 := Scalar.cmpi .ne v3849 c0_i32_2655
  let v3854 : BitVec 1 := Scalar.andi v3853 v3850
  let v3855 : BitVec 32 := Scalar.addi v3849 v3848
  let v3856 : BitVec 32 := Scalar.select v3854 v3855 v3849
  let v3857 : BitVec 32 := Scalar.addi v3846 v3856
  let c1_i32_2666 : BitVec 32 := 1#32
  let v3862 : BitVec 32 := Scalar.muli v3857 c1_i32_2666
  let v3863 : BitVec 32 := Scalar.addi v3861 v3862
  v3863.toNat
def k0_dev46 (d0 : Dev nD) : Nat :=
  let c0_i32_2712 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_2670 : BitVec 32 := 6#32
  let v3871 : BitVec 32 := Scalar.addi v39 c6_i32_2670
  let c8_i32_2671 : BitVec 32 := 8#32
  let c0_i32_2672 : BitVec 32 := 0#32
  let v3872 : BitVec 1 := Scalar.cmpi .eq c8_i32_2671 c0_i32_2672
  let c1_i32_2673 : BitVec 32 := 1#32
  let v3873 : BitVec 32 := Scalar.select v3872 c1_i32_2673 c8_i32_2671
  let v3874 : BitVec 32 := Scalar.remsi v3871 v3873
  let c0_i32_2675 : BitVec 32 := 0#32
  let v3876 : BitVec 1 := Scalar.cmpi .slt v3874 c0_i32_2675
  let c0_i32_2676 : BitVec 32 := 0#32
  let v3877 : BitVec 1 := Scalar.cmpi .slt v3873 c0_i32_2676
  let v3878 : BitVec 1 := Scalar.xori v3876 v3877
  let c0_i32_2674 : BitVec 32 := 0#32
  let v3875 : BitVec 1 := Scalar.cmpi .ne v3874 c0_i32_2674
  let v3879 : BitVec 1 := Scalar.andi v3878 v3875
  let v3880 : BitVec 32 := Scalar.addi v3874 v3873
  let v3881 : BitVec 32 := Scalar.select v3879 v3880 v3874
  let c0_i32_2680 : BitVec 32 := 0#32
  let v3885 : BitVec 1 := Scalar.cmpi .sgt v3881 c0_i32_2680
  let v3886 : BitVec 32 := Scalar.extui v3885
  let c0_i32_2681 : BitVec 32 := 0#32
  let v3887 : BitVec 1 := Scalar.cmpi .slt v3881 c0_i32_2681
  let v3888 : BitVec 32 := Scalar.extui v3887
  let v3889 : BitVec 32 := Scalar.subi v3886 v3888
  let c4_i32_2679 : BitVec 32 := 4#32
  let c0_i32_2682 : BitVec 32 := 0#32
  let v3890 : BitVec 1 := Scalar.cmpi .sgt c4_i32_2679 c0_i32_2682
  let v3891 : BitVec 32 := Scalar.extui v3890
  let c0_i32_2683 : BitVec 32 := 0#32
  let v3892 : BitVec 1 := Scalar.cmpi .slt c4_i32_2679 c0_i32_2683
  let v3893 : BitVec 32 := Scalar.extui v3892
  let v3894 : BitVec 32 := Scalar.subi v3891 v3893
  let v3895 : BitVec 1 := Scalar.cmpi .ne v3889 v3894
  let v3896 : BitVec 32 := Scalar.remsi v3881 c4_i32_2679
  let c0_i32_2684 : BitVec 32 := 0#32
  let v3897 : BitVec 1 := Scalar.cmpi .ne v3896 c0_i32_2684
  let v3898 : BitVec 1 := Scalar.andi v3895 v3897
  let v3884 : BitVec 32 := Scalar.divsi v3881 c4_i32_2679
  let c1_i32_2685 : BitVec 32 := 1#32
  let v3899 : BitVec 32 := Scalar.subi v3884 c1_i32_2685
  let v3900 : BitVec 32 := Scalar.select v3898 v3899 v3884
  let c8_i32_2711 : BitVec 32 := 8#32
  let v3940 : BitVec 32 := Scalar.muli v3900 c8_i32_2711
  let v3941 : BitVec 32 := Scalar.addi c0_i32_2712 v3940
  let c0_i32_2687 : BitVec 32 := 0#32
  let v3902 : BitVec 1 := Scalar.cmpi .sgt v3881 c0_i32_2687
  let v3903 : BitVec 32 := Scalar.extui v3902
  let c0_i32_2688 : BitVec 32 := 0#32
  let v3904 : BitVec 1 := Scalar.cmpi .slt v3881 c0_i32_2688
  let v3905 : BitVec 32 := Scalar.extui v3904
  let v3906 : BitVec 32 := Scalar.subi v3903 v3905
  let c2_i32_2686 : BitVec 32 := 2#32
  let c0_i32_2689 : BitVec 32 := 0#32
  let v3907 : BitVec 1 := Scalar.cmpi .sgt c2_i32_2686 c0_i32_2689
  let v3908 : BitVec 32 := Scalar.extui v3907
  let c0_i32_2690 : BitVec 32 := 0#32
  let v3909 : BitVec 1 := Scalar.cmpi .slt c2_i32_2686 c0_i32_2690
  let v3910 : BitVec 32 := Scalar.extui v3909
  let v3911 : BitVec 32 := Scalar.subi v3908 v3910
  let v3912 : BitVec 1 := Scalar.cmpi .ne v3906 v3911
  let v3913 : BitVec 32 := Scalar.remsi v3881 c2_i32_2686
  let c0_i32_2691 : BitVec 32 := 0#32
  let v3914 : BitVec 1 := Scalar.cmpi .ne v3913 c0_i32_2691
  let v3915 : BitVec 1 := Scalar.andi v3912 v3914
  let v3901 : BitVec 32 := Scalar.divsi v3881 c2_i32_2686
  let c1_i32_2692 : BitVec 32 := 1#32
  let v3916 : BitVec 32 := Scalar.subi v3901 c1_i32_2692
  let v3917 : BitVec 32 := Scalar.select v3915 v3916 v3901
  let c2_i32_2693 : BitVec 32 := 2#32
  let c0_i32_2694 : BitVec 32 := 0#32
  let v3918 : BitVec 1 := Scalar.cmpi .eq c2_i32_2693 c0_i32_2694
  let c1_i32_2695 : BitVec 32 := 1#32
  let v3919 : BitVec 32 := Scalar.select v3918 c1_i32_2695 c2_i32_2693
  let v3920 : BitVec 32 := Scalar.remsi v3917 v3919
  let c0_i32_2697 : BitVec 32 := 0#32
  let v3922 : BitVec 1 := Scalar.cmpi .slt v3920 c0_i32_2697
  let c0_i32_2698 : BitVec 32 := 0#32
  let v3923 : BitVec 1 := Scalar.cmpi .slt v3919 c0_i32_2698
  let v3924 : BitVec 1 := Scalar.xori v3922 v3923
  let c0_i32_2696 : BitVec 32 := 0#32
  let v3921 : BitVec 1 := Scalar.cmpi .ne v3920 c0_i32_2696
  let v3925 : BitVec 1 := Scalar.andi v3924 v3921
  let v3926 : BitVec 32 := Scalar.addi v3920 v3919
  let v3927 : BitVec 32 := Scalar.select v3925 v3926 v3920
  let c4_i32_2713 : BitVec 32 := 4#32
  let v3942 : BitVec 32 := Scalar.muli v3927 c4_i32_2713
  let v3943 : BitVec 32 := Scalar.addi v3941 v3942
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2699 : BitVec 32 := 2#32
  let v3928 : BitVec 32 := Scalar.muli v25 c2_i32_2699
  let c2_i32_2700 : BitVec 32 := 2#32
  let c0_i32_2701 : BitVec 32 := 0#32
  let v3929 : BitVec 1 := Scalar.cmpi .eq c2_i32_2700 c0_i32_2701
  let c1_i32_2702 : BitVec 32 := 1#32
  let v3930 : BitVec 32 := Scalar.select v3929 c1_i32_2702 c2_i32_2700
  let v3931 : BitVec 32 := Scalar.remsi v3881 v3930
  let c0_i32_2704 : BitVec 32 := 0#32
  let v3933 : BitVec 1 := Scalar.cmpi .slt v3931 c0_i32_2704
  let c0_i32_2705 : BitVec 32 := 0#32
  let v3934 : BitVec 1 := Scalar.cmpi .slt v3930 c0_i32_2705
  let v3935 : BitVec 1 := Scalar.xori v3933 v3934
  let c0_i32_2703 : BitVec 32 := 0#32
  let v3932 : BitVec 1 := Scalar.cmpi .ne v3931 c0_i32_2703
  let v3936 : BitVec 1 := Scalar.andi v3935 v3932
  let v3937 : BitVec 32 := Scalar.addi v3931 v3930
  let v3938 : BitVec 32 := Scalar.select v3936 v3937 v3931
  let v3939 : BitVec 32 := Scalar.addi v3928 v3938
  let c1_i32_2714 : BitVec 32 := 1#32
  let v3944 : BitVec 32 := Scalar.muli v3939 c1_i32_2714
  let v3945 : BitVec 32 := Scalar.addi v3943 v3944
  v3945.toNat
def k0_dev47 (d0 : Dev nD) : Nat :=
  let c0_i32_2760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_2718 : BitVec 32 := 7#32
  let v3953 : BitVec 32 := Scalar.addi v39 c7_i32_2718
  let c8_i32_2719 : BitVec 32 := 8#32
  let c0_i32_2720 : BitVec 32 := 0#32
  let v3954 : BitVec 1 := Scalar.cmpi .eq c8_i32_2719 c0_i32_2720
  let c1_i32_2721 : BitVec 32 := 1#32
  let v3955 : BitVec 32 := Scalar.select v3954 c1_i32_2721 c8_i32_2719
  let v3956 : BitVec 32 := Scalar.remsi v3953 v3955
  let c0_i32_2723 : BitVec 32 := 0#32
  let v3958 : BitVec 1 := Scalar.cmpi .slt v3956 c0_i32_2723
  let c0_i32_2724 : BitVec 32 := 0#32
  let v3959 : BitVec 1 := Scalar.cmpi .slt v3955 c0_i32_2724
  let v3960 : BitVec 1 := Scalar.xori v3958 v3959
  let c0_i32_2722 : BitVec 32 := 0#32
  let v3957 : BitVec 1 := Scalar.cmpi .ne v3956 c0_i32_2722
  let v3961 : BitVec 1 := Scalar.andi v3960 v3957
  let v3962 : BitVec 32 := Scalar.addi v3956 v3955
  let v3963 : BitVec 32 := Scalar.select v3961 v3962 v3956
  let c0_i32_2728 : BitVec 32 := 0#32
  let v3967 : BitVec 1 := Scalar.cmpi .sgt v3963 c0_i32_2728
  let v3968 : BitVec 32 := Scalar.extui v3967
  let c0_i32_2729 : BitVec 32 := 0#32
  let v3969 : BitVec 1 := Scalar.cmpi .slt v3963 c0_i32_2729
  let v3970 : BitVec 32 := Scalar.extui v3969
  let v3971 : BitVec 32 := Scalar.subi v3968 v3970
  let c4_i32_2727 : BitVec 32 := 4#32
  let c0_i32_2730 : BitVec 32 := 0#32
  let v3972 : BitVec 1 := Scalar.cmpi .sgt c4_i32_2727 c0_i32_2730
  let v3973 : BitVec 32 := Scalar.extui v3972
  let c0_i32_2731 : BitVec 32 := 0#32
  let v3974 : BitVec 1 := Scalar.cmpi .slt c4_i32_2727 c0_i32_2731
  let v3975 : BitVec 32 := Scalar.extui v3974
  let v3976 : BitVec 32 := Scalar.subi v3973 v3975
  let v3977 : BitVec 1 := Scalar.cmpi .ne v3971 v3976
  let v3978 : BitVec 32 := Scalar.remsi v3963 c4_i32_2727
  let c0_i32_2732 : BitVec 32 := 0#32
  let v3979 : BitVec 1 := Scalar.cmpi .ne v3978 c0_i32_2732
  let v3980 : BitVec 1 := Scalar.andi v3977 v3979
  let v3966 : BitVec 32 := Scalar.divsi v3963 c4_i32_2727
  let c1_i32_2733 : BitVec 32 := 1#32
  let v3981 : BitVec 32 := Scalar.subi v3966 c1_i32_2733
  let v3982 : BitVec 32 := Scalar.select v3980 v3981 v3966
  let c8_i32_2759 : BitVec 32 := 8#32
  let v4022 : BitVec 32 := Scalar.muli v3982 c8_i32_2759
  let v4023 : BitVec 32 := Scalar.addi c0_i32_2760 v4022
  let c0_i32_2735 : BitVec 32 := 0#32
  let v3984 : BitVec 1 := Scalar.cmpi .sgt v3963 c0_i32_2735
  let v3985 : BitVec 32 := Scalar.extui v3984
  let c0_i32_2736 : BitVec 32 := 0#32
  let v3986 : BitVec 1 := Scalar.cmpi .slt v3963 c0_i32_2736
  let v3987 : BitVec 32 := Scalar.extui v3986
  let v3988 : BitVec 32 := Scalar.subi v3985 v3987
  let c2_i32_2734 : BitVec 32 := 2#32
  let c0_i32_2737 : BitVec 32 := 0#32
  let v3989 : BitVec 1 := Scalar.cmpi .sgt c2_i32_2734 c0_i32_2737
  let v3990 : BitVec 32 := Scalar.extui v3989
  let c0_i32_2738 : BitVec 32 := 0#32
  let v3991 : BitVec 1 := Scalar.cmpi .slt c2_i32_2734 c0_i32_2738
  let v3992 : BitVec 32 := Scalar.extui v3991
  let v3993 : BitVec 32 := Scalar.subi v3990 v3992
  let v3994 : BitVec 1 := Scalar.cmpi .ne v3988 v3993
  let v3995 : BitVec 32 := Scalar.remsi v3963 c2_i32_2734
  let c0_i32_2739 : BitVec 32 := 0#32
  let v3996 : BitVec 1 := Scalar.cmpi .ne v3995 c0_i32_2739
  let v3997 : BitVec 1 := Scalar.andi v3994 v3996
  let v3983 : BitVec 32 := Scalar.divsi v3963 c2_i32_2734
  let c1_i32_2740 : BitVec 32 := 1#32
  let v3998 : BitVec 32 := Scalar.subi v3983 c1_i32_2740
  let v3999 : BitVec 32 := Scalar.select v3997 v3998 v3983
  let c2_i32_2741 : BitVec 32 := 2#32
  let c0_i32_2742 : BitVec 32 := 0#32
  let v4000 : BitVec 1 := Scalar.cmpi .eq c2_i32_2741 c0_i32_2742
  let c1_i32_2743 : BitVec 32 := 1#32
  let v4001 : BitVec 32 := Scalar.select v4000 c1_i32_2743 c2_i32_2741
  let v4002 : BitVec 32 := Scalar.remsi v3999 v4001
  let c0_i32_2745 : BitVec 32 := 0#32
  let v4004 : BitVec 1 := Scalar.cmpi .slt v4002 c0_i32_2745
  let c0_i32_2746 : BitVec 32 := 0#32
  let v4005 : BitVec 1 := Scalar.cmpi .slt v4001 c0_i32_2746
  let v4006 : BitVec 1 := Scalar.xori v4004 v4005
  let c0_i32_2744 : BitVec 32 := 0#32
  let v4003 : BitVec 1 := Scalar.cmpi .ne v4002 c0_i32_2744
  let v4007 : BitVec 1 := Scalar.andi v4006 v4003
  let v4008 : BitVec 32 := Scalar.addi v4002 v4001
  let v4009 : BitVec 32 := Scalar.select v4007 v4008 v4002
  let c4_i32_2761 : BitVec 32 := 4#32
  let v4024 : BitVec 32 := Scalar.muli v4009 c4_i32_2761
  let v4025 : BitVec 32 := Scalar.addi v4023 v4024
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2747 : BitVec 32 := 2#32
  let v4010 : BitVec 32 := Scalar.muli v25 c2_i32_2747
  let c2_i32_2748 : BitVec 32 := 2#32
  let c0_i32_2749 : BitVec 32 := 0#32
  let v4011 : BitVec 1 := Scalar.cmpi .eq c2_i32_2748 c0_i32_2749
  let c1_i32_2750 : BitVec 32 := 1#32
  let v4012 : BitVec 32 := Scalar.select v4011 c1_i32_2750 c2_i32_2748
  let v4013 : BitVec 32 := Scalar.remsi v3963 v4012
  let c0_i32_2752 : BitVec 32 := 0#32
  let v4015 : BitVec 1 := Scalar.cmpi .slt v4013 c0_i32_2752
  let c0_i32_2753 : BitVec 32 := 0#32
  let v4016 : BitVec 1 := Scalar.cmpi .slt v4012 c0_i32_2753
  let v4017 : BitVec 1 := Scalar.xori v4015 v4016
  let c0_i32_2751 : BitVec 32 := 0#32
  let v4014 : BitVec 1 := Scalar.cmpi .ne v4013 c0_i32_2751
  let v4018 : BitVec 1 := Scalar.andi v4017 v4014
  let v4019 : BitVec 32 := Scalar.addi v4013 v4012
  let v4020 : BitVec 32 := Scalar.select v4018 v4019 v4013
  let v4021 : BitVec 32 := Scalar.addi v4010 v4020
  let c1_i32_2762 : BitVec 32 := 1#32
  let v4026 : BitVec 32 := Scalar.muli v4021 c1_i32_2762
  let v4027 : BitVec 32 := Scalar.addi v4025 v4026
  v4027.toNat
def k0_dev48 (d0 : Dev nD) : Nat :=
  let c0_i32_2841 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_2799 : BitVec 32 := 1#32
  let v4067 : BitVec 32 := Scalar.addi v39 c1_i32_2799
  let c8_i32_2800 : BitVec 32 := 8#32
  let c0_i32_2801 : BitVec 32 := 0#32
  let v4068 : BitVec 1 := Scalar.cmpi .eq c8_i32_2800 c0_i32_2801
  let c1_i32_2802 : BitVec 32 := 1#32
  let v4069 : BitVec 32 := Scalar.select v4068 c1_i32_2802 c8_i32_2800
  let v4070 : BitVec 32 := Scalar.remsi v4067 v4069
  let c0_i32_2804 : BitVec 32 := 0#32
  let v4072 : BitVec 1 := Scalar.cmpi .slt v4070 c0_i32_2804
  let c0_i32_2805 : BitVec 32 := 0#32
  let v4073 : BitVec 1 := Scalar.cmpi .slt v4069 c0_i32_2805
  let v4074 : BitVec 1 := Scalar.xori v4072 v4073
  let c0_i32_2803 : BitVec 32 := 0#32
  let v4071 : BitVec 1 := Scalar.cmpi .ne v4070 c0_i32_2803
  let v4075 : BitVec 1 := Scalar.andi v4074 v4071
  let v4076 : BitVec 32 := Scalar.addi v4070 v4069
  let v4077 : BitVec 32 := Scalar.select v4075 v4076 v4070
  let c0_i32_2809 : BitVec 32 := 0#32
  let v4081 : BitVec 1 := Scalar.cmpi .sgt v4077 c0_i32_2809
  let v4082 : BitVec 32 := Scalar.extui v4081
  let c0_i32_2810 : BitVec 32 := 0#32
  let v4083 : BitVec 1 := Scalar.cmpi .slt v4077 c0_i32_2810
  let v4084 : BitVec 32 := Scalar.extui v4083
  let v4085 : BitVec 32 := Scalar.subi v4082 v4084
  let c4_i32_2808 : BitVec 32 := 4#32
  let c0_i32_2811 : BitVec 32 := 0#32
  let v4086 : BitVec 1 := Scalar.cmpi .sgt c4_i32_2808 c0_i32_2811
  let v4087 : BitVec 32 := Scalar.extui v4086
  let c0_i32_2812 : BitVec 32 := 0#32
  let v4088 : BitVec 1 := Scalar.cmpi .slt c4_i32_2808 c0_i32_2812
  let v4089 : BitVec 32 := Scalar.extui v4088
  let v4090 : BitVec 32 := Scalar.subi v4087 v4089
  let v4091 : BitVec 1 := Scalar.cmpi .ne v4085 v4090
  let v4092 : BitVec 32 := Scalar.remsi v4077 c4_i32_2808
  let c0_i32_2813 : BitVec 32 := 0#32
  let v4093 : BitVec 1 := Scalar.cmpi .ne v4092 c0_i32_2813
  let v4094 : BitVec 1 := Scalar.andi v4091 v4093
  let v4080 : BitVec 32 := Scalar.divsi v4077 c4_i32_2808
  let c1_i32_2814 : BitVec 32 := 1#32
  let v4095 : BitVec 32 := Scalar.subi v4080 c1_i32_2814
  let v4096 : BitVec 32 := Scalar.select v4094 v4095 v4080
  let c8_i32_2840 : BitVec 32 := 8#32
  let v4136 : BitVec 32 := Scalar.muli v4096 c8_i32_2840
  let v4137 : BitVec 32 := Scalar.addi c0_i32_2841 v4136
  let c0_i32_2816 : BitVec 32 := 0#32
  let v4098 : BitVec 1 := Scalar.cmpi .sgt v4077 c0_i32_2816
  let v4099 : BitVec 32 := Scalar.extui v4098
  let c0_i32_2817 : BitVec 32 := 0#32
  let v4100 : BitVec 1 := Scalar.cmpi .slt v4077 c0_i32_2817
  let v4101 : BitVec 32 := Scalar.extui v4100
  let v4102 : BitVec 32 := Scalar.subi v4099 v4101
  let c2_i32_2815 : BitVec 32 := 2#32
  let c0_i32_2818 : BitVec 32 := 0#32
  let v4103 : BitVec 1 := Scalar.cmpi .sgt c2_i32_2815 c0_i32_2818
  let v4104 : BitVec 32 := Scalar.extui v4103
  let c0_i32_2819 : BitVec 32 := 0#32
  let v4105 : BitVec 1 := Scalar.cmpi .slt c2_i32_2815 c0_i32_2819
  let v4106 : BitVec 32 := Scalar.extui v4105
  let v4107 : BitVec 32 := Scalar.subi v4104 v4106
  let v4108 : BitVec 1 := Scalar.cmpi .ne v4102 v4107
  let v4109 : BitVec 32 := Scalar.remsi v4077 c2_i32_2815
  let c0_i32_2820 : BitVec 32 := 0#32
  let v4110 : BitVec 1 := Scalar.cmpi .ne v4109 c0_i32_2820
  let v4111 : BitVec 1 := Scalar.andi v4108 v4110
  let v4097 : BitVec 32 := Scalar.divsi v4077 c2_i32_2815
  let c1_i32_2821 : BitVec 32 := 1#32
  let v4112 : BitVec 32 := Scalar.subi v4097 c1_i32_2821
  let v4113 : BitVec 32 := Scalar.select v4111 v4112 v4097
  let c2_i32_2822 : BitVec 32 := 2#32
  let c0_i32_2823 : BitVec 32 := 0#32
  let v4114 : BitVec 1 := Scalar.cmpi .eq c2_i32_2822 c0_i32_2823
  let c1_i32_2824 : BitVec 32 := 1#32
  let v4115 : BitVec 32 := Scalar.select v4114 c1_i32_2824 c2_i32_2822
  let v4116 : BitVec 32 := Scalar.remsi v4113 v4115
  let c0_i32_2826 : BitVec 32 := 0#32
  let v4118 : BitVec 1 := Scalar.cmpi .slt v4116 c0_i32_2826
  let c0_i32_2827 : BitVec 32 := 0#32
  let v4119 : BitVec 1 := Scalar.cmpi .slt v4115 c0_i32_2827
  let v4120 : BitVec 1 := Scalar.xori v4118 v4119
  let c0_i32_2825 : BitVec 32 := 0#32
  let v4117 : BitVec 1 := Scalar.cmpi .ne v4116 c0_i32_2825
  let v4121 : BitVec 1 := Scalar.andi v4120 v4117
  let v4122 : BitVec 32 := Scalar.addi v4116 v4115
  let v4123 : BitVec 32 := Scalar.select v4121 v4122 v4116
  let c4_i32_2842 : BitVec 32 := 4#32
  let v4138 : BitVec 32 := Scalar.muli v4123 c4_i32_2842
  let v4139 : BitVec 32 := Scalar.addi v4137 v4138
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2828 : BitVec 32 := 2#32
  let v4124 : BitVec 32 := Scalar.muli v25 c2_i32_2828
  let c2_i32_2829 : BitVec 32 := 2#32
  let c0_i32_2830 : BitVec 32 := 0#32
  let v4125 : BitVec 1 := Scalar.cmpi .eq c2_i32_2829 c0_i32_2830
  let c1_i32_2831 : BitVec 32 := 1#32
  let v4126 : BitVec 32 := Scalar.select v4125 c1_i32_2831 c2_i32_2829
  let v4127 : BitVec 32 := Scalar.remsi v4077 v4126
  let c0_i32_2833 : BitVec 32 := 0#32
  let v4129 : BitVec 1 := Scalar.cmpi .slt v4127 c0_i32_2833
  let c0_i32_2834 : BitVec 32 := 0#32
  let v4130 : BitVec 1 := Scalar.cmpi .slt v4126 c0_i32_2834
  let v4131 : BitVec 1 := Scalar.xori v4129 v4130
  let c0_i32_2832 : BitVec 32 := 0#32
  let v4128 : BitVec 1 := Scalar.cmpi .ne v4127 c0_i32_2832
  let v4132 : BitVec 1 := Scalar.andi v4131 v4128
  let v4133 : BitVec 32 := Scalar.addi v4127 v4126
  let v4134 : BitVec 32 := Scalar.select v4132 v4133 v4127
  let v4135 : BitVec 32 := Scalar.addi v4124 v4134
  let c1_i32_2843 : BitVec 32 := 1#32
  let v4140 : BitVec 32 := Scalar.muli v4135 c1_i32_2843
  let v4141 : BitVec 32 := Scalar.addi v4139 v4140
  v4141.toNat
def k0_dev49 (d0 : Dev nD) : Nat :=
  let c0_i32_2889 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_2847 : BitVec 32 := 2#32
  let v4149 : BitVec 32 := Scalar.addi v39 c2_i32_2847
  let c8_i32_2848 : BitVec 32 := 8#32
  let c0_i32_2849 : BitVec 32 := 0#32
  let v4150 : BitVec 1 := Scalar.cmpi .eq c8_i32_2848 c0_i32_2849
  let c1_i32_2850 : BitVec 32 := 1#32
  let v4151 : BitVec 32 := Scalar.select v4150 c1_i32_2850 c8_i32_2848
  let v4152 : BitVec 32 := Scalar.remsi v4149 v4151
  let c0_i32_2852 : BitVec 32 := 0#32
  let v4154 : BitVec 1 := Scalar.cmpi .slt v4152 c0_i32_2852
  let c0_i32_2853 : BitVec 32 := 0#32
  let v4155 : BitVec 1 := Scalar.cmpi .slt v4151 c0_i32_2853
  let v4156 : BitVec 1 := Scalar.xori v4154 v4155
  let c0_i32_2851 : BitVec 32 := 0#32
  let v4153 : BitVec 1 := Scalar.cmpi .ne v4152 c0_i32_2851
  let v4157 : BitVec 1 := Scalar.andi v4156 v4153
  let v4158 : BitVec 32 := Scalar.addi v4152 v4151
  let v4159 : BitVec 32 := Scalar.select v4157 v4158 v4152
  let c0_i32_2857 : BitVec 32 := 0#32
  let v4163 : BitVec 1 := Scalar.cmpi .sgt v4159 c0_i32_2857
  let v4164 : BitVec 32 := Scalar.extui v4163
  let c0_i32_2858 : BitVec 32 := 0#32
  let v4165 : BitVec 1 := Scalar.cmpi .slt v4159 c0_i32_2858
  let v4166 : BitVec 32 := Scalar.extui v4165
  let v4167 : BitVec 32 := Scalar.subi v4164 v4166
  let c4_i32_2856 : BitVec 32 := 4#32
  let c0_i32_2859 : BitVec 32 := 0#32
  let v4168 : BitVec 1 := Scalar.cmpi .sgt c4_i32_2856 c0_i32_2859
  let v4169 : BitVec 32 := Scalar.extui v4168
  let c0_i32_2860 : BitVec 32 := 0#32
  let v4170 : BitVec 1 := Scalar.cmpi .slt c4_i32_2856 c0_i32_2860
  let v4171 : BitVec 32 := Scalar.extui v4170
  let v4172 : BitVec 32 := Scalar.subi v4169 v4171
  let v4173 : BitVec 1 := Scalar.cmpi .ne v4167 v4172
  let v4174 : BitVec 32 := Scalar.remsi v4159 c4_i32_2856
  let c0_i32_2861 : BitVec 32 := 0#32
  let v4175 : BitVec 1 := Scalar.cmpi .ne v4174 c0_i32_2861
  let v4176 : BitVec 1 := Scalar.andi v4173 v4175
  let v4162 : BitVec 32 := Scalar.divsi v4159 c4_i32_2856
  let c1_i32_2862 : BitVec 32 := 1#32
  let v4177 : BitVec 32 := Scalar.subi v4162 c1_i32_2862
  let v4178 : BitVec 32 := Scalar.select v4176 v4177 v4162
  let c8_i32_2888 : BitVec 32 := 8#32
  let v4218 : BitVec 32 := Scalar.muli v4178 c8_i32_2888
  let v4219 : BitVec 32 := Scalar.addi c0_i32_2889 v4218
  let c0_i32_2864 : BitVec 32 := 0#32
  let v4180 : BitVec 1 := Scalar.cmpi .sgt v4159 c0_i32_2864
  let v4181 : BitVec 32 := Scalar.extui v4180
  let c0_i32_2865 : BitVec 32 := 0#32
  let v4182 : BitVec 1 := Scalar.cmpi .slt v4159 c0_i32_2865
  let v4183 : BitVec 32 := Scalar.extui v4182
  let v4184 : BitVec 32 := Scalar.subi v4181 v4183
  let c2_i32_2863 : BitVec 32 := 2#32
  let c0_i32_2866 : BitVec 32 := 0#32
  let v4185 : BitVec 1 := Scalar.cmpi .sgt c2_i32_2863 c0_i32_2866
  let v4186 : BitVec 32 := Scalar.extui v4185
  let c0_i32_2867 : BitVec 32 := 0#32
  let v4187 : BitVec 1 := Scalar.cmpi .slt c2_i32_2863 c0_i32_2867
  let v4188 : BitVec 32 := Scalar.extui v4187
  let v4189 : BitVec 32 := Scalar.subi v4186 v4188
  let v4190 : BitVec 1 := Scalar.cmpi .ne v4184 v4189
  let v4191 : BitVec 32 := Scalar.remsi v4159 c2_i32_2863
  let c0_i32_2868 : BitVec 32 := 0#32
  let v4192 : BitVec 1 := Scalar.cmpi .ne v4191 c0_i32_2868
  let v4193 : BitVec 1 := Scalar.andi v4190 v4192
  let v4179 : BitVec 32 := Scalar.divsi v4159 c2_i32_2863
  let c1_i32_2869 : BitVec 32 := 1#32
  let v4194 : BitVec 32 := Scalar.subi v4179 c1_i32_2869
  let v4195 : BitVec 32 := Scalar.select v4193 v4194 v4179
  let c2_i32_2870 : BitVec 32 := 2#32
  let c0_i32_2871 : BitVec 32 := 0#32
  let v4196 : BitVec 1 := Scalar.cmpi .eq c2_i32_2870 c0_i32_2871
  let c1_i32_2872 : BitVec 32 := 1#32
  let v4197 : BitVec 32 := Scalar.select v4196 c1_i32_2872 c2_i32_2870
  let v4198 : BitVec 32 := Scalar.remsi v4195 v4197
  let c0_i32_2874 : BitVec 32 := 0#32
  let v4200 : BitVec 1 := Scalar.cmpi .slt v4198 c0_i32_2874
  let c0_i32_2875 : BitVec 32 := 0#32
  let v4201 : BitVec 1 := Scalar.cmpi .slt v4197 c0_i32_2875
  let v4202 : BitVec 1 := Scalar.xori v4200 v4201
  let c0_i32_2873 : BitVec 32 := 0#32
  let v4199 : BitVec 1 := Scalar.cmpi .ne v4198 c0_i32_2873
  let v4203 : BitVec 1 := Scalar.andi v4202 v4199
  let v4204 : BitVec 32 := Scalar.addi v4198 v4197
  let v4205 : BitVec 32 := Scalar.select v4203 v4204 v4198
  let c4_i32_2890 : BitVec 32 := 4#32
  let v4220 : BitVec 32 := Scalar.muli v4205 c4_i32_2890
  let v4221 : BitVec 32 := Scalar.addi v4219 v4220
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2876 : BitVec 32 := 2#32
  let v4206 : BitVec 32 := Scalar.muli v25 c2_i32_2876
  let c2_i32_2877 : BitVec 32 := 2#32
  let c0_i32_2878 : BitVec 32 := 0#32
  let v4207 : BitVec 1 := Scalar.cmpi .eq c2_i32_2877 c0_i32_2878
  let c1_i32_2879 : BitVec 32 := 1#32
  let v4208 : BitVec 32 := Scalar.select v4207 c1_i32_2879 c2_i32_2877
  let v4209 : BitVec 32 := Scalar.remsi v4159 v4208
  let c0_i32_2881 : BitVec 32 := 0#32
  let v4211 : BitVec 1 := Scalar.cmpi .slt v4209 c0_i32_2881
  let c0_i32_2882 : BitVec 32 := 0#32
  let v4212 : BitVec 1 := Scalar.cmpi .slt v4208 c0_i32_2882
  let v4213 : BitVec 1 := Scalar.xori v4211 v4212
  let c0_i32_2880 : BitVec 32 := 0#32
  let v4210 : BitVec 1 := Scalar.cmpi .ne v4209 c0_i32_2880
  let v4214 : BitVec 1 := Scalar.andi v4213 v4210
  let v4215 : BitVec 32 := Scalar.addi v4209 v4208
  let v4216 : BitVec 32 := Scalar.select v4214 v4215 v4209
  let v4217 : BitVec 32 := Scalar.addi v4206 v4216
  let c1_i32_2891 : BitVec 32 := 1#32
  let v4222 : BitVec 32 := Scalar.muli v4217 c1_i32_2891
  let v4223 : BitVec 32 := Scalar.addi v4221 v4222
  v4223.toNat
def k0_dev50 (d0 : Dev nD) : Nat :=
  let c0_i32_2937 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_2895 : BitVec 32 := 3#32
  let v4231 : BitVec 32 := Scalar.addi v39 c3_i32_2895
  let c8_i32_2896 : BitVec 32 := 8#32
  let c0_i32_2897 : BitVec 32 := 0#32
  let v4232 : BitVec 1 := Scalar.cmpi .eq c8_i32_2896 c0_i32_2897
  let c1_i32_2898 : BitVec 32 := 1#32
  let v4233 : BitVec 32 := Scalar.select v4232 c1_i32_2898 c8_i32_2896
  let v4234 : BitVec 32 := Scalar.remsi v4231 v4233
  let c0_i32_2900 : BitVec 32 := 0#32
  let v4236 : BitVec 1 := Scalar.cmpi .slt v4234 c0_i32_2900
  let c0_i32_2901 : BitVec 32 := 0#32
  let v4237 : BitVec 1 := Scalar.cmpi .slt v4233 c0_i32_2901
  let v4238 : BitVec 1 := Scalar.xori v4236 v4237
  let c0_i32_2899 : BitVec 32 := 0#32
  let v4235 : BitVec 1 := Scalar.cmpi .ne v4234 c0_i32_2899
  let v4239 : BitVec 1 := Scalar.andi v4238 v4235
  let v4240 : BitVec 32 := Scalar.addi v4234 v4233
  let v4241 : BitVec 32 := Scalar.select v4239 v4240 v4234
  let c0_i32_2905 : BitVec 32 := 0#32
  let v4245 : BitVec 1 := Scalar.cmpi .sgt v4241 c0_i32_2905
  let v4246 : BitVec 32 := Scalar.extui v4245
  let c0_i32_2906 : BitVec 32 := 0#32
  let v4247 : BitVec 1 := Scalar.cmpi .slt v4241 c0_i32_2906
  let v4248 : BitVec 32 := Scalar.extui v4247
  let v4249 : BitVec 32 := Scalar.subi v4246 v4248
  let c4_i32_2904 : BitVec 32 := 4#32
  let c0_i32_2907 : BitVec 32 := 0#32
  let v4250 : BitVec 1 := Scalar.cmpi .sgt c4_i32_2904 c0_i32_2907
  let v4251 : BitVec 32 := Scalar.extui v4250
  let c0_i32_2908 : BitVec 32 := 0#32
  let v4252 : BitVec 1 := Scalar.cmpi .slt c4_i32_2904 c0_i32_2908
  let v4253 : BitVec 32 := Scalar.extui v4252
  let v4254 : BitVec 32 := Scalar.subi v4251 v4253
  let v4255 : BitVec 1 := Scalar.cmpi .ne v4249 v4254
  let v4256 : BitVec 32 := Scalar.remsi v4241 c4_i32_2904
  let c0_i32_2909 : BitVec 32 := 0#32
  let v4257 : BitVec 1 := Scalar.cmpi .ne v4256 c0_i32_2909
  let v4258 : BitVec 1 := Scalar.andi v4255 v4257
  let v4244 : BitVec 32 := Scalar.divsi v4241 c4_i32_2904
  let c1_i32_2910 : BitVec 32 := 1#32
  let v4259 : BitVec 32 := Scalar.subi v4244 c1_i32_2910
  let v4260 : BitVec 32 := Scalar.select v4258 v4259 v4244
  let c8_i32_2936 : BitVec 32 := 8#32
  let v4300 : BitVec 32 := Scalar.muli v4260 c8_i32_2936
  let v4301 : BitVec 32 := Scalar.addi c0_i32_2937 v4300
  let c0_i32_2912 : BitVec 32 := 0#32
  let v4262 : BitVec 1 := Scalar.cmpi .sgt v4241 c0_i32_2912
  let v4263 : BitVec 32 := Scalar.extui v4262
  let c0_i32_2913 : BitVec 32 := 0#32
  let v4264 : BitVec 1 := Scalar.cmpi .slt v4241 c0_i32_2913
  let v4265 : BitVec 32 := Scalar.extui v4264
  let v4266 : BitVec 32 := Scalar.subi v4263 v4265
  let c2_i32_2911 : BitVec 32 := 2#32
  let c0_i32_2914 : BitVec 32 := 0#32
  let v4267 : BitVec 1 := Scalar.cmpi .sgt c2_i32_2911 c0_i32_2914
  let v4268 : BitVec 32 := Scalar.extui v4267
  let c0_i32_2915 : BitVec 32 := 0#32
  let v4269 : BitVec 1 := Scalar.cmpi .slt c2_i32_2911 c0_i32_2915
  let v4270 : BitVec 32 := Scalar.extui v4269
  let v4271 : BitVec 32 := Scalar.subi v4268 v4270
  let v4272 : BitVec 1 := Scalar.cmpi .ne v4266 v4271
  let v4273 : BitVec 32 := Scalar.remsi v4241 c2_i32_2911
  let c0_i32_2916 : BitVec 32 := 0#32
  let v4274 : BitVec 1 := Scalar.cmpi .ne v4273 c0_i32_2916
  let v4275 : BitVec 1 := Scalar.andi v4272 v4274
  let v4261 : BitVec 32 := Scalar.divsi v4241 c2_i32_2911
  let c1_i32_2917 : BitVec 32 := 1#32
  let v4276 : BitVec 32 := Scalar.subi v4261 c1_i32_2917
  let v4277 : BitVec 32 := Scalar.select v4275 v4276 v4261
  let c2_i32_2918 : BitVec 32 := 2#32
  let c0_i32_2919 : BitVec 32 := 0#32
  let v4278 : BitVec 1 := Scalar.cmpi .eq c2_i32_2918 c0_i32_2919
  let c1_i32_2920 : BitVec 32 := 1#32
  let v4279 : BitVec 32 := Scalar.select v4278 c1_i32_2920 c2_i32_2918
  let v4280 : BitVec 32 := Scalar.remsi v4277 v4279
  let c0_i32_2922 : BitVec 32 := 0#32
  let v4282 : BitVec 1 := Scalar.cmpi .slt v4280 c0_i32_2922
  let c0_i32_2923 : BitVec 32 := 0#32
  let v4283 : BitVec 1 := Scalar.cmpi .slt v4279 c0_i32_2923
  let v4284 : BitVec 1 := Scalar.xori v4282 v4283
  let c0_i32_2921 : BitVec 32 := 0#32
  let v4281 : BitVec 1 := Scalar.cmpi .ne v4280 c0_i32_2921
  let v4285 : BitVec 1 := Scalar.andi v4284 v4281
  let v4286 : BitVec 32 := Scalar.addi v4280 v4279
  let v4287 : BitVec 32 := Scalar.select v4285 v4286 v4280
  let c4_i32_2938 : BitVec 32 := 4#32
  let v4302 : BitVec 32 := Scalar.muli v4287 c4_i32_2938
  let v4303 : BitVec 32 := Scalar.addi v4301 v4302
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2924 : BitVec 32 := 2#32
  let v4288 : BitVec 32 := Scalar.muli v25 c2_i32_2924
  let c2_i32_2925 : BitVec 32 := 2#32
  let c0_i32_2926 : BitVec 32 := 0#32
  let v4289 : BitVec 1 := Scalar.cmpi .eq c2_i32_2925 c0_i32_2926
  let c1_i32_2927 : BitVec 32 := 1#32
  let v4290 : BitVec 32 := Scalar.select v4289 c1_i32_2927 c2_i32_2925
  let v4291 : BitVec 32 := Scalar.remsi v4241 v4290
  let c0_i32_2929 : BitVec 32 := 0#32
  let v4293 : BitVec 1 := Scalar.cmpi .slt v4291 c0_i32_2929
  let c0_i32_2930 : BitVec 32 := 0#32
  let v4294 : BitVec 1 := Scalar.cmpi .slt v4290 c0_i32_2930
  let v4295 : BitVec 1 := Scalar.xori v4293 v4294
  let c0_i32_2928 : BitVec 32 := 0#32
  let v4292 : BitVec 1 := Scalar.cmpi .ne v4291 c0_i32_2928
  let v4296 : BitVec 1 := Scalar.andi v4295 v4292
  let v4297 : BitVec 32 := Scalar.addi v4291 v4290
  let v4298 : BitVec 32 := Scalar.select v4296 v4297 v4291
  let v4299 : BitVec 32 := Scalar.addi v4288 v4298
  let c1_i32_2939 : BitVec 32 := 1#32
  let v4304 : BitVec 32 := Scalar.muli v4299 c1_i32_2939
  let v4305 : BitVec 32 := Scalar.addi v4303 v4304
  v4305.toNat
def k0_dev51 (d0 : Dev nD) : Nat :=
  let c0_i32_2985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_2943 : BitVec 32 := 4#32
  let v4313 : BitVec 32 := Scalar.addi v39 c4_i32_2943
  let c8_i32_2944 : BitVec 32 := 8#32
  let c0_i32_2945 : BitVec 32 := 0#32
  let v4314 : BitVec 1 := Scalar.cmpi .eq c8_i32_2944 c0_i32_2945
  let c1_i32_2946 : BitVec 32 := 1#32
  let v4315 : BitVec 32 := Scalar.select v4314 c1_i32_2946 c8_i32_2944
  let v4316 : BitVec 32 := Scalar.remsi v4313 v4315
  let c0_i32_2948 : BitVec 32 := 0#32
  let v4318 : BitVec 1 := Scalar.cmpi .slt v4316 c0_i32_2948
  let c0_i32_2949 : BitVec 32 := 0#32
  let v4319 : BitVec 1 := Scalar.cmpi .slt v4315 c0_i32_2949
  let v4320 : BitVec 1 := Scalar.xori v4318 v4319
  let c0_i32_2947 : BitVec 32 := 0#32
  let v4317 : BitVec 1 := Scalar.cmpi .ne v4316 c0_i32_2947
  let v4321 : BitVec 1 := Scalar.andi v4320 v4317
  let v4322 : BitVec 32 := Scalar.addi v4316 v4315
  let v4323 : BitVec 32 := Scalar.select v4321 v4322 v4316
  let c0_i32_2953 : BitVec 32 := 0#32
  let v4327 : BitVec 1 := Scalar.cmpi .sgt v4323 c0_i32_2953
  let v4328 : BitVec 32 := Scalar.extui v4327
  let c0_i32_2954 : BitVec 32 := 0#32
  let v4329 : BitVec 1 := Scalar.cmpi .slt v4323 c0_i32_2954
  let v4330 : BitVec 32 := Scalar.extui v4329
  let v4331 : BitVec 32 := Scalar.subi v4328 v4330
  let c4_i32_2952 : BitVec 32 := 4#32
  let c0_i32_2955 : BitVec 32 := 0#32
  let v4332 : BitVec 1 := Scalar.cmpi .sgt c4_i32_2952 c0_i32_2955
  let v4333 : BitVec 32 := Scalar.extui v4332
  let c0_i32_2956 : BitVec 32 := 0#32
  let v4334 : BitVec 1 := Scalar.cmpi .slt c4_i32_2952 c0_i32_2956
  let v4335 : BitVec 32 := Scalar.extui v4334
  let v4336 : BitVec 32 := Scalar.subi v4333 v4335
  let v4337 : BitVec 1 := Scalar.cmpi .ne v4331 v4336
  let v4338 : BitVec 32 := Scalar.remsi v4323 c4_i32_2952
  let c0_i32_2957 : BitVec 32 := 0#32
  let v4339 : BitVec 1 := Scalar.cmpi .ne v4338 c0_i32_2957
  let v4340 : BitVec 1 := Scalar.andi v4337 v4339
  let v4326 : BitVec 32 := Scalar.divsi v4323 c4_i32_2952
  let c1_i32_2958 : BitVec 32 := 1#32
  let v4341 : BitVec 32 := Scalar.subi v4326 c1_i32_2958
  let v4342 : BitVec 32 := Scalar.select v4340 v4341 v4326
  let c8_i32_2984 : BitVec 32 := 8#32
  let v4382 : BitVec 32 := Scalar.muli v4342 c8_i32_2984
  let v4383 : BitVec 32 := Scalar.addi c0_i32_2985 v4382
  let c0_i32_2960 : BitVec 32 := 0#32
  let v4344 : BitVec 1 := Scalar.cmpi .sgt v4323 c0_i32_2960
  let v4345 : BitVec 32 := Scalar.extui v4344
  let c0_i32_2961 : BitVec 32 := 0#32
  let v4346 : BitVec 1 := Scalar.cmpi .slt v4323 c0_i32_2961
  let v4347 : BitVec 32 := Scalar.extui v4346
  let v4348 : BitVec 32 := Scalar.subi v4345 v4347
  let c2_i32_2959 : BitVec 32 := 2#32
  let c0_i32_2962 : BitVec 32 := 0#32
  let v4349 : BitVec 1 := Scalar.cmpi .sgt c2_i32_2959 c0_i32_2962
  let v4350 : BitVec 32 := Scalar.extui v4349
  let c0_i32_2963 : BitVec 32 := 0#32
  let v4351 : BitVec 1 := Scalar.cmpi .slt c2_i32_2959 c0_i32_2963
  let v4352 : BitVec 32 := Scalar.extui v4351
  let v4353 : BitVec 32 := Scalar.subi v4350 v4352
  let v4354 : BitVec 1 := Scalar.cmpi .ne v4348 v4353
  let v4355 : BitVec 32 := Scalar.remsi v4323 c2_i32_2959
  let c0_i32_2964 : BitVec 32 := 0#32
  let v4356 : BitVec 1 := Scalar.cmpi .ne v4355 c0_i32_2964
  let v4357 : BitVec 1 := Scalar.andi v4354 v4356
  let v4343 : BitVec 32 := Scalar.divsi v4323 c2_i32_2959
  let c1_i32_2965 : BitVec 32 := 1#32
  let v4358 : BitVec 32 := Scalar.subi v4343 c1_i32_2965
  let v4359 : BitVec 32 := Scalar.select v4357 v4358 v4343
  let c2_i32_2966 : BitVec 32 := 2#32
  let c0_i32_2967 : BitVec 32 := 0#32
  let v4360 : BitVec 1 := Scalar.cmpi .eq c2_i32_2966 c0_i32_2967
  let c1_i32_2968 : BitVec 32 := 1#32
  let v4361 : BitVec 32 := Scalar.select v4360 c1_i32_2968 c2_i32_2966
  let v4362 : BitVec 32 := Scalar.remsi v4359 v4361
  let c0_i32_2970 : BitVec 32 := 0#32
  let v4364 : BitVec 1 := Scalar.cmpi .slt v4362 c0_i32_2970
  let c0_i32_2971 : BitVec 32 := 0#32
  let v4365 : BitVec 1 := Scalar.cmpi .slt v4361 c0_i32_2971
  let v4366 : BitVec 1 := Scalar.xori v4364 v4365
  let c0_i32_2969 : BitVec 32 := 0#32
  let v4363 : BitVec 1 := Scalar.cmpi .ne v4362 c0_i32_2969
  let v4367 : BitVec 1 := Scalar.andi v4366 v4363
  let v4368 : BitVec 32 := Scalar.addi v4362 v4361
  let v4369 : BitVec 32 := Scalar.select v4367 v4368 v4362
  let c4_i32_2986 : BitVec 32 := 4#32
  let v4384 : BitVec 32 := Scalar.muli v4369 c4_i32_2986
  let v4385 : BitVec 32 := Scalar.addi v4383 v4384
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_2972 : BitVec 32 := 2#32
  let v4370 : BitVec 32 := Scalar.muli v25 c2_i32_2972
  let c2_i32_2973 : BitVec 32 := 2#32
  let c0_i32_2974 : BitVec 32 := 0#32
  let v4371 : BitVec 1 := Scalar.cmpi .eq c2_i32_2973 c0_i32_2974
  let c1_i32_2975 : BitVec 32 := 1#32
  let v4372 : BitVec 32 := Scalar.select v4371 c1_i32_2975 c2_i32_2973
  let v4373 : BitVec 32 := Scalar.remsi v4323 v4372
  let c0_i32_2977 : BitVec 32 := 0#32
  let v4375 : BitVec 1 := Scalar.cmpi .slt v4373 c0_i32_2977
  let c0_i32_2978 : BitVec 32 := 0#32
  let v4376 : BitVec 1 := Scalar.cmpi .slt v4372 c0_i32_2978
  let v4377 : BitVec 1 := Scalar.xori v4375 v4376
  let c0_i32_2976 : BitVec 32 := 0#32
  let v4374 : BitVec 1 := Scalar.cmpi .ne v4373 c0_i32_2976
  let v4378 : BitVec 1 := Scalar.andi v4377 v4374
  let v4379 : BitVec 32 := Scalar.addi v4373 v4372
  let v4380 : BitVec 32 := Scalar.select v4378 v4379 v4373
  let v4381 : BitVec 32 := Scalar.addi v4370 v4380
  let c1_i32_2987 : BitVec 32 := 1#32
  let v4386 : BitVec 32 := Scalar.muli v4381 c1_i32_2987
  let v4387 : BitVec 32 := Scalar.addi v4385 v4386
  v4387.toNat
def k0_dev52 (d0 : Dev nD) : Nat :=
  let c0_i32_3033 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_2991 : BitVec 32 := 5#32
  let v4395 : BitVec 32 := Scalar.addi v39 c5_i32_2991
  let c8_i32_2992 : BitVec 32 := 8#32
  let c0_i32_2993 : BitVec 32 := 0#32
  let v4396 : BitVec 1 := Scalar.cmpi .eq c8_i32_2992 c0_i32_2993
  let c1_i32_2994 : BitVec 32 := 1#32
  let v4397 : BitVec 32 := Scalar.select v4396 c1_i32_2994 c8_i32_2992
  let v4398 : BitVec 32 := Scalar.remsi v4395 v4397
  let c0_i32_2996 : BitVec 32 := 0#32
  let v4400 : BitVec 1 := Scalar.cmpi .slt v4398 c0_i32_2996
  let c0_i32_2997 : BitVec 32 := 0#32
  let v4401 : BitVec 1 := Scalar.cmpi .slt v4397 c0_i32_2997
  let v4402 : BitVec 1 := Scalar.xori v4400 v4401
  let c0_i32_2995 : BitVec 32 := 0#32
  let v4399 : BitVec 1 := Scalar.cmpi .ne v4398 c0_i32_2995
  let v4403 : BitVec 1 := Scalar.andi v4402 v4399
  let v4404 : BitVec 32 := Scalar.addi v4398 v4397
  let v4405 : BitVec 32 := Scalar.select v4403 v4404 v4398
  let c0_i32_3001 : BitVec 32 := 0#32
  let v4409 : BitVec 1 := Scalar.cmpi .sgt v4405 c0_i32_3001
  let v4410 : BitVec 32 := Scalar.extui v4409
  let c0_i32_3002 : BitVec 32 := 0#32
  let v4411 : BitVec 1 := Scalar.cmpi .slt v4405 c0_i32_3002
  let v4412 : BitVec 32 := Scalar.extui v4411
  let v4413 : BitVec 32 := Scalar.subi v4410 v4412
  let c4_i32_3000 : BitVec 32 := 4#32
  let c0_i32_3003 : BitVec 32 := 0#32
  let v4414 : BitVec 1 := Scalar.cmpi .sgt c4_i32_3000 c0_i32_3003
  let v4415 : BitVec 32 := Scalar.extui v4414
  let c0_i32_3004 : BitVec 32 := 0#32
  let v4416 : BitVec 1 := Scalar.cmpi .slt c4_i32_3000 c0_i32_3004
  let v4417 : BitVec 32 := Scalar.extui v4416
  let v4418 : BitVec 32 := Scalar.subi v4415 v4417
  let v4419 : BitVec 1 := Scalar.cmpi .ne v4413 v4418
  let v4420 : BitVec 32 := Scalar.remsi v4405 c4_i32_3000
  let c0_i32_3005 : BitVec 32 := 0#32
  let v4421 : BitVec 1 := Scalar.cmpi .ne v4420 c0_i32_3005
  let v4422 : BitVec 1 := Scalar.andi v4419 v4421
  let v4408 : BitVec 32 := Scalar.divsi v4405 c4_i32_3000
  let c1_i32_3006 : BitVec 32 := 1#32
  let v4423 : BitVec 32 := Scalar.subi v4408 c1_i32_3006
  let v4424 : BitVec 32 := Scalar.select v4422 v4423 v4408
  let c8_i32_3032 : BitVec 32 := 8#32
  let v4464 : BitVec 32 := Scalar.muli v4424 c8_i32_3032
  let v4465 : BitVec 32 := Scalar.addi c0_i32_3033 v4464
  let c0_i32_3008 : BitVec 32 := 0#32
  let v4426 : BitVec 1 := Scalar.cmpi .sgt v4405 c0_i32_3008
  let v4427 : BitVec 32 := Scalar.extui v4426
  let c0_i32_3009 : BitVec 32 := 0#32
  let v4428 : BitVec 1 := Scalar.cmpi .slt v4405 c0_i32_3009
  let v4429 : BitVec 32 := Scalar.extui v4428
  let v4430 : BitVec 32 := Scalar.subi v4427 v4429
  let c2_i32_3007 : BitVec 32 := 2#32
  let c0_i32_3010 : BitVec 32 := 0#32
  let v4431 : BitVec 1 := Scalar.cmpi .sgt c2_i32_3007 c0_i32_3010
  let v4432 : BitVec 32 := Scalar.extui v4431
  let c0_i32_3011 : BitVec 32 := 0#32
  let v4433 : BitVec 1 := Scalar.cmpi .slt c2_i32_3007 c0_i32_3011
  let v4434 : BitVec 32 := Scalar.extui v4433
  let v4435 : BitVec 32 := Scalar.subi v4432 v4434
  let v4436 : BitVec 1 := Scalar.cmpi .ne v4430 v4435
  let v4437 : BitVec 32 := Scalar.remsi v4405 c2_i32_3007
  let c0_i32_3012 : BitVec 32 := 0#32
  let v4438 : BitVec 1 := Scalar.cmpi .ne v4437 c0_i32_3012
  let v4439 : BitVec 1 := Scalar.andi v4436 v4438
  let v4425 : BitVec 32 := Scalar.divsi v4405 c2_i32_3007
  let c1_i32_3013 : BitVec 32 := 1#32
  let v4440 : BitVec 32 := Scalar.subi v4425 c1_i32_3013
  let v4441 : BitVec 32 := Scalar.select v4439 v4440 v4425
  let c2_i32_3014 : BitVec 32 := 2#32
  let c0_i32_3015 : BitVec 32 := 0#32
  let v4442 : BitVec 1 := Scalar.cmpi .eq c2_i32_3014 c0_i32_3015
  let c1_i32_3016 : BitVec 32 := 1#32
  let v4443 : BitVec 32 := Scalar.select v4442 c1_i32_3016 c2_i32_3014
  let v4444 : BitVec 32 := Scalar.remsi v4441 v4443
  let c0_i32_3018 : BitVec 32 := 0#32
  let v4446 : BitVec 1 := Scalar.cmpi .slt v4444 c0_i32_3018
  let c0_i32_3019 : BitVec 32 := 0#32
  let v4447 : BitVec 1 := Scalar.cmpi .slt v4443 c0_i32_3019
  let v4448 : BitVec 1 := Scalar.xori v4446 v4447
  let c0_i32_3017 : BitVec 32 := 0#32
  let v4445 : BitVec 1 := Scalar.cmpi .ne v4444 c0_i32_3017
  let v4449 : BitVec 1 := Scalar.andi v4448 v4445
  let v4450 : BitVec 32 := Scalar.addi v4444 v4443
  let v4451 : BitVec 32 := Scalar.select v4449 v4450 v4444
  let c4_i32_3034 : BitVec 32 := 4#32
  let v4466 : BitVec 32 := Scalar.muli v4451 c4_i32_3034
  let v4467 : BitVec 32 := Scalar.addi v4465 v4466
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3020 : BitVec 32 := 2#32
  let v4452 : BitVec 32 := Scalar.muli v25 c2_i32_3020
  let c2_i32_3021 : BitVec 32 := 2#32
  let c0_i32_3022 : BitVec 32 := 0#32
  let v4453 : BitVec 1 := Scalar.cmpi .eq c2_i32_3021 c0_i32_3022
  let c1_i32_3023 : BitVec 32 := 1#32
  let v4454 : BitVec 32 := Scalar.select v4453 c1_i32_3023 c2_i32_3021
  let v4455 : BitVec 32 := Scalar.remsi v4405 v4454
  let c0_i32_3025 : BitVec 32 := 0#32
  let v4457 : BitVec 1 := Scalar.cmpi .slt v4455 c0_i32_3025
  let c0_i32_3026 : BitVec 32 := 0#32
  let v4458 : BitVec 1 := Scalar.cmpi .slt v4454 c0_i32_3026
  let v4459 : BitVec 1 := Scalar.xori v4457 v4458
  let c0_i32_3024 : BitVec 32 := 0#32
  let v4456 : BitVec 1 := Scalar.cmpi .ne v4455 c0_i32_3024
  let v4460 : BitVec 1 := Scalar.andi v4459 v4456
  let v4461 : BitVec 32 := Scalar.addi v4455 v4454
  let v4462 : BitVec 32 := Scalar.select v4460 v4461 v4455
  let v4463 : BitVec 32 := Scalar.addi v4452 v4462
  let c1_i32_3035 : BitVec 32 := 1#32
  let v4468 : BitVec 32 := Scalar.muli v4463 c1_i32_3035
  let v4469 : BitVec 32 := Scalar.addi v4467 v4468
  v4469.toNat
def k0_dev53 (d0 : Dev nD) : Nat :=
  let c0_i32_3081 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_3039 : BitVec 32 := 6#32
  let v4477 : BitVec 32 := Scalar.addi v39 c6_i32_3039
  let c8_i32_3040 : BitVec 32 := 8#32
  let c0_i32_3041 : BitVec 32 := 0#32
  let v4478 : BitVec 1 := Scalar.cmpi .eq c8_i32_3040 c0_i32_3041
  let c1_i32_3042 : BitVec 32 := 1#32
  let v4479 : BitVec 32 := Scalar.select v4478 c1_i32_3042 c8_i32_3040
  let v4480 : BitVec 32 := Scalar.remsi v4477 v4479
  let c0_i32_3044 : BitVec 32 := 0#32
  let v4482 : BitVec 1 := Scalar.cmpi .slt v4480 c0_i32_3044
  let c0_i32_3045 : BitVec 32 := 0#32
  let v4483 : BitVec 1 := Scalar.cmpi .slt v4479 c0_i32_3045
  let v4484 : BitVec 1 := Scalar.xori v4482 v4483
  let c0_i32_3043 : BitVec 32 := 0#32
  let v4481 : BitVec 1 := Scalar.cmpi .ne v4480 c0_i32_3043
  let v4485 : BitVec 1 := Scalar.andi v4484 v4481
  let v4486 : BitVec 32 := Scalar.addi v4480 v4479
  let v4487 : BitVec 32 := Scalar.select v4485 v4486 v4480
  let c0_i32_3049 : BitVec 32 := 0#32
  let v4491 : BitVec 1 := Scalar.cmpi .sgt v4487 c0_i32_3049
  let v4492 : BitVec 32 := Scalar.extui v4491
  let c0_i32_3050 : BitVec 32 := 0#32
  let v4493 : BitVec 1 := Scalar.cmpi .slt v4487 c0_i32_3050
  let v4494 : BitVec 32 := Scalar.extui v4493
  let v4495 : BitVec 32 := Scalar.subi v4492 v4494
  let c4_i32_3048 : BitVec 32 := 4#32
  let c0_i32_3051 : BitVec 32 := 0#32
  let v4496 : BitVec 1 := Scalar.cmpi .sgt c4_i32_3048 c0_i32_3051
  let v4497 : BitVec 32 := Scalar.extui v4496
  let c0_i32_3052 : BitVec 32 := 0#32
  let v4498 : BitVec 1 := Scalar.cmpi .slt c4_i32_3048 c0_i32_3052
  let v4499 : BitVec 32 := Scalar.extui v4498
  let v4500 : BitVec 32 := Scalar.subi v4497 v4499
  let v4501 : BitVec 1 := Scalar.cmpi .ne v4495 v4500
  let v4502 : BitVec 32 := Scalar.remsi v4487 c4_i32_3048
  let c0_i32_3053 : BitVec 32 := 0#32
  let v4503 : BitVec 1 := Scalar.cmpi .ne v4502 c0_i32_3053
  let v4504 : BitVec 1 := Scalar.andi v4501 v4503
  let v4490 : BitVec 32 := Scalar.divsi v4487 c4_i32_3048
  let c1_i32_3054 : BitVec 32 := 1#32
  let v4505 : BitVec 32 := Scalar.subi v4490 c1_i32_3054
  let v4506 : BitVec 32 := Scalar.select v4504 v4505 v4490
  let c8_i32_3080 : BitVec 32 := 8#32
  let v4546 : BitVec 32 := Scalar.muli v4506 c8_i32_3080
  let v4547 : BitVec 32 := Scalar.addi c0_i32_3081 v4546
  let c0_i32_3056 : BitVec 32 := 0#32
  let v4508 : BitVec 1 := Scalar.cmpi .sgt v4487 c0_i32_3056
  let v4509 : BitVec 32 := Scalar.extui v4508
  let c0_i32_3057 : BitVec 32 := 0#32
  let v4510 : BitVec 1 := Scalar.cmpi .slt v4487 c0_i32_3057
  let v4511 : BitVec 32 := Scalar.extui v4510
  let v4512 : BitVec 32 := Scalar.subi v4509 v4511
  let c2_i32_3055 : BitVec 32 := 2#32
  let c0_i32_3058 : BitVec 32 := 0#32
  let v4513 : BitVec 1 := Scalar.cmpi .sgt c2_i32_3055 c0_i32_3058
  let v4514 : BitVec 32 := Scalar.extui v4513
  let c0_i32_3059 : BitVec 32 := 0#32
  let v4515 : BitVec 1 := Scalar.cmpi .slt c2_i32_3055 c0_i32_3059
  let v4516 : BitVec 32 := Scalar.extui v4515
  let v4517 : BitVec 32 := Scalar.subi v4514 v4516
  let v4518 : BitVec 1 := Scalar.cmpi .ne v4512 v4517
  let v4519 : BitVec 32 := Scalar.remsi v4487 c2_i32_3055
  let c0_i32_3060 : BitVec 32 := 0#32
  let v4520 : BitVec 1 := Scalar.cmpi .ne v4519 c0_i32_3060
  let v4521 : BitVec 1 := Scalar.andi v4518 v4520
  let v4507 : BitVec 32 := Scalar.divsi v4487 c2_i32_3055
  let c1_i32_3061 : BitVec 32 := 1#32
  let v4522 : BitVec 32 := Scalar.subi v4507 c1_i32_3061
  let v4523 : BitVec 32 := Scalar.select v4521 v4522 v4507
  let c2_i32_3062 : BitVec 32 := 2#32
  let c0_i32_3063 : BitVec 32 := 0#32
  let v4524 : BitVec 1 := Scalar.cmpi .eq c2_i32_3062 c0_i32_3063
  let c1_i32_3064 : BitVec 32 := 1#32
  let v4525 : BitVec 32 := Scalar.select v4524 c1_i32_3064 c2_i32_3062
  let v4526 : BitVec 32 := Scalar.remsi v4523 v4525
  let c0_i32_3066 : BitVec 32 := 0#32
  let v4528 : BitVec 1 := Scalar.cmpi .slt v4526 c0_i32_3066
  let c0_i32_3067 : BitVec 32 := 0#32
  let v4529 : BitVec 1 := Scalar.cmpi .slt v4525 c0_i32_3067
  let v4530 : BitVec 1 := Scalar.xori v4528 v4529
  let c0_i32_3065 : BitVec 32 := 0#32
  let v4527 : BitVec 1 := Scalar.cmpi .ne v4526 c0_i32_3065
  let v4531 : BitVec 1 := Scalar.andi v4530 v4527
  let v4532 : BitVec 32 := Scalar.addi v4526 v4525
  let v4533 : BitVec 32 := Scalar.select v4531 v4532 v4526
  let c4_i32_3082 : BitVec 32 := 4#32
  let v4548 : BitVec 32 := Scalar.muli v4533 c4_i32_3082
  let v4549 : BitVec 32 := Scalar.addi v4547 v4548
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3068 : BitVec 32 := 2#32
  let v4534 : BitVec 32 := Scalar.muli v25 c2_i32_3068
  let c2_i32_3069 : BitVec 32 := 2#32
  let c0_i32_3070 : BitVec 32 := 0#32
  let v4535 : BitVec 1 := Scalar.cmpi .eq c2_i32_3069 c0_i32_3070
  let c1_i32_3071 : BitVec 32 := 1#32
  let v4536 : BitVec 32 := Scalar.select v4535 c1_i32_3071 c2_i32_3069
  let v4537 : BitVec 32 := Scalar.remsi v4487 v4536
  let c0_i32_3073 : BitVec 32 := 0#32
  let v4539 : BitVec 1 := Scalar.cmpi .slt v4537 c0_i32_3073
  let c0_i32_3074 : BitVec 32 := 0#32
  let v4540 : BitVec 1 := Scalar.cmpi .slt v4536 c0_i32_3074
  let v4541 : BitVec 1 := Scalar.xori v4539 v4540
  let c0_i32_3072 : BitVec 32 := 0#32
  let v4538 : BitVec 1 := Scalar.cmpi .ne v4537 c0_i32_3072
  let v4542 : BitVec 1 := Scalar.andi v4541 v4538
  let v4543 : BitVec 32 := Scalar.addi v4537 v4536
  let v4544 : BitVec 32 := Scalar.select v4542 v4543 v4537
  let v4545 : BitVec 32 := Scalar.addi v4534 v4544
  let c1_i32_3083 : BitVec 32 := 1#32
  let v4550 : BitVec 32 := Scalar.muli v4545 c1_i32_3083
  let v4551 : BitVec 32 := Scalar.addi v4549 v4550
  v4551.toNat
def k0_dev54 (d0 : Dev nD) : Nat :=
  let c0_i32_3129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_3087 : BitVec 32 := 7#32
  let v4559 : BitVec 32 := Scalar.addi v39 c7_i32_3087
  let c8_i32_3088 : BitVec 32 := 8#32
  let c0_i32_3089 : BitVec 32 := 0#32
  let v4560 : BitVec 1 := Scalar.cmpi .eq c8_i32_3088 c0_i32_3089
  let c1_i32_3090 : BitVec 32 := 1#32
  let v4561 : BitVec 32 := Scalar.select v4560 c1_i32_3090 c8_i32_3088
  let v4562 : BitVec 32 := Scalar.remsi v4559 v4561
  let c0_i32_3092 : BitVec 32 := 0#32
  let v4564 : BitVec 1 := Scalar.cmpi .slt v4562 c0_i32_3092
  let c0_i32_3093 : BitVec 32 := 0#32
  let v4565 : BitVec 1 := Scalar.cmpi .slt v4561 c0_i32_3093
  let v4566 : BitVec 1 := Scalar.xori v4564 v4565
  let c0_i32_3091 : BitVec 32 := 0#32
  let v4563 : BitVec 1 := Scalar.cmpi .ne v4562 c0_i32_3091
  let v4567 : BitVec 1 := Scalar.andi v4566 v4563
  let v4568 : BitVec 32 := Scalar.addi v4562 v4561
  let v4569 : BitVec 32 := Scalar.select v4567 v4568 v4562
  let c0_i32_3097 : BitVec 32 := 0#32
  let v4573 : BitVec 1 := Scalar.cmpi .sgt v4569 c0_i32_3097
  let v4574 : BitVec 32 := Scalar.extui v4573
  let c0_i32_3098 : BitVec 32 := 0#32
  let v4575 : BitVec 1 := Scalar.cmpi .slt v4569 c0_i32_3098
  let v4576 : BitVec 32 := Scalar.extui v4575
  let v4577 : BitVec 32 := Scalar.subi v4574 v4576
  let c4_i32_3096 : BitVec 32 := 4#32
  let c0_i32_3099 : BitVec 32 := 0#32
  let v4578 : BitVec 1 := Scalar.cmpi .sgt c4_i32_3096 c0_i32_3099
  let v4579 : BitVec 32 := Scalar.extui v4578
  let c0_i32_3100 : BitVec 32 := 0#32
  let v4580 : BitVec 1 := Scalar.cmpi .slt c4_i32_3096 c0_i32_3100
  let v4581 : BitVec 32 := Scalar.extui v4580
  let v4582 : BitVec 32 := Scalar.subi v4579 v4581
  let v4583 : BitVec 1 := Scalar.cmpi .ne v4577 v4582
  let v4584 : BitVec 32 := Scalar.remsi v4569 c4_i32_3096
  let c0_i32_3101 : BitVec 32 := 0#32
  let v4585 : BitVec 1 := Scalar.cmpi .ne v4584 c0_i32_3101
  let v4586 : BitVec 1 := Scalar.andi v4583 v4585
  let v4572 : BitVec 32 := Scalar.divsi v4569 c4_i32_3096
  let c1_i32_3102 : BitVec 32 := 1#32
  let v4587 : BitVec 32 := Scalar.subi v4572 c1_i32_3102
  let v4588 : BitVec 32 := Scalar.select v4586 v4587 v4572
  let c8_i32_3128 : BitVec 32 := 8#32
  let v4628 : BitVec 32 := Scalar.muli v4588 c8_i32_3128
  let v4629 : BitVec 32 := Scalar.addi c0_i32_3129 v4628
  let c0_i32_3104 : BitVec 32 := 0#32
  let v4590 : BitVec 1 := Scalar.cmpi .sgt v4569 c0_i32_3104
  let v4591 : BitVec 32 := Scalar.extui v4590
  let c0_i32_3105 : BitVec 32 := 0#32
  let v4592 : BitVec 1 := Scalar.cmpi .slt v4569 c0_i32_3105
  let v4593 : BitVec 32 := Scalar.extui v4592
  let v4594 : BitVec 32 := Scalar.subi v4591 v4593
  let c2_i32_3103 : BitVec 32 := 2#32
  let c0_i32_3106 : BitVec 32 := 0#32
  let v4595 : BitVec 1 := Scalar.cmpi .sgt c2_i32_3103 c0_i32_3106
  let v4596 : BitVec 32 := Scalar.extui v4595
  let c0_i32_3107 : BitVec 32 := 0#32
  let v4597 : BitVec 1 := Scalar.cmpi .slt c2_i32_3103 c0_i32_3107
  let v4598 : BitVec 32 := Scalar.extui v4597
  let v4599 : BitVec 32 := Scalar.subi v4596 v4598
  let v4600 : BitVec 1 := Scalar.cmpi .ne v4594 v4599
  let v4601 : BitVec 32 := Scalar.remsi v4569 c2_i32_3103
  let c0_i32_3108 : BitVec 32 := 0#32
  let v4602 : BitVec 1 := Scalar.cmpi .ne v4601 c0_i32_3108
  let v4603 : BitVec 1 := Scalar.andi v4600 v4602
  let v4589 : BitVec 32 := Scalar.divsi v4569 c2_i32_3103
  let c1_i32_3109 : BitVec 32 := 1#32
  let v4604 : BitVec 32 := Scalar.subi v4589 c1_i32_3109
  let v4605 : BitVec 32 := Scalar.select v4603 v4604 v4589
  let c2_i32_3110 : BitVec 32 := 2#32
  let c0_i32_3111 : BitVec 32 := 0#32
  let v4606 : BitVec 1 := Scalar.cmpi .eq c2_i32_3110 c0_i32_3111
  let c1_i32_3112 : BitVec 32 := 1#32
  let v4607 : BitVec 32 := Scalar.select v4606 c1_i32_3112 c2_i32_3110
  let v4608 : BitVec 32 := Scalar.remsi v4605 v4607
  let c0_i32_3114 : BitVec 32 := 0#32
  let v4610 : BitVec 1 := Scalar.cmpi .slt v4608 c0_i32_3114
  let c0_i32_3115 : BitVec 32 := 0#32
  let v4611 : BitVec 1 := Scalar.cmpi .slt v4607 c0_i32_3115
  let v4612 : BitVec 1 := Scalar.xori v4610 v4611
  let c0_i32_3113 : BitVec 32 := 0#32
  let v4609 : BitVec 1 := Scalar.cmpi .ne v4608 c0_i32_3113
  let v4613 : BitVec 1 := Scalar.andi v4612 v4609
  let v4614 : BitVec 32 := Scalar.addi v4608 v4607
  let v4615 : BitVec 32 := Scalar.select v4613 v4614 v4608
  let c4_i32_3130 : BitVec 32 := 4#32
  let v4630 : BitVec 32 := Scalar.muli v4615 c4_i32_3130
  let v4631 : BitVec 32 := Scalar.addi v4629 v4630
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3116 : BitVec 32 := 2#32
  let v4616 : BitVec 32 := Scalar.muli v25 c2_i32_3116
  let c2_i32_3117 : BitVec 32 := 2#32
  let c0_i32_3118 : BitVec 32 := 0#32
  let v4617 : BitVec 1 := Scalar.cmpi .eq c2_i32_3117 c0_i32_3118
  let c1_i32_3119 : BitVec 32 := 1#32
  let v4618 : BitVec 32 := Scalar.select v4617 c1_i32_3119 c2_i32_3117
  let v4619 : BitVec 32 := Scalar.remsi v4569 v4618
  let c0_i32_3121 : BitVec 32 := 0#32
  let v4621 : BitVec 1 := Scalar.cmpi .slt v4619 c0_i32_3121
  let c0_i32_3122 : BitVec 32 := 0#32
  let v4622 : BitVec 1 := Scalar.cmpi .slt v4618 c0_i32_3122
  let v4623 : BitVec 1 := Scalar.xori v4621 v4622
  let c0_i32_3120 : BitVec 32 := 0#32
  let v4620 : BitVec 1 := Scalar.cmpi .ne v4619 c0_i32_3120
  let v4624 : BitVec 1 := Scalar.andi v4623 v4620
  let v4625 : BitVec 32 := Scalar.addi v4619 v4618
  let v4626 : BitVec 32 := Scalar.select v4624 v4625 v4619
  let v4627 : BitVec 32 := Scalar.addi v4616 v4626
  let c1_i32_3131 : BitVec 32 := 1#32
  let v4632 : BitVec 32 := Scalar.muli v4627 c1_i32_3131
  let v4633 : BitVec 32 := Scalar.addi v4631 v4632
  v4633.toNat
def k0_dev55 (d0 : Dev nD) : Nat :=
  let c0_i32_3210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_3168 : BitVec 32 := 1#32
  let v4673 : BitVec 32 := Scalar.addi v39 c1_i32_3168
  let c8_i32_3169 : BitVec 32 := 8#32
  let c0_i32_3170 : BitVec 32 := 0#32
  let v4674 : BitVec 1 := Scalar.cmpi .eq c8_i32_3169 c0_i32_3170
  let c1_i32_3171 : BitVec 32 := 1#32
  let v4675 : BitVec 32 := Scalar.select v4674 c1_i32_3171 c8_i32_3169
  let v4676 : BitVec 32 := Scalar.remsi v4673 v4675
  let c0_i32_3173 : BitVec 32 := 0#32
  let v4678 : BitVec 1 := Scalar.cmpi .slt v4676 c0_i32_3173
  let c0_i32_3174 : BitVec 32 := 0#32
  let v4679 : BitVec 1 := Scalar.cmpi .slt v4675 c0_i32_3174
  let v4680 : BitVec 1 := Scalar.xori v4678 v4679
  let c0_i32_3172 : BitVec 32 := 0#32
  let v4677 : BitVec 1 := Scalar.cmpi .ne v4676 c0_i32_3172
  let v4681 : BitVec 1 := Scalar.andi v4680 v4677
  let v4682 : BitVec 32 := Scalar.addi v4676 v4675
  let v4683 : BitVec 32 := Scalar.select v4681 v4682 v4676
  let c0_i32_3178 : BitVec 32 := 0#32
  let v4687 : BitVec 1 := Scalar.cmpi .sgt v4683 c0_i32_3178
  let v4688 : BitVec 32 := Scalar.extui v4687
  let c0_i32_3179 : BitVec 32 := 0#32
  let v4689 : BitVec 1 := Scalar.cmpi .slt v4683 c0_i32_3179
  let v4690 : BitVec 32 := Scalar.extui v4689
  let v4691 : BitVec 32 := Scalar.subi v4688 v4690
  let c4_i32_3177 : BitVec 32 := 4#32
  let c0_i32_3180 : BitVec 32 := 0#32
  let v4692 : BitVec 1 := Scalar.cmpi .sgt c4_i32_3177 c0_i32_3180
  let v4693 : BitVec 32 := Scalar.extui v4692
  let c0_i32_3181 : BitVec 32 := 0#32
  let v4694 : BitVec 1 := Scalar.cmpi .slt c4_i32_3177 c0_i32_3181
  let v4695 : BitVec 32 := Scalar.extui v4694
  let v4696 : BitVec 32 := Scalar.subi v4693 v4695
  let v4697 : BitVec 1 := Scalar.cmpi .ne v4691 v4696
  let v4698 : BitVec 32 := Scalar.remsi v4683 c4_i32_3177
  let c0_i32_3182 : BitVec 32 := 0#32
  let v4699 : BitVec 1 := Scalar.cmpi .ne v4698 c0_i32_3182
  let v4700 : BitVec 1 := Scalar.andi v4697 v4699
  let v4686 : BitVec 32 := Scalar.divsi v4683 c4_i32_3177
  let c1_i32_3183 : BitVec 32 := 1#32
  let v4701 : BitVec 32 := Scalar.subi v4686 c1_i32_3183
  let v4702 : BitVec 32 := Scalar.select v4700 v4701 v4686
  let c8_i32_3209 : BitVec 32 := 8#32
  let v4742 : BitVec 32 := Scalar.muli v4702 c8_i32_3209
  let v4743 : BitVec 32 := Scalar.addi c0_i32_3210 v4742
  let c0_i32_3185 : BitVec 32 := 0#32
  let v4704 : BitVec 1 := Scalar.cmpi .sgt v4683 c0_i32_3185
  let v4705 : BitVec 32 := Scalar.extui v4704
  let c0_i32_3186 : BitVec 32 := 0#32
  let v4706 : BitVec 1 := Scalar.cmpi .slt v4683 c0_i32_3186
  let v4707 : BitVec 32 := Scalar.extui v4706
  let v4708 : BitVec 32 := Scalar.subi v4705 v4707
  let c2_i32_3184 : BitVec 32 := 2#32
  let c0_i32_3187 : BitVec 32 := 0#32
  let v4709 : BitVec 1 := Scalar.cmpi .sgt c2_i32_3184 c0_i32_3187
  let v4710 : BitVec 32 := Scalar.extui v4709
  let c0_i32_3188 : BitVec 32 := 0#32
  let v4711 : BitVec 1 := Scalar.cmpi .slt c2_i32_3184 c0_i32_3188
  let v4712 : BitVec 32 := Scalar.extui v4711
  let v4713 : BitVec 32 := Scalar.subi v4710 v4712
  let v4714 : BitVec 1 := Scalar.cmpi .ne v4708 v4713
  let v4715 : BitVec 32 := Scalar.remsi v4683 c2_i32_3184
  let c0_i32_3189 : BitVec 32 := 0#32
  let v4716 : BitVec 1 := Scalar.cmpi .ne v4715 c0_i32_3189
  let v4717 : BitVec 1 := Scalar.andi v4714 v4716
  let v4703 : BitVec 32 := Scalar.divsi v4683 c2_i32_3184
  let c1_i32_3190 : BitVec 32 := 1#32
  let v4718 : BitVec 32 := Scalar.subi v4703 c1_i32_3190
  let v4719 : BitVec 32 := Scalar.select v4717 v4718 v4703
  let c2_i32_3191 : BitVec 32 := 2#32
  let c0_i32_3192 : BitVec 32 := 0#32
  let v4720 : BitVec 1 := Scalar.cmpi .eq c2_i32_3191 c0_i32_3192
  let c1_i32_3193 : BitVec 32 := 1#32
  let v4721 : BitVec 32 := Scalar.select v4720 c1_i32_3193 c2_i32_3191
  let v4722 : BitVec 32 := Scalar.remsi v4719 v4721
  let c0_i32_3195 : BitVec 32 := 0#32
  let v4724 : BitVec 1 := Scalar.cmpi .slt v4722 c0_i32_3195
  let c0_i32_3196 : BitVec 32 := 0#32
  let v4725 : BitVec 1 := Scalar.cmpi .slt v4721 c0_i32_3196
  let v4726 : BitVec 1 := Scalar.xori v4724 v4725
  let c0_i32_3194 : BitVec 32 := 0#32
  let v4723 : BitVec 1 := Scalar.cmpi .ne v4722 c0_i32_3194
  let v4727 : BitVec 1 := Scalar.andi v4726 v4723
  let v4728 : BitVec 32 := Scalar.addi v4722 v4721
  let v4729 : BitVec 32 := Scalar.select v4727 v4728 v4722
  let c4_i32_3211 : BitVec 32 := 4#32
  let v4744 : BitVec 32 := Scalar.muli v4729 c4_i32_3211
  let v4745 : BitVec 32 := Scalar.addi v4743 v4744
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3197 : BitVec 32 := 2#32
  let v4730 : BitVec 32 := Scalar.muli v25 c2_i32_3197
  let c2_i32_3198 : BitVec 32 := 2#32
  let c0_i32_3199 : BitVec 32 := 0#32
  let v4731 : BitVec 1 := Scalar.cmpi .eq c2_i32_3198 c0_i32_3199
  let c1_i32_3200 : BitVec 32 := 1#32
  let v4732 : BitVec 32 := Scalar.select v4731 c1_i32_3200 c2_i32_3198
  let v4733 : BitVec 32 := Scalar.remsi v4683 v4732
  let c0_i32_3202 : BitVec 32 := 0#32
  let v4735 : BitVec 1 := Scalar.cmpi .slt v4733 c0_i32_3202
  let c0_i32_3203 : BitVec 32 := 0#32
  let v4736 : BitVec 1 := Scalar.cmpi .slt v4732 c0_i32_3203
  let v4737 : BitVec 1 := Scalar.xori v4735 v4736
  let c0_i32_3201 : BitVec 32 := 0#32
  let v4734 : BitVec 1 := Scalar.cmpi .ne v4733 c0_i32_3201
  let v4738 : BitVec 1 := Scalar.andi v4737 v4734
  let v4739 : BitVec 32 := Scalar.addi v4733 v4732
  let v4740 : BitVec 32 := Scalar.select v4738 v4739 v4733
  let v4741 : BitVec 32 := Scalar.addi v4730 v4740
  let c1_i32_3212 : BitVec 32 := 1#32
  let v4746 : BitVec 32 := Scalar.muli v4741 c1_i32_3212
  let v4747 : BitVec 32 := Scalar.addi v4745 v4746
  v4747.toNat
def k0_dev56 (d0 : Dev nD) : Nat :=
  let c0_i32_3258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_3216 : BitVec 32 := 2#32
  let v4755 : BitVec 32 := Scalar.addi v39 c2_i32_3216
  let c8_i32_3217 : BitVec 32 := 8#32
  let c0_i32_3218 : BitVec 32 := 0#32
  let v4756 : BitVec 1 := Scalar.cmpi .eq c8_i32_3217 c0_i32_3218
  let c1_i32_3219 : BitVec 32 := 1#32
  let v4757 : BitVec 32 := Scalar.select v4756 c1_i32_3219 c8_i32_3217
  let v4758 : BitVec 32 := Scalar.remsi v4755 v4757
  let c0_i32_3221 : BitVec 32 := 0#32
  let v4760 : BitVec 1 := Scalar.cmpi .slt v4758 c0_i32_3221
  let c0_i32_3222 : BitVec 32 := 0#32
  let v4761 : BitVec 1 := Scalar.cmpi .slt v4757 c0_i32_3222
  let v4762 : BitVec 1 := Scalar.xori v4760 v4761
  let c0_i32_3220 : BitVec 32 := 0#32
  let v4759 : BitVec 1 := Scalar.cmpi .ne v4758 c0_i32_3220
  let v4763 : BitVec 1 := Scalar.andi v4762 v4759
  let v4764 : BitVec 32 := Scalar.addi v4758 v4757
  let v4765 : BitVec 32 := Scalar.select v4763 v4764 v4758
  let c0_i32_3226 : BitVec 32 := 0#32
  let v4769 : BitVec 1 := Scalar.cmpi .sgt v4765 c0_i32_3226
  let v4770 : BitVec 32 := Scalar.extui v4769
  let c0_i32_3227 : BitVec 32 := 0#32
  let v4771 : BitVec 1 := Scalar.cmpi .slt v4765 c0_i32_3227
  let v4772 : BitVec 32 := Scalar.extui v4771
  let v4773 : BitVec 32 := Scalar.subi v4770 v4772
  let c4_i32_3225 : BitVec 32 := 4#32
  let c0_i32_3228 : BitVec 32 := 0#32
  let v4774 : BitVec 1 := Scalar.cmpi .sgt c4_i32_3225 c0_i32_3228
  let v4775 : BitVec 32 := Scalar.extui v4774
  let c0_i32_3229 : BitVec 32 := 0#32
  let v4776 : BitVec 1 := Scalar.cmpi .slt c4_i32_3225 c0_i32_3229
  let v4777 : BitVec 32 := Scalar.extui v4776
  let v4778 : BitVec 32 := Scalar.subi v4775 v4777
  let v4779 : BitVec 1 := Scalar.cmpi .ne v4773 v4778
  let v4780 : BitVec 32 := Scalar.remsi v4765 c4_i32_3225
  let c0_i32_3230 : BitVec 32 := 0#32
  let v4781 : BitVec 1 := Scalar.cmpi .ne v4780 c0_i32_3230
  let v4782 : BitVec 1 := Scalar.andi v4779 v4781
  let v4768 : BitVec 32 := Scalar.divsi v4765 c4_i32_3225
  let c1_i32_3231 : BitVec 32 := 1#32
  let v4783 : BitVec 32 := Scalar.subi v4768 c1_i32_3231
  let v4784 : BitVec 32 := Scalar.select v4782 v4783 v4768
  let c8_i32_3257 : BitVec 32 := 8#32
  let v4824 : BitVec 32 := Scalar.muli v4784 c8_i32_3257
  let v4825 : BitVec 32 := Scalar.addi c0_i32_3258 v4824
  let c0_i32_3233 : BitVec 32 := 0#32
  let v4786 : BitVec 1 := Scalar.cmpi .sgt v4765 c0_i32_3233
  let v4787 : BitVec 32 := Scalar.extui v4786
  let c0_i32_3234 : BitVec 32 := 0#32
  let v4788 : BitVec 1 := Scalar.cmpi .slt v4765 c0_i32_3234
  let v4789 : BitVec 32 := Scalar.extui v4788
  let v4790 : BitVec 32 := Scalar.subi v4787 v4789
  let c2_i32_3232 : BitVec 32 := 2#32
  let c0_i32_3235 : BitVec 32 := 0#32
  let v4791 : BitVec 1 := Scalar.cmpi .sgt c2_i32_3232 c0_i32_3235
  let v4792 : BitVec 32 := Scalar.extui v4791
  let c0_i32_3236 : BitVec 32 := 0#32
  let v4793 : BitVec 1 := Scalar.cmpi .slt c2_i32_3232 c0_i32_3236
  let v4794 : BitVec 32 := Scalar.extui v4793
  let v4795 : BitVec 32 := Scalar.subi v4792 v4794
  let v4796 : BitVec 1 := Scalar.cmpi .ne v4790 v4795
  let v4797 : BitVec 32 := Scalar.remsi v4765 c2_i32_3232
  let c0_i32_3237 : BitVec 32 := 0#32
  let v4798 : BitVec 1 := Scalar.cmpi .ne v4797 c0_i32_3237
  let v4799 : BitVec 1 := Scalar.andi v4796 v4798
  let v4785 : BitVec 32 := Scalar.divsi v4765 c2_i32_3232
  let c1_i32_3238 : BitVec 32 := 1#32
  let v4800 : BitVec 32 := Scalar.subi v4785 c1_i32_3238
  let v4801 : BitVec 32 := Scalar.select v4799 v4800 v4785
  let c2_i32_3239 : BitVec 32 := 2#32
  let c0_i32_3240 : BitVec 32 := 0#32
  let v4802 : BitVec 1 := Scalar.cmpi .eq c2_i32_3239 c0_i32_3240
  let c1_i32_3241 : BitVec 32 := 1#32
  let v4803 : BitVec 32 := Scalar.select v4802 c1_i32_3241 c2_i32_3239
  let v4804 : BitVec 32 := Scalar.remsi v4801 v4803
  let c0_i32_3243 : BitVec 32 := 0#32
  let v4806 : BitVec 1 := Scalar.cmpi .slt v4804 c0_i32_3243
  let c0_i32_3244 : BitVec 32 := 0#32
  let v4807 : BitVec 1 := Scalar.cmpi .slt v4803 c0_i32_3244
  let v4808 : BitVec 1 := Scalar.xori v4806 v4807
  let c0_i32_3242 : BitVec 32 := 0#32
  let v4805 : BitVec 1 := Scalar.cmpi .ne v4804 c0_i32_3242
  let v4809 : BitVec 1 := Scalar.andi v4808 v4805
  let v4810 : BitVec 32 := Scalar.addi v4804 v4803
  let v4811 : BitVec 32 := Scalar.select v4809 v4810 v4804
  let c4_i32_3259 : BitVec 32 := 4#32
  let v4826 : BitVec 32 := Scalar.muli v4811 c4_i32_3259
  let v4827 : BitVec 32 := Scalar.addi v4825 v4826
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3245 : BitVec 32 := 2#32
  let v4812 : BitVec 32 := Scalar.muli v25 c2_i32_3245
  let c2_i32_3246 : BitVec 32 := 2#32
  let c0_i32_3247 : BitVec 32 := 0#32
  let v4813 : BitVec 1 := Scalar.cmpi .eq c2_i32_3246 c0_i32_3247
  let c1_i32_3248 : BitVec 32 := 1#32
  let v4814 : BitVec 32 := Scalar.select v4813 c1_i32_3248 c2_i32_3246
  let v4815 : BitVec 32 := Scalar.remsi v4765 v4814
  let c0_i32_3250 : BitVec 32 := 0#32
  let v4817 : BitVec 1 := Scalar.cmpi .slt v4815 c0_i32_3250
  let c0_i32_3251 : BitVec 32 := 0#32
  let v4818 : BitVec 1 := Scalar.cmpi .slt v4814 c0_i32_3251
  let v4819 : BitVec 1 := Scalar.xori v4817 v4818
  let c0_i32_3249 : BitVec 32 := 0#32
  let v4816 : BitVec 1 := Scalar.cmpi .ne v4815 c0_i32_3249
  let v4820 : BitVec 1 := Scalar.andi v4819 v4816
  let v4821 : BitVec 32 := Scalar.addi v4815 v4814
  let v4822 : BitVec 32 := Scalar.select v4820 v4821 v4815
  let v4823 : BitVec 32 := Scalar.addi v4812 v4822
  let c1_i32_3260 : BitVec 32 := 1#32
  let v4828 : BitVec 32 := Scalar.muli v4823 c1_i32_3260
  let v4829 : BitVec 32 := Scalar.addi v4827 v4828
  v4829.toNat
def k0_dev57 (d0 : Dev nD) : Nat :=
  let c0_i32_3306 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_3264 : BitVec 32 := 3#32
  let v4837 : BitVec 32 := Scalar.addi v39 c3_i32_3264
  let c8_i32_3265 : BitVec 32 := 8#32
  let c0_i32_3266 : BitVec 32 := 0#32
  let v4838 : BitVec 1 := Scalar.cmpi .eq c8_i32_3265 c0_i32_3266
  let c1_i32_3267 : BitVec 32 := 1#32
  let v4839 : BitVec 32 := Scalar.select v4838 c1_i32_3267 c8_i32_3265
  let v4840 : BitVec 32 := Scalar.remsi v4837 v4839
  let c0_i32_3269 : BitVec 32 := 0#32
  let v4842 : BitVec 1 := Scalar.cmpi .slt v4840 c0_i32_3269
  let c0_i32_3270 : BitVec 32 := 0#32
  let v4843 : BitVec 1 := Scalar.cmpi .slt v4839 c0_i32_3270
  let v4844 : BitVec 1 := Scalar.xori v4842 v4843
  let c0_i32_3268 : BitVec 32 := 0#32
  let v4841 : BitVec 1 := Scalar.cmpi .ne v4840 c0_i32_3268
  let v4845 : BitVec 1 := Scalar.andi v4844 v4841
  let v4846 : BitVec 32 := Scalar.addi v4840 v4839
  let v4847 : BitVec 32 := Scalar.select v4845 v4846 v4840
  let c0_i32_3274 : BitVec 32 := 0#32
  let v4851 : BitVec 1 := Scalar.cmpi .sgt v4847 c0_i32_3274
  let v4852 : BitVec 32 := Scalar.extui v4851
  let c0_i32_3275 : BitVec 32 := 0#32
  let v4853 : BitVec 1 := Scalar.cmpi .slt v4847 c0_i32_3275
  let v4854 : BitVec 32 := Scalar.extui v4853
  let v4855 : BitVec 32 := Scalar.subi v4852 v4854
  let c4_i32_3273 : BitVec 32 := 4#32
  let c0_i32_3276 : BitVec 32 := 0#32
  let v4856 : BitVec 1 := Scalar.cmpi .sgt c4_i32_3273 c0_i32_3276
  let v4857 : BitVec 32 := Scalar.extui v4856
  let c0_i32_3277 : BitVec 32 := 0#32
  let v4858 : BitVec 1 := Scalar.cmpi .slt c4_i32_3273 c0_i32_3277
  let v4859 : BitVec 32 := Scalar.extui v4858
  let v4860 : BitVec 32 := Scalar.subi v4857 v4859
  let v4861 : BitVec 1 := Scalar.cmpi .ne v4855 v4860
  let v4862 : BitVec 32 := Scalar.remsi v4847 c4_i32_3273
  let c0_i32_3278 : BitVec 32 := 0#32
  let v4863 : BitVec 1 := Scalar.cmpi .ne v4862 c0_i32_3278
  let v4864 : BitVec 1 := Scalar.andi v4861 v4863
  let v4850 : BitVec 32 := Scalar.divsi v4847 c4_i32_3273
  let c1_i32_3279 : BitVec 32 := 1#32
  let v4865 : BitVec 32 := Scalar.subi v4850 c1_i32_3279
  let v4866 : BitVec 32 := Scalar.select v4864 v4865 v4850
  let c8_i32_3305 : BitVec 32 := 8#32
  let v4906 : BitVec 32 := Scalar.muli v4866 c8_i32_3305
  let v4907 : BitVec 32 := Scalar.addi c0_i32_3306 v4906
  let c0_i32_3281 : BitVec 32 := 0#32
  let v4868 : BitVec 1 := Scalar.cmpi .sgt v4847 c0_i32_3281
  let v4869 : BitVec 32 := Scalar.extui v4868
  let c0_i32_3282 : BitVec 32 := 0#32
  let v4870 : BitVec 1 := Scalar.cmpi .slt v4847 c0_i32_3282
  let v4871 : BitVec 32 := Scalar.extui v4870
  let v4872 : BitVec 32 := Scalar.subi v4869 v4871
  let c2_i32_3280 : BitVec 32 := 2#32
  let c0_i32_3283 : BitVec 32 := 0#32
  let v4873 : BitVec 1 := Scalar.cmpi .sgt c2_i32_3280 c0_i32_3283
  let v4874 : BitVec 32 := Scalar.extui v4873
  let c0_i32_3284 : BitVec 32 := 0#32
  let v4875 : BitVec 1 := Scalar.cmpi .slt c2_i32_3280 c0_i32_3284
  let v4876 : BitVec 32 := Scalar.extui v4875
  let v4877 : BitVec 32 := Scalar.subi v4874 v4876
  let v4878 : BitVec 1 := Scalar.cmpi .ne v4872 v4877
  let v4879 : BitVec 32 := Scalar.remsi v4847 c2_i32_3280
  let c0_i32_3285 : BitVec 32 := 0#32
  let v4880 : BitVec 1 := Scalar.cmpi .ne v4879 c0_i32_3285
  let v4881 : BitVec 1 := Scalar.andi v4878 v4880
  let v4867 : BitVec 32 := Scalar.divsi v4847 c2_i32_3280
  let c1_i32_3286 : BitVec 32 := 1#32
  let v4882 : BitVec 32 := Scalar.subi v4867 c1_i32_3286
  let v4883 : BitVec 32 := Scalar.select v4881 v4882 v4867
  let c2_i32_3287 : BitVec 32 := 2#32
  let c0_i32_3288 : BitVec 32 := 0#32
  let v4884 : BitVec 1 := Scalar.cmpi .eq c2_i32_3287 c0_i32_3288
  let c1_i32_3289 : BitVec 32 := 1#32
  let v4885 : BitVec 32 := Scalar.select v4884 c1_i32_3289 c2_i32_3287
  let v4886 : BitVec 32 := Scalar.remsi v4883 v4885
  let c0_i32_3291 : BitVec 32 := 0#32
  let v4888 : BitVec 1 := Scalar.cmpi .slt v4886 c0_i32_3291
  let c0_i32_3292 : BitVec 32 := 0#32
  let v4889 : BitVec 1 := Scalar.cmpi .slt v4885 c0_i32_3292
  let v4890 : BitVec 1 := Scalar.xori v4888 v4889
  let c0_i32_3290 : BitVec 32 := 0#32
  let v4887 : BitVec 1 := Scalar.cmpi .ne v4886 c0_i32_3290
  let v4891 : BitVec 1 := Scalar.andi v4890 v4887
  let v4892 : BitVec 32 := Scalar.addi v4886 v4885
  let v4893 : BitVec 32 := Scalar.select v4891 v4892 v4886
  let c4_i32_3307 : BitVec 32 := 4#32
  let v4908 : BitVec 32 := Scalar.muli v4893 c4_i32_3307
  let v4909 : BitVec 32 := Scalar.addi v4907 v4908
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3293 : BitVec 32 := 2#32
  let v4894 : BitVec 32 := Scalar.muli v25 c2_i32_3293
  let c2_i32_3294 : BitVec 32 := 2#32
  let c0_i32_3295 : BitVec 32 := 0#32
  let v4895 : BitVec 1 := Scalar.cmpi .eq c2_i32_3294 c0_i32_3295
  let c1_i32_3296 : BitVec 32 := 1#32
  let v4896 : BitVec 32 := Scalar.select v4895 c1_i32_3296 c2_i32_3294
  let v4897 : BitVec 32 := Scalar.remsi v4847 v4896
  let c0_i32_3298 : BitVec 32 := 0#32
  let v4899 : BitVec 1 := Scalar.cmpi .slt v4897 c0_i32_3298
  let c0_i32_3299 : BitVec 32 := 0#32
  let v4900 : BitVec 1 := Scalar.cmpi .slt v4896 c0_i32_3299
  let v4901 : BitVec 1 := Scalar.xori v4899 v4900
  let c0_i32_3297 : BitVec 32 := 0#32
  let v4898 : BitVec 1 := Scalar.cmpi .ne v4897 c0_i32_3297
  let v4902 : BitVec 1 := Scalar.andi v4901 v4898
  let v4903 : BitVec 32 := Scalar.addi v4897 v4896
  let v4904 : BitVec 32 := Scalar.select v4902 v4903 v4897
  let v4905 : BitVec 32 := Scalar.addi v4894 v4904
  let c1_i32_3308 : BitVec 32 := 1#32
  let v4910 : BitVec 32 := Scalar.muli v4905 c1_i32_3308
  let v4911 : BitVec 32 := Scalar.addi v4909 v4910
  v4911.toNat
def k0_dev58 (d0 : Dev nD) : Nat :=
  let c0_i32_3354 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_3312 : BitVec 32 := 4#32
  let v4919 : BitVec 32 := Scalar.addi v39 c4_i32_3312
  let c8_i32_3313 : BitVec 32 := 8#32
  let c0_i32_3314 : BitVec 32 := 0#32
  let v4920 : BitVec 1 := Scalar.cmpi .eq c8_i32_3313 c0_i32_3314
  let c1_i32_3315 : BitVec 32 := 1#32
  let v4921 : BitVec 32 := Scalar.select v4920 c1_i32_3315 c8_i32_3313
  let v4922 : BitVec 32 := Scalar.remsi v4919 v4921
  let c0_i32_3317 : BitVec 32 := 0#32
  let v4924 : BitVec 1 := Scalar.cmpi .slt v4922 c0_i32_3317
  let c0_i32_3318 : BitVec 32 := 0#32
  let v4925 : BitVec 1 := Scalar.cmpi .slt v4921 c0_i32_3318
  let v4926 : BitVec 1 := Scalar.xori v4924 v4925
  let c0_i32_3316 : BitVec 32 := 0#32
  let v4923 : BitVec 1 := Scalar.cmpi .ne v4922 c0_i32_3316
  let v4927 : BitVec 1 := Scalar.andi v4926 v4923
  let v4928 : BitVec 32 := Scalar.addi v4922 v4921
  let v4929 : BitVec 32 := Scalar.select v4927 v4928 v4922
  let c0_i32_3322 : BitVec 32 := 0#32
  let v4933 : BitVec 1 := Scalar.cmpi .sgt v4929 c0_i32_3322
  let v4934 : BitVec 32 := Scalar.extui v4933
  let c0_i32_3323 : BitVec 32 := 0#32
  let v4935 : BitVec 1 := Scalar.cmpi .slt v4929 c0_i32_3323
  let v4936 : BitVec 32 := Scalar.extui v4935
  let v4937 : BitVec 32 := Scalar.subi v4934 v4936
  let c4_i32_3321 : BitVec 32 := 4#32
  let c0_i32_3324 : BitVec 32 := 0#32
  let v4938 : BitVec 1 := Scalar.cmpi .sgt c4_i32_3321 c0_i32_3324
  let v4939 : BitVec 32 := Scalar.extui v4938
  let c0_i32_3325 : BitVec 32 := 0#32
  let v4940 : BitVec 1 := Scalar.cmpi .slt c4_i32_3321 c0_i32_3325
  let v4941 : BitVec 32 := Scalar.extui v4940
  let v4942 : BitVec 32 := Scalar.subi v4939 v4941
  let v4943 : BitVec 1 := Scalar.cmpi .ne v4937 v4942
  let v4944 : BitVec 32 := Scalar.remsi v4929 c4_i32_3321
  let c0_i32_3326 : BitVec 32 := 0#32
  let v4945 : BitVec 1 := Scalar.cmpi .ne v4944 c0_i32_3326
  let v4946 : BitVec 1 := Scalar.andi v4943 v4945
  let v4932 : BitVec 32 := Scalar.divsi v4929 c4_i32_3321
  let c1_i32_3327 : BitVec 32 := 1#32
  let v4947 : BitVec 32 := Scalar.subi v4932 c1_i32_3327
  let v4948 : BitVec 32 := Scalar.select v4946 v4947 v4932
  let c8_i32_3353 : BitVec 32 := 8#32
  let v4988 : BitVec 32 := Scalar.muli v4948 c8_i32_3353
  let v4989 : BitVec 32 := Scalar.addi c0_i32_3354 v4988
  let c0_i32_3329 : BitVec 32 := 0#32
  let v4950 : BitVec 1 := Scalar.cmpi .sgt v4929 c0_i32_3329
  let v4951 : BitVec 32 := Scalar.extui v4950
  let c0_i32_3330 : BitVec 32 := 0#32
  let v4952 : BitVec 1 := Scalar.cmpi .slt v4929 c0_i32_3330
  let v4953 : BitVec 32 := Scalar.extui v4952
  let v4954 : BitVec 32 := Scalar.subi v4951 v4953
  let c2_i32_3328 : BitVec 32 := 2#32
  let c0_i32_3331 : BitVec 32 := 0#32
  let v4955 : BitVec 1 := Scalar.cmpi .sgt c2_i32_3328 c0_i32_3331
  let v4956 : BitVec 32 := Scalar.extui v4955
  let c0_i32_3332 : BitVec 32 := 0#32
  let v4957 : BitVec 1 := Scalar.cmpi .slt c2_i32_3328 c0_i32_3332
  let v4958 : BitVec 32 := Scalar.extui v4957
  let v4959 : BitVec 32 := Scalar.subi v4956 v4958
  let v4960 : BitVec 1 := Scalar.cmpi .ne v4954 v4959
  let v4961 : BitVec 32 := Scalar.remsi v4929 c2_i32_3328
  let c0_i32_3333 : BitVec 32 := 0#32
  let v4962 : BitVec 1 := Scalar.cmpi .ne v4961 c0_i32_3333
  let v4963 : BitVec 1 := Scalar.andi v4960 v4962
  let v4949 : BitVec 32 := Scalar.divsi v4929 c2_i32_3328
  let c1_i32_3334 : BitVec 32 := 1#32
  let v4964 : BitVec 32 := Scalar.subi v4949 c1_i32_3334
  let v4965 : BitVec 32 := Scalar.select v4963 v4964 v4949
  let c2_i32_3335 : BitVec 32 := 2#32
  let c0_i32_3336 : BitVec 32 := 0#32
  let v4966 : BitVec 1 := Scalar.cmpi .eq c2_i32_3335 c0_i32_3336
  let c1_i32_3337 : BitVec 32 := 1#32
  let v4967 : BitVec 32 := Scalar.select v4966 c1_i32_3337 c2_i32_3335
  let v4968 : BitVec 32 := Scalar.remsi v4965 v4967
  let c0_i32_3339 : BitVec 32 := 0#32
  let v4970 : BitVec 1 := Scalar.cmpi .slt v4968 c0_i32_3339
  let c0_i32_3340 : BitVec 32 := 0#32
  let v4971 : BitVec 1 := Scalar.cmpi .slt v4967 c0_i32_3340
  let v4972 : BitVec 1 := Scalar.xori v4970 v4971
  let c0_i32_3338 : BitVec 32 := 0#32
  let v4969 : BitVec 1 := Scalar.cmpi .ne v4968 c0_i32_3338
  let v4973 : BitVec 1 := Scalar.andi v4972 v4969
  let v4974 : BitVec 32 := Scalar.addi v4968 v4967
  let v4975 : BitVec 32 := Scalar.select v4973 v4974 v4968
  let c4_i32_3355 : BitVec 32 := 4#32
  let v4990 : BitVec 32 := Scalar.muli v4975 c4_i32_3355
  let v4991 : BitVec 32 := Scalar.addi v4989 v4990
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3341 : BitVec 32 := 2#32
  let v4976 : BitVec 32 := Scalar.muli v25 c2_i32_3341
  let c2_i32_3342 : BitVec 32 := 2#32
  let c0_i32_3343 : BitVec 32 := 0#32
  let v4977 : BitVec 1 := Scalar.cmpi .eq c2_i32_3342 c0_i32_3343
  let c1_i32_3344 : BitVec 32 := 1#32
  let v4978 : BitVec 32 := Scalar.select v4977 c1_i32_3344 c2_i32_3342
  let v4979 : BitVec 32 := Scalar.remsi v4929 v4978
  let c0_i32_3346 : BitVec 32 := 0#32
  let v4981 : BitVec 1 := Scalar.cmpi .slt v4979 c0_i32_3346
  let c0_i32_3347 : BitVec 32 := 0#32
  let v4982 : BitVec 1 := Scalar.cmpi .slt v4978 c0_i32_3347
  let v4983 : BitVec 1 := Scalar.xori v4981 v4982
  let c0_i32_3345 : BitVec 32 := 0#32
  let v4980 : BitVec 1 := Scalar.cmpi .ne v4979 c0_i32_3345
  let v4984 : BitVec 1 := Scalar.andi v4983 v4980
  let v4985 : BitVec 32 := Scalar.addi v4979 v4978
  let v4986 : BitVec 32 := Scalar.select v4984 v4985 v4979
  let v4987 : BitVec 32 := Scalar.addi v4976 v4986
  let c1_i32_3356 : BitVec 32 := 1#32
  let v4992 : BitVec 32 := Scalar.muli v4987 c1_i32_3356
  let v4993 : BitVec 32 := Scalar.addi v4991 v4992
  v4993.toNat
def k0_dev59 (d0 : Dev nD) : Nat :=
  let c0_i32_3402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_3360 : BitVec 32 := 5#32
  let v5001 : BitVec 32 := Scalar.addi v39 c5_i32_3360
  let c8_i32_3361 : BitVec 32 := 8#32
  let c0_i32_3362 : BitVec 32 := 0#32
  let v5002 : BitVec 1 := Scalar.cmpi .eq c8_i32_3361 c0_i32_3362
  let c1_i32_3363 : BitVec 32 := 1#32
  let v5003 : BitVec 32 := Scalar.select v5002 c1_i32_3363 c8_i32_3361
  let v5004 : BitVec 32 := Scalar.remsi v5001 v5003
  let c0_i32_3365 : BitVec 32 := 0#32
  let v5006 : BitVec 1 := Scalar.cmpi .slt v5004 c0_i32_3365
  let c0_i32_3366 : BitVec 32 := 0#32
  let v5007 : BitVec 1 := Scalar.cmpi .slt v5003 c0_i32_3366
  let v5008 : BitVec 1 := Scalar.xori v5006 v5007
  let c0_i32_3364 : BitVec 32 := 0#32
  let v5005 : BitVec 1 := Scalar.cmpi .ne v5004 c0_i32_3364
  let v5009 : BitVec 1 := Scalar.andi v5008 v5005
  let v5010 : BitVec 32 := Scalar.addi v5004 v5003
  let v5011 : BitVec 32 := Scalar.select v5009 v5010 v5004
  let c0_i32_3370 : BitVec 32 := 0#32
  let v5015 : BitVec 1 := Scalar.cmpi .sgt v5011 c0_i32_3370
  let v5016 : BitVec 32 := Scalar.extui v5015
  let c0_i32_3371 : BitVec 32 := 0#32
  let v5017 : BitVec 1 := Scalar.cmpi .slt v5011 c0_i32_3371
  let v5018 : BitVec 32 := Scalar.extui v5017
  let v5019 : BitVec 32 := Scalar.subi v5016 v5018
  let c4_i32_3369 : BitVec 32 := 4#32
  let c0_i32_3372 : BitVec 32 := 0#32
  let v5020 : BitVec 1 := Scalar.cmpi .sgt c4_i32_3369 c0_i32_3372
  let v5021 : BitVec 32 := Scalar.extui v5020
  let c0_i32_3373 : BitVec 32 := 0#32
  let v5022 : BitVec 1 := Scalar.cmpi .slt c4_i32_3369 c0_i32_3373
  let v5023 : BitVec 32 := Scalar.extui v5022
  let v5024 : BitVec 32 := Scalar.subi v5021 v5023
  let v5025 : BitVec 1 := Scalar.cmpi .ne v5019 v5024
  let v5026 : BitVec 32 := Scalar.remsi v5011 c4_i32_3369
  let c0_i32_3374 : BitVec 32 := 0#32
  let v5027 : BitVec 1 := Scalar.cmpi .ne v5026 c0_i32_3374
  let v5028 : BitVec 1 := Scalar.andi v5025 v5027
  let v5014 : BitVec 32 := Scalar.divsi v5011 c4_i32_3369
  let c1_i32_3375 : BitVec 32 := 1#32
  let v5029 : BitVec 32 := Scalar.subi v5014 c1_i32_3375
  let v5030 : BitVec 32 := Scalar.select v5028 v5029 v5014
  let c8_i32_3401 : BitVec 32 := 8#32
  let v5070 : BitVec 32 := Scalar.muli v5030 c8_i32_3401
  let v5071 : BitVec 32 := Scalar.addi c0_i32_3402 v5070
  let c0_i32_3377 : BitVec 32 := 0#32
  let v5032 : BitVec 1 := Scalar.cmpi .sgt v5011 c0_i32_3377
  let v5033 : BitVec 32 := Scalar.extui v5032
  let c0_i32_3378 : BitVec 32 := 0#32
  let v5034 : BitVec 1 := Scalar.cmpi .slt v5011 c0_i32_3378
  let v5035 : BitVec 32 := Scalar.extui v5034
  let v5036 : BitVec 32 := Scalar.subi v5033 v5035
  let c2_i32_3376 : BitVec 32 := 2#32
  let c0_i32_3379 : BitVec 32 := 0#32
  let v5037 : BitVec 1 := Scalar.cmpi .sgt c2_i32_3376 c0_i32_3379
  let v5038 : BitVec 32 := Scalar.extui v5037
  let c0_i32_3380 : BitVec 32 := 0#32
  let v5039 : BitVec 1 := Scalar.cmpi .slt c2_i32_3376 c0_i32_3380
  let v5040 : BitVec 32 := Scalar.extui v5039
  let v5041 : BitVec 32 := Scalar.subi v5038 v5040
  let v5042 : BitVec 1 := Scalar.cmpi .ne v5036 v5041
  let v5043 : BitVec 32 := Scalar.remsi v5011 c2_i32_3376
  let c0_i32_3381 : BitVec 32 := 0#32
  let v5044 : BitVec 1 := Scalar.cmpi .ne v5043 c0_i32_3381
  let v5045 : BitVec 1 := Scalar.andi v5042 v5044
  let v5031 : BitVec 32 := Scalar.divsi v5011 c2_i32_3376
  let c1_i32_3382 : BitVec 32 := 1#32
  let v5046 : BitVec 32 := Scalar.subi v5031 c1_i32_3382
  let v5047 : BitVec 32 := Scalar.select v5045 v5046 v5031
  let c2_i32_3383 : BitVec 32 := 2#32
  let c0_i32_3384 : BitVec 32 := 0#32
  let v5048 : BitVec 1 := Scalar.cmpi .eq c2_i32_3383 c0_i32_3384
  let c1_i32_3385 : BitVec 32 := 1#32
  let v5049 : BitVec 32 := Scalar.select v5048 c1_i32_3385 c2_i32_3383
  let v5050 : BitVec 32 := Scalar.remsi v5047 v5049
  let c0_i32_3387 : BitVec 32 := 0#32
  let v5052 : BitVec 1 := Scalar.cmpi .slt v5050 c0_i32_3387
  let c0_i32_3388 : BitVec 32 := 0#32
  let v5053 : BitVec 1 := Scalar.cmpi .slt v5049 c0_i32_3388
  let v5054 : BitVec 1 := Scalar.xori v5052 v5053
  let c0_i32_3386 : BitVec 32 := 0#32
  let v5051 : BitVec 1 := Scalar.cmpi .ne v5050 c0_i32_3386
  let v5055 : BitVec 1 := Scalar.andi v5054 v5051
  let v5056 : BitVec 32 := Scalar.addi v5050 v5049
  let v5057 : BitVec 32 := Scalar.select v5055 v5056 v5050
  let c4_i32_3403 : BitVec 32 := 4#32
  let v5072 : BitVec 32 := Scalar.muli v5057 c4_i32_3403
  let v5073 : BitVec 32 := Scalar.addi v5071 v5072
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3389 : BitVec 32 := 2#32
  let v5058 : BitVec 32 := Scalar.muli v25 c2_i32_3389
  let c2_i32_3390 : BitVec 32 := 2#32
  let c0_i32_3391 : BitVec 32 := 0#32
  let v5059 : BitVec 1 := Scalar.cmpi .eq c2_i32_3390 c0_i32_3391
  let c1_i32_3392 : BitVec 32 := 1#32
  let v5060 : BitVec 32 := Scalar.select v5059 c1_i32_3392 c2_i32_3390
  let v5061 : BitVec 32 := Scalar.remsi v5011 v5060
  let c0_i32_3394 : BitVec 32 := 0#32
  let v5063 : BitVec 1 := Scalar.cmpi .slt v5061 c0_i32_3394
  let c0_i32_3395 : BitVec 32 := 0#32
  let v5064 : BitVec 1 := Scalar.cmpi .slt v5060 c0_i32_3395
  let v5065 : BitVec 1 := Scalar.xori v5063 v5064
  let c0_i32_3393 : BitVec 32 := 0#32
  let v5062 : BitVec 1 := Scalar.cmpi .ne v5061 c0_i32_3393
  let v5066 : BitVec 1 := Scalar.andi v5065 v5062
  let v5067 : BitVec 32 := Scalar.addi v5061 v5060
  let v5068 : BitVec 32 := Scalar.select v5066 v5067 v5061
  let v5069 : BitVec 32 := Scalar.addi v5058 v5068
  let c1_i32_3404 : BitVec 32 := 1#32
  let v5074 : BitVec 32 := Scalar.muli v5069 c1_i32_3404
  let v5075 : BitVec 32 := Scalar.addi v5073 v5074
  v5075.toNat
def k0_dev60 (d0 : Dev nD) : Nat :=
  let c0_i32_3450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_3408 : BitVec 32 := 6#32
  let v5083 : BitVec 32 := Scalar.addi v39 c6_i32_3408
  let c8_i32_3409 : BitVec 32 := 8#32
  let c0_i32_3410 : BitVec 32 := 0#32
  let v5084 : BitVec 1 := Scalar.cmpi .eq c8_i32_3409 c0_i32_3410
  let c1_i32_3411 : BitVec 32 := 1#32
  let v5085 : BitVec 32 := Scalar.select v5084 c1_i32_3411 c8_i32_3409
  let v5086 : BitVec 32 := Scalar.remsi v5083 v5085
  let c0_i32_3413 : BitVec 32 := 0#32
  let v5088 : BitVec 1 := Scalar.cmpi .slt v5086 c0_i32_3413
  let c0_i32_3414 : BitVec 32 := 0#32
  let v5089 : BitVec 1 := Scalar.cmpi .slt v5085 c0_i32_3414
  let v5090 : BitVec 1 := Scalar.xori v5088 v5089
  let c0_i32_3412 : BitVec 32 := 0#32
  let v5087 : BitVec 1 := Scalar.cmpi .ne v5086 c0_i32_3412
  let v5091 : BitVec 1 := Scalar.andi v5090 v5087
  let v5092 : BitVec 32 := Scalar.addi v5086 v5085
  let v5093 : BitVec 32 := Scalar.select v5091 v5092 v5086
  let c0_i32_3418 : BitVec 32 := 0#32
  let v5097 : BitVec 1 := Scalar.cmpi .sgt v5093 c0_i32_3418
  let v5098 : BitVec 32 := Scalar.extui v5097
  let c0_i32_3419 : BitVec 32 := 0#32
  let v5099 : BitVec 1 := Scalar.cmpi .slt v5093 c0_i32_3419
  let v5100 : BitVec 32 := Scalar.extui v5099
  let v5101 : BitVec 32 := Scalar.subi v5098 v5100
  let c4_i32_3417 : BitVec 32 := 4#32
  let c0_i32_3420 : BitVec 32 := 0#32
  let v5102 : BitVec 1 := Scalar.cmpi .sgt c4_i32_3417 c0_i32_3420
  let v5103 : BitVec 32 := Scalar.extui v5102
  let c0_i32_3421 : BitVec 32 := 0#32
  let v5104 : BitVec 1 := Scalar.cmpi .slt c4_i32_3417 c0_i32_3421
  let v5105 : BitVec 32 := Scalar.extui v5104
  let v5106 : BitVec 32 := Scalar.subi v5103 v5105
  let v5107 : BitVec 1 := Scalar.cmpi .ne v5101 v5106
  let v5108 : BitVec 32 := Scalar.remsi v5093 c4_i32_3417
  let c0_i32_3422 : BitVec 32 := 0#32
  let v5109 : BitVec 1 := Scalar.cmpi .ne v5108 c0_i32_3422
  let v5110 : BitVec 1 := Scalar.andi v5107 v5109
  let v5096 : BitVec 32 := Scalar.divsi v5093 c4_i32_3417
  let c1_i32_3423 : BitVec 32 := 1#32
  let v5111 : BitVec 32 := Scalar.subi v5096 c1_i32_3423
  let v5112 : BitVec 32 := Scalar.select v5110 v5111 v5096
  let c8_i32_3449 : BitVec 32 := 8#32
  let v5152 : BitVec 32 := Scalar.muli v5112 c8_i32_3449
  let v5153 : BitVec 32 := Scalar.addi c0_i32_3450 v5152
  let c0_i32_3425 : BitVec 32 := 0#32
  let v5114 : BitVec 1 := Scalar.cmpi .sgt v5093 c0_i32_3425
  let v5115 : BitVec 32 := Scalar.extui v5114
  let c0_i32_3426 : BitVec 32 := 0#32
  let v5116 : BitVec 1 := Scalar.cmpi .slt v5093 c0_i32_3426
  let v5117 : BitVec 32 := Scalar.extui v5116
  let v5118 : BitVec 32 := Scalar.subi v5115 v5117
  let c2_i32_3424 : BitVec 32 := 2#32
  let c0_i32_3427 : BitVec 32 := 0#32
  let v5119 : BitVec 1 := Scalar.cmpi .sgt c2_i32_3424 c0_i32_3427
  let v5120 : BitVec 32 := Scalar.extui v5119
  let c0_i32_3428 : BitVec 32 := 0#32
  let v5121 : BitVec 1 := Scalar.cmpi .slt c2_i32_3424 c0_i32_3428
  let v5122 : BitVec 32 := Scalar.extui v5121
  let v5123 : BitVec 32 := Scalar.subi v5120 v5122
  let v5124 : BitVec 1 := Scalar.cmpi .ne v5118 v5123
  let v5125 : BitVec 32 := Scalar.remsi v5093 c2_i32_3424
  let c0_i32_3429 : BitVec 32 := 0#32
  let v5126 : BitVec 1 := Scalar.cmpi .ne v5125 c0_i32_3429
  let v5127 : BitVec 1 := Scalar.andi v5124 v5126
  let v5113 : BitVec 32 := Scalar.divsi v5093 c2_i32_3424
  let c1_i32_3430 : BitVec 32 := 1#32
  let v5128 : BitVec 32 := Scalar.subi v5113 c1_i32_3430
  let v5129 : BitVec 32 := Scalar.select v5127 v5128 v5113
  let c2_i32_3431 : BitVec 32 := 2#32
  let c0_i32_3432 : BitVec 32 := 0#32
  let v5130 : BitVec 1 := Scalar.cmpi .eq c2_i32_3431 c0_i32_3432
  let c1_i32_3433 : BitVec 32 := 1#32
  let v5131 : BitVec 32 := Scalar.select v5130 c1_i32_3433 c2_i32_3431
  let v5132 : BitVec 32 := Scalar.remsi v5129 v5131
  let c0_i32_3435 : BitVec 32 := 0#32
  let v5134 : BitVec 1 := Scalar.cmpi .slt v5132 c0_i32_3435
  let c0_i32_3436 : BitVec 32 := 0#32
  let v5135 : BitVec 1 := Scalar.cmpi .slt v5131 c0_i32_3436
  let v5136 : BitVec 1 := Scalar.xori v5134 v5135
  let c0_i32_3434 : BitVec 32 := 0#32
  let v5133 : BitVec 1 := Scalar.cmpi .ne v5132 c0_i32_3434
  let v5137 : BitVec 1 := Scalar.andi v5136 v5133
  let v5138 : BitVec 32 := Scalar.addi v5132 v5131
  let v5139 : BitVec 32 := Scalar.select v5137 v5138 v5132
  let c4_i32_3451 : BitVec 32 := 4#32
  let v5154 : BitVec 32 := Scalar.muli v5139 c4_i32_3451
  let v5155 : BitVec 32 := Scalar.addi v5153 v5154
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3437 : BitVec 32 := 2#32
  let v5140 : BitVec 32 := Scalar.muli v25 c2_i32_3437
  let c2_i32_3438 : BitVec 32 := 2#32
  let c0_i32_3439 : BitVec 32 := 0#32
  let v5141 : BitVec 1 := Scalar.cmpi .eq c2_i32_3438 c0_i32_3439
  let c1_i32_3440 : BitVec 32 := 1#32
  let v5142 : BitVec 32 := Scalar.select v5141 c1_i32_3440 c2_i32_3438
  let v5143 : BitVec 32 := Scalar.remsi v5093 v5142
  let c0_i32_3442 : BitVec 32 := 0#32
  let v5145 : BitVec 1 := Scalar.cmpi .slt v5143 c0_i32_3442
  let c0_i32_3443 : BitVec 32 := 0#32
  let v5146 : BitVec 1 := Scalar.cmpi .slt v5142 c0_i32_3443
  let v5147 : BitVec 1 := Scalar.xori v5145 v5146
  let c0_i32_3441 : BitVec 32 := 0#32
  let v5144 : BitVec 1 := Scalar.cmpi .ne v5143 c0_i32_3441
  let v5148 : BitVec 1 := Scalar.andi v5147 v5144
  let v5149 : BitVec 32 := Scalar.addi v5143 v5142
  let v5150 : BitVec 32 := Scalar.select v5148 v5149 v5143
  let v5151 : BitVec 32 := Scalar.addi v5140 v5150
  let c1_i32_3452 : BitVec 32 := 1#32
  let v5156 : BitVec 32 := Scalar.muli v5151 c1_i32_3452
  let v5157 : BitVec 32 := Scalar.addi v5155 v5156
  v5157.toNat
def k0_dev61 (d0 : Dev nD) : Nat :=
  let c0_i32_3498 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_3456 : BitVec 32 := 7#32
  let v5165 : BitVec 32 := Scalar.addi v39 c7_i32_3456
  let c8_i32_3457 : BitVec 32 := 8#32
  let c0_i32_3458 : BitVec 32 := 0#32
  let v5166 : BitVec 1 := Scalar.cmpi .eq c8_i32_3457 c0_i32_3458
  let c1_i32_3459 : BitVec 32 := 1#32
  let v5167 : BitVec 32 := Scalar.select v5166 c1_i32_3459 c8_i32_3457
  let v5168 : BitVec 32 := Scalar.remsi v5165 v5167
  let c0_i32_3461 : BitVec 32 := 0#32
  let v5170 : BitVec 1 := Scalar.cmpi .slt v5168 c0_i32_3461
  let c0_i32_3462 : BitVec 32 := 0#32
  let v5171 : BitVec 1 := Scalar.cmpi .slt v5167 c0_i32_3462
  let v5172 : BitVec 1 := Scalar.xori v5170 v5171
  let c0_i32_3460 : BitVec 32 := 0#32
  let v5169 : BitVec 1 := Scalar.cmpi .ne v5168 c0_i32_3460
  let v5173 : BitVec 1 := Scalar.andi v5172 v5169
  let v5174 : BitVec 32 := Scalar.addi v5168 v5167
  let v5175 : BitVec 32 := Scalar.select v5173 v5174 v5168
  let c0_i32_3466 : BitVec 32 := 0#32
  let v5179 : BitVec 1 := Scalar.cmpi .sgt v5175 c0_i32_3466
  let v5180 : BitVec 32 := Scalar.extui v5179
  let c0_i32_3467 : BitVec 32 := 0#32
  let v5181 : BitVec 1 := Scalar.cmpi .slt v5175 c0_i32_3467
  let v5182 : BitVec 32 := Scalar.extui v5181
  let v5183 : BitVec 32 := Scalar.subi v5180 v5182
  let c4_i32_3465 : BitVec 32 := 4#32
  let c0_i32_3468 : BitVec 32 := 0#32
  let v5184 : BitVec 1 := Scalar.cmpi .sgt c4_i32_3465 c0_i32_3468
  let v5185 : BitVec 32 := Scalar.extui v5184
  let c0_i32_3469 : BitVec 32 := 0#32
  let v5186 : BitVec 1 := Scalar.cmpi .slt c4_i32_3465 c0_i32_3469
  let v5187 : BitVec 32 := Scalar.extui v5186
  let v5188 : BitVec 32 := Scalar.subi v5185 v5187
  let v5189 : BitVec 1 := Scalar.cmpi .ne v5183 v5188
  let v5190 : BitVec 32 := Scalar.remsi v5175 c4_i32_3465
  let c0_i32_3470 : BitVec 32 := 0#32
  let v5191 : BitVec 1 := Scalar.cmpi .ne v5190 c0_i32_3470
  let v5192 : BitVec 1 := Scalar.andi v5189 v5191
  let v5178 : BitVec 32 := Scalar.divsi v5175 c4_i32_3465
  let c1_i32_3471 : BitVec 32 := 1#32
  let v5193 : BitVec 32 := Scalar.subi v5178 c1_i32_3471
  let v5194 : BitVec 32 := Scalar.select v5192 v5193 v5178
  let c8_i32_3497 : BitVec 32 := 8#32
  let v5234 : BitVec 32 := Scalar.muli v5194 c8_i32_3497
  let v5235 : BitVec 32 := Scalar.addi c0_i32_3498 v5234
  let c0_i32_3473 : BitVec 32 := 0#32
  let v5196 : BitVec 1 := Scalar.cmpi .sgt v5175 c0_i32_3473
  let v5197 : BitVec 32 := Scalar.extui v5196
  let c0_i32_3474 : BitVec 32 := 0#32
  let v5198 : BitVec 1 := Scalar.cmpi .slt v5175 c0_i32_3474
  let v5199 : BitVec 32 := Scalar.extui v5198
  let v5200 : BitVec 32 := Scalar.subi v5197 v5199
  let c2_i32_3472 : BitVec 32 := 2#32
  let c0_i32_3475 : BitVec 32 := 0#32
  let v5201 : BitVec 1 := Scalar.cmpi .sgt c2_i32_3472 c0_i32_3475
  let v5202 : BitVec 32 := Scalar.extui v5201
  let c0_i32_3476 : BitVec 32 := 0#32
  let v5203 : BitVec 1 := Scalar.cmpi .slt c2_i32_3472 c0_i32_3476
  let v5204 : BitVec 32 := Scalar.extui v5203
  let v5205 : BitVec 32 := Scalar.subi v5202 v5204
  let v5206 : BitVec 1 := Scalar.cmpi .ne v5200 v5205
  let v5207 : BitVec 32 := Scalar.remsi v5175 c2_i32_3472
  let c0_i32_3477 : BitVec 32 := 0#32
  let v5208 : BitVec 1 := Scalar.cmpi .ne v5207 c0_i32_3477
  let v5209 : BitVec 1 := Scalar.andi v5206 v5208
  let v5195 : BitVec 32 := Scalar.divsi v5175 c2_i32_3472
  let c1_i32_3478 : BitVec 32 := 1#32
  let v5210 : BitVec 32 := Scalar.subi v5195 c1_i32_3478
  let v5211 : BitVec 32 := Scalar.select v5209 v5210 v5195
  let c2_i32_3479 : BitVec 32 := 2#32
  let c0_i32_3480 : BitVec 32 := 0#32
  let v5212 : BitVec 1 := Scalar.cmpi .eq c2_i32_3479 c0_i32_3480
  let c1_i32_3481 : BitVec 32 := 1#32
  let v5213 : BitVec 32 := Scalar.select v5212 c1_i32_3481 c2_i32_3479
  let v5214 : BitVec 32 := Scalar.remsi v5211 v5213
  let c0_i32_3483 : BitVec 32 := 0#32
  let v5216 : BitVec 1 := Scalar.cmpi .slt v5214 c0_i32_3483
  let c0_i32_3484 : BitVec 32 := 0#32
  let v5217 : BitVec 1 := Scalar.cmpi .slt v5213 c0_i32_3484
  let v5218 : BitVec 1 := Scalar.xori v5216 v5217
  let c0_i32_3482 : BitVec 32 := 0#32
  let v5215 : BitVec 1 := Scalar.cmpi .ne v5214 c0_i32_3482
  let v5219 : BitVec 1 := Scalar.andi v5218 v5215
  let v5220 : BitVec 32 := Scalar.addi v5214 v5213
  let v5221 : BitVec 32 := Scalar.select v5219 v5220 v5214
  let c4_i32_3499 : BitVec 32 := 4#32
  let v5236 : BitVec 32 := Scalar.muli v5221 c4_i32_3499
  let v5237 : BitVec 32 := Scalar.addi v5235 v5236
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3485 : BitVec 32 := 2#32
  let v5222 : BitVec 32 := Scalar.muli v25 c2_i32_3485
  let c2_i32_3486 : BitVec 32 := 2#32
  let c0_i32_3487 : BitVec 32 := 0#32
  let v5223 : BitVec 1 := Scalar.cmpi .eq c2_i32_3486 c0_i32_3487
  let c1_i32_3488 : BitVec 32 := 1#32
  let v5224 : BitVec 32 := Scalar.select v5223 c1_i32_3488 c2_i32_3486
  let v5225 : BitVec 32 := Scalar.remsi v5175 v5224
  let c0_i32_3490 : BitVec 32 := 0#32
  let v5227 : BitVec 1 := Scalar.cmpi .slt v5225 c0_i32_3490
  let c0_i32_3491 : BitVec 32 := 0#32
  let v5228 : BitVec 1 := Scalar.cmpi .slt v5224 c0_i32_3491
  let v5229 : BitVec 1 := Scalar.xori v5227 v5228
  let c0_i32_3489 : BitVec 32 := 0#32
  let v5226 : BitVec 1 := Scalar.cmpi .ne v5225 c0_i32_3489
  let v5230 : BitVec 1 := Scalar.andi v5229 v5226
  let v5231 : BitVec 32 := Scalar.addi v5225 v5224
  let v5232 : BitVec 32 := Scalar.select v5230 v5231 v5225
  let v5233 : BitVec 32 := Scalar.addi v5222 v5232
  let c1_i32_3500 : BitVec 32 := 1#32
  let v5238 : BitVec 32 := Scalar.muli v5233 c1_i32_3500
  let v5239 : BitVec 32 := Scalar.addi v5237 v5238
  v5239.toNat
def k0_dev62 (d0 : Dev nD) : Nat :=
  let c0_i32_3579 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c1_i32_3537 : BitVec 32 := 1#32
  let v5279 : BitVec 32 := Scalar.addi v39 c1_i32_3537
  let c8_i32_3538 : BitVec 32 := 8#32
  let c0_i32_3539 : BitVec 32 := 0#32
  let v5280 : BitVec 1 := Scalar.cmpi .eq c8_i32_3538 c0_i32_3539
  let c1_i32_3540 : BitVec 32 := 1#32
  let v5281 : BitVec 32 := Scalar.select v5280 c1_i32_3540 c8_i32_3538
  let v5282 : BitVec 32 := Scalar.remsi v5279 v5281
  let c0_i32_3542 : BitVec 32 := 0#32
  let v5284 : BitVec 1 := Scalar.cmpi .slt v5282 c0_i32_3542
  let c0_i32_3543 : BitVec 32 := 0#32
  let v5285 : BitVec 1 := Scalar.cmpi .slt v5281 c0_i32_3543
  let v5286 : BitVec 1 := Scalar.xori v5284 v5285
  let c0_i32_3541 : BitVec 32 := 0#32
  let v5283 : BitVec 1 := Scalar.cmpi .ne v5282 c0_i32_3541
  let v5287 : BitVec 1 := Scalar.andi v5286 v5283
  let v5288 : BitVec 32 := Scalar.addi v5282 v5281
  let v5289 : BitVec 32 := Scalar.select v5287 v5288 v5282
  let c0_i32_3547 : BitVec 32 := 0#32
  let v5293 : BitVec 1 := Scalar.cmpi .sgt v5289 c0_i32_3547
  let v5294 : BitVec 32 := Scalar.extui v5293
  let c0_i32_3548 : BitVec 32 := 0#32
  let v5295 : BitVec 1 := Scalar.cmpi .slt v5289 c0_i32_3548
  let v5296 : BitVec 32 := Scalar.extui v5295
  let v5297 : BitVec 32 := Scalar.subi v5294 v5296
  let c4_i32_3546 : BitVec 32 := 4#32
  let c0_i32_3549 : BitVec 32 := 0#32
  let v5298 : BitVec 1 := Scalar.cmpi .sgt c4_i32_3546 c0_i32_3549
  let v5299 : BitVec 32 := Scalar.extui v5298
  let c0_i32_3550 : BitVec 32 := 0#32
  let v5300 : BitVec 1 := Scalar.cmpi .slt c4_i32_3546 c0_i32_3550
  let v5301 : BitVec 32 := Scalar.extui v5300
  let v5302 : BitVec 32 := Scalar.subi v5299 v5301
  let v5303 : BitVec 1 := Scalar.cmpi .ne v5297 v5302
  let v5304 : BitVec 32 := Scalar.remsi v5289 c4_i32_3546
  let c0_i32_3551 : BitVec 32 := 0#32
  let v5305 : BitVec 1 := Scalar.cmpi .ne v5304 c0_i32_3551
  let v5306 : BitVec 1 := Scalar.andi v5303 v5305
  let v5292 : BitVec 32 := Scalar.divsi v5289 c4_i32_3546
  let c1_i32_3552 : BitVec 32 := 1#32
  let v5307 : BitVec 32 := Scalar.subi v5292 c1_i32_3552
  let v5308 : BitVec 32 := Scalar.select v5306 v5307 v5292
  let c8_i32_3578 : BitVec 32 := 8#32
  let v5348 : BitVec 32 := Scalar.muli v5308 c8_i32_3578
  let v5349 : BitVec 32 := Scalar.addi c0_i32_3579 v5348
  let c0_i32_3554 : BitVec 32 := 0#32
  let v5310 : BitVec 1 := Scalar.cmpi .sgt v5289 c0_i32_3554
  let v5311 : BitVec 32 := Scalar.extui v5310
  let c0_i32_3555 : BitVec 32 := 0#32
  let v5312 : BitVec 1 := Scalar.cmpi .slt v5289 c0_i32_3555
  let v5313 : BitVec 32 := Scalar.extui v5312
  let v5314 : BitVec 32 := Scalar.subi v5311 v5313
  let c2_i32_3553 : BitVec 32 := 2#32
  let c0_i32_3556 : BitVec 32 := 0#32
  let v5315 : BitVec 1 := Scalar.cmpi .sgt c2_i32_3553 c0_i32_3556
  let v5316 : BitVec 32 := Scalar.extui v5315
  let c0_i32_3557 : BitVec 32 := 0#32
  let v5317 : BitVec 1 := Scalar.cmpi .slt c2_i32_3553 c0_i32_3557
  let v5318 : BitVec 32 := Scalar.extui v5317
  let v5319 : BitVec 32 := Scalar.subi v5316 v5318
  let v5320 : BitVec 1 := Scalar.cmpi .ne v5314 v5319
  let v5321 : BitVec 32 := Scalar.remsi v5289 c2_i32_3553
  let c0_i32_3558 : BitVec 32 := 0#32
  let v5322 : BitVec 1 := Scalar.cmpi .ne v5321 c0_i32_3558
  let v5323 : BitVec 1 := Scalar.andi v5320 v5322
  let v5309 : BitVec 32 := Scalar.divsi v5289 c2_i32_3553
  let c1_i32_3559 : BitVec 32 := 1#32
  let v5324 : BitVec 32 := Scalar.subi v5309 c1_i32_3559
  let v5325 : BitVec 32 := Scalar.select v5323 v5324 v5309
  let c2_i32_3560 : BitVec 32 := 2#32
  let c0_i32_3561 : BitVec 32 := 0#32
  let v5326 : BitVec 1 := Scalar.cmpi .eq c2_i32_3560 c0_i32_3561
  let c1_i32_3562 : BitVec 32 := 1#32
  let v5327 : BitVec 32 := Scalar.select v5326 c1_i32_3562 c2_i32_3560
  let v5328 : BitVec 32 := Scalar.remsi v5325 v5327
  let c0_i32_3564 : BitVec 32 := 0#32
  let v5330 : BitVec 1 := Scalar.cmpi .slt v5328 c0_i32_3564
  let c0_i32_3565 : BitVec 32 := 0#32
  let v5331 : BitVec 1 := Scalar.cmpi .slt v5327 c0_i32_3565
  let v5332 : BitVec 1 := Scalar.xori v5330 v5331
  let c0_i32_3563 : BitVec 32 := 0#32
  let v5329 : BitVec 1 := Scalar.cmpi .ne v5328 c0_i32_3563
  let v5333 : BitVec 1 := Scalar.andi v5332 v5329
  let v5334 : BitVec 32 := Scalar.addi v5328 v5327
  let v5335 : BitVec 32 := Scalar.select v5333 v5334 v5328
  let c4_i32_3580 : BitVec 32 := 4#32
  let v5350 : BitVec 32 := Scalar.muli v5335 c4_i32_3580
  let v5351 : BitVec 32 := Scalar.addi v5349 v5350
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3566 : BitVec 32 := 2#32
  let v5336 : BitVec 32 := Scalar.muli v25 c2_i32_3566
  let c2_i32_3567 : BitVec 32 := 2#32
  let c0_i32_3568 : BitVec 32 := 0#32
  let v5337 : BitVec 1 := Scalar.cmpi .eq c2_i32_3567 c0_i32_3568
  let c1_i32_3569 : BitVec 32 := 1#32
  let v5338 : BitVec 32 := Scalar.select v5337 c1_i32_3569 c2_i32_3567
  let v5339 : BitVec 32 := Scalar.remsi v5289 v5338
  let c0_i32_3571 : BitVec 32 := 0#32
  let v5341 : BitVec 1 := Scalar.cmpi .slt v5339 c0_i32_3571
  let c0_i32_3572 : BitVec 32 := 0#32
  let v5342 : BitVec 1 := Scalar.cmpi .slt v5338 c0_i32_3572
  let v5343 : BitVec 1 := Scalar.xori v5341 v5342
  let c0_i32_3570 : BitVec 32 := 0#32
  let v5340 : BitVec 1 := Scalar.cmpi .ne v5339 c0_i32_3570
  let v5344 : BitVec 1 := Scalar.andi v5343 v5340
  let v5345 : BitVec 32 := Scalar.addi v5339 v5338
  let v5346 : BitVec 32 := Scalar.select v5344 v5345 v5339
  let v5347 : BitVec 32 := Scalar.addi v5336 v5346
  let c1_i32_3581 : BitVec 32 := 1#32
  let v5352 : BitVec 32 := Scalar.muli v5347 c1_i32_3581
  let v5353 : BitVec 32 := Scalar.addi v5351 v5352
  v5353.toNat
def k0_dev63 (d0 : Dev nD) : Nat :=
  let c0_i32_3627 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c2_i32_3585 : BitVec 32 := 2#32
  let v5361 : BitVec 32 := Scalar.addi v39 c2_i32_3585
  let c8_i32_3586 : BitVec 32 := 8#32
  let c0_i32_3587 : BitVec 32 := 0#32
  let v5362 : BitVec 1 := Scalar.cmpi .eq c8_i32_3586 c0_i32_3587
  let c1_i32_3588 : BitVec 32 := 1#32
  let v5363 : BitVec 32 := Scalar.select v5362 c1_i32_3588 c8_i32_3586
  let v5364 : BitVec 32 := Scalar.remsi v5361 v5363
  let c0_i32_3590 : BitVec 32 := 0#32
  let v5366 : BitVec 1 := Scalar.cmpi .slt v5364 c0_i32_3590
  let c0_i32_3591 : BitVec 32 := 0#32
  let v5367 : BitVec 1 := Scalar.cmpi .slt v5363 c0_i32_3591
  let v5368 : BitVec 1 := Scalar.xori v5366 v5367
  let c0_i32_3589 : BitVec 32 := 0#32
  let v5365 : BitVec 1 := Scalar.cmpi .ne v5364 c0_i32_3589
  let v5369 : BitVec 1 := Scalar.andi v5368 v5365
  let v5370 : BitVec 32 := Scalar.addi v5364 v5363
  let v5371 : BitVec 32 := Scalar.select v5369 v5370 v5364
  let c0_i32_3595 : BitVec 32 := 0#32
  let v5375 : BitVec 1 := Scalar.cmpi .sgt v5371 c0_i32_3595
  let v5376 : BitVec 32 := Scalar.extui v5375
  let c0_i32_3596 : BitVec 32 := 0#32
  let v5377 : BitVec 1 := Scalar.cmpi .slt v5371 c0_i32_3596
  let v5378 : BitVec 32 := Scalar.extui v5377
  let v5379 : BitVec 32 := Scalar.subi v5376 v5378
  let c4_i32_3594 : BitVec 32 := 4#32
  let c0_i32_3597 : BitVec 32 := 0#32
  let v5380 : BitVec 1 := Scalar.cmpi .sgt c4_i32_3594 c0_i32_3597
  let v5381 : BitVec 32 := Scalar.extui v5380
  let c0_i32_3598 : BitVec 32 := 0#32
  let v5382 : BitVec 1 := Scalar.cmpi .slt c4_i32_3594 c0_i32_3598
  let v5383 : BitVec 32 := Scalar.extui v5382
  let v5384 : BitVec 32 := Scalar.subi v5381 v5383
  let v5385 : BitVec 1 := Scalar.cmpi .ne v5379 v5384
  let v5386 : BitVec 32 := Scalar.remsi v5371 c4_i32_3594
  let c0_i32_3599 : BitVec 32 := 0#32
  let v5387 : BitVec 1 := Scalar.cmpi .ne v5386 c0_i32_3599
  let v5388 : BitVec 1 := Scalar.andi v5385 v5387
  let v5374 : BitVec 32 := Scalar.divsi v5371 c4_i32_3594
  let c1_i32_3600 : BitVec 32 := 1#32
  let v5389 : BitVec 32 := Scalar.subi v5374 c1_i32_3600
  let v5390 : BitVec 32 := Scalar.select v5388 v5389 v5374
  let c8_i32_3626 : BitVec 32 := 8#32
  let v5430 : BitVec 32 := Scalar.muli v5390 c8_i32_3626
  let v5431 : BitVec 32 := Scalar.addi c0_i32_3627 v5430
  let c0_i32_3602 : BitVec 32 := 0#32
  let v5392 : BitVec 1 := Scalar.cmpi .sgt v5371 c0_i32_3602
  let v5393 : BitVec 32 := Scalar.extui v5392
  let c0_i32_3603 : BitVec 32 := 0#32
  let v5394 : BitVec 1 := Scalar.cmpi .slt v5371 c0_i32_3603
  let v5395 : BitVec 32 := Scalar.extui v5394
  let v5396 : BitVec 32 := Scalar.subi v5393 v5395
  let c2_i32_3601 : BitVec 32 := 2#32
  let c0_i32_3604 : BitVec 32 := 0#32
  let v5397 : BitVec 1 := Scalar.cmpi .sgt c2_i32_3601 c0_i32_3604
  let v5398 : BitVec 32 := Scalar.extui v5397
  let c0_i32_3605 : BitVec 32 := 0#32
  let v5399 : BitVec 1 := Scalar.cmpi .slt c2_i32_3601 c0_i32_3605
  let v5400 : BitVec 32 := Scalar.extui v5399
  let v5401 : BitVec 32 := Scalar.subi v5398 v5400
  let v5402 : BitVec 1 := Scalar.cmpi .ne v5396 v5401
  let v5403 : BitVec 32 := Scalar.remsi v5371 c2_i32_3601
  let c0_i32_3606 : BitVec 32 := 0#32
  let v5404 : BitVec 1 := Scalar.cmpi .ne v5403 c0_i32_3606
  let v5405 : BitVec 1 := Scalar.andi v5402 v5404
  let v5391 : BitVec 32 := Scalar.divsi v5371 c2_i32_3601
  let c1_i32_3607 : BitVec 32 := 1#32
  let v5406 : BitVec 32 := Scalar.subi v5391 c1_i32_3607
  let v5407 : BitVec 32 := Scalar.select v5405 v5406 v5391
  let c2_i32_3608 : BitVec 32 := 2#32
  let c0_i32_3609 : BitVec 32 := 0#32
  let v5408 : BitVec 1 := Scalar.cmpi .eq c2_i32_3608 c0_i32_3609
  let c1_i32_3610 : BitVec 32 := 1#32
  let v5409 : BitVec 32 := Scalar.select v5408 c1_i32_3610 c2_i32_3608
  let v5410 : BitVec 32 := Scalar.remsi v5407 v5409
  let c0_i32_3612 : BitVec 32 := 0#32
  let v5412 : BitVec 1 := Scalar.cmpi .slt v5410 c0_i32_3612
  let c0_i32_3613 : BitVec 32 := 0#32
  let v5413 : BitVec 1 := Scalar.cmpi .slt v5409 c0_i32_3613
  let v5414 : BitVec 1 := Scalar.xori v5412 v5413
  let c0_i32_3611 : BitVec 32 := 0#32
  let v5411 : BitVec 1 := Scalar.cmpi .ne v5410 c0_i32_3611
  let v5415 : BitVec 1 := Scalar.andi v5414 v5411
  let v5416 : BitVec 32 := Scalar.addi v5410 v5409
  let v5417 : BitVec 32 := Scalar.select v5415 v5416 v5410
  let c4_i32_3628 : BitVec 32 := 4#32
  let v5432 : BitVec 32 := Scalar.muli v5417 c4_i32_3628
  let v5433 : BitVec 32 := Scalar.addi v5431 v5432
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3614 : BitVec 32 := 2#32
  let v5418 : BitVec 32 := Scalar.muli v25 c2_i32_3614
  let c2_i32_3615 : BitVec 32 := 2#32
  let c0_i32_3616 : BitVec 32 := 0#32
  let v5419 : BitVec 1 := Scalar.cmpi .eq c2_i32_3615 c0_i32_3616
  let c1_i32_3617 : BitVec 32 := 1#32
  let v5420 : BitVec 32 := Scalar.select v5419 c1_i32_3617 c2_i32_3615
  let v5421 : BitVec 32 := Scalar.remsi v5371 v5420
  let c0_i32_3619 : BitVec 32 := 0#32
  let v5423 : BitVec 1 := Scalar.cmpi .slt v5421 c0_i32_3619
  let c0_i32_3620 : BitVec 32 := 0#32
  let v5424 : BitVec 1 := Scalar.cmpi .slt v5420 c0_i32_3620
  let v5425 : BitVec 1 := Scalar.xori v5423 v5424
  let c0_i32_3618 : BitVec 32 := 0#32
  let v5422 : BitVec 1 := Scalar.cmpi .ne v5421 c0_i32_3618
  let v5426 : BitVec 1 := Scalar.andi v5425 v5422
  let v5427 : BitVec 32 := Scalar.addi v5421 v5420
  let v5428 : BitVec 32 := Scalar.select v5426 v5427 v5421
  let v5429 : BitVec 32 := Scalar.addi v5418 v5428
  let c1_i32_3629 : BitVec 32 := 1#32
  let v5434 : BitVec 32 := Scalar.muli v5429 c1_i32_3629
  let v5435 : BitVec 32 := Scalar.addi v5433 v5434
  v5435.toNat
def k0_dev64 (d0 : Dev nD) : Nat :=
  let c0_i32_3675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c3_i32_3633 : BitVec 32 := 3#32
  let v5443 : BitVec 32 := Scalar.addi v39 c3_i32_3633
  let c8_i32_3634 : BitVec 32 := 8#32
  let c0_i32_3635 : BitVec 32 := 0#32
  let v5444 : BitVec 1 := Scalar.cmpi .eq c8_i32_3634 c0_i32_3635
  let c1_i32_3636 : BitVec 32 := 1#32
  let v5445 : BitVec 32 := Scalar.select v5444 c1_i32_3636 c8_i32_3634
  let v5446 : BitVec 32 := Scalar.remsi v5443 v5445
  let c0_i32_3638 : BitVec 32 := 0#32
  let v5448 : BitVec 1 := Scalar.cmpi .slt v5446 c0_i32_3638
  let c0_i32_3639 : BitVec 32 := 0#32
  let v5449 : BitVec 1 := Scalar.cmpi .slt v5445 c0_i32_3639
  let v5450 : BitVec 1 := Scalar.xori v5448 v5449
  let c0_i32_3637 : BitVec 32 := 0#32
  let v5447 : BitVec 1 := Scalar.cmpi .ne v5446 c0_i32_3637
  let v5451 : BitVec 1 := Scalar.andi v5450 v5447
  let v5452 : BitVec 32 := Scalar.addi v5446 v5445
  let v5453 : BitVec 32 := Scalar.select v5451 v5452 v5446
  let c0_i32_3643 : BitVec 32 := 0#32
  let v5457 : BitVec 1 := Scalar.cmpi .sgt v5453 c0_i32_3643
  let v5458 : BitVec 32 := Scalar.extui v5457
  let c0_i32_3644 : BitVec 32 := 0#32
  let v5459 : BitVec 1 := Scalar.cmpi .slt v5453 c0_i32_3644
  let v5460 : BitVec 32 := Scalar.extui v5459
  let v5461 : BitVec 32 := Scalar.subi v5458 v5460
  let c4_i32_3642 : BitVec 32 := 4#32
  let c0_i32_3645 : BitVec 32 := 0#32
  let v5462 : BitVec 1 := Scalar.cmpi .sgt c4_i32_3642 c0_i32_3645
  let v5463 : BitVec 32 := Scalar.extui v5462
  let c0_i32_3646 : BitVec 32 := 0#32
  let v5464 : BitVec 1 := Scalar.cmpi .slt c4_i32_3642 c0_i32_3646
  let v5465 : BitVec 32 := Scalar.extui v5464
  let v5466 : BitVec 32 := Scalar.subi v5463 v5465
  let v5467 : BitVec 1 := Scalar.cmpi .ne v5461 v5466
  let v5468 : BitVec 32 := Scalar.remsi v5453 c4_i32_3642
  let c0_i32_3647 : BitVec 32 := 0#32
  let v5469 : BitVec 1 := Scalar.cmpi .ne v5468 c0_i32_3647
  let v5470 : BitVec 1 := Scalar.andi v5467 v5469
  let v5456 : BitVec 32 := Scalar.divsi v5453 c4_i32_3642
  let c1_i32_3648 : BitVec 32 := 1#32
  let v5471 : BitVec 32 := Scalar.subi v5456 c1_i32_3648
  let v5472 : BitVec 32 := Scalar.select v5470 v5471 v5456
  let c8_i32_3674 : BitVec 32 := 8#32
  let v5512 : BitVec 32 := Scalar.muli v5472 c8_i32_3674
  let v5513 : BitVec 32 := Scalar.addi c0_i32_3675 v5512
  let c0_i32_3650 : BitVec 32 := 0#32
  let v5474 : BitVec 1 := Scalar.cmpi .sgt v5453 c0_i32_3650
  let v5475 : BitVec 32 := Scalar.extui v5474
  let c0_i32_3651 : BitVec 32 := 0#32
  let v5476 : BitVec 1 := Scalar.cmpi .slt v5453 c0_i32_3651
  let v5477 : BitVec 32 := Scalar.extui v5476
  let v5478 : BitVec 32 := Scalar.subi v5475 v5477
  let c2_i32_3649 : BitVec 32 := 2#32
  let c0_i32_3652 : BitVec 32 := 0#32
  let v5479 : BitVec 1 := Scalar.cmpi .sgt c2_i32_3649 c0_i32_3652
  let v5480 : BitVec 32 := Scalar.extui v5479
  let c0_i32_3653 : BitVec 32 := 0#32
  let v5481 : BitVec 1 := Scalar.cmpi .slt c2_i32_3649 c0_i32_3653
  let v5482 : BitVec 32 := Scalar.extui v5481
  let v5483 : BitVec 32 := Scalar.subi v5480 v5482
  let v5484 : BitVec 1 := Scalar.cmpi .ne v5478 v5483
  let v5485 : BitVec 32 := Scalar.remsi v5453 c2_i32_3649
  let c0_i32_3654 : BitVec 32 := 0#32
  let v5486 : BitVec 1 := Scalar.cmpi .ne v5485 c0_i32_3654
  let v5487 : BitVec 1 := Scalar.andi v5484 v5486
  let v5473 : BitVec 32 := Scalar.divsi v5453 c2_i32_3649
  let c1_i32_3655 : BitVec 32 := 1#32
  let v5488 : BitVec 32 := Scalar.subi v5473 c1_i32_3655
  let v5489 : BitVec 32 := Scalar.select v5487 v5488 v5473
  let c2_i32_3656 : BitVec 32 := 2#32
  let c0_i32_3657 : BitVec 32 := 0#32
  let v5490 : BitVec 1 := Scalar.cmpi .eq c2_i32_3656 c0_i32_3657
  let c1_i32_3658 : BitVec 32 := 1#32
  let v5491 : BitVec 32 := Scalar.select v5490 c1_i32_3658 c2_i32_3656
  let v5492 : BitVec 32 := Scalar.remsi v5489 v5491
  let c0_i32_3660 : BitVec 32 := 0#32
  let v5494 : BitVec 1 := Scalar.cmpi .slt v5492 c0_i32_3660
  let c0_i32_3661 : BitVec 32 := 0#32
  let v5495 : BitVec 1 := Scalar.cmpi .slt v5491 c0_i32_3661
  let v5496 : BitVec 1 := Scalar.xori v5494 v5495
  let c0_i32_3659 : BitVec 32 := 0#32
  let v5493 : BitVec 1 := Scalar.cmpi .ne v5492 c0_i32_3659
  let v5497 : BitVec 1 := Scalar.andi v5496 v5493
  let v5498 : BitVec 32 := Scalar.addi v5492 v5491
  let v5499 : BitVec 32 := Scalar.select v5497 v5498 v5492
  let c4_i32_3676 : BitVec 32 := 4#32
  let v5514 : BitVec 32 := Scalar.muli v5499 c4_i32_3676
  let v5515 : BitVec 32 := Scalar.addi v5513 v5514
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3662 : BitVec 32 := 2#32
  let v5500 : BitVec 32 := Scalar.muli v25 c2_i32_3662
  let c2_i32_3663 : BitVec 32 := 2#32
  let c0_i32_3664 : BitVec 32 := 0#32
  let v5501 : BitVec 1 := Scalar.cmpi .eq c2_i32_3663 c0_i32_3664
  let c1_i32_3665 : BitVec 32 := 1#32
  let v5502 : BitVec 32 := Scalar.select v5501 c1_i32_3665 c2_i32_3663
  let v5503 : BitVec 32 := Scalar.remsi v5453 v5502
  let c0_i32_3667 : BitVec 32 := 0#32
  let v5505 : BitVec 1 := Scalar.cmpi .slt v5503 c0_i32_3667
  let c0_i32_3668 : BitVec 32 := 0#32
  let v5506 : BitVec 1 := Scalar.cmpi .slt v5502 c0_i32_3668
  let v5507 : BitVec 1 := Scalar.xori v5505 v5506
  let c0_i32_3666 : BitVec 32 := 0#32
  let v5504 : BitVec 1 := Scalar.cmpi .ne v5503 c0_i32_3666
  let v5508 : BitVec 1 := Scalar.andi v5507 v5504
  let v5509 : BitVec 32 := Scalar.addi v5503 v5502
  let v5510 : BitVec 32 := Scalar.select v5508 v5509 v5503
  let v5511 : BitVec 32 := Scalar.addi v5500 v5510
  let c1_i32_3677 : BitVec 32 := 1#32
  let v5516 : BitVec 32 := Scalar.muli v5511 c1_i32_3677
  let v5517 : BitVec 32 := Scalar.addi v5515 v5516
  v5517.toNat
def k0_dev65 (d0 : Dev nD) : Nat :=
  let c0_i32_3723 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c4_i32_3681 : BitVec 32 := 4#32
  let v5525 : BitVec 32 := Scalar.addi v39 c4_i32_3681
  let c8_i32_3682 : BitVec 32 := 8#32
  let c0_i32_3683 : BitVec 32 := 0#32
  let v5526 : BitVec 1 := Scalar.cmpi .eq c8_i32_3682 c0_i32_3683
  let c1_i32_3684 : BitVec 32 := 1#32
  let v5527 : BitVec 32 := Scalar.select v5526 c1_i32_3684 c8_i32_3682
  let v5528 : BitVec 32 := Scalar.remsi v5525 v5527
  let c0_i32_3686 : BitVec 32 := 0#32
  let v5530 : BitVec 1 := Scalar.cmpi .slt v5528 c0_i32_3686
  let c0_i32_3687 : BitVec 32 := 0#32
  let v5531 : BitVec 1 := Scalar.cmpi .slt v5527 c0_i32_3687
  let v5532 : BitVec 1 := Scalar.xori v5530 v5531
  let c0_i32_3685 : BitVec 32 := 0#32
  let v5529 : BitVec 1 := Scalar.cmpi .ne v5528 c0_i32_3685
  let v5533 : BitVec 1 := Scalar.andi v5532 v5529
  let v5534 : BitVec 32 := Scalar.addi v5528 v5527
  let v5535 : BitVec 32 := Scalar.select v5533 v5534 v5528
  let c0_i32_3691 : BitVec 32 := 0#32
  let v5539 : BitVec 1 := Scalar.cmpi .sgt v5535 c0_i32_3691
  let v5540 : BitVec 32 := Scalar.extui v5539
  let c0_i32_3692 : BitVec 32 := 0#32
  let v5541 : BitVec 1 := Scalar.cmpi .slt v5535 c0_i32_3692
  let v5542 : BitVec 32 := Scalar.extui v5541
  let v5543 : BitVec 32 := Scalar.subi v5540 v5542
  let c4_i32_3690 : BitVec 32 := 4#32
  let c0_i32_3693 : BitVec 32 := 0#32
  let v5544 : BitVec 1 := Scalar.cmpi .sgt c4_i32_3690 c0_i32_3693
  let v5545 : BitVec 32 := Scalar.extui v5544
  let c0_i32_3694 : BitVec 32 := 0#32
  let v5546 : BitVec 1 := Scalar.cmpi .slt c4_i32_3690 c0_i32_3694
  let v5547 : BitVec 32 := Scalar.extui v5546
  let v5548 : BitVec 32 := Scalar.subi v5545 v5547
  let v5549 : BitVec 1 := Scalar.cmpi .ne v5543 v5548
  let v5550 : BitVec 32 := Scalar.remsi v5535 c4_i32_3690
  let c0_i32_3695 : BitVec 32 := 0#32
  let v5551 : BitVec 1 := Scalar.cmpi .ne v5550 c0_i32_3695
  let v5552 : BitVec 1 := Scalar.andi v5549 v5551
  let v5538 : BitVec 32 := Scalar.divsi v5535 c4_i32_3690
  let c1_i32_3696 : BitVec 32 := 1#32
  let v5553 : BitVec 32 := Scalar.subi v5538 c1_i32_3696
  let v5554 : BitVec 32 := Scalar.select v5552 v5553 v5538
  let c8_i32_3722 : BitVec 32 := 8#32
  let v5594 : BitVec 32 := Scalar.muli v5554 c8_i32_3722
  let v5595 : BitVec 32 := Scalar.addi c0_i32_3723 v5594
  let c0_i32_3698 : BitVec 32 := 0#32
  let v5556 : BitVec 1 := Scalar.cmpi .sgt v5535 c0_i32_3698
  let v5557 : BitVec 32 := Scalar.extui v5556
  let c0_i32_3699 : BitVec 32 := 0#32
  let v5558 : BitVec 1 := Scalar.cmpi .slt v5535 c0_i32_3699
  let v5559 : BitVec 32 := Scalar.extui v5558
  let v5560 : BitVec 32 := Scalar.subi v5557 v5559
  let c2_i32_3697 : BitVec 32 := 2#32
  let c0_i32_3700 : BitVec 32 := 0#32
  let v5561 : BitVec 1 := Scalar.cmpi .sgt c2_i32_3697 c0_i32_3700
  let v5562 : BitVec 32 := Scalar.extui v5561
  let c0_i32_3701 : BitVec 32 := 0#32
  let v5563 : BitVec 1 := Scalar.cmpi .slt c2_i32_3697 c0_i32_3701
  let v5564 : BitVec 32 := Scalar.extui v5563
  let v5565 : BitVec 32 := Scalar.subi v5562 v5564
  let v5566 : BitVec 1 := Scalar.cmpi .ne v5560 v5565
  let v5567 : BitVec 32 := Scalar.remsi v5535 c2_i32_3697
  let c0_i32_3702 : BitVec 32 := 0#32
  let v5568 : BitVec 1 := Scalar.cmpi .ne v5567 c0_i32_3702
  let v5569 : BitVec 1 := Scalar.andi v5566 v5568
  let v5555 : BitVec 32 := Scalar.divsi v5535 c2_i32_3697
  let c1_i32_3703 : BitVec 32 := 1#32
  let v5570 : BitVec 32 := Scalar.subi v5555 c1_i32_3703
  let v5571 : BitVec 32 := Scalar.select v5569 v5570 v5555
  let c2_i32_3704 : BitVec 32 := 2#32
  let c0_i32_3705 : BitVec 32 := 0#32
  let v5572 : BitVec 1 := Scalar.cmpi .eq c2_i32_3704 c0_i32_3705
  let c1_i32_3706 : BitVec 32 := 1#32
  let v5573 : BitVec 32 := Scalar.select v5572 c1_i32_3706 c2_i32_3704
  let v5574 : BitVec 32 := Scalar.remsi v5571 v5573
  let c0_i32_3708 : BitVec 32 := 0#32
  let v5576 : BitVec 1 := Scalar.cmpi .slt v5574 c0_i32_3708
  let c0_i32_3709 : BitVec 32 := 0#32
  let v5577 : BitVec 1 := Scalar.cmpi .slt v5573 c0_i32_3709
  let v5578 : BitVec 1 := Scalar.xori v5576 v5577
  let c0_i32_3707 : BitVec 32 := 0#32
  let v5575 : BitVec 1 := Scalar.cmpi .ne v5574 c0_i32_3707
  let v5579 : BitVec 1 := Scalar.andi v5578 v5575
  let v5580 : BitVec 32 := Scalar.addi v5574 v5573
  let v5581 : BitVec 32 := Scalar.select v5579 v5580 v5574
  let c4_i32_3724 : BitVec 32 := 4#32
  let v5596 : BitVec 32 := Scalar.muli v5581 c4_i32_3724
  let v5597 : BitVec 32 := Scalar.addi v5595 v5596
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3710 : BitVec 32 := 2#32
  let v5582 : BitVec 32 := Scalar.muli v25 c2_i32_3710
  let c2_i32_3711 : BitVec 32 := 2#32
  let c0_i32_3712 : BitVec 32 := 0#32
  let v5583 : BitVec 1 := Scalar.cmpi .eq c2_i32_3711 c0_i32_3712
  let c1_i32_3713 : BitVec 32 := 1#32
  let v5584 : BitVec 32 := Scalar.select v5583 c1_i32_3713 c2_i32_3711
  let v5585 : BitVec 32 := Scalar.remsi v5535 v5584
  let c0_i32_3715 : BitVec 32 := 0#32
  let v5587 : BitVec 1 := Scalar.cmpi .slt v5585 c0_i32_3715
  let c0_i32_3716 : BitVec 32 := 0#32
  let v5588 : BitVec 1 := Scalar.cmpi .slt v5584 c0_i32_3716
  let v5589 : BitVec 1 := Scalar.xori v5587 v5588
  let c0_i32_3714 : BitVec 32 := 0#32
  let v5586 : BitVec 1 := Scalar.cmpi .ne v5585 c0_i32_3714
  let v5590 : BitVec 1 := Scalar.andi v5589 v5586
  let v5591 : BitVec 32 := Scalar.addi v5585 v5584
  let v5592 : BitVec 32 := Scalar.select v5590 v5591 v5585
  let v5593 : BitVec 32 := Scalar.addi v5582 v5592
  let c1_i32_3725 : BitVec 32 := 1#32
  let v5598 : BitVec 32 := Scalar.muli v5593 c1_i32_3725
  let v5599 : BitVec 32 := Scalar.addi v5597 v5598
  v5599.toNat
def k0_dev66 (d0 : Dev nD) : Nat :=
  let c0_i32_3771 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c5_i32_3729 : BitVec 32 := 5#32
  let v5607 : BitVec 32 := Scalar.addi v39 c5_i32_3729
  let c8_i32_3730 : BitVec 32 := 8#32
  let c0_i32_3731 : BitVec 32 := 0#32
  let v5608 : BitVec 1 := Scalar.cmpi .eq c8_i32_3730 c0_i32_3731
  let c1_i32_3732 : BitVec 32 := 1#32
  let v5609 : BitVec 32 := Scalar.select v5608 c1_i32_3732 c8_i32_3730
  let v5610 : BitVec 32 := Scalar.remsi v5607 v5609
  let c0_i32_3734 : BitVec 32 := 0#32
  let v5612 : BitVec 1 := Scalar.cmpi .slt v5610 c0_i32_3734
  let c0_i32_3735 : BitVec 32 := 0#32
  let v5613 : BitVec 1 := Scalar.cmpi .slt v5609 c0_i32_3735
  let v5614 : BitVec 1 := Scalar.xori v5612 v5613
  let c0_i32_3733 : BitVec 32 := 0#32
  let v5611 : BitVec 1 := Scalar.cmpi .ne v5610 c0_i32_3733
  let v5615 : BitVec 1 := Scalar.andi v5614 v5611
  let v5616 : BitVec 32 := Scalar.addi v5610 v5609
  let v5617 : BitVec 32 := Scalar.select v5615 v5616 v5610
  let c0_i32_3739 : BitVec 32 := 0#32
  let v5621 : BitVec 1 := Scalar.cmpi .sgt v5617 c0_i32_3739
  let v5622 : BitVec 32 := Scalar.extui v5621
  let c0_i32_3740 : BitVec 32 := 0#32
  let v5623 : BitVec 1 := Scalar.cmpi .slt v5617 c0_i32_3740
  let v5624 : BitVec 32 := Scalar.extui v5623
  let v5625 : BitVec 32 := Scalar.subi v5622 v5624
  let c4_i32_3738 : BitVec 32 := 4#32
  let c0_i32_3741 : BitVec 32 := 0#32
  let v5626 : BitVec 1 := Scalar.cmpi .sgt c4_i32_3738 c0_i32_3741
  let v5627 : BitVec 32 := Scalar.extui v5626
  let c0_i32_3742 : BitVec 32 := 0#32
  let v5628 : BitVec 1 := Scalar.cmpi .slt c4_i32_3738 c0_i32_3742
  let v5629 : BitVec 32 := Scalar.extui v5628
  let v5630 : BitVec 32 := Scalar.subi v5627 v5629
  let v5631 : BitVec 1 := Scalar.cmpi .ne v5625 v5630
  let v5632 : BitVec 32 := Scalar.remsi v5617 c4_i32_3738
  let c0_i32_3743 : BitVec 32 := 0#32
  let v5633 : BitVec 1 := Scalar.cmpi .ne v5632 c0_i32_3743
  let v5634 : BitVec 1 := Scalar.andi v5631 v5633
  let v5620 : BitVec 32 := Scalar.divsi v5617 c4_i32_3738
  let c1_i32_3744 : BitVec 32 := 1#32
  let v5635 : BitVec 32 := Scalar.subi v5620 c1_i32_3744
  let v5636 : BitVec 32 := Scalar.select v5634 v5635 v5620
  let c8_i32_3770 : BitVec 32 := 8#32
  let v5676 : BitVec 32 := Scalar.muli v5636 c8_i32_3770
  let v5677 : BitVec 32 := Scalar.addi c0_i32_3771 v5676
  let c0_i32_3746 : BitVec 32 := 0#32
  let v5638 : BitVec 1 := Scalar.cmpi .sgt v5617 c0_i32_3746
  let v5639 : BitVec 32 := Scalar.extui v5638
  let c0_i32_3747 : BitVec 32 := 0#32
  let v5640 : BitVec 1 := Scalar.cmpi .slt v5617 c0_i32_3747
  let v5641 : BitVec 32 := Scalar.extui v5640
  let v5642 : BitVec 32 := Scalar.subi v5639 v5641
  let c2_i32_3745 : BitVec 32 := 2#32
  let c0_i32_3748 : BitVec 32 := 0#32
  let v5643 : BitVec 1 := Scalar.cmpi .sgt c2_i32_3745 c0_i32_3748
  let v5644 : BitVec 32 := Scalar.extui v5643
  let c0_i32_3749 : BitVec 32 := 0#32
  let v5645 : BitVec 1 := Scalar.cmpi .slt c2_i32_3745 c0_i32_3749
  let v5646 : BitVec 32 := Scalar.extui v5645
  let v5647 : BitVec 32 := Scalar.subi v5644 v5646
  let v5648 : BitVec 1 := Scalar.cmpi .ne v5642 v5647
  let v5649 : BitVec 32 := Scalar.remsi v5617 c2_i32_3745
  let c0_i32_3750 : BitVec 32 := 0#32
  let v5650 : BitVec 1 := Scalar.cmpi .ne v5649 c0_i32_3750
  let v5651 : BitVec 1 := Scalar.andi v5648 v5650
  let v5637 : BitVec 32 := Scalar.divsi v5617 c2_i32_3745
  let c1_i32_3751 : BitVec 32 := 1#32
  let v5652 : BitVec 32 := Scalar.subi v5637 c1_i32_3751
  let v5653 : BitVec 32 := Scalar.select v5651 v5652 v5637
  let c2_i32_3752 : BitVec 32 := 2#32
  let c0_i32_3753 : BitVec 32 := 0#32
  let v5654 : BitVec 1 := Scalar.cmpi .eq c2_i32_3752 c0_i32_3753
  let c1_i32_3754 : BitVec 32 := 1#32
  let v5655 : BitVec 32 := Scalar.select v5654 c1_i32_3754 c2_i32_3752
  let v5656 : BitVec 32 := Scalar.remsi v5653 v5655
  let c0_i32_3756 : BitVec 32 := 0#32
  let v5658 : BitVec 1 := Scalar.cmpi .slt v5656 c0_i32_3756
  let c0_i32_3757 : BitVec 32 := 0#32
  let v5659 : BitVec 1 := Scalar.cmpi .slt v5655 c0_i32_3757
  let v5660 : BitVec 1 := Scalar.xori v5658 v5659
  let c0_i32_3755 : BitVec 32 := 0#32
  let v5657 : BitVec 1 := Scalar.cmpi .ne v5656 c0_i32_3755
  let v5661 : BitVec 1 := Scalar.andi v5660 v5657
  let v5662 : BitVec 32 := Scalar.addi v5656 v5655
  let v5663 : BitVec 32 := Scalar.select v5661 v5662 v5656
  let c4_i32_3772 : BitVec 32 := 4#32
  let v5678 : BitVec 32 := Scalar.muli v5663 c4_i32_3772
  let v5679 : BitVec 32 := Scalar.addi v5677 v5678
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3758 : BitVec 32 := 2#32
  let v5664 : BitVec 32 := Scalar.muli v25 c2_i32_3758
  let c2_i32_3759 : BitVec 32 := 2#32
  let c0_i32_3760 : BitVec 32 := 0#32
  let v5665 : BitVec 1 := Scalar.cmpi .eq c2_i32_3759 c0_i32_3760
  let c1_i32_3761 : BitVec 32 := 1#32
  let v5666 : BitVec 32 := Scalar.select v5665 c1_i32_3761 c2_i32_3759
  let v5667 : BitVec 32 := Scalar.remsi v5617 v5666
  let c0_i32_3763 : BitVec 32 := 0#32
  let v5669 : BitVec 1 := Scalar.cmpi .slt v5667 c0_i32_3763
  let c0_i32_3764 : BitVec 32 := 0#32
  let v5670 : BitVec 1 := Scalar.cmpi .slt v5666 c0_i32_3764
  let v5671 : BitVec 1 := Scalar.xori v5669 v5670
  let c0_i32_3762 : BitVec 32 := 0#32
  let v5668 : BitVec 1 := Scalar.cmpi .ne v5667 c0_i32_3762
  let v5672 : BitVec 1 := Scalar.andi v5671 v5668
  let v5673 : BitVec 32 := Scalar.addi v5667 v5666
  let v5674 : BitVec 32 := Scalar.select v5672 v5673 v5667
  let v5675 : BitVec 32 := Scalar.addi v5664 v5674
  let c1_i32_3773 : BitVec 32 := 1#32
  let v5680 : BitVec 32 := Scalar.muli v5675 c1_i32_3773
  let v5681 : BitVec 32 := Scalar.addi v5679 v5680
  v5681.toNat
def k0_dev67 (d0 : Dev nD) : Nat :=
  let c0_i32_3819 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c6_i32_3777 : BitVec 32 := 6#32
  let v5689 : BitVec 32 := Scalar.addi v39 c6_i32_3777
  let c8_i32_3778 : BitVec 32 := 8#32
  let c0_i32_3779 : BitVec 32 := 0#32
  let v5690 : BitVec 1 := Scalar.cmpi .eq c8_i32_3778 c0_i32_3779
  let c1_i32_3780 : BitVec 32 := 1#32
  let v5691 : BitVec 32 := Scalar.select v5690 c1_i32_3780 c8_i32_3778
  let v5692 : BitVec 32 := Scalar.remsi v5689 v5691
  let c0_i32_3782 : BitVec 32 := 0#32
  let v5694 : BitVec 1 := Scalar.cmpi .slt v5692 c0_i32_3782
  let c0_i32_3783 : BitVec 32 := 0#32
  let v5695 : BitVec 1 := Scalar.cmpi .slt v5691 c0_i32_3783
  let v5696 : BitVec 1 := Scalar.xori v5694 v5695
  let c0_i32_3781 : BitVec 32 := 0#32
  let v5693 : BitVec 1 := Scalar.cmpi .ne v5692 c0_i32_3781
  let v5697 : BitVec 1 := Scalar.andi v5696 v5693
  let v5698 : BitVec 32 := Scalar.addi v5692 v5691
  let v5699 : BitVec 32 := Scalar.select v5697 v5698 v5692
  let c0_i32_3787 : BitVec 32 := 0#32
  let v5703 : BitVec 1 := Scalar.cmpi .sgt v5699 c0_i32_3787
  let v5704 : BitVec 32 := Scalar.extui v5703
  let c0_i32_3788 : BitVec 32 := 0#32
  let v5705 : BitVec 1 := Scalar.cmpi .slt v5699 c0_i32_3788
  let v5706 : BitVec 32 := Scalar.extui v5705
  let v5707 : BitVec 32 := Scalar.subi v5704 v5706
  let c4_i32_3786 : BitVec 32 := 4#32
  let c0_i32_3789 : BitVec 32 := 0#32
  let v5708 : BitVec 1 := Scalar.cmpi .sgt c4_i32_3786 c0_i32_3789
  let v5709 : BitVec 32 := Scalar.extui v5708
  let c0_i32_3790 : BitVec 32 := 0#32
  let v5710 : BitVec 1 := Scalar.cmpi .slt c4_i32_3786 c0_i32_3790
  let v5711 : BitVec 32 := Scalar.extui v5710
  let v5712 : BitVec 32 := Scalar.subi v5709 v5711
  let v5713 : BitVec 1 := Scalar.cmpi .ne v5707 v5712
  let v5714 : BitVec 32 := Scalar.remsi v5699 c4_i32_3786
  let c0_i32_3791 : BitVec 32 := 0#32
  let v5715 : BitVec 1 := Scalar.cmpi .ne v5714 c0_i32_3791
  let v5716 : BitVec 1 := Scalar.andi v5713 v5715
  let v5702 : BitVec 32 := Scalar.divsi v5699 c4_i32_3786
  let c1_i32_3792 : BitVec 32 := 1#32
  let v5717 : BitVec 32 := Scalar.subi v5702 c1_i32_3792
  let v5718 : BitVec 32 := Scalar.select v5716 v5717 v5702
  let c8_i32_3818 : BitVec 32 := 8#32
  let v5758 : BitVec 32 := Scalar.muli v5718 c8_i32_3818
  let v5759 : BitVec 32 := Scalar.addi c0_i32_3819 v5758
  let c0_i32_3794 : BitVec 32 := 0#32
  let v5720 : BitVec 1 := Scalar.cmpi .sgt v5699 c0_i32_3794
  let v5721 : BitVec 32 := Scalar.extui v5720
  let c0_i32_3795 : BitVec 32 := 0#32
  let v5722 : BitVec 1 := Scalar.cmpi .slt v5699 c0_i32_3795
  let v5723 : BitVec 32 := Scalar.extui v5722
  let v5724 : BitVec 32 := Scalar.subi v5721 v5723
  let c2_i32_3793 : BitVec 32 := 2#32
  let c0_i32_3796 : BitVec 32 := 0#32
  let v5725 : BitVec 1 := Scalar.cmpi .sgt c2_i32_3793 c0_i32_3796
  let v5726 : BitVec 32 := Scalar.extui v5725
  let c0_i32_3797 : BitVec 32 := 0#32
  let v5727 : BitVec 1 := Scalar.cmpi .slt c2_i32_3793 c0_i32_3797
  let v5728 : BitVec 32 := Scalar.extui v5727
  let v5729 : BitVec 32 := Scalar.subi v5726 v5728
  let v5730 : BitVec 1 := Scalar.cmpi .ne v5724 v5729
  let v5731 : BitVec 32 := Scalar.remsi v5699 c2_i32_3793
  let c0_i32_3798 : BitVec 32 := 0#32
  let v5732 : BitVec 1 := Scalar.cmpi .ne v5731 c0_i32_3798
  let v5733 : BitVec 1 := Scalar.andi v5730 v5732
  let v5719 : BitVec 32 := Scalar.divsi v5699 c2_i32_3793
  let c1_i32_3799 : BitVec 32 := 1#32
  let v5734 : BitVec 32 := Scalar.subi v5719 c1_i32_3799
  let v5735 : BitVec 32 := Scalar.select v5733 v5734 v5719
  let c2_i32_3800 : BitVec 32 := 2#32
  let c0_i32_3801 : BitVec 32 := 0#32
  let v5736 : BitVec 1 := Scalar.cmpi .eq c2_i32_3800 c0_i32_3801
  let c1_i32_3802 : BitVec 32 := 1#32
  let v5737 : BitVec 32 := Scalar.select v5736 c1_i32_3802 c2_i32_3800
  let v5738 : BitVec 32 := Scalar.remsi v5735 v5737
  let c0_i32_3804 : BitVec 32 := 0#32
  let v5740 : BitVec 1 := Scalar.cmpi .slt v5738 c0_i32_3804
  let c0_i32_3805 : BitVec 32 := 0#32
  let v5741 : BitVec 1 := Scalar.cmpi .slt v5737 c0_i32_3805
  let v5742 : BitVec 1 := Scalar.xori v5740 v5741
  let c0_i32_3803 : BitVec 32 := 0#32
  let v5739 : BitVec 1 := Scalar.cmpi .ne v5738 c0_i32_3803
  let v5743 : BitVec 1 := Scalar.andi v5742 v5739
  let v5744 : BitVec 32 := Scalar.addi v5738 v5737
  let v5745 : BitVec 32 := Scalar.select v5743 v5744 v5738
  let c4_i32_3820 : BitVec 32 := 4#32
  let v5760 : BitVec 32 := Scalar.muli v5745 c4_i32_3820
  let v5761 : BitVec 32 := Scalar.addi v5759 v5760
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3806 : BitVec 32 := 2#32
  let v5746 : BitVec 32 := Scalar.muli v25 c2_i32_3806
  let c2_i32_3807 : BitVec 32 := 2#32
  let c0_i32_3808 : BitVec 32 := 0#32
  let v5747 : BitVec 1 := Scalar.cmpi .eq c2_i32_3807 c0_i32_3808
  let c1_i32_3809 : BitVec 32 := 1#32
  let v5748 : BitVec 32 := Scalar.select v5747 c1_i32_3809 c2_i32_3807
  let v5749 : BitVec 32 := Scalar.remsi v5699 v5748
  let c0_i32_3811 : BitVec 32 := 0#32
  let v5751 : BitVec 1 := Scalar.cmpi .slt v5749 c0_i32_3811
  let c0_i32_3812 : BitVec 32 := 0#32
  let v5752 : BitVec 1 := Scalar.cmpi .slt v5748 c0_i32_3812
  let v5753 : BitVec 1 := Scalar.xori v5751 v5752
  let c0_i32_3810 : BitVec 32 := 0#32
  let v5750 : BitVec 1 := Scalar.cmpi .ne v5749 c0_i32_3810
  let v5754 : BitVec 1 := Scalar.andi v5753 v5750
  let v5755 : BitVec 32 := Scalar.addi v5749 v5748
  let v5756 : BitVec 32 := Scalar.select v5754 v5755 v5749
  let v5757 : BitVec 32 := Scalar.addi v5746 v5756
  let c1_i32_3821 : BitVec 32 := 1#32
  let v5762 : BitVec 32 := Scalar.muli v5757 c1_i32_3821
  let v5763 : BitVec 32 := Scalar.addi v5761 v5762
  v5763.toNat
def k0_dev68 (d0 : Dev nD) : Nat :=
  let c0_i32_3867 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_8 : BitVec 32 := 4#32
  let v26 : BitVec 32 := Scalar.muli v2 c4_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_9 : BitVec 32 := 2#32
  let v27 : BitVec 32 := Scalar.muli v5 c2_i32_9
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v8 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v39 : BitVec 32 := Scalar.addi v28 v38
  let c7_i32_3825 : BitVec 32 := 7#32
  let v5771 : BitVec 32 := Scalar.addi v39 c7_i32_3825
  let c8_i32_3826 : BitVec 32 := 8#32
  let c0_i32_3827 : BitVec 32 := 0#32
  let v5772 : BitVec 1 := Scalar.cmpi .eq c8_i32_3826 c0_i32_3827
  let c1_i32_3828 : BitVec 32 := 1#32
  let v5773 : BitVec 32 := Scalar.select v5772 c1_i32_3828 c8_i32_3826
  let v5774 : BitVec 32 := Scalar.remsi v5771 v5773
  let c0_i32_3830 : BitVec 32 := 0#32
  let v5776 : BitVec 1 := Scalar.cmpi .slt v5774 c0_i32_3830
  let c0_i32_3831 : BitVec 32 := 0#32
  let v5777 : BitVec 1 := Scalar.cmpi .slt v5773 c0_i32_3831
  let v5778 : BitVec 1 := Scalar.xori v5776 v5777
  let c0_i32_3829 : BitVec 32 := 0#32
  let v5775 : BitVec 1 := Scalar.cmpi .ne v5774 c0_i32_3829
  let v5779 : BitVec 1 := Scalar.andi v5778 v5775
  let v5780 : BitVec 32 := Scalar.addi v5774 v5773
  let v5781 : BitVec 32 := Scalar.select v5779 v5780 v5774
  let c0_i32_3835 : BitVec 32 := 0#32
  let v5785 : BitVec 1 := Scalar.cmpi .sgt v5781 c0_i32_3835
  let v5786 : BitVec 32 := Scalar.extui v5785
  let c0_i32_3836 : BitVec 32 := 0#32
  let v5787 : BitVec 1 := Scalar.cmpi .slt v5781 c0_i32_3836
  let v5788 : BitVec 32 := Scalar.extui v5787
  let v5789 : BitVec 32 := Scalar.subi v5786 v5788
  let c4_i32_3834 : BitVec 32 := 4#32
  let c0_i32_3837 : BitVec 32 := 0#32
  let v5790 : BitVec 1 := Scalar.cmpi .sgt c4_i32_3834 c0_i32_3837
  let v5791 : BitVec 32 := Scalar.extui v5790
  let c0_i32_3838 : BitVec 32 := 0#32
  let v5792 : BitVec 1 := Scalar.cmpi .slt c4_i32_3834 c0_i32_3838
  let v5793 : BitVec 32 := Scalar.extui v5792
  let v5794 : BitVec 32 := Scalar.subi v5791 v5793
  let v5795 : BitVec 1 := Scalar.cmpi .ne v5789 v5794
  let v5796 : BitVec 32 := Scalar.remsi v5781 c4_i32_3834
  let c0_i32_3839 : BitVec 32 := 0#32
  let v5797 : BitVec 1 := Scalar.cmpi .ne v5796 c0_i32_3839
  let v5798 : BitVec 1 := Scalar.andi v5795 v5797
  let v5784 : BitVec 32 := Scalar.divsi v5781 c4_i32_3834
  let c1_i32_3840 : BitVec 32 := 1#32
  let v5799 : BitVec 32 := Scalar.subi v5784 c1_i32_3840
  let v5800 : BitVec 32 := Scalar.select v5798 v5799 v5784
  let c8_i32_3866 : BitVec 32 := 8#32
  let v5840 : BitVec 32 := Scalar.muli v5800 c8_i32_3866
  let v5841 : BitVec 32 := Scalar.addi c0_i32_3867 v5840
  let c0_i32_3842 : BitVec 32 := 0#32
  let v5802 : BitVec 1 := Scalar.cmpi .sgt v5781 c0_i32_3842
  let v5803 : BitVec 32 := Scalar.extui v5802
  let c0_i32_3843 : BitVec 32 := 0#32
  let v5804 : BitVec 1 := Scalar.cmpi .slt v5781 c0_i32_3843
  let v5805 : BitVec 32 := Scalar.extui v5804
  let v5806 : BitVec 32 := Scalar.subi v5803 v5805
  let c2_i32_3841 : BitVec 32 := 2#32
  let c0_i32_3844 : BitVec 32 := 0#32
  let v5807 : BitVec 1 := Scalar.cmpi .sgt c2_i32_3841 c0_i32_3844
  let v5808 : BitVec 32 := Scalar.extui v5807
  let c0_i32_3845 : BitVec 32 := 0#32
  let v5809 : BitVec 1 := Scalar.cmpi .slt c2_i32_3841 c0_i32_3845
  let v5810 : BitVec 32 := Scalar.extui v5809
  let v5811 : BitVec 32 := Scalar.subi v5808 v5810
  let v5812 : BitVec 1 := Scalar.cmpi .ne v5806 v5811
  let v5813 : BitVec 32 := Scalar.remsi v5781 c2_i32_3841
  let c0_i32_3846 : BitVec 32 := 0#32
  let v5814 : BitVec 1 := Scalar.cmpi .ne v5813 c0_i32_3846
  let v5815 : BitVec 1 := Scalar.andi v5812 v5814
  let v5801 : BitVec 32 := Scalar.divsi v5781 c2_i32_3841
  let c1_i32_3847 : BitVec 32 := 1#32
  let v5816 : BitVec 32 := Scalar.subi v5801 c1_i32_3847
  let v5817 : BitVec 32 := Scalar.select v5815 v5816 v5801
  let c2_i32_3848 : BitVec 32 := 2#32
  let c0_i32_3849 : BitVec 32 := 0#32
  let v5818 : BitVec 1 := Scalar.cmpi .eq c2_i32_3848 c0_i32_3849
  let c1_i32_3850 : BitVec 32 := 1#32
  let v5819 : BitVec 32 := Scalar.select v5818 c1_i32_3850 c2_i32_3848
  let v5820 : BitVec 32 := Scalar.remsi v5817 v5819
  let c0_i32_3852 : BitVec 32 := 0#32
  let v5822 : BitVec 1 := Scalar.cmpi .slt v5820 c0_i32_3852
  let c0_i32_3853 : BitVec 32 := 0#32
  let v5823 : BitVec 1 := Scalar.cmpi .slt v5819 c0_i32_3853
  let v5824 : BitVec 1 := Scalar.xori v5822 v5823
  let c0_i32_3851 : BitVec 32 := 0#32
  let v5821 : BitVec 1 := Scalar.cmpi .ne v5820 c0_i32_3851
  let v5825 : BitVec 1 := Scalar.andi v5824 v5821
  let v5826 : BitVec 32 := Scalar.addi v5820 v5819
  let v5827 : BitVec 32 := Scalar.select v5825 v5826 v5820
  let c4_i32_3868 : BitVec 32 := 4#32
  let v5842 : BitVec 32 := Scalar.muli v5827 c4_i32_3868
  let v5843 : BitVec 32 := Scalar.addi v5841 v5842
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c2_i32_3854 : BitVec 32 := 2#32
  let v5828 : BitVec 32 := Scalar.muli v25 c2_i32_3854
  let c2_i32_3855 : BitVec 32 := 2#32
  let c0_i32_3856 : BitVec 32 := 0#32
  let v5829 : BitVec 1 := Scalar.cmpi .eq c2_i32_3855 c0_i32_3856
  let c1_i32_3857 : BitVec 32 := 1#32
  let v5830 : BitVec 32 := Scalar.select v5829 c1_i32_3857 c2_i32_3855
  let v5831 : BitVec 32 := Scalar.remsi v5781 v5830
  let c0_i32_3859 : BitVec 32 := 0#32
  let v5833 : BitVec 1 := Scalar.cmpi .slt v5831 c0_i32_3859
  let c0_i32_3860 : BitVec 32 := 0#32
  let v5834 : BitVec 1 := Scalar.cmpi .slt v5830 c0_i32_3860
  let v5835 : BitVec 1 := Scalar.xori v5833 v5834
  let c0_i32_3858 : BitVec 32 := 0#32
  let v5832 : BitVec 1 := Scalar.cmpi .ne v5831 c0_i32_3858
  let v5836 : BitVec 1 := Scalar.andi v5835 v5832
  let v5837 : BitVec 32 := Scalar.addi v5831 v5830
  let v5838 : BitVec 32 := Scalar.select v5836 v5837 v5831
  let v5839 : BitVec 32 := Scalar.addi v5828 v5838
  let c1_i32_3869 : BitVec 32 := 1#32
  let v5844 : BitVec 32 := Scalar.muli v5839 c1_i32_3869
  let v5845 : BitVec 32 := Scalar.addi v5843 v5844
  v5845.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x512x512 : Shape := ⟨5, ![2, 2, 4, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x2x4x512x512, .bf16⟩
  | .hbm, ⟨1, _⟩ => ⟨S2x2x4x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S2x2x4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Clean.lean ====
/-
# The kernel's body as loops

The body is printed unrolled: every transfer of every sub-block and every peer is its own statement. This file states
the same sequence of operations over the sub-block `s : Fin 4` and the peer's offset `j : Fin 7`, and proves that the
printed body is that program (`body_eq`). Everything after this file is proved once for a symbolic `s` and `j`.

Device `d` of the 2 × 2 × 4 mesh has the coordinates `x = d / 8`, `y = d / 4 % 2`, `z = d % 4`. The eight devices with the
same `z / 2` are its group, `place d` its number in it; `member h p` is the device numbered `p` in the group `h`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Tactic

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-! ## The mesh -/

/-- The group of a device: which half of the `z` axis it is on. -/
def grp (d : Dev nD) : Fin 2 := ⟨d.val % 4 / 2, by omega⟩
/-- A device's number in its group. -/
def place (d : Dev nD) : Fin 8 := ⟨d.val / 8 * 4 + d.val / 4 % 2 * 2 + d.val % 2, by have := d.isLt; simp only [nD] at this; omega⟩
/-- The device numbered `p` in the group `h`. -/
def member (h : Fin 2) (p : Fin 8) : Dev nD := ⟨p.val / 4 * 8 + p.val / 2 % 2 * 4 + h.val * 2 + p.val % 2, by simp only [nD]; omega⟩
/-- The peer at offset `j + 1`: the device that many places on in the group. -/
def peer (d : Dev nD) (j : Fin 7) : Dev nD := member (grp d) ⟨(place d + (j.val + 1)) % 8, Nat.mod_lt _ (by decide)⟩
/-- The device that has `d` as its peer at offset `j + 1`. -/
def orig (d : Dev nD) (j : Fin 7) : Dev nD := member (grp d) ⟨(place d + (7 - j.val)) % 8, Nat.mod_lt _ (by decide)⟩
/-- The device with the same number in the other group. -/
def partner (d : Dev nD) : Dev nD := member ⟨1 - (grp d).val, by omega⟩ (place d)

/-- A group's member lies in that group. -/
theorem grp_member (h p) : grp (member h p) = h := by revert h p; decide +kernel
/-- The member numbered `p` has the number `p`. -/
theorem place_member (h p) : place (member h p) = p := by revert h p; decide +kernel
/-- A device is the member of its group that has its number. -/
theorem member_grp_place (d) : member (grp d) (place d) = d := by revert d; decide +kernel
/-- The device that sends here at an offset has this one as its peer at that offset. -/
theorem peer_orig (d j) : peer (orig d j) j = d := by revert d j; decide +kernel
/-- A peer at an offset finds this device as the one that sends to it at that offset. -/
theorem orig_peer (d j) : orig (peer d j) j = d := by revert d j; decide +kernel
/-- A partner's partner is the device itself. -/
theorem partner_partner (d) : partner (partner d) = d := by revert d; decide +kernel
/-- Partners have the same number. -/
theorem place_partner (d) : place (partner d) = place d := by revert d; decide +kernel

/-- Devices by a peer's offset: the permutation of the mesh. -/
def peerEquiv (j : Fin 7) : Dev nD ≃ Dev nD := ⟨(peer · j), (orig · j), (orig_peer · j), (peer_orig · j)⟩
/-- Devices by their partner: a permutation of the mesh. -/
def partnerEquiv : Dev nD ≃ Dev nD := ⟨partner, partner, partner_partner, partner_partner⟩

/-! ## The memrefs and the semaphores -/

/-- The device's input. -/
abbrev xM : Memref sig .tc .vmem S512x512 .bf16 := Memref.whole cc0_stg0_0
/-- The device's result. -/
abbrev oM : Memref sig .tc .vmem S512x512 .bf16 := Memref.whole cc0_stg1_0
/-- The group's sums, which are sent to the partner. -/
abbrev hM : Memref sig .tc .vmem S4x16x512 .bf16 := Memref.whole cc0_scratch0
/-- The full sums, which are sent to the peers. -/
abbrev fM : Memref sig .tc .vmem S4x16x512 .bf16 := Memref.whole cc0_scratch1
/-- The landing slots of the first phase. -/
abbrev aM : Memref sig .tc .vmem S4x7x16x512 .bf16 := Memref.whole cc0_scratch2
/-- The landing places of the partner's sums. -/
abbrev bM : Memref sig .tc .vmem S4x16x512 .bf16 := Memref.whole cc0_scratch3

/-- A pair of a sub-block and an offset lies inside the 4 × 7 semaphore arrays. -/
theorem inb_pair : ∀ (s : Fin 4) (j : Fin 7), ∀ a, (![s.val, j.val] : Fin 2 → Nat) a + S1x1.size a ≤ S4x7.size a := by decide
/-- A sub-block lies inside the semaphore arrays of four. -/
theorem inb_one : ∀ s : Fin 4, ∀ a, (![s.val] : Fin 1 → Nat) a + S1.size a ≤ S4.size a := by decide
/-- A landing slot lies inside the landing buffer. -/
theorem inb_slot : ∀ (s : Fin 4) (j : Fin 7), ∀ a, (![s.val, j.val, 0, 0] : Fin 4 → Nat) a + S1x1x16x512.size a ≤ S4x7x16x512.size a := by decide
/-- A landing slot consists of whole words. -/
theorem words_slot : ∀ (s : Fin 4) (j : Fin 7), (Rect.unit (s := S4x7x16x512) ![s.val, j.val, 0, 0] S1x1x16x512.size (inb_slot s j)).WholeWords (EltTy.packing .bf16) := by decide
/-- A sub-block's seven slots lie inside the landing buffer. -/
theorem inb_slab : ∀ s : Fin 4, ∀ a, (![s.val, 0, 0, 0] : Fin 4 → Nat) a + S1x7x16x512.size a ≤ S4x7x16x512.size a := by decide
/-- A sub-block lies inside an array of four sub-blocks. -/
theorem inb_sub : ∀ s : Fin 4, ∀ a, (![s.val, 0, 0] : Fin 3 → Nat) a + S1x16x512.size a ≤ S4x16x512.size a := by decide
/-- A sub-block consists of whole words. -/
theorem words_sub : ∀ s : Fin 4, (Rect.unit (s := S4x16x512) ![s.val, 0, 0] S1x16x512.size (inb_sub s)).WholeWords (EltTy.packing .bf16) := by decide
/-- A sub-block consists of whole packed rows. -/
theorem packed_sub : ∀ s : Fin 4, (Rect.unit (s := S4x16x512) ![s.val, 0, 0] S1x16x512.size (inb_sub s)).PackedRows (EltTy.packing .bf16) := by decide

/-- One semaphore of a 4 × 7 array. -/
abbrev semAt (a : DmaSems sig S4x7) (s : Fin 4) (j : Fin 7) : DmaSem sig :=
  ((a.slice (Rect.unit (s := S4x7) ![s.val, j.val] S1x1.size (inb_pair s j))).squeeze S_ squeezes_S1x1_S_).sem
/-- One semaphore of an array of four. -/
abbrev semAt₁ (a : DmaSems sig S4) (s : Fin 4) : DmaSem sig :=
  ((a.slice (Rect.unit (s := S4) ![s.val] S1.size (inb_one s))).squeeze S_ squeezes_S1_S_).sem
/-- The barrier's semaphore. -/
abbrev barSem : Sem sig := (SemArray.scalar (sig.barrier 0 rfl) : Sems sig S_).sem

/-- The rows of `x` that `d` sends to its peer at offset `j + 1`, sub-block `s`. -/
abbrev xRows (d : Dev nD) (s : Fin 4) (j : Fin 7) : Memref sig .tc .vmem S16x512 .bf16 :=
  xM.slice (Rect.unit (s := S512x512) (k0_off1 d (BitVec.ofNat 32 (1 + j.val)) (BitVec.ofNat 32 (16 * s.val))) S16x512.size (k0_off1_inb d j s)) (fun _ => rfl)
/-- The landing slot of the sub-block `s` from the device that sends at offset `j + 1`. -/
abbrev slot (s : Fin 4) (j : Fin 7) : Memref sig .tc .vmem S16x512 .bf16 :=
  (aM.slice (Rect.unit (s := S4x7x16x512) ![s.val, j.val, 0, 0] S1x1x16x512.size (inb_slot s j)) (fun _ => rfl)).squeeze S16x512 squeezes_S1x1x16x512_S16x512
/-- The rectangle of a sub-block in an array of four sub-blocks. -/
abbrev subR (s : Fin 4) : Rect S4x16x512 := Rect.unit (s := S4x16x512) ![s.val, 0, 0] S1x16x512.size (inb_sub s)
/-- A sub-block of an array of four sub-blocks. -/
abbrev sub (a : Memref sig .tc .vmem S4x16x512 .bf16) (s : Fin 4) : Memref sig .tc .vmem S16x512 .bf16 :=
  (a.slice (subR s) (fun _ => rfl)).squeeze S16x512 squeezes_S1x16x512_S16x512
/-- The seven landing slots of one sub-block, as they are loaded. -/
abbrev slabR (s : Fin 4) : Rect S4x7x16x512 := Rect.unit (s := S4x7x16x512) ![s.val, 0, 0, 0] S1x7x16x512.size (inb_slab s)
/-- A device's own sixteen rows of the sub-block `s`, of `x` as they are loaded and of `out` as they are stored. -/
abbrev ownR (d : Dev nD) (s : Fin 4) : Rect S512x512 := Rect.unit (s := S512x512) (k0_off2 d (BitVec.ofNat 32 (16 * s.val))) S16x512.size (k0_off2_inb d s)
/-- The rows of `out` that `d` fills on every peer, sub-block `s`. -/
abbrev oRows (d : Dev nD) (s : Fin 4) : Memref sig .tc .vmem S16x512 .bf16 :=
  oM.slice (Rect.unit (s := S512x512) (k0_off3 d (BitVec.ofNat 32 (16 * s.val))) S16x512.size (k0_off3_inb d s)) (fun _ => rfl)

/-! ## The values -/

/-- The sum of a device's own rows and the seven received: what the group contributes. -/
abbrev accV (v : Vec F S16x512 .bf16) (r : Vec F S1x7x16x512 .bf16) : FVec F S16x512 .f32 := k0_pay1 v r
/-- The group's sum, as it is stored and sent to the partner. -/
abbrev hsV (v : Vec F S16x512 .bf16) (r : Vec F S1x7x16x512 .bf16) : FVec F S1x16x512 .bf16 := k0_pay2 v r
/-- The sum over both groups, as it is stored and sent to the peers. -/
abbrev fsV (acc : FVec F S16x512 .f32) (r : Vec F S1x16x512 .bf16) : FVec F S1x16x512 .bf16 := k0_pay13 acc r
/-- The sum over both groups as it is stored in the device's own rows. -/
abbrev outV (v : Vec F S1x16x512 .bf16) : FVec F S16x512 .bf16 := k0_pay12 v

/-! ## The transfers

Every transfer of the kernel moves one sub-block of sixteen rows. In the first phase a device sends the rows of the peer
at offset `j + 1` to that peer (`A s j`); between the groups it sends its group's sum to its partner (`B s`); in the last
phase it sends the full sum to every peer (`C s j`). -/

/-- The transfers a device issues. -/
abbrev Tr : Type := (Fin 4 × Fin 7) ⊕ (Fin 4 ⊕ (Fin 4 × Fin 7))
/-- A transfer of the first phase: sub-block `s` to the peer at offset `j + 1`. -/
@[match_pattern] abbrev tA (s : Fin 4) (j : Fin 7) : Tr := .inl (s, j)
/-- A transfer between the groups: the group's sum of the sub-block `s`. -/
@[match_pattern] abbrev tB (s : Fin 4) : Tr := .inr (.inl s)
/-- A transfer of the last phase: the full sum of the sub-block `s` to the peer at offset `j + 1`. -/
@[match_pattern] abbrev tC (s : Fin 4) (j : Fin 7) : Tr := .inr (.inr (s, j))

/-- What `d` sends by a transfer. -/
def src (d : Dev nD) : Tr → Memref sig .tc .vmem S16x512 .bf16
  | tA s j => xRows d s j
  | tB s => sub hM s
  | tC s _ => sub fM s
/-- Where it lands, on the device it is sent to. -/
def dstM (d : Dev nD) : Tr → Memref sig .tc .vmem S16x512 .bf16
  | tA s j => slot s j
  | tB s => sub bM s
  | tC s _ => oRows d s
/-- The semaphore that tells the sender that the transfer has left. -/
def sndS : Tr → DmaSem sig
  | tA s j => semAt cc0_scratch4 s j
  | tB s => semAt₁ cc0_scratch6 s
  | tC s j => semAt cc0_scratch8 s j
/-- The semaphore that tells the receiver that it has arrived. -/
def rcvS : Tr → DmaSem sig
  | tA s j => semAt cc0_scratch5 s j
  | tB s => semAt₁ cc0_scratch7 s
  | tC s j => semAt cc0_scratch9 s j

/-- Every source consists of whole words. -/
theorem src_words (d : Dev nD) : ∀ t, (src d t).view.WordExact
  | tA s j => (Memref.isWhole_whole cc0_stg0_0).wordExact_slice rfl _ (k0_off1_wordsbf16 d j s)
  | tB s => ((Memref.isWhole_whole cc0_scratch0).wordExact_slice rfl _ (words_sub s)).reshape _ _
  | tC s _ => ((Memref.isWhole_whole cc0_scratch1).wordExact_slice rfl _ (words_sub s)).reshape _ _
/-- Every destination consists of whole words. -/
theorem dst_words (d : Dev nD) : ∀ t, (dstM d t).view.WordExact
  | tA s j => ((Memref.isWhole_whole cc0_scratch2).wordExact_slice rfl _ (words_slot s j)).reshape _ _
  | tB s => ((Memref.isWhole_whole cc0_scratch3).wordExact_slice rfl _ (words_sub s)).reshape _ _
  | tC s _ => (Memref.isWhole_whole cc0_stg1_0).wordExact_slice rfl _ (k0_off3_wordsbf16 d s)

/-- The device a transfer of `d` is sent to. -/
def toDev (d : Dev nD) : Tr → Dev nD
  | tA _ j => peer d j
  | tB _ => partner d
  | tC _ j => peer d j
/-- The device whose transfer `t` is sent to `d`. -/
def fromDev (d : Dev nD) : Tr → Dev nD
  | tA _ j => orig d j
  | tB _ => partner d
  | tC _ j => orig d j
/-- The transfer of the device that sends `t` to `d` goes to `d`. -/
theorem to_from (d : Dev nD) : ∀ t, toDev (fromDev d t) t = d
  | tA _ j => peer_orig d j
  | tB _ => partner_partner d
  | tC _ j => peer_orig d j
/-- The receiver of a device's transfer `t` is sent `t` by that device. -/
theorem from_to (d : Dev nD) : ∀ t, fromDev (toDev d t) t = d
  | tA _ j => orig_peer d j
  | tB _ => partner_partner d
  | tC _ j => orig_peer d j

/-! ## The devices addressed -/

/-- The device each transfer of the first phase names. -/
def devA (d : Dev nD) (s : Fin 4) (j : Fin 7) : Dev nD :=
  (show Fin 4 → Fin 7 → Dev nD from
    ![![⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩],
     ![⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩],
     ![⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩],
     ![⟨k0_dev30 d, k0_dev30_lt d⟩, ⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩]]) s j
/-- The device each transfer of the last phase names. -/
def devC (d : Dev nD) (s : Fin 4) (j : Fin 7) : Dev nD :=
  (show Fin 4 → Fin 7 → Dev nD from
    ![![⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩],
     ![⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩],
     ![⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩],
     ![⟨k0_dev62 d, k0_dev62_lt d⟩, ⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩]]) s j
/-- The device each transfer between the groups names. -/
def devB (d : Dev nD) (s : Fin 4) : Dev nD :=
  (show Fin 4 → Dev nD from ![⟨k0_dev37 d, k0_dev37_lt d⟩, ⟨k0_dev38 d, k0_dev38_lt d⟩, ⟨k0_dev39 d, k0_dev39_lt d⟩, ⟨k0_dev40 d, k0_dev40_lt d⟩]) s
/-- The peers the barrier's signals name. -/
def devS (d : Dev nD) (j : Fin 7) : Dev nD :=
  (show Fin 7 → Dev nD from ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩]) j
/-- The last of the barrier's signals names this device. -/
def devP (d : Dev nD) : Dev nD := ⟨k0_dev8 d, k0_dev8_lt d⟩

/-- The device the printed body names in a transfer. -/
def devT (d : Dev nD) : Tr → Dev nD
  | tA s j => devA d s j
  | tB s => devB d s
  | tC s j => devC d s j

/-- The device named in a transfer of the first phase is the peer. -/
theorem devA_eq : ∀ d s j, devA d s j = peer d j := by decide +kernel
/-- The device named in a transfer of the last phase is the peer. -/
theorem devC_eq : ∀ d s j, devC d s j = peer d j := by decide +kernel
/-- The device named in a transfer between the groups is the partner. -/
theorem devB_eq : ∀ d s, devB d s = partner d := by decide +kernel
/-- The device named in one of the first seven signals is the peer. -/
theorem devS_eq : ∀ d j, devS d j = peer d j := by decide +kernel
/-- The device named in the last signal is the partner. -/
theorem devP_eq : ∀ d, devP d = partner d := by decide +kernel
/-- The device named in any transfer is the one it is sent to. -/
theorem devT_eq (d : Dev nD) : ∀ t, devT d t = toDev d t
  | tA s j => devA_eq d s j
  | tB s => devB_eq d s
  | tC s j => devC_eq d s j

/-! ## The steps -/

/-- A program of the body's kind. -/
abbrev Pg (F : FTy → Type) [FloatOps F] : Type 1 := Prog (TpuEff nD τ sig (Elt F) Λ₀ .tc) PUnit

/-- Issue a transfer to the device `n`. -/
abbrev send (d n : Dev nD) (t : Tr) (k : Pg F) : Pg F :=
  Prog.op (.enqueueDma (src d t) (.remote (Dev.tc n) (dstM d t) (.dma (sndS t))) (.dma (rcvS t)) (src_words d t) (dst_words d t)
    ⟨⟨rfl, Or.inl rfl⟩, trivial⟩) fun _ => k
/-- Wait for the own transfer `t` to have left and for the one sent to this device to have arrived. -/
abbrev wait (d : Dev nD) (t : Tr) (k : Pg F) : Pg F :=
  Prog.op (.waitDma2 (sndS t) (dstM d t) (src d t) (dst_words d t) (src_words d t)) fun _ =>
  Prog.op (.waitDma2 (rcvS t) (src d t) (dstM d t) (src_words d t) (dst_words d t)) fun _ => k

/-- Sum the own rows and the received ones and store the sum: the continuation gets it. -/
abbrev sumA (d : Dev nD) (s : Fin 4) (k : FVec F S16x512 .f32 → Pg F) : Pg F :=
  Prog.op (.load xM (ownR d s).toLoadRect (View.loadsAt_vmem h_S16x512)) fun v =>
  Prog.op (.load aM (slabR s).toLoadRect (View.loadsAt_vmem h_S1x7x16x512)) fun r =>
  Prog.op (.load hM (subR s).toLoadRect (View.loadsAt_vmem h_S1x16x512)) fun _ =>
  Prog.op (.store hM (subR s) (hsV v r) Finset.univ
    (View.stores_vmem h_S1x16x512 ((Memref.isWhole_whole cc0_scratch0).storeExact_slice rfl _ (packed_sub s)) (fun _ => rfl)) (.inl rfl)) fun _ =>
  k (accV v r)
/-- Add the partner's sum to `acc`, store the full sum and put it in the own rows of `out`. -/
abbrev sumB (d : Dev nD) (s : Fin 4) (acc : FVec F S16x512 .f32) (k : Pg F) : Pg F :=
  Prog.op (.load bM (subR s).toLoadRect (View.loadsAt_vmem h_S1x16x512)) fun r =>
  Prog.op (.load fM (subR s).toLoadRect (View.loadsAt_vmem h_S1x16x512)) fun _ =>
  Prog.op (.store fM (subR s) (fsV acc r) Finset.univ
    (View.stores_vmem h_S1x16x512 ((Memref.isWhole_whole cc0_scratch1).storeExact_slice rfl _ (packed_sub s)) (fun _ => rfl)) (.inl rfl)) fun _ =>
  Prog.op (.load fM (subR s).toLoadRect (View.loadsAt_vmem h_S1x16x512)) fun v =>
  Prog.op (.load oM (ownR d s).toLoadRect (View.loadsAt_vmem h_S16x512)) fun _ =>
  Prog.op (.store oM (ownR d s) (outV v) Finset.univ
    (View.stores_vmem h_S16x512 ((Memref.isWhole_whole cc0_stg1_0).storeExact_slice rfl _ (k0_off2_packedbf16 d s)) (fun _ => rfl)) (.inl rfl)) fun _ => k

/-- A step for each entry of a list, in order. -/
def each {ι : Type} (l : List ι) (st : ι → Pg F → Pg F) (k : Pg F) : Pg F := l.foldr st k

/-- The sub-blocks in order, and the offsets in order. -/
abbrev subs : List (Fin 4) := [0, 1, 2, 3]
/-- The offsets in order. -/
abbrev offs : List (Fin 7) := [0, 1, 2, 3, 4, 5, 6]

/-- The own transfers of one phase in the order they are issued. -/
abbrev allA : List Tr := subs.flatMap fun s => offs.map (tA s)
/-- The transfers of one sub-block in the first phase. -/
abbrev rowA (s : Fin 4) : List Tr := offs.map (tA s)
/-- The transfers of one sub-block in the last phase. -/
abbrev rowC (s : Fin 4) : List Tr := offs.map (tC s)
/-- The transfers of the last phase. -/
abbrev allC : List Tr := subs.flatMap fun s => offs.map (tC s)

/-- Everything the body does for one sub-block in its second phase. -/
abbrev phaseB (d : Dev nD) (s : Fin 4) (acc : FVec F S16x512 .f32) (k : Pg F) : Pg F :=
  wait d (tB s) (sumB d s acc (each (rowC s) (fun t => send d (devT d t) t) k))
/-- Everything the body does for one sub-block after the first phase's sends. -/
abbrev phaseA (d : Dev nD) (s : Fin 4) (k : FVec F S16x512 .f32 → Pg F) : Pg F :=
  each (rowA s) (wait d) (sumA d s fun acc => send d (devT d (tB s)) (tB s) (k acc))

/-- The directions of the barrier's signals: the seven peers, then the partner. -/
abbrev Dir : Type := Option (Fin 7)
/-- The directions in the order they are signalled. -/
abbrev dirs : List Dir := [some 0, some 1, some 2, some 3, some 4, some 5, some 6, none]
/-- The device in a direction, as the printed body names it, and the device it is. -/
def devD (d : Dev nD) : Dir → Dev nD
  | some j => devS d j
  | none => devP d
/-- The device in a direction. -/
def dirDev (d : Dev nD) : Dir → Dev nD
  | some j => peer d j
  | none => partner d
/-- The device named in a direction is the device in that direction. -/
theorem devD_eq (d : Dev nD) : ∀ k, devD d k = dirDev d k
  | some j => devS_eq d j
  | none => devP_eq d

/-- Signal the barrier of the device in a direction. -/
abbrev sig1 (d : Dev nD) (k : Dir) (p : Pg F) : Pg F :=
  Prog.op (.semSignal (Dev.tc (devD d k)) barSem (1#32 : BitVec 32).toInt) fun _ => p

/-- The body after the device has read its number. -/
def afterId (d : Dev nD) : Pg F :=
  each dirs (sig1 d) <|
  Prog.op (.semWait barSem (8#32 : BitVec 32).toInt) fun _ =>
  each allA (fun t => send d (devT d t) t) <|
  phaseA d 0 fun a0 => phaseA d 1 fun a1 => phaseA d 2 fun a2 => phaseA d 3 fun a3 =>
  phaseB d 0 a0 <| phaseB d 1 a1 <| phaseB d 2 a2 <| phaseB d 3 a3 <|
  each allC (wait d) <| Prog.ret ⟨⟩

/-- The body. -/
def clean : Pg F := Prog.op .deviceId afterId

set_option maxRecDepth 65536 in
/-- The printed body is the program above. -/
theorem body_eq :
    cc0_body (F := F) xM (Memref.isWhole_whole _) oM (Memref.isWhole_whole _) hM (Memref.isWhole_whole _) fM (Memref.isWhole_whole _)
      aM (Memref.isWhole_whole _) bM (Memref.isWhole_whole _) cc0_scratch4 cc0_scratch5 cc0_scratch6 cc0_scratch7 cc0_scratch8 cc0_scratch9 = clean := by
  chain_rfl

end Cert.AllReduce

end
-- ==== Proof.Blocks.lean ====
/-
# The blocks of the buffers and what they hold

The elements each transfer, load and store touches, as the elements of the buffer whose block number is given, and the
contents of every buffer at the end of the phase that fills it, as functions of the inputs `X` of all the devices.
-/
module

public import proofs.«01_k».proof.Proof.Clean
public import Idealize.ShloMosaic.Lib.ValueIdxCore
public import Idealize.ShloMosaic.Lib.QrPanel.StackBlock

@[expose] public section

noncomputable section

namespace Cert.AllReduce

open Cert.KernelIdeal Cert.KernelIdeal.Gen
open Idealize.ShloMosaic
open Idealize.ShloMosaic.TcCoe
open Idealize.ShloMosaic.ValueIdx
open Idealize.SL.Sem

variable {F : FTy → Type} [FloatOps F]

/-! ## Blocks -/

/-- Row `r` of the sub-block `s` of the rows of the device numbered `p`. -/
def rowAt (p : Fin 8) (s : Fin 4) (r : Fin 16) : Fin 512 := ⟨64 * p.val + 16 * s.val + r.val, by omega⟩

/-- The device number and the sub-block of a row of `x` or `out`. -/
def blkRow (i : S512x512.Idx) : Fin 8 × Fin 4 :=
  (⟨(i 0).val / 64, by have := idx2_lt0 i; omega⟩, ⟨(i 0).val % 64 / 16, by omega⟩)
/-- The sub-block of an element of an array of four sub-blocks. -/
def blkSub (i : S4x16x512.Idx) : Fin 4 := i 0
/-- The sub-block and the offset of an element of the landing slots. -/
def blkSlot (i : S4x7x16x512.Idx) : Fin 4 × Fin 7 := (i 0, i 1)

/-- The sixteen rows of the sub-block `s` of the device numbered `p`. -/
def rowSet (p : Fin 8) (s : Fin 4) : Finset S512x512.Idx := Finset.univ.filter fun i => blkRow i = (p, s)
/-- The elements of a sub-block in an array of four sub-blocks. -/
def subSet (s : Fin 4) : Finset S4x16x512.Idx := Finset.univ.filter fun i => blkSub i = s
/-- The elements of a landing slot. -/
def slotSet (k : Fin 4 × Fin 7) : Finset S4x7x16x512.Idx := Finset.univ.filter fun i => blkSlot i = k

/-- An element is in a block of sixteen rows when its row is. -/
theorem mem_rowSet {p s} {i : S512x512.Idx} :
    i ∈ rowSet p s ↔ 64 * p.val + 16 * s.val ≤ (i 0).val ∧ (i 0).val < 64 * p.val + 16 * s.val + 16 := by
  have := idx2_lt0 i
  simp only [rowSet, Finset.mem_filter, Finset.mem_univ, true_and, blkRow, Prod.mk.injEq, Fin.ext_iff]
  omega
/-- An element is in a sub-block when its first index is the sub-block's number. -/
theorem mem_subSet {s} {i : S4x16x512.Idx} : i ∈ subSet s ↔ (i 0).val = s.val := by
  unfold subSet
  rw [Finset.mem_filter]
  exact ⟨fun h => congrArg Fin.val h.2, fun h => ⟨Finset.mem_univ _, Fin.ext h⟩⟩
/-- An element is in a slot when its first two indices are the slot's. -/
theorem mem_slotSet {s j} {i : S4x7x16x512.Idx} : i ∈ slotSet (s, j) ↔ (i 0).val = s.val ∧ (i 1).val = j.val := by
  unfold slotSet
  rw [Finset.mem_filter]
  exact ⟨fun h => ⟨congrArg (fun k => k.1.val) h.2, congrArg (fun k => k.2.val) h.2⟩,
    fun h => ⟨Finset.mem_univ _, Prod.ext (Fin.ext h.1) (Fin.ext h.2)⟩⟩

/-- The rows sent in the first phase begin at the peer's rows of the sub-block. -/
theorem off1_eq : ∀ (d : Dev nD) (s : Fin 4) (j : Fin 7), k0_off1 d (BitVec.ofNat 32 (1 + j.val)) (BitVec.ofNat 32 (16 * s.val))
    = ![64 * (place (peer d j)).val + 16 * s.val, 0] := by decide +kernel
/-- The rows loaded and stored begin at the device's own rows of the sub-block. -/
theorem off2_eq : ∀ (d : Dev nD) (s : Fin 4), k0_off2 d (BitVec.ofNat 32 (16 * s.val)) = ![64 * (place d).val + 16 * s.val, 0] := by
  decide +kernel
/-- The rows filled on the peers begin at the device's own rows of the sub-block. -/
theorem off3_eq : ∀ (d : Dev nD) (s : Fin 4), k0_off3 d (BitVec.ofNat 32 (16 * s.val)) = ![64 * (place d).val + 16 * s.val, 0] := by
  decide +kernel

/-- Sixteen whole rows from the first of a block are the block. -/
theorem rows_set {off : Fin 2 → Nat} {p : Fin 8} {s : Fin 4} (h : off = ![64 * p.val + 16 * s.val, 0])
    (inb : ∀ a, off a + S16x512.size a ≤ S512x512.size a) :
    (Rect.unit (s := S512x512) off S16x512.size inb).set = rowSet p s := by
  subst h
  ext i
  rw [Rect.mem_set_unit, mem_rowSet, Fin.forall_fin_two]
  have h1 := idx2_lt1 i
  show (64 * p.val + 16 * s.val ≤ (i 0).val ∧ (i 0).val < 64 * p.val + 16 * s.val + 16) ∧ (0 ≤ (i 1).val ∧ (i 1).val < 0 + 512) ↔ _
  omega
/-- Row `y 0` of sixteen whole rows of a block, as a row of the buffer. -/
theorem rows_emb {off : Fin 2 → Nat} {p : Fin 8} {s : Fin 4} (h : off = ![64 * p.val + 16 * s.val, 0])
    (inb : ∀ a, off a + S16x512.size a ≤ S512x512.size a) (y : S16x512.Idx) :
    (Rect.unit (s := S512x512) off S16x512.size inb).emb y = ix2 (rowAt p s (y 0)) (y 1) := by
  subst h
  funext a
  apply Fin.ext
  rw [Rect.emb_apply]
  match a with
  | ⟨0, _⟩ => show 64 * p.val + 16 * s.val + 1 * (y 0).val = 64 * p.val + 16 * s.val + (y 0).val; omega
  | ⟨1, _⟩ => show 0 + 1 * (y 1).val = (y 1).val; omega

/-- A sub-block's rectangle has the sub-block's elements. -/
theorem subR_set (s : Fin 4) : (subR s).set = subSet s := by
  ext i
  rw [Rect.mem_set_unit, mem_subSet]
  constructor
  · intro h
    have := h 0
    change s.val ≤ (i 0).val ∧ (i 0).val < s.val + 1 at this
    omega
  · intro h a
    match a with
    | ⟨0, _⟩ => show s.val ≤ (i 0).val ∧ (i 0).val < s.val + 1; omega
    | ⟨1, _⟩ => have : (i 1).val < 16 := (i 1).isLt; show 0 ≤ (i 1).val ∧ (i 1).val < 0 + 16; omega
    | ⟨2, _⟩ => have : (i 2).val < 512 := (i 2).isLt; show 0 ≤ (i 2).val ∧ (i 2).val < 0 + 512; omega
/-- An index of a sub-block, as an index of the array of four. -/
theorem subR_emb (s : Fin 4) (y : S1x16x512.Idx) : (subR s).emb y = ix3 s (y 1) (y 2) := by
  have h0 : (y 0).val < 1 := (y 0).isLt
  funext a
  apply Fin.ext
  rw [Rect.emb_apply]
  match a with
  | ⟨0, _⟩ => show s.val + 1 * (y 0).val = s.val; omega
  | ⟨1, _⟩ => show 0 + 1 * (y 1).val = (y 1).val; omega
  | ⟨2, _⟩ => show 0 + 1 * (y 2).val = (y 2).val; omega

/-- A landing slot's rectangle has the slot's elements. -/
theorem slotR_set (s : Fin 4) (j : Fin 7) :
    (Rect.unit (s := S4x7x16x512) ![s.val, j.val, 0, 0] S1x1x16x512.size (inb_slot s j)).set = slotSet (s, j) := by
  ext i
  rw [Rect.mem_set_unit, mem_slotSet]
  constructor
  · intro h
    have h0 := h 0
    have h1 := h 1
    change s.val ≤ (i 0).val ∧ (i 0).val < s.val + 1 at h0
    change j.val ≤ (i 1).val ∧ (i 1).val < j.val + 1 at h1
    omega
  · intro h a
    match a with
    | ⟨0, _⟩ => show s.val ≤ (i 0).val ∧ (i 0).val < s.val + 1; omega
    | ⟨1, _⟩ => show j.val ≤ (i 1).val ∧ (i 1).val < j.val + 1; omega
    | ⟨2, _⟩ => have : (i 2).val < 16 := (i 2).isLt; show 0 ≤ (i 2).val ∧ (i 2).val < 0 + 16; omega
    | ⟨3, _⟩ => have : (i 3).val < 512 := (i 3).isLt; show 0 ≤ (i 3).val ∧ (i 3).val < 0 + 512; omega
/-- The elements a load of one sub-block's slots reads are those of its seven slots. -/
theorem slabR_set (s : Fin 4) : (slabR s).set ⊆ Finset.univ.biUnion fun j => slotSet (s, j) := by
  intro i hi
  rw [Rect.mem_set_unit] at hi
  have h0 := hi 0
  change s.val ≤ (i 0).val ∧ (i 0).val < s.val + 1 at h0
  exact Finset.mem_biUnion.mpr ⟨i 1, Finset.mem_univ _, mem_slotSet.mpr ⟨by omega, rfl⟩⟩
/-- An index of a sub-block's seven slots, as an index of the landing buffer. -/
theorem slabR_emb (s : Fin 4) (y : S1x7x16x512.Idx) : (slabR s).emb y = ix4 s (y 1) (y 2) (y 3) := by
  have h0 : (y 0).val < 1 := (y 0).isLt
  funext a
  apply Fin.ext
  rw [Rect.emb_apply]
  match a with
  | ⟨0, _⟩ => show s.val + 1 * (y 0).val = s.val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-! ## What a view reads -/

/-- What a transfer of the first phase reads: the peer's rows of the sub-block. -/
theorem read_xRows (d : Dev nD) (s : Fin 4) (j : Fin 7) (f : S512x512.Idx → Elt F .bf16) (y : S16x512.Idx) :
    (xRows d s j).view.read (Elt F) f y = f (ix2 (rowAt (place (peer d j)) s (y 0)) (y 1)) :=
  congrArg f (rows_emb (off1_eq d s j) _ y)
/-- What the rows filled on the peers read as: the sender's rows of the sub-block. -/
theorem read_oRows (d : Dev nD) (s : Fin 4) (f : S512x512.Idx → Elt F .bf16) (y : S16x512.Idx) :
    (oRows d s).view.read (Elt F) f y = f (ix2 (rowAt (place d) s (y 0)) (y 1)) :=
  congrArg f (rows_emb (off3_eq d s) _ y)
/-- The index of a sub-block with its unit axis dropped. -/
theorem sub_emb (s : Fin 4) (y : S16x512.Idx) :
    (subR s).emb (Shape.reshapeEquiv squeezes_S1x16x512_S16x512.numel_eq y) = ix3 s (y 0) (y 1) := by
  rw [Shape.reshapeEquiv_cons_one, subR_emb]; rfl
/-- The index of a landing slot with its two unit axes dropped. -/
theorem slot_emb (s : Fin 4) (j : Fin 7) (y : S16x512.Idx) :
    (Rect.unit (s := S4x7x16x512) ![s.val, j.val, 0, 0] S1x1x16x512.size (inb_slot s j)).emb
      (Shape.reshapeEquiv squeezes_S1x1x16x512_S16x512.numel_eq y) = ix4 s j (y 0) (y 1) := by
  rw [QrPanel.StackBlock.reshapeEquiv_cons_one_one]
  funext a
  apply Fin.ext
  rw [Rect.emb_apply]
  match a with
  | ⟨0, _⟩ => show s.val + 1 * 0 = s.val; omega
  | ⟨1, _⟩ => show j.val + 1 * 0 = j.val; omega
  | ⟨2, _⟩ => show 0 + 1 * (y 0).val = (y 0).val; omega
  | ⟨3, _⟩ => show 0 + 1 * (y 1).val = (y 1).val; omega

/-- What a landing slot reads as. -/
theorem read_slot (s : Fin 4) (j : Fin 7) (f : S4x7x16x512.Idx → Elt F .bf16) (y : S16x512.Idx) :
    (slot s j).view.read (Elt F) f y = f (ix4 s j (y 0) (y 1)) := congrArg f (slot_emb s j y)
/-- What a sub-block reads as. -/
theorem read_sub (b : Memref sig .tc .vmem S4x16x512 .bf16) (s : Fin 4) (f : b.view.ty.Contents (Elt F)) (y : S16x512.Idx) :
    (sub b s).view.read (Elt F) f y = b.view.read (Elt F) f (ix3 s (y 0) (y 1)) := congrArg (b.view.read (Elt F) f) (sub_emb s y)
/-- The elements at the device's own rows. -/
theorem readAt_own (f : S512x512.Idx → Elt F .bf16) (d : Dev nD) (s : Fin 4) (y : S16x512.Idx) :
    f ((ownR d s).emb y) = f (ix2 (rowAt (place d) s (y 0)) (y 1)) := congrArg f (rows_emb (off2_eq d s) _ y)
/-- The elements of a sub-block, its unit axis kept. -/
theorem readAt_sub (f : S4x16x512.Idx → Elt F .bf16) (s : Fin 4) (y : S1x16x512.Idx) :
    f ((subR s).emb y) = f (ix3 s (y 1) (y 2)) := congrArg f (subR_emb s y)
/-- The elements of a sub-block's seven slots. -/
theorem readAt_slab (f : S4x7x16x512.Idx → Elt F .bf16) (s : Fin 4) (y : S1x7x16x512.Idx) :
    f ((slabR s).emb y) = f (ix4 s (y 1) (y 2) (y 3)) := congrArg f (slabR_emb s y)

/-! ## The contents

`X d` is what the device `d` starts with. -/

variable (X : Dev nD → S512x512.Idx → Elt F .bf16)

/-- A device's own rows of the sub-block `s`. -/
def ownX (d : Dev nD) (s : Fin 4) : Vec F S16x512 .bf16 := fun y => X d (ix2 (rowAt (place d) s (y 0)) (y 1))
/-- The same rows of the other devices of its group, by offset. -/
def slabX (d : Dev nD) (s : Fin 4) : Vec F S1x7x16x512 .bf16 := fun y => X (orig d (y 1)) (ix2 (rowAt (place d) s (y 2)) (y 3))
/-- The landing slots after the first phase. -/
def RA (d : Dev nD) : S4x7x16x512.Idx → Elt F .bf16 := fun i => X (orig d (i 1)) (ix2 (rowAt (place d) (i 0) (i 2)) (i 3))
/-- The group's sum of the device's own rows, before it is rounded. -/
def ACC (d : Dev nD) (s : Fin 4) : FVec F S16x512 .f32 := accV (ownX X d s) (slabX X d s)
/-- The group's sums, as stored. -/
def HS (d : Dev nD) : S4x16x512.Idx → Elt F .bf16 := fun i => hsV (ownX X d (i 0)) (slabX X d (i 0)) (ix3 0 (i 1) (i 2))
/-- What the partner has sent. -/
def rbX (d : Dev nD) (s : Fin 4) : Vec F S1x16x512 .bf16 := fun y => HS X (partner d) (ix3 s (y 1) (y 2))
/-- The full sums of the device's own rows. -/
def FS (d : Dev nD) : S4x16x512.Idx → Elt F .bf16 := fun i => fsV (ACC X d (i 0)) (rbX X d (i 0)) (ix3 0 (i 1) (i 2))
/-- The result: every row is the full sum made by the device of the group that owns the row. -/
def OUT (d : Dev nD) : S512x512.Idx → Elt F .bf16 := fun i =>
  FS X (member (grp d) (blkRow i).1) (ix3 (blkRow i).2 ⟨(i 0).val % 16, by omega⟩ (i 1))

/-- A row of the result is the full sum made by its owner in the group. -/
theorem OUT_at (d : Dev nD) (p : Fin 8) (s : Fin 4) (r : Fin 16) (l : Fin 512) :
    OUT X d (ix2 (rowAt p s r) l) = FS X (member (grp d) p) (ix3 s r l) := by
  have e1 : blkRow (ix2 (rowAt p s r) l) = (p, s) := by
    refine Prod.ext (Fin.ext ?_) (Fin.ext ?_)
    · show (64 * p.val + 16 * s.val + r.val) / 64 = p.val; omega
    · show (64 * p.val + 16 * s.val + r.val) % 64 / 16 = s.val; omega
  have e2 : (⟨(rowAt p s r).val % 16, by omega⟩ : Fin 16) = r := Fin.ext (by show (64 * p.val + 16 * s.val + r.val) % 16 = r.val; omega)
  unfold OUT
  rw [e1]
  show FS X (member (grp d) p) (ix3 s (⟨(rowAt p s r).val % 16, by omega⟩ : Fin 16) l) = _
  rw [e2]

/-- A peer is in the same group. -/
theorem grp_peer (d : Dev nD) (j : Fin 7) : grp (peer d j) = grp d := grp_member _ _

/-- What the source of a transfer holds when it is issued. -/
def SRC (d : Dev nD) : (t : Tr) → (src d t).view.ref.ty.Contents (Elt F)
  | tA _ _ => X d
  | tB _ => HS X d
  | tC _ _ => FS X d
/-- What the buffer it lands in holds when the phase has ended: on the device it is sent to. -/
def FIN (d : Dev nD) : (t : Tr) → (dstM d t).view.ref.ty.Contents (Elt F)
  | tA s j => RA X (toDev d (tA s j))
  | tB s => HS X (partner (toDev d (tB s)))
  | tC s j => OUT X (toDev d (tC s j))

/-- Each transfer's source and destination agree on the sixteen rows moved. -/
theorem landed (d : Dev nD) : ∀ t, (dstM d t).view.read (Elt F) (FIN X d t) = (src d t).view.read (Elt F) (SRC X d t)
  | tA s j => funext fun y => by
      show (slot s j).view.read (Elt F) (RA X (peer d j)) y = (xRows d s j).view.read (Elt F) (X d) y
      rw [read_slot, read_xRows]
      show X (orig (peer d j) j) _ = _
      rw [orig_peer]
  | tB s => funext fun y => by
      show (sub bM s).view.read (Elt F) (HS X (partner (partner d))) y = (sub hM s).view.read (Elt F) (HS X d) y
      rw [read_sub, read_sub, partner_partner]
      rfl
  | tC s j => funext fun y => by
      show (oRows d s).view.read (Elt F) (OUT X (peer d j)) y = (sub fM s).view.read (Elt F) (FS X d) y
      rw [read_sub, read_oRows]
      refine (OUT_at X (peer d j) (place d) s (y 0) (y 1)).trans ?_
      rw [grp_peer, member_grp_place]
      rfl

/-- What a view is filled with is the contents it reads as, on the view's elements. -/
theorem write_eq_on {sp : Space} {S : Shape} {e : EltTy} (v : View sig .tc sp S e) (f g : v.ty.Contents (Elt F)) (w : S.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-! ## What the loads read and the stores leave -/

/-- The load of the own rows reads the input's own rows. -/
theorem load_own (d : Dev nD) (s : Fin 4) : xM.view.readAt (Elt F) (ownR d s).toLoadRect (X d) = ownX X d s :=
  funext fun y => readAt_own (X d) d s y
/-- The load of a sub-block's slots, once filled, reads the peers' contributions. -/
theorem load_slab (d : Dev nD) (s : Fin 4) : aM.view.readAt (Elt F) (slabR s).toLoadRect (RA X d) = slabX X d s :=
  funext fun y => readAt_slab (RA X d) s y
/-- The load of a sub-block of the partner's sums. -/
theorem load_sub (b : S4x16x512.Idx → Elt F .bf16) (s : Fin 4) :
    bM.view.readAt (Elt F) (subR s).toLoadRect b = fun y => b (ix3 s (y 1) (y 2)) :=
  funext fun y => readAt_sub b s y
/-- The load of the partner's sums, once they have arrived. -/
theorem load_rb (d : Dev nD) (s : Fin 4) : bM.view.readAt (Elt F) (subR s).toLoadRect (HS X (partner d)) = rbX X d s :=
  load_sub (HS X (partner d)) s
/-- The index of a shape whose leading axis has extent one. -/
theorem ix3_zero (y : S1x16x512.Idx) : ix3 0 (y 1) (y 2) = y := by
  have h0 : (y 0).val < 1 := (y 0).isLt
  rw [eq_ix3 y]
  have : y 0 = (0 : Fin 1) := Fin.ext (by show (y 0).val = 0; omega)
  rw [this]; rfl
/-- The store of the group's sum leaves what the contents say. -/
theorem stored_hs (d : Dev nD) (s : Fin 4) : (hM.access (subR s)).read (Elt F) (HS X d) = hsV (ownX X d s) (slabX X d s) :=
  funext fun y => (readAt_sub (HS X d) s y).trans (congrArg (hsV (ownX X d s) (slabX X d s)) (ix3_zero y))
/-- The store of the full sum leaves what the contents say. -/
theorem stored_fs (d : Dev nD) (s : Fin 4) : (fM.access (subR s)).read (Elt F) (FS X d) = fsV (ACC X d s) (rbX X d s) :=
  funext fun y => (readAt_sub (FS X d) s y).trans (congrArg (fsV (ACC X d s) (rbX X d s)) (ix3_zero y))
/-- A sub-block of an array of four, loaded and with its unit axis dropped. -/
theorem outV_load (f : S4x16x512.Idx → Elt F .bf16) (s : Fin 4) (y : S16x512.Idx) :
    outV (fM.view.readAt (Elt F) (subR s).toLoadRect f) y = f (ix3 s (y 0) (y 1)) :=
  congrArg f (sub_emb s y)
/-- The store into the own rows of the result leaves what the contents say. -/
theorem stored_out (d : Dev nD) (s : Fin 4) :
    (oM.access (ownR d s)).read (Elt F) (OUT X d) = outV (fM.view.readAt (Elt F) (subR s).toLoadRect (FS X d)) :=
  funext fun (y : S16x512.Idx) => by
    rw [outV_load]
    refine (readAt_own (OUT X d) d s y).trans ?_
    refine (OUT_at X d (place d) s (y 0) (y 1)).trans ?_
    rw [member_grp_place]

/-! ## The elements of the views -/

/-- The elements a transfer of the first phase reads. -/
theorem set_xRows (d : Dev nD) (s : Fin 4) (j : Fin 7) : (xRows d s j).view.set = rowSet (place (peer d j)) s :=
  (View.set_slice_whole _ _).trans (rows_set (off1_eq d s j) _)
/-- The elements a transfer of the last phase writes. -/
theorem set_oRows (d : Dev nD) (s : Fin 4) : (oRows d s).view.set = rowSet (place d) s :=
  (View.set_slice_whole _ _).trans (rows_set (off3_eq d s) _)
/-- The elements of the own rows. -/
theorem set_own (d : Dev nD) (s : Fin 4) : (ownR d s).set = rowSet (place d) s := rows_set (off2_eq d s) _
/-- The elements of a landing slot, as a transfer writes it. -/
theorem set_slot (s : Fin 4) (j : Fin 7) : (slot s j).view.set = slotSet (s, j) :=
  (View.set_reshape _ _).trans ((View.set_slice_whole _ _).trans (slotR_set s j))
/-- The elements of a sub-block of the group's sums, as a transfer reads it. -/
theorem set_hsub (s : Fin 4) : (sub hM s).view.set = subSet s :=
  (View.set_reshape _ _).trans ((View.set_slice_whole _ _).trans (subR_set s))
/-- The elements of a sub-block of the full sums, as a transfer reads it. -/
theorem set_fsub (s : Fin 4) : (sub fM s).view.set = subSet s :=
  (View.set_reshape _ _).trans ((View.set_slice_whole _ _).trans (subR_set s))
/-- The elements of a sub-block of the partner's sums, as a transfer writes it. -/
theorem set_bsub (s : Fin 4) : (sub bM s).view.set = subSet s :=
  (View.set_reshape _ _).trans ((View.set_slice_whole _ _).trans (subR_set s))

end Cert.AllReduce

end
-- ==== Proof.Protocol.lean ====
/-
# The protocol of the exchange

Each device has one barrier cell and, for every transfer, a cell that tells it that its own transfer has left and one that
tells it that the transfer sent to it has arrived. A device signals the barrier of every peer and of its partner; with the
signal it hands over the places in its own buffers that the receiver of the signal will write. When a transfer arrives the
place comes back filled, at contents that are stated here.
-/
module

public import proofs.«01_k».proof.Proof.Blocks
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Transfers
public import Idealize.ShloMosaic.Harness.Basic

@[expose] public section

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

/-- The ghost state: the pipeline's own, and that of the cells' rounds. -/
abbrev UU : Type := UR sig nD τ × URounds (GSem nD τ sig) Dir

local notation "𝕄" => MT nD τ sig Unit (Elt F) ℕ UU ℕ

/-- Where the pipeline's part lies in it. -/
abbrev EP : Emb (UR sig nD τ) (MT nD τ sig Unit (Elt F) ℕ UU ℕ) := embL
/-- Where the rounds' part lies in it. -/
abbrev ER : Emb (URounds (GSem nD τ sig) Dir) (MT nD τ sig Unit (Elt F) ℕ UU ℕ) := embR

/-- A family, fibre by fibre of a function of its index. -/
theorem bigSep_by {M I J : Type*} [URA M] [Fintype I] [DecidableEq I] [Fintype J] [DecidableEq J] (f : I → J) (Φ : I → sProp M) :
    (bigSep Finset.univ fun k => bigSep (Finset.univ.filter fun i => f i = k) Φ) = bigSep Finset.univ Φ := by
  rw [bigSep_congr fun k _ => bigSep_filter Finset.univ (fun i => f i = k) Φ, bigSep_univ_comm]
  refine bigSep_congr fun i _ => ?_
  rw [← bigSep_filter Finset.univ (fun k => f i = k) fun _ => Φ i, Finset.filter_eq, if_pos (Finset.mem_univ _), bigSep_singleton]

/-! ## Directions -/

/-- The direction in which the device in direction `k` finds this one. -/
def rev : Dir → Dir
  | some j => some ⟨6 - j.val, by omega⟩
  | none => none
/-- Turning around twice changes nothing. -/
theorem rev_rev : ∀ k, rev (rev k) = k := by decide +kernel
/-- The device in a direction finds this one in the opposite direction. -/
theorem dirDev_rev : ∀ (d : Dev nD) (k : Dir), dirDev (dirDev d k) (rev k) = d := by decide +kernel
/-- The same, from the other end. -/
theorem dirDev_rev' (d : Dev nD) (k : Dir) : dirDev (dirDev d (rev k)) k = d := by
  have h := dirDev_rev d (rev k); rwa [rev_rev] at h
/-- The direction of a transfer. -/
def dirOf : Tr → Dir
  | tA _ j => some j
  | tB _ => none
  | tC _ j => some j
/-- A transfer goes to the device in its direction. -/
theorem toDev_dir (d : Dev nD) : ∀ t, toDev d t = dirDev d (dirOf t)
  | tA _ _ => rfl
  | tB _ => rfl
  | tC _ _ => rfl

/-! ## Cells -/

/-- The cells of the transfers: of its leaving (`false`) and of its arrival (`true`). -/
abbrev Kd : Type := Tr × Bool
/-- There are finitely many kinds of cell, -/
instance : Fintype Kd := inferInstance
/-- and they can be told apart. -/
instance : DecidableEq Kd := inferInstance
/-- The semaphore of a kind. -/
def dsem (k : Kd) : DmaSem sig := if k.2 then rcvS k.1 else sndS k.1
/-- The same semaphore, among those of every sort. -/
def osem (k : Kd) : SemLoc sig := .dma (dsem k)
/-- Different kinds have different semaphores. -/
theorem osem_inj : Function.Injective osem := by
  have h : ∀ k k' : Kd, dsem k = dsem k' → k = k' := by decide +kernel
  exact fun k k' e => h k k' (by unfold osem at e; injection e)
/-- None of these semaphores is the barrier's. -/
theorem osem_ne_bar (k : Kd) : osem k ≠ .reg barSem := fun h => by unfold osem at h; cases h

open Classical in
/-- The kind of a semaphore, if it is one of these. -/
def kindOf (sm : SemLoc sig) : Option Kd := if h : ∃ k, osem k = sm then some h.choose else none
/-- The kind of a kind's semaphore is that kind. -/
theorem kindOf_osem (k : Kd) : kindOf (osem k) = some k := by
  have h : ∃ k', osem k' = osem k := ⟨k, rfl⟩
  unfold kindOf
  rw [dif_pos h]
  exact congrArg some (osem_inj h.choose_spec)
/-- The barrier's semaphore is of none of these kinds. -/
theorem kindOf_bar : kindOf (.reg barSem) = none := by
  unfold kindOf
  rw [dif_neg]
  rintro ⟨k, h⟩
  exact osem_ne_bar k h

/-- The barrier's cell on a device. -/
abbrev barCell (c : Dev nD) : GSem nD τ sig := ((c : Thread nD τ), .reg barSem)
/-- The cell of a transfer's leaving. -/
abbrev sndCell (c : Dev nD) (t : Tr) : GSem nD τ sig := ((c : Thread nD τ), .dma (sndS t))
/-- The cell of a transfer's arrival. -/
abbrev rcvCell (c : Dev nD) (t : Tr) : GSem nD τ sig := ((c : Thread nD τ), .dma (rcvS t))
/-- The cell of a kind on a device. -/
abbrev cell (c : Dev nD) (k : Kd) : GSem nD τ sig := ((c : Thread nD τ), osem k)
/-- The semaphore of a transfer's leaving. -/
theorem osem_snd (t : Tr) : osem (t, false) = .dma (sndS t) := rfl
/-- The semaphore of a transfer's arrival. -/
theorem osem_rcv (t : Tr) : osem (t, true) = .dma (rcvS t) := rfl
/-- The kind of the semaphore of a transfer's leaving. -/
theorem kindOf_snd (t : Tr) : kindOf (.dma (sndS t)) = some (t, false) := kindOf_osem (t, false)
/-- The kind of the semaphore of a transfer's arrival. -/
theorem kindOf_rcv (t : Tr) : kindOf (.dma (rcvS t)) = some (t, true) := kindOf_osem (t, true)
/-- The semaphore of a transfer's leaving is not the barrier's. -/
theorem snd_ne_bar (t : Tr) : (.dma (sndS t) : SemLoc sig) ≠ .reg barSem := osem_ne_bar (t, false)
/-- The semaphore of a transfer's arrival is not the barrier's. -/
theorem rcv_ne_bar (t : Tr) : (.dma (rcvS t) : SemLoc sig) ≠ .reg barSem := osem_ne_bar (t, true)

/-- What every transfer credits: sixteen rows. -/
abbrev N : ℕ := (slot 0 0).view.dmaCredit
/-- A transfer credits something. -/
theorem N_pos : 0 < N := View.dmaCredit_pos _ (by decide)
/-- Every transfer credits the same amount at its destination, -/
theorem credit_dst (d : Dev nD) : ∀ t, (dstM d t).view.dmaCredit = N
  | tA _ _ => rfl
  | tB _ => rfl
  | tC _ _ => rfl
/-- and at its source. -/
theorem credit_src (d : Dev nD) : ∀ t, (src d t).view.dmaCredit = N
  | tA _ _ => rfl
  | tB _ => rfl
  | tC _ _ => rfl

/-! ## The places -/

variable (X : Dev nD → S512x512.Idx → Elt F .bf16)

/-- The device's input. -/
abbrev xLoc (c : Dev nD) : Loc nD τ sig := (c : Thread nD τ).loc cc0_stg0_0
/-- The device's result. -/
abbrev oLoc (c : Dev nD) : Loc nD τ sig := (c : Thread nD τ).loc cc0_stg1_0
/-- The group's sums. -/
abbrev hLoc (c : Dev nD) : Loc nD τ sig := (c : Thread nD τ).loc cc0_scratch0
/-- The full sums. -/
abbrev fLoc (c : Dev nD) : Loc nD τ sig := (c : Thread nD τ).loc cc0_scratch1
/-- The landing slots of the first phase. -/
abbrev aLoc (c : Dev nD) : Loc nD τ sig := (c : Thread nD τ).loc cc0_scratch2
/-- The landing places of the partner's sums. -/
abbrev bLoc (c : Dev nD) : Loc nD τ sig := (c : Thread nD τ).loc cc0_scratch3

/-- The share of its source a transfer reads: the full sum is read by the seven transfers of the last phase at once. -/
def shr : Tr → PosShare TreeShare
  | tA _ _ => fullShare
  | tB _ => fullShare
  | tC _ j => shareTok fullShare 7 j
/-- The source of a transfer at what it sends. -/
def srcPts (c : Dev nD) : Tr → sProp 𝕄
  | tA s j => xLoc c ↦[rowSet (place (peer c j)) s]{fullShare} X c
  | tB s => hLoc c ↦[subSet s]{fullShare} HS X c
  | tC s j => fLoc c ↦[subSet s]{shareTok fullShare 7 j} FS X c
/-- The place on `c` that the transfer `t` sent to it writes, at contents not chosen; -/
def inAny (c : Dev nD) : Tr → sProp 𝕄
  | tA s j => iprop(∃ f, aLoc c ↦[slotSet (s, j)]{fullShare} f)
  | tB s => iprop(∃ f, bLoc c ↦[subSet s]{fullShare} f)
  | tC s j => iprop(∃ f, oLoc c ↦[rowSet (place (orig c j)) s]{fullShare} f)
/-- and filled. -/
def inFin (c : Dev nD) : Tr → sProp 𝕄
  | tA s j => aLoc c ↦[slotSet (s, j)]{fullShare} RA X c
  | tB s => bLoc c ↦[subSet s]{fullShare} HS X (partner c)
  | tC s j => oLoc c ↦[rowSet (place (orig c j)) s]{fullShare} OUT X c

/-- The source of a transfer, as the memory its view covers. -/
theorem src_view (c : Dev nD) : ∀ t, srcPts X c t = (((src c t).view.loc (c : Thread nD τ) ↦[(src c t).view.set]{shr t} SRC X c t) : sProp 𝕄)
  | tA s j => by
      show (xLoc c ↦[rowSet (place (peer c j)) s]{fullShare} X c : sProp 𝕄) = (xRows c s j).view.loc (c : Thread nD τ) ↦[(xRows c s j).view.set]{fullShare} X c
      rw [set_xRows]
  | tB s => by
      show (hLoc c ↦[subSet s]{fullShare} HS X c : sProp 𝕄) = (sub hM s).view.loc (c : Thread nD τ) ↦[(sub hM s).view.set]{fullShare} HS X c
      rw [set_hsub]
  | tC s j => by
      show (fLoc c ↦[subSet s]{shareTok fullShare 7 j} FS X c : sProp 𝕄)
        = (sub fM s).view.loc (c : Thread nD τ) ↦[(sub fM s).view.set]{shareTok fullShare 7 j} FS X c
      rw [set_fsub]

/-- The receiver's place for a transfer, as the memory the destination's view covers. -/
theorem in_view (c : Dev nD) : ∀ t, (inAny (toDev c t) t : sProp 𝕄)
    ⊢ iprop(∃ f, (dstM c t).view.loc (toDev c t : Thread nD τ) ↦[(dstM c t).view.set]{fullShare} f)
  | tA s j => by
      show iprop(∃ f, aLoc (peer c j) ↦[slotSet (s, j)]{fullShare} f) ⊢ iprop(∃ f, (slot s j).view.loc (peer c j : Thread nD τ) ↦[(slot s j).view.set]{fullShare} f)
      rw [set_slot]
  | tB s => by
      show iprop(∃ f, bLoc (partner c) ↦[subSet s]{fullShare} f) ⊢ iprop(∃ f, (sub bM s).view.loc (partner c : Thread nD τ) ↦[(sub bM s).view.set]{fullShare} f)
      rw [set_bsub]
  | tC s j => by
      show iprop(∃ f, oLoc (peer c j) ↦[rowSet (place (orig (peer c j) j)) s]{fullShare} f)
        ⊢ iprop(∃ f, (oRows c s).view.loc (peer c j : Thread nD τ) ↦[(oRows c s).view.set]{fullShare} f)
      rw [set_oRows, orig_peer]

/-- The memory the destination's view covers, filled, is the receiver's place filled. -/
theorem fin_view (c : Dev nD) : ∀ t,
    (((dstM c t).view.loc (toDev c t : Thread nD τ) ↦[(dstM c t).view.set]{fullShare} FIN X c t) : sProp 𝕄) ⊢ inFin X (toDev c t) t
  | tA s j => by
      show ((slot s j).view.loc (peer c j : Thread nD τ) ↦[(slot s j).view.set]{fullShare} RA X (peer c j) : sProp 𝕄)
        ⊢ aLoc (peer c j) ↦[slotSet (s, j)]{fullShare} RA X (peer c j)
      rw [set_slot]
  | tB s => by
      show ((sub bM s).view.loc (partner c : Thread nD τ) ↦[(sub bM s).view.set]{fullShare} HS X (partner (partner c)) : sProp 𝕄)
        ⊢ bLoc (partner c) ↦[subSet s]{fullShare} HS X (partner (partner c))
      rw [set_bsub]
  | tC s j => by
      show ((oRows c s).view.loc (peer c j : Thread nD τ) ↦[(oRows c s).view.set]{fullShare} OUT X (peer c j) : sProp 𝕄)
        ⊢ oLoc (peer c j) ↦[rowSet (place (orig (peer c j) j)) s]{fullShare} OUT X (peer c j)
      rw [set_oRows, orig_peer]

/-- A transfer's destination, written with what its source holds, is the receiver's place filled. -/
theorem lands (c : Dev nD) (t : Tr) (f : (dstM c t).view.ty.Contents (Elt F)) :
    (((dstM c t).view.loc (toDev c t : Thread nD τ) ↦[(dstM c t).view.set]{fullShare}
      ((dstM c t).view.write (Elt F) f ((src c t).view.read (Elt F) (SRC X c t)) Finset.univ)) : sProp 𝕄) ⊢ inFin X (toDev c t) t :=
  (Entails.of_eq (pointsTo_congr (write_eq_on (dstM c t).view f (FIN X c t) _ (landed X c t)))).trans (fin_view X c t)

/-! ## The schedule -/

/-- What a device is given before it sends: the place on the receiver, and that the receiver's cell is open. -/
def give (c : Dev nD) (t : Tr) : sProp 𝕄 := iprop(inAny (toDev c t) t ∗ reached ER (rcvCell (toDev c t) t) 0)
/-- The same of the own places, before they are handed over. -/
def mine (c : Dev nD) (t : Tr) : sProp 𝕄 := iprop(inAny c t ∗ reached ER (rcvCell c t) 0)
/-- The transfers of a direction. -/
def trOf (k : Dir) : Finset Tr := Finset.univ.filter fun t => dirOf t = k
/-- Paid to the barrier of `c` by the device in direction `k`. -/
def barPay (c : Dev nD) (k : Dir) : sProp 𝕄 := bigSep (trOf k) fun t => give c t

/-- What a cell's payment hands over: a source given back when the transfer has left, a place filled when it has arrived. -/
def kindPay (c : Dev nD) : Option Kd → sProp 𝕄
  | some (t, false) => srcPts X c t
  | some (t, true) => inFin X c t
  | none => iprop(emp)

/-- The schedule: every cell has one round, of eight units from the eight directions at a barrier and of one transfer elsewhere. -/
def talkRd : Rounds.Schedule (GSem nD τ sig) Dir 𝕄 where
  duties g r := if r = 0 ∧ g.1.2 = .tc then (if g.2 = .reg barSem then Finset.univ else if (kindOf g.2).isSome then {none} else ∅) else ∅
  unitless _ := False
  amount g _ _ := if g.2 = .reg barSem then 1 else N
  payload g _ k := if g.2 = .reg barSem then barPay g.1.1 k else kindPay X g.1.1 (kindOf g.2)
  amount_pos g _ _ _ := by
    by_cases h : g.2 = .reg barSem
    · rw [if_pos h]; exact Nat.one_pos
    · rw [if_neg h]; exact N_pos

/-- A place may be handed over by a payment, -/
instance inAny_storable (c : Dev nD) (t : Tr) : BI.Storable (upEmb : UEmb _ 𝕄) (inAny (F := F) c t) := by
  match t with
  | tA s j => unfold inAny; infer_instance
  | tB s => unfold inAny; infer_instance
  | tC s j => unfold inAny; infer_instance
/-- as may a place filled, -/
instance inFin_storable (c : Dev nD) (t : Tr) : BI.Storable (upEmb : UEmb _ 𝕄) (inFin X c t) := by
  match t with
  | tA s j => unfold inFin; infer_instance
  | tB s => unfold inFin; infer_instance
  | tC s j => unfold inFin; infer_instance
/-- and a source, -/
instance srcPts_storable (c : Dev nD) (t : Tr) : BI.Storable (upEmb : UEmb _ 𝕄) (srcPts X c t) := by
  match t with
  | tA s j => unfold srcPts; infer_instance
  | tB s => unfold srcPts; infer_instance
  | tC s j => unfold srcPts; infer_instance
/-- and all the places of a direction. -/
instance barPay_storable (c : Dev nD) (k : Dir) : BI.Storable (upEmb : UEmb _ 𝕄) (barPay (F := F) c k) := by
  unfold barPay give; infer_instance
/-- So every payment of the schedule may be made. -/
instance talkRd_payload_storable (g : GSem nD τ sig) (r : ℕ) (k : Dir) :
    BI.Storable (upEmb : UEmb _ 𝕄) ((talkRd X).payload g r k) := by
  show BI.Storable upEmb (if g.2 = .reg barSem then barPay g.1.1 k else kindPay X g.1.1 (kindOf g.2))
  split
  · infer_instance
  · match kindOf g.2 with
    | some (t, false) => exact srcPts_storable X g.1.1 t
    | some (t, true) => exact inFin_storable X g.1.1 t
    | none => unfold kindPay; infer_instance

section Sched

variable (c : Dev nD) (t : Tr)

/-- A barrier is paid from every direction. -/
theorem duties_bar : (talkRd X).duties (barCell c) 0 = Finset.univ := by
  dsimp only [talkRd]; rw [if_pos ⟨rfl, rfl⟩, if_pos rfl]
/-- The cell of a transfer's leaving is paid once. -/
theorem duties_snd : (talkRd X).duties (sndCell c t) 0 = {none} := by
  dsimp only [talkRd]; rw [if_pos ⟨rfl, rfl⟩, if_neg (snd_ne_bar t), kindOf_snd]; rfl
/-- The cell of a transfer's arrival is paid once. -/
theorem duties_rcv : (talkRd X).duties (rcvCell c t) 0 = {none} := by
  dsimp only [talkRd]; rw [if_pos ⟨rfl, rfl⟩, if_neg (rcv_ne_bar t), kindOf_rcv]; rfl
/-- No cell is paid after its first round. -/
theorem duties_later (g : GSem nD τ sig) : ∀ r, 1 ≤ r → (talkRd X).duties g r = ∅ :=
  fun r hr => by dsimp only [talkRd]; rw [if_neg (fun h => by omega)]
/-- Each payment to a barrier is of one unit. -/
theorem amount_bar (k : Dir) : (talkRd X).amount (barCell c) 0 k = 1 := by dsimp only [talkRd]; exact if_pos rfl
/-- The payment for a transfer's leaving is of the transfer's size. -/
theorem amount_snd (k : Dir) : (talkRd X).amount (sndCell c t) 0 k = N := by dsimp only [talkRd]; exact if_neg (snd_ne_bar t)
/-- The payment for a transfer's arrival is of the transfer's size. -/
theorem amount_rcv (k : Dir) : (talkRd X).amount (rcvCell c t) 0 k = N := by dsimp only [talkRd]; exact if_neg (rcv_ne_bar t)
/-- A barrier expects eight units. -/
theorem expect_bar : (talkRd X).expect (barCell c) 0 = 8 := by
  unfold Schedule.expect Schedule.amountOf
  rw [duties_bar, Finset.sum_congr rfl (fun k _ => amount_bar X c k)]; rfl
/-- The cell of a transfer's leaving expects the transfer's size. -/
theorem expect_snd : (talkRd X).expect (sndCell c t) 0 = N := by
  unfold Schedule.expect Schedule.amountOf; rw [duties_snd, Finset.sum_singleton, amount_snd]
/-- The cell of a transfer's arrival expects the transfer's size. -/
theorem expect_rcv : (talkRd X).expect (rcvCell c t) 0 = N := by
  unfold Schedule.expect Schedule.amountOf; rw [duties_rcv, Finset.sum_singleton, amount_rcv]
/-- A payment to a barrier hands over the payer's places for the transfers of that direction. -/
theorem payload_bar (k : Dir) : (talkRd X).payload (barCell c) 0 k = barPay c k := by dsimp only [talkRd]; exact if_pos rfl
/-- A transfer's leaving gives its source back. -/
theorem payload_snd (k : Dir) : (talkRd X).payload (sndCell c t) 0 k = srcPts X c t := by
  dsimp only [talkRd]; rw [if_neg (snd_ne_bar t), kindOf_snd]; rfl
/-- A transfer's arrival hands over the place, filled. -/
theorem payload_rcv (k : Dir) : (talkRd X).payload (rcvCell c t) 0 k = inFin X c t := by
  dsimp only [talkRd]; rw [if_neg (rcv_ne_bar t), kindOf_rcv]; rfl
/-- A device whose barrier is full has been given everything it sends to. -/
theorem rest_bar : bigSep ((talkRd X).duties (barCell c) 0 \ ∅) (fun k => (talkRd X).payload (barCell c) 0 k)
    = bigSep Finset.univ fun t => give c t := by
  rw [Finset.sdiff_empty, duties_bar, bigSep_congr fun k _ => payload_bar X c k]
  exact bigSep_by dirOf (fun t => give c t)
/-- Waiting for a transfer to leave gives its source back. -/
theorem rest_snd : bigSep ((talkRd X).duties (sndCell c t) 0 \ ∅) (fun k => (talkRd X).payload (sndCell c t) 0 k) = srcPts X c t := by
  rw [Finset.sdiff_empty, duties_snd, bigSep_singleton, payload_snd]
/-- Waiting for an arrival gives the place filled. -/
theorem rest_rcv : bigSep ((talkRd X).duties (rcvCell c t) 0 \ ∅) (fun k => (talkRd X).payload (rcvCell c t) 0 k) = inFin X c t := by
  rw [Finset.sdiff_empty, duties_rcv, bigSep_singleton, payload_rcv]

end Sched

/-! ## What a device owes, and the levels -/

/-- The arrivals a device has still to make happen, as a list of its transfers. -/
def OT (c : Dev nD) (l : List Tr) : CellTallies nD τ sig Unit := (l.map fun t => tallyAt (rcvCell (toDev c t) t) () N).sum
/-- The barrier units it has still to signal. -/
def OB (c : Dev nD) (l : List Dir) : CellTallies nD τ sig Unit := (l.map fun k => tallyAt (barCell (dirDev c k)) () 1).sum
/-- Owing a list of transfers is owing the first and the rest. -/
theorem OT_cons (c : Dev nD) (t : Tr) (l : List Tr) : OT c (t :: l) = OT c l + tallyAt (rcvCell (toDev c t) t) () N := by
  unfold OT; rw [List.map_cons, List.sum_cons, add_comm]
/-- Owing a list of signals is owing the first and the rest. -/
theorem OB_cons (c : Dev nD) (k : Dir) (l : List Dir) : OB c (k :: l) = OB c l + tallyAt (barCell (dirDev c k)) () 1 := by
  unfold OB; rw [List.map_cons, List.sum_cons, add_comm]

/-- The transfers in the order they are issued. -/
abbrev allB : List Tr := subs.map tB
/-- All transfers, in the order they are issued. -/
abbrev allT : List Tr := allA ++ (allB ++ allC)
/-- What a device owes at launch. -/
def O₀ (c : Dev nD) : CellTallies nD τ sig Unit := OT c allT + OB c dirs

/-- The levelled cells: those of the cores. -/
def L (g : GSem nD τ sig) : Finset Unit := if g.1.2 = .tc then {()} else ∅
/-- No other thread's cells are levelled. -/
theorem L_of_ne (g : GSem nD τ sig) (h : g.1.2 ≠ .tc) : L g = ∅ := if_neg h
/-- Every cell of a core is levelled. -/
theorem L_tc (c : Dev nD) (sm : SemLoc sig) : L ((c : Thread nD τ), sm) = {()} := if_pos rfl

/-- The phase in which a transfer's arrival is waited for. -/
def phase : Tr → ℕ
  | tA _ _ => 2
  | tB _ => 3
  | tC _ _ => 4
/-- The level of a kind: an arrival's is its phase. -/
def kindLv : Option Kd → ℕ
  | some (t, true) => phase t
  | _ => 0
/-- The barrier first, then the arrivals phase by phase; a transfer's leaving depends on nothing. -/
def lv (g : GSem nD τ sig) (_ : Unit) : ℕ := if g.2 = .reg barSem then 1 else kindLv (kindOf g.2)
/-- The barrier's level. -/
theorem lv_bar (c : Dev nD) : lv (barCell c) () = 1 := if_pos rfl
/-- The level of a transfer's leaving. -/
theorem lv_snd (c : Dev nD) (t : Tr) : lv (sndCell c t) () = 0 := by
  unfold lv; rw [if_neg (snd_ne_bar t), kindOf_snd]; rfl
/-- The level of a transfer's arrival. -/
theorem lv_rcv (c : Dev nD) (t : Tr) : lv (rcvCell c t) () = phase t := by
  unfold lv; rw [if_neg (rcv_ne_bar t), kindOf_rcv]; rfl
/-- Every arrival is above the barrier. -/
theorem phase_ge : ∀ t, 2 ≤ phase t
  | tA _ _ => le_rfl
  | tB _ => Nat.le_succ 2
  | tC _ _ => Nat.le_add_right 2 2

/-- What is owed for transfers is owed to the arrival cell of one of them. -/
theorem OT_pos {c : Dev nD} {g : GSem nD τ sig} {u : Unit} : ∀ {l : List Tr}, 0 < OT c l g u → ∃ t ∈ l, g = rcvCell (toDev c t) t
  | [], h => absurd h (Nat.lt_irrefl 0)
  | t :: l, h => by
      rw [OT_cons, Pi.add_apply, Finsupp.add_apply] at h
      rcases Nat.add_pos_iff_pos_or_pos.mp h with h | h
      · obtain ⟨t', ht, hg⟩ := OT_pos h
        exact ⟨t', List.mem_cons_of_mem _ ht, hg⟩
      · rw [tallyAt_apply] at h
        split at h
        · next hg => exact ⟨t, List.mem_cons_self, hg.1⟩
        · exact absurd h (Nat.lt_irrefl 0)
/-- What is owed for signals is owed to the barrier in one of the directions. -/
theorem OB_pos {c : Dev nD} {g : GSem nD τ sig} {u : Unit} : ∀ {l : List Dir}, 0 < OB c l g u → ∃ k ∈ l, g = barCell (dirDev c k)
  | [], h => absurd h (Nat.lt_irrefl 0)
  | k :: l, h => by
      rw [OB_cons, Pi.add_apply, Finsupp.add_apply] at h
      rcases Nat.add_pos_iff_pos_or_pos.mp h with h | h
      · obtain ⟨k', hk, hg⟩ := OB_pos h
        exact ⟨k', List.mem_cons_of_mem _ hk, hg⟩
      · rw [tallyAt_apply] at h
        split at h
        · next hg => exact ⟨k, List.mem_cons_self, hg.1⟩
        · exact absurd h (Nat.lt_irrefl 0)

/-- A device may wait on a cell below every arrival it still owes. -/
theorem mayWait (c : Dev nD) (sm : SemLoc sig) (n : ℕ) (hn : lv ((c : Thread nD τ), sm) () = n) (l : List Tr) (h : ∀ t ∈ l, n < phase t) :
    (levAts L lv : sProp 𝕄) ⊢ MayWait (c : Thread nD τ) sm () (OT c l) :=
  MayOwe.of_cut (L := L) (lev := lv) n (fun p hp => by rw [Finset.mem_singleton.mp hp, L_tc]; exact Finset.mem_singleton_self _)
    (fun g u hg => by
      obtain ⟨t, -, rfl⟩ := OT_pos hg
      rw [L_tc]; exact Finset.mem_singleton_self _)
    (fun p hp => by rw [Finset.mem_singleton.mp hp]; exact hn.le)
    (fun g u hg => by
      obtain ⟨t, ht, rfl⟩ := OT_pos hg
      rw [lv_rcv]; exact h t ht)

end Cert.AllReduce

end
-- ==== Proof.Steps.lean ====
/-
# The steps of the exchange

What one transfer's start and one transfer's wait do to the resources, and a lemma that runs a list of like steps.
-/
module

public import proofs.«01_k».proof.Proof.Protocol
public import Idealize.ShloMosaic.Lib.Pipeline.BigSepL

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body has no loops, so no variants. -/
abbrev 𝒱₀ : Variants := Variants.none

/-- The body's weakest precondition on device `c`. -/
abbrev wpB (c : Dev nD) (p : Pg F) (Kt : PUnit → sProp 𝕄) : sProp 𝕄 := wp frame (wpE (defs₀ (F := F)) 𝒱₀ (c : Thread nD τ) none) Set.univ p Kt

variable (X : Dev nD → S512x512.Idx → Elt F .bf16)

/-! ## What every device knows -/

/-- Every cell's invariant, and that every barrier is open. -/
def records (K : GSem nD τ sig → ℕ) : sProp 𝕄 :=
  iprop((bigSep Finset.univ fun c : Dev nD => cellInv ER (talkRd X) (K (barCell c)) (barCell c))
    ∗ (bigSep Finset.univ fun p : Dev nD × Kd => cellInv ER (talkRd X) (K (cell p.1 p.2)) (cell p.1 p.2))
    ∗ bigSep Finset.univ fun c : Dev nD => reached ER (barCell c) 0)
/-- This knowledge may be used again and again. -/
instance (K : GSem nD τ sig → ℕ) : Persistent (records X K) := by unfold records; infer_instance

/-- One member of a family, from the whole family. -/
theorem elim_univ {I : Type} [Fintype I] [DecidableEq I] (Φ : I → sProp 𝕄) (i : I) : (bigSep Finset.univ Φ : sProp 𝕄) ⊢ Φ i :=
  bigSep_elim (Finset.mem_univ i)
/-- Of the invariants, a barrier's. -/
theorem records_bar (K : GSem nD τ sig → ℕ) (c : Dev nD) : records X K ⊢ cellInv ER (talkRd X) (K (barCell c)) (barCell c) := by
  unfold records
  iintro ⟨H, -, -⟩
  iapply (elim_univ (fun c : Dev nD => cellInv ER (talkRd X) (K (barCell c)) (barCell c)) c); iexact H
/-- Of the invariants, that of a transfer's cell. -/
theorem records_cell (K : GSem nD τ sig → ℕ) (c : Dev nD) (k : Kd) : records X K ⊢ cellInv ER (talkRd X) (K (cell c k)) (cell c k) := by
  unfold records
  iintro ⟨-, H, -⟩
  iapply (elim_univ (fun p : Dev nD × Kd => cellInv ER (talkRd X) (K (cell p.1 p.2)) (cell p.1 p.2)) (c, k)); iexact H
/-- That of a transfer's leaving. -/
theorem records_snd (K : GSem nD τ sig → ℕ) (c : Dev nD) (t : Tr) : records X K ⊢ cellInv ER (talkRd X) (K (sndCell c t)) (sndCell c t) :=
  records_cell X K c (t, false)
/-- That of a transfer's arrival. -/
theorem records_rcv (K : GSem nD τ sig → ℕ) (c : Dev nD) (t : Tr) : records X K ⊢ cellInv ER (talkRd X) (K (rcvCell c t)) (rcvCell c t) :=
  records_cell X K c (t, true)
/-- Every barrier has reached its round. -/
theorem records_open (K : GSem nD τ sig → ℕ) (c : Dev nD) : records X K ⊢ reached ER (barCell c) 0 := by
  unfold records
  iintro ⟨-, -, H⟩
  iapply (elim_univ (fun c : Dev nD => (reached ER (barCell c) 0 : sProp 𝕄)) c); iexact H

/-! ## Packages of one transfer -/

/-- What `c` needs to start `t`: the right to pay its two cells. -/
def Tok (c : Dev nD) (t : Tr) : sProp 𝕄 :=
  iprop(dutyTok ER (sndCell c t) 0 none ∗ reached ER (sndCell c t) 0 ∗ dutyTok ER (rcvCell (toDev c t) t) 0 none)
/-- What it needs to wait for `t`, beside the credit the start gives. -/
def Pos (c : Dev nD) (t : Tr) : sProp 𝕄 :=
  iprop(cred (tallyAt (rcvCell c t) () N) ∗ atPos ER (sndCell c t) 0 ∅ 0 ∗ atPos ER (rcvCell c t) 0 ∅ 0)
/-- The credit the start gives. -/
def Sent (c : Dev nD) (t : Tr) : sProp 𝕄 := cred (tallyAt (sndCell c t) () N)
/-- What the wait gives: the source back, the own place filled, and both cells closed. -/
def Done (c : Dev nD) (t : Tr) : sProp 𝕄 := iprop(srcPts X c t ∗ inFin X c t ∗ semVal (sndCell c t) 0 ∗ semVal (rcvCell c t) 0)
/-- The core owes `O`. -/
def Owe (c : Dev nD) (O : CellTallies nD τ sig Unit) : sProp 𝕄 := iprop(∃ W, owes (c : Thread nD τ) O W)
/-- What every device knows, with the levels. -/
def Know (K : GSem nD τ sig → ℕ) : sProp 𝕄 := iprop(records X K ∗ levAts L lv)
/-- This too may be used again and again. -/
instance (K : GSem nD τ sig → ℕ) : Persistent (Know X K) := by unfold Know; infer_instance

/-! ## A list of like steps -/

/-- Run a list of steps, each of which takes the state `I` one entry further and turns its own `P` into `Q`. -/
theorem each_wp {ι : Type} (c : Dev nD) (I : List ι → sProp 𝕄) (P Q : ι → sProp 𝕄) (st : ι → Pg F → Pg F) (Kt : PUnit → sProp 𝕄) :
    ∀ (l : List ι) (step : ∀ i ∈ l, ∀ rest k, iprop(I (i :: rest) ∗ P i) ⊢ iprop((iprop(I rest ∗ Q i) -∗ wpB c k Kt) -∗ wpB c (st i k) Kt)) (k : Pg F),
      iprop(I l ∗ bigSepL l P) ⊢ iprop((iprop(I [] ∗ bigSepL l Q) -∗ wpB c k Kt) -∗ wpB c (each l st k) Kt)
  | [], _, k => by
      unfold each
      iintro ⟨HI, -⟩ Hk
      iapply Hk
      isplitl [HI]; · iexact HI
      iempintro
  | i :: l, step, k => by
      rw [bigSepL_cons', bigSepL_cons']
      iintro ⟨HI, HP, HPs⟩ Hk
      iapply (step i List.mem_cons_self l (each l st k)) $$ [HI HP]
      · isplitl [HI] <;> iassumption
      iintro ⟨HI, HQ⟩
      iapply (each_wp c I P Q st Kt l (fun j hj => step j (List.mem_cons_of_mem _ hj)) k) $$ [HI HPs]
      · isplitl [HI] <;> iassumption
      iintro ⟨HI, HQs⟩
      iapply Hk
      isplitl [HI]; · iexact HI
      isplitl [HQ] <;> iassumption

/-! ## Start and wait -/

/-- Start the transfer `t`: its source and the place it is given go to the two cells, and the core owes one arrival less. -/
theorem send_wp (K : GSem nD τ sig → ℕ) (c : Dev nD) (t : Tr) (rest : List Tr) (k : Pg F) (Kt : PUnit → sProp 𝕄) :
    iprop((Know X K ∗ Owe c (OT c (t :: rest))) ∗ srcPts X c t ∗ give c t ∗ Tok c t)
      ⊢ iprop((iprop((Know X K ∗ Owe c (OT c rest)) ∗ Sent c t) -∗ wpB c k Kt) -∗ wpB c (send c (devT c t) t k) Kt) := by
  rw [devT_eq, src_view]
  unfold Know Owe give Tok Sent
  iintro ⟨⟨⟨#HR, #Hlev⟩, ⟨%W, HO⟩⟩, Hs, ⟨Hd, #HrR⟩, HtS, #HrS, HtR⟩ Hk
  ihave Hd := (in_view c t) $$ Hd
  icases Hd with ⟨%fd, Hd⟩
  iapply (Rounds.wp_send_pointsTo 𝒱₀ ER (talkRd X) (c : Thread nD τ) none (c' := (toDev c t : Thread nD τ)) (src := src c t) (dst := dstM c t)
      (sS := .dma (sndS t)) (sem := .dma (rcvS t)) (q := shr t) (fs := SRC X c t) (κ₁ := K (sndCell c t)) (κ₂ := K (rcvCell (toDev c t) t))
      (r₁ := 0) (r₂ := 0) (d₁ := none) (d₂ := none) (fd := fd)
      (by rw [duties_snd]; exact Finset.mem_singleton_self _) (by rw [duties_rcv]; exact Finset.mem_singleton_self _)
      () () N (credit_dst c t) (amount_snd X c t none) (amount_rcv X (toDev c t) t none) (OT c rest) (OT_cons c t rest) (W := W)
      (by rw [payload_snd, src_view])
      (by rw [payload_rcv]; exact lands X c t fd)) $$ [Hs Hd HO HtS HtR]
  · isplitr; · iapply (records_snd X K c t); iexact HR
    isplitr; · iapply (records_rcv X K (toDev c t) t); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]
  · isplitr
    · isplitr; · iexact HR
      iexact Hlev
    iexists _; iexact HO
  iexact HcS

/-- A cell whose round is over is at zero. -/
theorem close (κ : ℕ) (g : GSem nD τ sig) :
    iprop(cellInv ER (talkRd X) κ g ∗ atPos ER g (0 + 1) ∅ 0) ⊢ (|={Set.univ}=> semVal g 0 : sProp 𝕄) :=
  Rounds.cell_close ER (talkRd X) (Set.mem_univ κ) id (duties_later X g)

/-- Wait for `t`, where every arrival still owed belongs to a later phase. -/
theorem wait_wp (K : GSem nD τ sig → ℕ) (c : Dev nD) (t : Tr) (tail : List Tr) (h : ∀ t' ∈ tail, phase t < phase t') (k : Pg F)
    (Kt : PUnit → sProp 𝕄) :
    iprop((Know X K ∗ Owe c (OT c tail)) ∗ Sent c t ∗ Pos c t)
      ⊢ iprop((iprop((Know X K ∗ Owe c (OT c tail)) ∗ Done X c t) -∗ wpB c k Kt) -∗ wpB c (wait c t k) Kt) := by
  unfold Know Owe Pos Sent Done
  iintro ⟨⟨⟨#HR, #Hlev⟩, ⟨%W, HO⟩⟩, HcS, HcR, HatS, HatR⟩ Hk
  iapply (Rounds.wp_wait_rest_token 𝒱₀ ER (talkRd X) (c : Thread nD τ) none (κ := K (sndCell c t)) (k' := (src c t).view.dmaCredit)
      (wpE_waitDma2_eq 𝒱₀ (c : Thread nD τ) none Set.univ) (Set.mem_univ _) () (O := OT c tail) (W := W) (R := 0) (m := 0) (T := ∅)
      ((Nat.zero_add _).trans ((credit_src c t).trans (expect_snd X c t).symm))) $$ [HcS HO HatS]
  · isplitr; · iapply (records_snd X K c t); iexact HR
    isplitl [HcS]; · rw [credit_src]; iexact HcS
    isplitl [HO]; · iexact HO
    isplitr
    · iapply (mayWait c (.dma (sndS t)) 0 (lv_snd c t) tail fun t' ht => lt_of_lt_of_le (by decide) (phase_ge t')); iexact Hlev
    iexact HatS
  iintro ⟨HO, HatS, -, Hpay⟩
  ihave Hs := (Entails.of_eq (rest_snd X c t)) $$ Hpay
  iapply (Rounds.wp_wait_rest_token 𝒱₀ ER (talkRd X) (c : Thread nD τ) none (κ := K (rcvCell c t)) (k' := (dstM c t).view.dmaCredit)
      (wpE_waitDma2_eq 𝒱₀ (c : Thread nD τ) none Set.univ) (Set.mem_univ _) () (O := OT c tail) (R := 0) (m := 0) (T := ∅)
      ((Nat.zero_add _).trans ((credit_dst c t).trans (expect_rcv X c t).symm))) $$ [HcR HO HatR]
  · isplitr; · iapply (records_rcv X K c t); iexact HR
    isplitl [HcR]; · rw [credit_dst]; iexact HcR
    isplitl [HO]; · iexact HO
    isplitr
    · iapply (mayWait c (.dma (rcvS t)) _ (lv_rcv c t) tail h); iexact Hlev
    iexact HatR
  iintro ⟨HO, HatR, -, Hpay⟩
  ihave Hd := (Entails.of_eq (rest_rcv X c t)) $$ Hpay
  imod (close X (K (sndCell c t)) (sndCell c t)) $$ [HatS] with HvS
  · isplitr; · iapply (records_snd X K c t); iexact HR
    iexact HatS
  imod (close X (K (rcvCell c t)) (rcvCell c t)) $$ [HatR] with HvR
  · isplitr; · iapply (records_rcv X K c t); iexact HR
    iexact HatR
  iapply Hk
  isplitl [HO]
  · isplitr
    · isplitr; · iexact HR
      iexact Hlev
    iexists _; iexact HO
  isplitl [Hs]; · iexact Hs
  isplitl [Hd]; · iexact Hd
  isplitl [HvS] <;> iassumption

end Cert.AllReduce

end
-- ==== Proof.Body.lean ====
/-
# The body's run

The body at a device `c` that is never given a value: the barrier, the first phase's sends, the two phases for each sub-block,
and the last waits, each from the resources it needs to the resources it leaves.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (X : Dev nD → S512x512.Idx → Elt F .bf16)

/-! ## The barrier -/

/-- What `c` needs to signal in direction `k`: the right to, and the places the receiver writes. -/
def Sig (c : Dev nD) (k : Dir) : sProp 𝕄 := iprop(dutyTok ER (barCell (dirDev c k)) 0 (rev k) ∗ bigSep (trOf (rev k)) (mine c))

/-- What is paid in a direction are the payer's own places for the transfers of that direction. -/
theorem barPay_eq (c : Dev nD) (k : Dir) : (barPay (dirDev c k) (rev k) : sProp 𝕄) = bigSep (trOf (rev k)) (mine c) := by
  unfold barPay
  refine bigSep_congr fun t ht => ?_
  have h : toDev (dirDev c k) t = c := by rw [toDev_dir, (Finset.mem_filter.mp ht).2, dirDev_rev]
  unfold give mine
  rw [h]

/-- One signal: the duty is paid and the own places are handed over. -/
theorem signal_wp (K : GSem nD τ sig → ℕ) (c : Dev nD) (O : CellTallies nD τ sig Unit) (k : Dir) (rest : List Dir) (p : Pg F) (Kt : PUnit → sProp 𝕄) :
    iprop((Know X K ∗ Owe c (O + OB c (k :: rest))) ∗ Sig c k)
      ⊢ iprop((iprop((Know X K ∗ Owe c (O + OB c rest)) ∗ emp) -∗ wpB c p Kt) -∗ wpB c (sig1 c k p) Kt) := by
  rw [sig1, devD_eq]
  unfold Know Owe Sig
  iintro ⟨⟨⟨#HR, #Hlev⟩, ⟨%W, HO⟩⟩, Ht, Hp⟩ Hk
  iapply (Rounds.wp_signal 𝒱₀ ER (talkRd X) (c : Thread nD τ) none (dst := (dirDev c k : Thread nD τ)) (sem := barSem) (r := 0) (d := rev k)
      (κ := K (barCell (dirDev c k)))
      (by rw [duties_bar]; exact Finset.mem_univ _) (amount_bar X (dirDev c k) (rev k)) () (O₀ := O + OB c (k :: rest)) (O + OB c rest)
      (by rw [OB_cons, add_assoc])) $$ [HO Ht Hp]
  · isplitr; · iapply (records_bar X K (dirDev c k)); iexact HR
    isplitl [HO]; · iexact HO
    isplitl [Ht]; · iexact Ht
    isplitl [Hp]
    · rw [payload_bar, barPay_eq]; iexact Hp
    · iapply (records_open X K (dirDev c k)); iexact HR
  iintro HO
  iapply Hk
  isplitl [HO]
  · isplitr
    · isplitr; · iexact HR
      iexact Hlev
    iexists _; iexact HO
  iempintro

/-- The wait at the barrier: everything that this device sends to is handed over. -/
theorem barrier_wp (K : GSem nD τ sig → ℕ) (c : Dev nD) (l : List Tr) (k : Pg F) (Kt : PUnit → sProp 𝕄) :
    iprop((Know X K ∗ Owe c (OT c l)) ∗ cred (tallyAt (barCell c) () 8) ∗ atPos ER (barCell c) 0 ∅ 0)
      ⊢ iprop((iprop((Know X K ∗ Owe c (OT c l)) ∗ (bigSep Finset.univ fun t => give c t) ∗ semVal (barCell c) 0) -∗ wpB c k Kt)
          -∗ wpB c (Prog.op (.semWait barSem (8#32 : BitVec 32).toInt) fun _ => k) Kt) := by
  unfold Know Owe
  iintro ⟨⟨⟨#HR, #Hlev⟩, ⟨%W, HO⟩⟩, Hc, Hat⟩ Hk
  iapply (Rounds.wp_wait_rest_token 𝒱₀ ER (talkRd X) (c : Thread nD τ) none (κ := K (barCell c)) (k' := 8)
      (wpE_semWait_eq 𝒱₀ (c : Thread nD τ) none Set.univ) (Set.mem_univ _) () (O := OT c l) (W := W) (R := 0) (m := 0) (T := ∅)
      ((Nat.zero_add _).trans (expect_bar X c).symm)) $$ [Hc HO Hat]
  · isplitr; · iapply (records_bar X K c); iexact HR
    isplitl [Hc]; · iexact Hc
    isplitl [HO]; · iexact HO
    isplitr
    · iapply (mayWait c (.reg barSem) 1 (lv_bar c) l fun t' ht => lt_of_lt_of_le (by decide) (phase_ge t')); iexact Hlev
    iexact Hat
  iintro ⟨HO, Hat, -, Hpay⟩
  ihave Hg := (Entails.of_eq (rest_bar X c)) $$ Hpay
  imod (close X (K (barCell c)) (barCell c)) $$ [Hat] with Hv
  · isplitr; · iapply (records_bar X K c); iexact HR
    iexact Hat
  iapply Hk
  isplitl [HO]
  · isplitr
    · isplitr; · iexact HR
      iexact Hlev
    iexists _; iexact HO
  isplitl [Hg] <;> iassumption

/-! ## The sums -/

/-- The load of the own rows stays in the own rows. -/
theorem own_inside (c : Dev nD) (s : Fin 4) : xM.view.setOn (ownR c s).toLoadRect.set ⊆ rowSet (place c) s := by
  intro i hi
  obtain ⟨x, hx, rfl⟩ := Finset.mem_map.mp hi
  rw [← set_own]; exact hx
/-- The load of the own rows of the result stays in them. -/
theorem out_inside (c : Dev nD) (s : Fin 4) : oM.view.setOn (ownR c s).toLoadRect.set ⊆ rowSet (place c) s := own_inside c s
/-- The load of a sub-block's slots stays in the seven slots. -/
theorem slab_inside (s : Fin 4) : aM.view.setOn (slabR s).toLoadRect.set ⊆ Finset.univ.biUnion fun j => slotSet (s, j) := by
  intro i hi
  obtain ⟨x, hx, rfl⟩ := Finset.mem_map.mp hi
  exact slabR_set s hx
/-- The load of a sub-block stays in it. -/
theorem sub_inside (s : Fin 4) : hM.view.setOn (subR s).toLoadRect.set ⊆ subSet s := by
  intro i hi
  obtain ⟨x, hx, rfl⟩ := Finset.mem_map.mp hi
  rw [← subR_set]; exact hx
/-- The store of the group's sum writes the sub-block. -/
theorem hsub_store (s : Fin 4) : (hM.access (subR s)).set = subSet s := (View.set_slice_whole _ _).trans (subR_set s)
/-- The store of the full sum writes the sub-block. -/
theorem fsub_store (s : Fin 4) : (fM.access (subR s)).set = subSet s := (View.set_slice_whole _ _).trans (subR_set s)
/-- The store into the result writes the own rows. -/
theorem own_store (c : Dev nD) (s : Fin 4) : (oM.access (ownR c s)).set = rowSet (place c) s := (View.set_slice_whole _ _).trans (set_own c s)

/-- The own rows of `x`; of `out`, before and after; a sub-block's place in `hs` and in `fs`; the landing slots of a sub-block, filled. -/
def xOwn (c : Dev nD) (s : Fin 4) : sProp 𝕄 := xLoc c ↦[rowSet (place c) s]{fullShare} X c
/-- The own rows of the result, at contents not chosen, -/
def oAny (c : Dev nD) (s : Fin 4) : sProp 𝕄 := iprop(∃ f, oLoc c ↦[rowSet (place c) s]{fullShare} f)
/-- and filled with the full sums. -/
def oOwn (c : Dev nD) (s : Fin 4) : sProp 𝕄 := oLoc c ↦[rowSet (place c) s]{fullShare} OUT X c
/-- A sub-block of the group's sums, at contents not chosen. -/
def hAny (c : Dev nD) (s : Fin 4) : sProp 𝕄 := iprop(∃ f, hLoc c ↦[subSet s]{fullShare} f)
/-- A sub-block of the full sums, at contents not chosen. -/
def fAny (c : Dev nD) (s : Fin 4) : sProp 𝕄 := iprop(∃ f, fLoc c ↦[subSet s]{fullShare} f)
/-- What is kept of a sub-block of the full sums while it is sent to the seven peers. -/
def fRest (c : Dev nD) (s : Fin 4) : sProp 𝕄 := fLoc c ↦[subSet s]{shareDrop fullShare 7} FS X c
/-- The seven slots of a sub-block, filled. -/
def slab (c : Dev nD) (s : Fin 4) : sProp 𝕄 := aLoc c ↦[Finset.univ.biUnion fun j => slotSet (s, j)]{fullShare} RA X c

/-- The seven slots are the seven places the transfers filled. -/
theorem slab_eq (c : Dev nD) (s : Fin 4) : (slab X c s : sProp 𝕄) = bigSep Finset.univ fun j => inFin X c (tA s j) := by
  unfold slab
  refine pointsTo_biUnion Finset.univ _ fun j _ j' _ h => ?_
  refine Finset.disjoint_left.mpr ?_
  intro i h1 h2
  exact h (Fin.ext ((mem_slotSet.mp h1).2.symm.trans (mem_slotSet.mp h2).2))

/-- The source of the transfer to the partner. -/
theorem src_B (c : Dev nD) (s : Fin 4) : (srcPts X c (tB s) : sProp 𝕄) = hLoc c ↦[subSet s]{fullShare} HS X c := rfl
/-- The place the partner's transfer filled. -/
theorem in_B (c : Dev nD) (s : Fin 4) : (inFin X c (tB s) : sProp 𝕄) = bLoc c ↦[subSet s]{fullShare} HS X (partner c) := rfl

/-- Adding up within the group: the group's sum of the sub-block is stored. -/
theorem sumA_wp (c : Dev nD) (s : Fin 4) (k : FVec F S16x512 .f32 → Pg F) (Kt : PUnit → sProp 𝕄) :
    iprop(xOwn X c s ∗ slab X c s ∗ hAny c s)
      ⊢ iprop((iprop(xOwn X c s ∗ slab X c s ∗ srcPts X c (tB s)) -∗ wpB c (k (ACC X c s)) Kt) -∗ wpB c (sumA c s k) Kt) := by
  rw [src_B]
  unfold xOwn slab hAny
  iintro ⟨Hx, Ha, ⟨%f, Hh⟩⟩ Hk
  iapply (wp_load 𝒱₀ (c : Thread nD τ) none Set.univ (m := xM) (own_inside c s)) $$ Hx; iintro Hx
  rw [load_own]
  iapply (wp_load 𝒱₀ (c : Thread nD τ) none Set.univ (m := aM) (slab_inside s)) $$ Ha; iintro Ha
  rw [load_slab]
  iapply (wp_load 𝒱₀ (c : Thread nD τ) none Set.univ (m := hM) (sub_inside s)) $$ Hh; iintro Hh
  iapply (wp_store 𝒱₀ (c : Thread nD τ) none Set.univ (m := hM) (r := subR s) (Mk := Finset.univ) (hsub_store s).subset) $$ Hh; iintro Hh
  iapply Hk
  isplitl [Hx]; · iexact Hx
  isplitl [Ha]; · iexact Ha
  iapply (Entails.of_eq (pointsTo_congr (ℓ := hLoc c) fun i hi =>
    write_eq_on (hM.access (subR s)) f (HS X c) _ (stored_hs X c s) i ((hsub_store s).symm ▸ hi)))
  iexact Hh

/-- Adding the partner's sum: the full sum is stored, and copied to the own rows of the result. -/
theorem sumB_wp (c : Dev nD) (s : Fin 4) (k : Pg F) (Kt : PUnit → sProp 𝕄) :
    iprop(inFin X c (tB s) ∗ fAny c s ∗ oAny c s)
      ⊢ iprop((iprop(inFin X c (tB s) ∗ (fRest X c s ∗ bigSep Finset.univ fun j => srcPts X c (tC s j)) ∗ oOwn X c s) -∗ wpB c k Kt)
          -∗ wpB c (sumB c s (ACC X c s) k) Kt) := by
  rw [in_B]
  unfold fAny oAny fRest oOwn
  iintro ⟨Hb, ⟨%f, Hf⟩, ⟨%o, Ho⟩⟩ Hk
  iapply (wp_load 𝒱₀ (c : Thread nD τ) none Set.univ (m := bM) (sub_inside s)) $$ Hb; iintro Hb
  rw [load_rb]
  iapply (wp_load 𝒱₀ (c : Thread nD τ) none Set.univ (m := fM) (sub_inside s)) $$ Hf; iintro Hf
  iapply (wp_store 𝒱₀ (c : Thread nD τ) none Set.univ (m := fM) (r := subR s) (Mk := Finset.univ) (fsub_store s).subset) $$ Hf; iintro Hf
  ihave Hf := (Entails.of_eq (pointsTo_congr (ℓ := fLoc c) fun i hi =>
    write_eq_on (fM.access (subR s)) f (FS X c) _ (stored_fs X c s) i ((fsub_store s).symm ▸ hi))) $$ Hf
  iapply (wp_load 𝒱₀ (c : Thread nD τ) none Set.univ (m := fM) (sub_inside s)) $$ Hf; iintro Hf
  iapply (wp_load 𝒱₀ (c : Thread nD τ) none Set.univ (m := oM) (out_inside c s)) $$ Ho; iintro Ho
  iapply (wp_store 𝒱₀ (c : Thread nD τ) none Set.univ (m := oM) (r := ownR c s) (Mk := Finset.univ) (own_store c s).subset) $$ Ho; iintro Ho
  iapply Hk
  isplitl [Hb]; · iexact Hb
  isplitl [Hf]
  · iapply (pointsTo_toks fullShare 7).1; iexact Hf
  iapply (Entails.of_eq (pointsTo_congr (ℓ := oLoc c) fun i hi =>
    write_eq_on (oM.access (ownR c s)) o (OUT X c) _ (stored_out X c s) i ((own_store c s).symm ▸ hi)))
  iexact Ho

/-! ## One sub-block of a phase -/

/-- A family over one sub-block's transfers, in order, is the family over the offsets. -/
theorem row_list (f : Fin 7 → Tr) (Φ : Tr → sProp 𝕄) : bigSepL (offs.map f) Φ = bigSep Finset.univ fun j => Φ (f j) :=
  (bigSepL_map f offs Φ).trans (bigSep_univ_eq_bigSepL offs (by decide) (by decide) fun j => Φ (f j)).symm
/-- A family over a phase's transfers, in order, is the family over sub-blocks and offsets. -/
theorem both_list (f : Fin 4 → Fin 7 → Tr) (Φ : Tr → sProp 𝕄) :
    bigSepL (subs.flatMap fun s => offs.map (f s)) Φ = bigSep Finset.univ fun s => bigSep Finset.univ fun j => Φ (f s j) := by
  have h : ∀ l : List (Fin 4), bigSepL (l.flatMap fun s => offs.map (f s)) Φ = bigSepL l fun s => bigSep Finset.univ fun j => Φ (f s j) := by
    intro l
    induction l with
    | nil => rfl
    | cons s l ih => rw [List.flatMap_cons, bigSepL_append, ih, row_list, bigSepL_cons']
  exact (h subs).trans (bigSep_univ_eq_bigSepL subs (by decide) (by decide) _).symm
/-- A family of pairs is a pair of families. -/
theorem sep_univ {I : Type} [Fintype I] (Φ Ψ : I → sProp 𝕄) :
    (bigSep Finset.univ fun i => iprop(Φ i ∗ Ψ i)) = iprop(bigSep Finset.univ Φ ∗ bigSep Finset.univ Ψ) := bigSep_sep _ Φ Ψ
/-- A family over the four sub-blocks, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a device waits for `t` with. -/
def Wt (c : Dev nD) (t : Tr) : sProp 𝕄 := iprop(Sent c t ∗ Pos c t)

/-- What a device needs for a sub-block after the first phase's sends, -/
def PA (c : Dev nD) (s : Fin 4) : sProp 𝕄 :=
  iprop((bigSep Finset.univ fun j => Wt c (tA s j)) ∗ xOwn X c s ∗ hAny c s ∗ give c (tB s) ∗ Tok c (tB s))
/-- and what it then has. -/
def QA (c : Dev nD) (s : Fin 4) : sProp 𝕄 := iprop((bigSep Finset.univ fun j => Done X c (tA s j)) ∗ xOwn X c s ∗ Sent c (tB s))
/-- What a device needs for a sub-block's second phase, -/
def PB (c : Dev nD) (s : Fin 4) : sProp 𝕄 :=
  iprop(Wt c (tB s) ∗ fAny c s ∗ oAny c s ∗ bigSep Finset.univ fun j => iprop(give c (tC s j) ∗ Tok c (tC s j)))
/-- and what it then has. -/
def QB (c : Dev nD) (s : Fin 4) : sProp 𝕄 :=
  iprop(Done X c (tB s) ∗ fRest X c s ∗ oOwn X c s ∗ bigSep Finset.univ fun j => Sent c (tC s j))

/-- Seven finished transfers: the sources, the places filled, and the cells at zero. -/
theorem done_eq (c : Dev nD) (f : Fin 7 → Tr) : (bigSep Finset.univ fun j => Done X c (f j))
    = iprop((bigSep Finset.univ fun j => srcPts X c (f j)) ∗ (bigSep Finset.univ fun j => inFin X c (f j))
      ∗ bigSep Finset.univ fun j => iprop(semVal (sndCell c (f j)) 0 ∗ semVal (rcvCell c (f j)) 0)) := by
  unfold Done
  rw [sep_univ, sep_univ]

/-- Waiting for a list of transfers, all of an earlier phase than what is still owed. -/
theorem waits_wp (K : GSem nD τ sig → ℕ) (c : Dev nD) (l : List Tr) (tail : List Tr) (h : ∀ t ∈ l, ∀ t' ∈ tail, phase t < phase t')
    (k : Pg F) (Kt : PUnit → sProp 𝕄) :
    iprop((Know X K ∗ Owe c (OT c tail)) ∗ bigSepL l (Wt c))
      ⊢ iprop((iprop((Know X K ∗ Owe c (OT c tail)) ∗ bigSepL l (Done X c)) -∗ wpB c k Kt) -∗ wpB c (each l (wait c) k) Kt) :=
  each_wp c (fun _ => iprop(Know X K ∗ Owe c (OT c tail))) (Wt c) (Done X c) (wait c) Kt l
    (fun t ht _ k => wait_wp X K c t tail (h t ht) k Kt) k

/-- Issuing a list of transfers. -/
theorem sends_wp (K : GSem nD τ sig → ℕ) (c : Dev nD) (l : List Tr) (tail : List Tr) (k : Pg F) (Kt : PUnit → sProp 𝕄) :
    iprop((Know X K ∗ Owe c (OT c (l ++ tail))) ∗ bigSepL l fun t => iprop(srcPts X c t ∗ give c t ∗ Tok c t))
      ⊢ iprop((iprop((Know X K ∗ Owe c (OT c tail)) ∗ bigSepL l (Sent c)) -∗ wpB c k Kt) -∗ wpB c (each l (fun t => send c (devT c t) t) k) Kt) :=
  each_wp c (fun l => iprop(Know X K ∗ Owe c (OT c (l ++ tail)))) (fun t => iprop(srcPts X c t ∗ give c t ∗ Tok c t)) (Sent c) _ Kt l
    (fun t _ rest k => send_wp X K c t (rest ++ tail) k Kt) k

/-- A sub-block's part of the first phase: wait for its seven arrivals, add up, send the sum to the partner. -/
theorem phaseA_wp (K : GSem nD τ sig → ℕ) (c : Dev nD) (s : Fin 4) (rest : List Tr) (h : ∀ t ∈ tB s :: rest, 2 < phase t)
    (k : FVec F S16x512 .f32 → Pg F) (Kt : PUnit → sProp 𝕄) :
    iprop((Know X K ∗ Owe c (OT c (tB s :: rest))) ∗ PA X c s)
      ⊢ iprop((iprop((Know X K ∗ Owe c (OT c rest)) ∗ QA X c s) -∗ wpB c (k (ACC X c s)) Kt) -∗ wpB c (phaseA c s k) Kt) := by
  unfold PA QA
  iintro ⟨HI, Hw, Hx, Hh, Hg, Ht⟩ Hk
  iapply (waits_wp X K c (rowA s) (tB s :: rest) (fun t ht => by obtain ⟨j, -, rfl⟩ := List.mem_map.mp ht; exact h)) $$ [HI Hw]
  · isplitl [HI]; · iexact HI
    rw [row_list]; iexact Hw
  iintro ⟨HI, Hd⟩
  ihave Hd := (Entails.of_eq ((row_list (tA s) (Done X c)).trans (done_eq X c (tA s)))) $$ Hd
  icases Hd with ⟨Hs, Ha, Hv⟩
  ihave Ha := (Entails.of_eq (slab_eq X c s).symm) $$ Ha
  iapply (sumA_wp X c s) $$ [Hx Ha Hh]
  · isplitl [Hx]; · iexact Hx
    isplitl [Ha] <;> iassumption
  iintro ⟨Hx, Ha, Hb⟩
  iapply (send_wp X K c (tB s) rest) $$ [HI Hb Hg Ht]
  · isplitl [HI]; · iexact HI
    isplitl [Hb]; · iexact Hb
    isplitl [Hg] <;> iassumption
  iintro ⟨HI, Hc⟩
  iapply Hk
  isplitl [HI]; · iexact HI
  isplitl [Hs Ha Hv]
  · iapply (Entails.of_eq (done_eq X c (tA s)).symm)
    isplitl [Hs]; · iexact Hs
    isplitl [Ha]; · iapply (Entails.of_eq (slab_eq X c s)); iexact Ha
    iexact Hv
  isplitl [Hx] <;> iassumption

/-- A sub-block's part of the second phase: wait for the partner, add, store, send the full sum to the seven peers. -/
theorem phaseB_wp (K : GSem nD τ sig → ℕ) (c : Dev nD) (s : Fin 4) (rest : List Tr) (h : ∀ t ∈ rowC s ++ rest, 3 < phase t)
    (k : Pg F) (Kt : PUnit → sProp 𝕄) :
    iprop((Know X K ∗ Owe c (OT c (rowC s ++ rest))) ∗ PB c s)
      ⊢ iprop((iprop((Know X K ∗ Owe c (OT c rest)) ∗ QB X c s) -∗ wpB c k Kt) -∗ wpB c (phaseB c s (ACC X c s) k) Kt) := by
  unfold PB QB Wt
  iintro ⟨HI, Hw, Hf, Ho, Hg⟩ Hk
  iapply (wait_wp X K c (tB s) (rowC s ++ rest) h) $$ [HI Hw]
  · isplitl [HI] <;> iassumption
  unfold Done
  iintro ⟨HI, Hs, Hb, Hv⟩
  iapply (sumB_wp X c s) $$ [Hb Hf Ho]
  · isplitl [Hb]; · iexact Hb
    isplitl [Hf] <;> iassumption
  iintro ⟨Hb, ⟨Hr, Hc⟩, Ho⟩
  iapply (sends_wp X K c (rowC s) rest) $$ [HI Hc Hg]
  · isplitl [HI]; · iexact HI
    iapply (Entails.of_eq (((row_list (tC s) _).trans (sep_univ (fun j => srcPts X c (tC s j)) _)).symm))
    isplitl [Hc] <;> iassumption
  iintro ⟨HI, Hc⟩
  ihave Hc := (Entails.of_eq (row_list (tC s) (Sent c))) $$ Hc
  iapply Hk
  isplitl [HI]; · iexact HI
  isplitl [Hs Hb Hv]
  · isplitl [Hs]; · iexact Hs
    isplitl [Hb] <;> iassumption
  isplitl [Hr]; · iexact Hr
  isplitl [Ho] <;> iassumption

end Cert.AllReduce

end
-- ==== Proof.Run.lean ====
/-
# The whole body

The body's run from the resources a device enters it with to those it leaves it with, first with every buffer cut into the
pieces the transfers move, then with whole buffers.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (X : Dev nD → S512x512.Idx → Elt F .bf16)

/-! ## Families over transfers and over directions -/

/-- A family over all transfers is the families over the three phases. -/
theorem tr_univ (Φ : Tr → sProp 𝕄) : bigSep Finset.univ Φ
    = iprop((bigSep Finset.univ fun s => bigSep Finset.univ fun j => Φ (tA s j)) ∗ (bigSep Finset.univ fun s => Φ (tB s))
      ∗ bigSep Finset.univ fun s => bigSep Finset.univ fun j => Φ (tC s j)) := by
  rw [bigSep_univ_sum, bigSep_univ_sum, bigSep_univ_prod, bigSep_univ_prod]; rfl

/-- Turning around is a bijection of the directions. -/
def revEquiv : Dir ≃ Dir := ⟨rev, rev, rev_rev, rev_rev⟩
/-- What all the signals need: the right to each, and all the own places. -/
theorem sig_eq (c : Dev nD) : (bigSep Finset.univ fun k => Sig c k : sProp 𝕄)
    = iprop((bigSep Finset.univ fun k => dutyTok ER (barCell (dirDev c k)) 0 (rev k)) ∗ bigSep Finset.univ (mine c)) := by
  unfold Sig
  rw [sep_univ, ← bigSep_by dirOf (mine c)]
  exact congrArg (fun P : sProp 𝕄 => iprop(_ ∗ P)) (bigSep_univ_equiv revEquiv fun k => bigSep (trOf k) (mine c)).symm

/-! ## The run, piece by piece -/

/-- What a device's run starts with, in pieces, -/
def runIn (K : GSem nD τ sig → ℕ) (c : Dev nD) : sProp 𝕄 :=
  iprop((Know X K ∗ Owe c (O₀ c)) ∗ (bigSep Finset.univ fun k => Sig c k) ∗ (cred (tallyAt (barCell c) () 8) ∗ atPos ER (barCell c) 0 ∅ 0)
    ∗ bigSep Finset.univ (Tok c) ∗ bigSep Finset.univ (Pos c)
    ∗ (bigSep Finset.univ fun s => bigSep Finset.univ fun j => srcPts X c (tA s j)) ∗ (bigSep Finset.univ fun s => xOwn X c s)
    ∗ (bigSep Finset.univ fun s => hAny c s) ∗ (bigSep Finset.univ fun s => fAny c s) ∗ bigSep Finset.univ fun s => oAny c s)
/-- and what it ends with. -/
def runOut (c : Dev nD) : sProp 𝕄 :=
  iprop(bigSep Finset.univ (Done X c) ∗ (bigSep Finset.univ fun s => xOwn X c s) ∗ (bigSep Finset.univ fun s => fRest X c s)
    ∗ (bigSep Finset.univ fun s => oOwn X c s) ∗ semVal (barCell c) 0 ∗ Owe c 0)

/-- The four sub-blocks' needs after the first sends, sorted by sort. -/
theorem pa_eq (c : Dev nD) : (bigSep Finset.univ fun s => PA X c s)
    = iprop((bigSep Finset.univ fun s => bigSep Finset.univ fun j => Wt c (tA s j)) ∗ (bigSep Finset.univ fun s => xOwn X c s)
      ∗ (bigSep Finset.univ fun s => hAny c s) ∗ (bigSep Finset.univ fun s => give c (tB s)) ∗ bigSep Finset.univ fun s => Tok c (tB s)) := by
  unfold PA; rw [sep_univ, sep_univ, sep_univ, sep_univ]
/-- What the four sub-blocks then have, sorted by sort. -/
theorem qa_eq (c : Dev nD) : (bigSep Finset.univ fun s => QA X c s)
    = iprop((bigSep Finset.univ fun s => bigSep Finset.univ fun j => Done X c (tA s j)) ∗ (bigSep Finset.univ fun s => xOwn X c s)
      ∗ bigSep Finset.univ fun s => Sent c (tB s)) := by
  unfold QA; rw [sep_univ, sep_univ]
/-- The four sub-blocks' needs for the second phase, sorted by sort. -/
theorem pb_eq (c : Dev nD) : (bigSep Finset.univ fun s => PB c s : sProp 𝕄)
    = iprop((bigSep Finset.univ fun s => Wt c (tB s)) ∗ (bigSep Finset.univ fun s => fAny c s)
      ∗ (bigSep Finset.univ fun s => oAny c s) ∗ bigSep Finset.univ fun s => bigSep Finset.univ fun j => iprop(give c (tC s j) ∗ Tok c (tC s j))) := by
  unfold PB; rw [sep_univ, sep_univ, sep_univ]
/-- What the four sub-blocks then have, sorted by sort. -/
theorem qb_eq (c : Dev nD) : (bigSep Finset.univ fun s => QB X c s)
    = iprop((bigSep Finset.univ fun s => Done X c (tB s)) ∗ (bigSep Finset.univ fun s => fRest X c s)
      ∗ (bigSep Finset.univ fun s => oOwn X c s) ∗ bigSep Finset.univ fun s => bigSep Finset.univ fun j => Sent c (tC s j)) := by
  unfold QB; rw [sep_univ, sep_univ, sep_univ]
/-- What a family of waits needs, sorted by sort. -/
theorem wt_eq {I : Type} [Fintype I] (c : Dev nD) (f : I → Tr) : (bigSep Finset.univ fun i => Wt c (f i) : sProp 𝕄)
    = iprop((bigSep Finset.univ fun i => Sent c (f i)) ∗ bigSep Finset.univ fun i => Pos c (f i)) := sep_univ _ _
/-- A double family of pairs is a pair of double families. -/
theorem pair_eq (Φ Ψ : Fin 4 → Fin 7 → sProp 𝕄) : (bigSep Finset.univ fun s => bigSep Finset.univ fun j => iprop(Φ s j ∗ Ψ s j))
    = iprop((bigSep Finset.univ fun s => bigSep Finset.univ fun j => Φ s j) ∗ bigSep Finset.univ fun s => bigSep Finset.univ fun j => Ψ s j) := by
  rw [← sep_univ]; exact bigSep_congr fun s _ => sep_univ _ _

/-- What is still owed, in order, before the fourth sub-block's second phase, -/
abbrev rest₄ : List Tr := rowC 3 ++ []
/-- before the third's, -/
abbrev rest₃ : List Tr := rowC 2 ++ rest₄
/-- before the second's, -/
abbrev rest₂ : List Tr := rowC 1 ++ rest₃
/-- and before the first's. -/
abbrev rest₁ : List Tr := rowC 0 ++ rest₂

/-- A program that has ended. -/
theorem ret_wp (c : Dev nD) (Kt : PUnit → sProp 𝕄) : Kt ⟨⟩ ⊢ wpB c (Prog.ret ⟨⟩) Kt := by
  unfold wpB
  rw [wp_ret]
  iintro H; imodintro; iexact H

/-- A device's run, from the pieces to the pieces. -/
theorem run_pieces (K : GSem nD τ sig → ℕ) (c : Dev nD) (Kt : PUnit → sProp 𝕄) :
    iprop(runIn X K c ∗ (runOut X c -∗ Kt ⟨⟩)) ⊢ wpB c (afterId c) Kt := by
  unfold afterId runIn
  iintro ⟨⟨HI, Hsig, ⟨HcB, HaB⟩, Htok, Hpos, HsA, Hx, Hh, Hf, Ho⟩, Hk⟩
  -- the barrier
  iapply (each_wp c (fun l => iprop(Know X K ∗ Owe c (OT c allT + OB c l))) (Sig c) (fun _ => iprop(emp)) (sig1 c) Kt dirs
      (fun k _ rest p => signal_wp X K c (OT c allT) k rest p Kt)) $$ [HI Hsig]
  · isplitl [HI]; · iexact HI
    iapply (Entails.of_eq (bigSep_univ_eq_bigSepL dirs (by decide) (by decide) fun k => (Sig c k : sProp 𝕄))); iexact Hsig
  iintro ⟨HI, -⟩
  ihave HI := (Entails.of_eq (show iprop(Know X K ∗ Owe c (OT c allT + OB c [])) = iprop(Know X K ∗ Owe c (OT c (allA ++ (tB 0 :: tB 1 :: tB 2 :: tB 3 :: rest₁))))
    from congrArg (fun O => iprop(Know X K ∗ Owe c O)) (add_zero _))) $$ HI
  iapply (barrier_wp X K c) $$ [HI HcB HaB]
  · isplitl [HI]; · iexact HI
    isplitl [HcB] <;> iassumption
  iintro ⟨HI, Hg, HvB⟩
  -- what belongs to each phase
  ihave Hg := (Entails.of_eq (tr_univ (give c))) $$ Hg
  icases Hg with ⟨HgA, HgB, HgC⟩
  ihave Htok := (Entails.of_eq (tr_univ (Tok c))) $$ Htok
  icases Htok with ⟨HtA, HtB, HtC⟩
  ihave Hpos := (Entails.of_eq (tr_univ (Pos c))) $$ Hpos
  icases Hpos with ⟨HpA, HpB, HpC⟩
  -- the first phase's sends
  iapply (sends_wp X K c allA (tB 0 :: tB 1 :: tB 2 :: tB 3 :: rest₁)) $$ [HI HsA HgA HtA]
  · isplitl [HI]; · iexact HI
    iapply (Entails.of_eq ((both_list tA _).trans ((pair_eq (fun s j => srcPts X c (tA s j)) _).trans
      (congrArg (fun P : sProp 𝕄 => iprop(_ ∗ P)) (pair_eq (fun s j => give c (tA s j)) fun s j => Tok c (tA s j))))).symm)
    isplitl [HsA]; · iexact HsA
    isplitl [HgA] <;> iassumption
  iintro ⟨HI, HcA⟩
  ihave HcA := (Entails.of_eq (both_list tA (Sent c))) $$ HcA
  -- the first sums
  ihave HP := (Entails.of_eq ((pa_eq X c).symm.trans (four _))) $$ [HcA HpA Hx Hh HgB HtB]
  · isplitl [HcA HpA]
    · iapply (Entails.of_eq (pair_eq (fun s j => Sent c (tA s j)) fun s j => Pos c (tA s j)).symm)
      isplitl [HcA] <;> iassumption
    isplitl [Hx]; · iexact Hx
    isplitl [Hh]; · iexact Hh
    isplitl [HgB] <;> iassumption
  icases HP with ⟨HP0, HP1, HP2, HP3⟩
  iapply (phaseA_wp X K c 0 (tB 1 :: tB 2 :: tB 3 :: rest₁) (by decide)) $$ [HI HP0]
  · isplitl [HI] <;> iassumption
  iintro ⟨HI, HQ0⟩
  iapply (phaseA_wp X K c 1 (tB 2 :: tB 3 :: rest₁) (by decide)) $$ [HI HP1]
  · isplitl [HI] <;> iassumption
  iintro ⟨HI, HQ1⟩
  iapply (phaseA_wp X K c 2 (tB 3 :: rest₁) (by decide)) $$ [HI HP2]
  · isplitl [HI] <;> iassumption
  iintro ⟨HI, HQ2⟩
  iapply (phaseA_wp X K c 3 rest₁ (by decide)) $$ [HI HP3]
  · isplitl [HI] <;> iassumption
  iintro ⟨HI, HQ3⟩
  ihave HQ := (Entails.of_eq ((four (QA X c)).symm.trans (qa_eq X c))) $$ [HQ0 HQ1 HQ2 HQ3]
  · isplitl [HQ0]; · iexact HQ0
    isplitl [HQ1]; · iexact HQ1
    isplitl [HQ2] <;> iassumption
  icases HQ with ⟨HdA, Hx, HcB⟩
  -- the second sums
  ihave HP := (Entails.of_eq ((pb_eq c).symm.trans (four _))) $$ [HcB HpB Hf Ho HgC HtC]
  · isplitl [HcB HpB]
    · iapply (Entails.of_eq (wt_eq c tB).symm)
      isplitl [HcB] <;> iassumption
    isplitl [Hf]; · iexact Hf
    isplitl [Ho]; · iexact Ho
    iapply (Entails.of_eq (pair_eq (fun s j => give c (tC s j)) fun s j => Tok c (tC s j)).symm)
    isplitl [HgC] <;> iassumption
  icases HP with ⟨HP0, HP1, HP2, HP3⟩
  iapply (phaseB_wp X K c 0 rest₂ (by decide)) $$ [HI HP0]
  · isplitl [HI] <;> iassumption
  iintro ⟨HI, HQ0⟩
  iapply (phaseB_wp X K c 1 rest₃ (by decide)) $$ [HI HP1]
  · isplitl [HI] <;> iassumption
  iintro ⟨HI, HQ1⟩
  iapply (phaseB_wp X K c 2 rest₄ (by decide)) $$ [HI HP2]
  · isplitl [HI] <;> iassumption
  iintro ⟨HI, HQ2⟩
  iapply (phaseB_wp X K c 3 [] (by decide)) $$ [HI HP3]
  · isplitl [HI] <;> iassumption
  iintro ⟨HI, HQ3⟩
  ihave HQ := (Entails.of_eq ((four (QB X c)).symm.trans (qb_eq X c))) $$ [HQ0 HQ1 HQ2 HQ3]
  · isplitl [HQ0]; · iexact HQ0
    isplitl [HQ1]; · iexact HQ1
    isplitl [HQ2] <;> iassumption
  icases HQ with ⟨HdB, Hf, Ho, HcC⟩
  -- the last waits
  iapply (waits_wp X K c allC [] (fun t _ t' ht => absurd ht List.not_mem_nil)) $$ [HI HcC HpC]
  · isplitl [HI]; · iexact HI
    iapply (Entails.of_eq ((both_list tC (Wt c)).trans (pair_eq (fun s j => Sent c (tC s j)) fun s j => Pos c (tC s j))).symm)
    isplitl [HcC] <;> iassumption
  iintro ⟨⟨-, HO⟩, HdC⟩
  ihave HdC := (Entails.of_eq (both_list tC (Done X c))) $$ HdC
  iapply (ret_wp c Kt)
  iapply Hk
  unfold runOut
  isplitl [HdA HdB HdC]
  · iapply (Entails.of_eq (tr_univ (Done X c)).symm)
    isplitl [HdA]; · iexact HdA
    isplitl [HdB] <;> iassumption
  isplitl [Hx]; · iexact Hx
  isplitl [Hf]; · iexact Hf
  isplitl [Ho]; · iexact Ho
  isplitl [HvB]; · iexact HvB
  iexact HO

/-! ## Whole buffers -/

/-- Memory at given contents is memory at some contents. -/
theorem some_at (ℓ : Loc nD τ sig) (S : Finset (Idx ℓ)) (f : Buf (Elt F) ℓ) :
    (ℓ ↦[S]{fullShare} f : sProp 𝕄) ⊢ iprop(∃ f, ℓ ↦[S]{fullShare} f) := by
  iintro H; iexists f; iexact H
/-- A buffer is its blocks, where every element lies in exactly one. -/
theorem fibres {ℓ : Loc nD τ sig} {B : Type} [Fintype B] [DecidableEq B] (blk : Idx ℓ → B) (q : PosShare TreeShare) (f : Buf (Elt F) ℓ) :
    (ℓ ↦{q} f : sProp 𝕄) = bigSep Finset.univ fun b => ℓ ↦[Finset.univ.filter fun i => blk i = b]{q} f := by
  have hd : ((Finset.univ : Finset B) : Set B).PairwiseDisjoint fun b => Finset.univ.filter fun i => blk i = b := fun b _ b' _ h =>
    Finset.disjoint_left.mpr fun i h1 h2 => h ((Finset.mem_filter.mp h1).2.symm.trans (Finset.mem_filter.mp h2).2)
  rw [← pointsTo_biUnion Finset.univ _ hd]
  congr 1
  ext i; simp

/-- All eight places are the own one and those of the seven peers, or of the seven devices that send here. -/
theorem deal (c : Dev nD) (e : Fin 7 → Fin 8) (he : Function.Injective e) (hp : ∀ j, e j ≠ place c) (Φ : Fin 8 → sProp 𝕄) :
    bigSep Finset.univ Φ = iprop(Φ (place c) ∗ bigSep Finset.univ fun j => Φ (e j)) := by
  have hm : place c ∉ (Finset.univ : Finset (Fin 7)).map ⟨e, he⟩ := fun h => by
    obtain ⟨j, -, hj⟩ := Finset.mem_map.mp h
    exact hp j hj
  have hu : (Finset.univ : Finset (Fin 8)) = insert (place c) ((Finset.univ : Finset (Fin 7)).map ⟨e, he⟩) :=
    (Finset.eq_univ_of_card _ (by rw [Finset.card_insert_of_notMem hm, Finset.card_map]; rfl)).symm
  rw [hu, bigSep_insert hm, bigSep_map]; rfl
/-- The seven peers have different numbers, -/
theorem peer_inj : ∀ c : Dev nD, Function.Injective fun j => place (peer c j) := by
  have h : ∀ (c : Dev nD) (i j : Fin 7), place (peer c i) = place (peer c j) → i = j := by decide +kernel
  exact fun c i j => h c i j
/-- none of them the device's own. -/
theorem peer_ne : ∀ (c : Dev nD) (j : Fin 7), place (peer c j) ≠ place c := by decide +kernel
/-- The seven devices that send here have different numbers, -/
theorem orig_inj : ∀ c : Dev nD, Function.Injective fun j => place (orig c j) := by
  have h : ∀ (c : Dev nD) (i j : Fin 7), place (orig c i) = place (orig c j) → i = j := by decide +kernel
  exact fun c i j => h c i j
/-- none of them the device's own. -/
theorem orig_ne : ∀ (c : Dev nD) (j : Fin 7), place (orig c j) ≠ place c := by decide +kernel

/-- A buffer of 512 rows: the own rows, and those at the other seven places. -/
theorem rows_split (c : Dev nD) (e : Fin 7 → Fin 8) (he : Function.Injective e) (hp : ∀ j, e j ≠ place c)
    (Φ : Fin 8 → Fin 4 → sProp 𝕄) :
    (bigSep Finset.univ fun b : Fin 8 × Fin 4 => Φ b.1 b.2)
      = iprop((bigSep Finset.univ fun s => Φ (place c) s) ∗ bigSep Finset.univ fun s => bigSep Finset.univ fun j => Φ (e j) s) := by
  rw [bigSep_univ_prod, bigSep_univ_comm, ← sep_univ]
  exact bigSep_congr fun s _ => deal c e he hp fun p => Φ p s

/-- The input: the own rows and the rows sent to the peers. -/
theorem x_split (c : Dev nD) : ((xLoc c ↦{fullShare} X c : sProp 𝕄))
    = iprop((bigSep Finset.univ fun s => xOwn X c s) ∗ bigSep Finset.univ fun s => bigSep Finset.univ fun j => srcPts X c (tA s j)) :=
  (fibres (ℓ := xLoc c) blkRow fullShare (X c)).trans
    (rows_split c _ (peer_inj c) (peer_ne c) fun p s => (xLoc c ↦[rowSet p s]{fullShare} X c : sProp 𝕄))
/-- The result: the own rows and the rows the peers fill. -/
theorem o_split (c : Dev nD) (f : Buf (Elt F) (oLoc c)) : ((oLoc c ↦{fullShare} f : sProp 𝕄))
    = iprop((bigSep Finset.univ fun s => oLoc c ↦[rowSet (place c) s]{fullShare} f)
      ∗ bigSep Finset.univ fun s => bigSep Finset.univ fun j => oLoc c ↦[rowSet (place (orig c j)) s]{fullShare} f) :=
  (fibres (ℓ := oLoc c) blkRow fullShare f).trans
    (rows_split c _ (orig_inj c) (orig_ne c) fun p s => (oLoc c ↦[rowSet p s]{fullShare} f : sProp 𝕄))
/-- The result at the start, in pieces. -/
theorem o_open (c : Dev nD) : iprop(∃ f, oLoc c ↦{fullShare} f)
    ⊢ (iprop((bigSep Finset.univ fun s => oAny c s) ∗ bigSep Finset.univ fun s => bigSep Finset.univ fun j => inAny c (tC s j)) : sProp 𝕄) := by
  iintro ⟨%f, H⟩
  ihave H := (Entails.of_eq (o_split c f)) $$ H
  icases H with ⟨H1, H2⟩
  isplitl [H1]
  · iapply (show (bigSep Finset.univ fun s => (oLoc c ↦[rowSet (place c) s]{fullShare} f : sProp 𝕄)) ⊢ bigSep Finset.univ fun s => oAny c s from
      bigSep_mono fun s _ => some_at _ _ f)
    iexact H1
  · iapply (show (bigSep Finset.univ fun s => bigSep Finset.univ fun j => (oLoc c ↦[rowSet (place (orig c j)) s]{fullShare} f : sProp 𝕄))
        ⊢ bigSep Finset.univ fun s => bigSep Finset.univ fun j => inAny c (tC s j) from
      bigSep_mono fun s _ => bigSep_mono fun j _ => some_at _ _ f)
    iexact H2
/-- The result, its pieces filled, whole again. -/
theorem o_close (c : Dev nD) : (iprop((bigSep Finset.univ fun s => oOwn X c s) ∗ bigSep Finset.univ fun s => bigSep Finset.univ fun j => inFin X c (tC s j)) : sProp 𝕄)
    = oLoc c ↦{fullShare} OUT X c := (o_split c (OUT X c)).symm

/-- The buffer of the group's sums at the start, in pieces, -/
theorem h_open (c : Dev nD) : iprop(∃ f, hLoc c ↦{fullShare} f) ⊢ (bigSep Finset.univ fun s => hAny c s : sProp 𝕄) := by
  iintro ⟨%f, H⟩
  ihave H := (Entails.of_eq (fibres (ℓ := hLoc c) blkSub fullShare f)) $$ H
  iapply (show (bigSep Finset.univ fun s => (hLoc c ↦[subSet s]{fullShare} f : sProp 𝕄)) ⊢ bigSep Finset.univ fun s => hAny c s from
    bigSep_mono fun s _ => some_at _ _ f)
  iexact H
/-- and whole again. -/
theorem h_close (c : Dev nD) : (bigSep Finset.univ fun s => srcPts X c (tB s)) = (hLoc c ↦{fullShare} HS X c : sProp 𝕄) :=
  (fibres (ℓ := hLoc c) blkSub fullShare (HS X c)).symm
/-- The buffer of the full sums at the start, in pieces, -/
theorem f_open (c : Dev nD) : iprop(∃ f, fLoc c ↦{fullShare} f) ⊢ (bigSep Finset.univ fun s => fAny c s : sProp 𝕄) := by
  iintro ⟨%f, H⟩
  ihave H := (Entails.of_eq (fibres (ℓ := fLoc c) blkSub fullShare f)) $$ H
  iapply (show (bigSep Finset.univ fun s => (fLoc c ↦[subSet s]{fullShare} f : sProp 𝕄)) ⊢ bigSep Finset.univ fun s => fAny c s from
    bigSep_mono fun s _ => some_at _ _ f)
  iexact H
/-- and whole again, the shares lent to the seven transfers given back. -/
theorem f_close (c : Dev nD) : (iprop((bigSep Finset.univ fun s => fRest X c s) ∗ bigSep Finset.univ fun s => bigSep Finset.univ fun j => srcPts X c (tC s j)) : sProp 𝕄)
    ⊢ fLoc c ↦{fullShare} FS X c := by
  rw [fibres (ℓ := fLoc c) blkSub fullShare (FS X c), ← sep_univ]
  exact bigSep_mono fun s _ => (pointsTo_toks fullShare 7).2
/-- The landing slots at the start, one by one, -/
theorem a_open (c : Dev nD) : iprop(∃ f, aLoc c ↦{fullShare} f) ⊢ (bigSep Finset.univ fun s => bigSep Finset.univ fun j => inAny c (tA s j) : sProp 𝕄) := by
  iintro ⟨%f, H⟩
  ihave H := (Entails.of_eq ((fibres (ℓ := aLoc c) blkSlot fullShare f).trans (bigSep_univ_prod _))) $$ H
  iapply (show (bigSep Finset.univ fun s => bigSep Finset.univ fun j => (aLoc c ↦[slotSet (s, j)]{fullShare} f : sProp 𝕄))
      ⊢ bigSep Finset.univ fun s => bigSep Finset.univ fun j => inAny c (tA s j) from
    bigSep_mono fun s _ => bigSep_mono fun j _ => some_at _ _ f)
  iexact H
/-- and whole again, filled. -/
theorem a_close (c : Dev nD) : (bigSep Finset.univ fun s => bigSep Finset.univ fun j => inFin X c (tA s j)) = (aLoc c ↦{fullShare} RA X c : sProp 𝕄) :=
  ((fibres (ℓ := aLoc c) blkSlot fullShare (RA X c)).trans (bigSep_univ_prod _)).symm
/-- The places for the partner's sums at the start, one by one, -/
theorem b_open (c : Dev nD) : iprop(∃ f, bLoc c ↦{fullShare} f) ⊢ (bigSep Finset.univ fun s => inAny c (tB s) : sProp 𝕄) := by
  iintro ⟨%f, H⟩
  ihave H := (Entails.of_eq (fibres (ℓ := bLoc c) blkSub fullShare f)) $$ H
  iapply (show (bigSep Finset.univ fun s => (bLoc c ↦[subSet s]{fullShare} f : sProp 𝕄)) ⊢ bigSep Finset.univ fun s => inAny c (tB s) from
    bigSep_mono fun s _ => some_at _ _ f)
  iexact H
/-- and whole again, filled. -/
theorem b_close (c : Dev nD) : (bigSep Finset.univ fun s => inFin X c (tB s)) = (bLoc c ↦{fullShare} HS X (partner c) : sProp 𝕄) :=
  (fibres (ℓ := bLoc c) blkSub fullShare (HS X (partner c))).symm

/-! ## The run -/

/-- The scratch buffers whole, at contents not chosen. -/
def scratch (c : Dev nD) : sProp 𝕄 :=
  iprop((∃ f, hLoc c ↦{fullShare} f) ∗ (∃ f, fLoc c ↦{fullShare} f) ∗ (∃ f, aLoc c ↦{fullShare} f) ∗ ∃ f, bLoc c ↦{fullShare} f)
/-- The tokens, positions and credits a device runs the body with, its cells open. -/
def tokens (c : Dev nD) : sProp 𝕄 :=
  iprop((bigSep Finset.univ fun k => dutyTok ER (barCell (dirDev c k)) 0 (rev k)) ∗ (cred (tallyAt (barCell c) () 8) ∗ atPos ER (barCell c) 0 ∅ 0)
    ∗ bigSep Finset.univ (Tok c) ∗ bigSep Finset.univ (Pos c) ∗ bigSep Finset.univ fun t => reached ER (rcvCell c t) 0)
/-- What the body starts with: whole buffers and the tokens, -/
def bodyIn (K : GSem nD τ sig → ℕ) (c : Dev nD) : sProp 𝕄 :=
  iprop((Know X K ∗ Owe c (O₀ c)) ∗ tokens c ∗ (xLoc c ↦{fullShare} X c) ∗ (∃ f, oLoc c ↦{fullShare} f) ∗ scratch c)
/-- and what it ends with: the result computed, every cell at zero, nothing owed. -/
def bodyOut (c : Dev nD) : sProp 𝕄 :=
  iprop((xLoc c ↦{fullShare} X c) ∗ (oLoc c ↦{fullShare} OUT X c) ∗ scratch c
    ∗ (bigSep Finset.univ fun t => iprop(semVal (sndCell c t) 0 ∗ semVal (rcvCell c t) 0)) ∗ semVal (barCell c) 0 ∗ Owe c 0)

/-- The whole buffers are cut into the pieces of the run, -/
theorem cut (K : GSem nD τ sig → ℕ) (c : Dev nD) : bodyIn X K c ⊢ runIn X K c := by
  unfold bodyIn runIn tokens scratch
  rw [sig_eq, show (bigSep Finset.univ (mine c) : sProp 𝕄) = iprop((bigSep Finset.univ fun t => inAny c t) ∗ bigSep Finset.univ fun t => reached ER (rcvCell c t) 0)
    from sep_univ _ _, tr_univ (fun t => inAny c t), x_split]
  iintro ⟨HI, ⟨Ht, HB, Htok, Hpos, Hr⟩, ⟨Hx, HsA⟩, Ho, Hh, Hf, Ha, Hb⟩
  ihave Ho := (o_open c) $$ Ho
  icases Ho with ⟨Ho, HoC⟩
  ihave Hh := (h_open c) $$ Hh
  ihave Hf := (f_open c) $$ Hf
  ihave Ha := (a_open c) $$ Ha
  ihave Hb := (b_open c) $$ Hb
  isplitl [HI]; · iexact HI
  isplitl [Ht Ha Hb HoC Hr]
  · isplitl [Ht]; · iexact Ht
    isplitl [Ha Hb HoC]
    · isplitl [Ha]; · iexact Ha
      isplitl [Hb] <;> iassumption
    iexact Hr
  isplitl [HB]; · iexact HB
  isplitl [Htok]; · iexact Htok
  isplitl [Hpos]; · iexact Hpos
  isplitl [HsA]; · iexact HsA
  isplitl [Hx]; · iexact Hx
  isplitl [Hh]; · iexact Hh
  isplitl [Hf] <;> iassumption

/-- and the pieces are put together again. -/
theorem join (c : Dev nD) : runOut X c ⊢ bodyOut X c := by
  unfold runOut bodyOut scratch
  rw [show bigSep Finset.univ (Done X c) = iprop((bigSep Finset.univ fun t => srcPts X c t) ∗ (bigSep Finset.univ fun t => inFin X c t)
      ∗ bigSep Finset.univ fun t => iprop(semVal (sndCell c t) 0 ∗ semVal (rcvCell c t) 0)) from by unfold Done; rw [sep_univ, sep_univ],
    tr_univ (fun t => srcPts X c t), tr_univ (fun t => inFin X c t), h_close, a_close, b_close, x_split]
  iintro ⟨⟨⟨HsA, Hh, HsC⟩, ⟨Ha, Hb, HoC⟩, Hv⟩, Hx, Hf, Ho, HvB, HO⟩
  ihave Hf := (f_close X c) $$ [Hf HsC]
  · isplitl [Hf] <;> iassumption
  isplitl [Hx HsA]
  · isplitl [Hx] <;> iassumption
  isplitl [Ho HoC]
  · iapply (Entails.of_eq (o_close X c))
    isplitl [Ho] <;> iassumption
  isplitl [Hh Hf Ha Hb]
  · isplitl [Hh]; · iexists _; iexact Hh
    isplitl [Hf]; · iexists _; iexact Hf
    isplitl [Ha]; · iexists _; iexact Ha
    iexists _; iexact Hb
  isplitl [Hv]; · iexact Hv
  isplitl [HvB] <;> iassumption

/-- The body's run: from `x` and buffers at any contents to `out` at its final contents, with every cell closed and nothing owed. -/
theorem run (K : GSem nD τ sig → ℕ) (c : Dev nD) (Kt : PUnit → sProp 𝕄) :
    iprop(bodyIn X K c ∗ (bodyOut X c -∗ Kt ⟨⟩)) ⊢ wpB c clean Kt := by
  unfold clean
  simp only [wpB, wp_deviceId]
  iintro ⟨H, Hk⟩
  iapply (run_pieces X K c Kt)
  isplitl [H]
  · iapply (cut X K c); iexact H
  iintro H
  iapply Hk
  iapply (join X c); iexact H

end Cert.AllReduce

end
-- ==== Proof.Launch.lean ====
/-
# The program around the body

The host reshapes the argument, the pipeline stages the array and writes the result back. The body's run is put into the
region, and the launch deals to every device the tokens, positions and credits its body runs with.
-/
module

public import proofs.«01_k».proof.Proof.Run
public import proofs.«01_k».proof.Proof.Gen.KernelIdeal.Frame
public import Idealize.ShloMosaic.Lib.Pipeline.ValueKit
public import Idealize.ShloMosaic.Lib.Quiescent

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- What every device's block holds when the body runs. -/
def X (c : Dev nD) : S512x512.Idx → Elt F .bf16 := V m c main_v1

/-- The call's only step takes the first block of both arrays. -/
theorem idx0 : ∀ t : Fin cfg0.N, win0_0.index t = ![0, 0] ∧ win0_1.index t = ![0, 0] :=
  (by decide +kernel : ∀ t : Fin grid0.N, _)
/-- The staged input is the whole input. -/
theorem iblk0 (c : Dev nD) : iblk m c 0 t0_0 = X m c := by
  unfold X
  blk_ext! [iblk, idx0 t0_0]

/-- The own cells of a device, closed. -/
def closed (c : Dev nD) : sProp 𝕄 := bigSep Finset.univ fun t => iprop(semVal (sndCell c t) 0 ∗ semVal (rcvCell c t) 0)
/-- What a device brings to the body beside its staged blocks, -/
def Φin (c : Dev nD) : sProp 𝕄 := iprop((∃ K, Know (X m) K) ∗ tokens c ∗ scratch c ∗ ∃ r, prngReg c r)
/-- and what it takes from it. -/
def Φout (c : Dev nD) : sProp 𝕄 := iprop(closed c ∗ semVal (barCell c) 0 ∗ scratch c ∗ ∃ r, prngReg c r)

/-- The proof data of the call: its arrays, what the body leaves in them, what is owed before and after. -/
def dat (c : Dev nD) : Dat τ (Elt F) Unit ℕ UU ℕ cfg0 c where
  A w := V m c (Pipeline.arrRef spec0 w)
  after w _ := match w with
    | ⟨0, _⟩ => X m c
    | ⟨1, _⟩ => OUT (X m) c
  Φ t := if t.val = 0 then Φin m c else Φout c
  q _ := fullShare
  owed t := if t.val = 0 then O₀ c else 0

/-- The call's only step starts at the first point. -/
theorem first (t : Fin cfg0.N) : (t.castSucc : Fin (cfg0.N + 1)).val = 0 := by rw [fin_N0 t]; rfl
/-- What the body is given. -/
theorem Φ_first (c : Dev nD) (t : Fin cfg0.N) : (dat m c).Φ t.castSucc = Φin m c := if_pos (first t)
/-- The call's only step ends at a later point. -/
theorem later (t : Fin cfg0.N) : ¬(t.succ : Fin (cfg0.N + 1)).val = 0 := by rw [Fin.val_succ]; exact Nat.succ_ne_zero _
/-- What the body gives back. -/
theorem Φ_last (c : Dev nD) (t : Fin cfg0.N) : (dat m c).Φ t.succ = Φout c :=
  (if_neg (later t) : (if (t.succ : Fin (cfg0.N + 1)).val = 0 then Φin m c else Φout c) = Φout c)
/-- What is owed before the body. -/
theorem owed_first (c : Dev nD) (t : Fin cfg0.N) : (dat m c).owed t.castSucc = O₀ c := if_pos (first t)
/-- Nothing is owed after it. -/
theorem owed_last (c : Dev nD) (t : Fin cfg0.N) : (dat m c).owed t.succ = 0 :=
  (if_neg (later t) : (if (t.succ : Fin (cfg0.N + 1)).val = 0 then O₀ c else 0) = 0)

/-- The body finds the input staged. -/
theorem before0 (c : Dev nD) (t : Fin cfg0.N) (d) : (dat m c).before 0 t d = X m c := by
  have h : (dat m c).before 0 t d = (dat m c).fetched 0 t d := if_pos (fetch0_0 t)
  rw [h, fin_N0 t]
  exact iblk0 m c

/-- What is owed at the start, as the body takes it. -/
theorem owes_in (c : Dev nD) (t : Fin cfg0.N) : ((dat m c).owesAt () t.castSucc : sProp 𝕄) ⊢ Owe c (O₀ c) := by
  unfold Dat.owesAt Pipeline.owesWithin Owe; rw [owed_first]
  iintro ⟨%W, -, HO⟩; iexists W; iexact HO
/-- What is owed at the end, as the call takes it. -/
theorem owes_out (c : Dev nD) (t : Fin cfg0.N) : (Owe c 0 : sProp 𝕄) ⊢ (dat m c).owesAt () t.succ := by
  unfold Dat.owesAt Pipeline.owesWithin Owe Dat.bound; rw [owed_last]
  iintro ⟨%W, HO⟩; iexists W
  isplitr; · ipureintro; exact fun _ _ => Or.inl trivial
  iexact HO

/-- Owning a whole buffer at given contents. -/
theorem owns_whole (c : Dev nD) (b : Ref sig .tc) (f : Buf (Elt F) ((c : Thread nD τ).loc b)) :
    (owns (c : Thread nD τ) (Memref.whole b) fullShare f : sProp 𝕄) = iprop(∃ g, ⌜g = f⌝ ∗ ((c : Thread nD τ).loc b ↦{fullShare} g)) := by
  unfold owns; simp only [Memref.view_whole, View.read_whole, View.set_whole]

/-- The body's run from whole buffers to whole buffers. -/
theorem body_run (c : Dev nD) (K : GSem nD τ sig → ℕ) (Kt : PUnit → sProp 𝕄) :
    iprop(bodyIn (X m) K c ∗ (bodyOut (X m) c -∗ Kt ⟨⟩)) ⊢ wp frame (wpE (defs₀ (F := F)) 𝒱₀ (c : Thread nD τ) none) Set.univ (bodyAt0 t0_0) Kt := by
  have h : (bodyAt0 t0_0 : Pg F) = clean := body_eq
  rw [h]; exact run (X m) K c Kt

/-- The staged blocks the body finds are the input and some result buffer. -/
theorem stages_in (c : Dev nD) : (iprop((∃ d, owns (c : Thread nD τ) (Memref.whole cc0_stg0_0) fullShare ((dat m c).before 0 t0_0 d))
      ∗ ∃ d, owns (c : Thread nD τ) (Memref.whole cc0_stg1_0) fullShare ((dat m c).before 1 t0_0 d)) : sProp 𝕄)
    ⊢ iprop((xLoc c ↦{fullShare} X m c) ∗ ∃ f, oLoc c ↦{fullShare} f) := by
  simp only [before0, owns_whole]
  iintro ⟨⟨%d, %g, %hg, Hx⟩, ⟨%e, %f, -, Ho⟩⟩
  subst hg
  isplitl [Hx]; · iexact Hx
  iexists f; iexact Ho
/-- The blocks the body leaves are the input unchanged and the result. -/
theorem stages_out (c : Dev nD) : (iprop((xLoc c ↦{fullShare} X m c) ∗ (oLoc c ↦{fullShare} OUT (X m) c)) : sProp 𝕄)
    ⊢ iprop(owns (c : Thread nD τ) (Memref.whole cc0_stg0_0) fullShare (X m c) ∗ owns (c : Thread nD τ) (Memref.whole cc0_stg1_0) fullShare (OUT (X m) c)) := by
  simp only [owns_whole]
  iintro ⟨Hx, Ho⟩
  isplitl [Hx]
  · iexists _; isplitr; · ipureintro; rfl
    iexact Hx
  iexists _; isplitr; · ipureintro; rfl
  iexact Ho

set_option maxRecDepth 16384 in
/-- The body meets what the call asks of it. -/
theorem body_obligation (c : Dev nD) : BodyObligation (dat m c) (defs₀ (F := F)) 𝒱₀ () Set.univ := fun t => by
  rw [Φ_first, Φ_last]
  have ho := owes_out m c t
  refine (sep_mono_right (sep_mono_left (owes_in m c t))).trans ?_
  obtain rfl := fin_N0 t
  rw [bigSep_W0, bigSep_W0]
  show iprop(Φin m c ∗ Owe c (O₀ c) ∗ (∃ d, owns (c : Thread nD τ) (Memref.whole cc0_stg0_0) fullShare ((dat m c).before 0 t0_0 d))
      ∗ ∃ d, owns (c : Thread nD τ) (Memref.whole cc0_stg1_0) fullShare ((dat m c).before 1 t0_0 d))
    ⊢ wp frame (wpE (defs₀ (F := F)) 𝒱₀ (c : Thread nD τ) none) Set.univ (bodyAt0 t0_0) fun _ =>
      iprop(Φout c ∗ (dat m c).owesAt () (Fin.succ t0_0) ∗ owns (c : Thread nD τ) (Memref.whole cc0_stg0_0) fullShare (X m c)
        ∗ owns (c : Thread nD τ) (Memref.whole cc0_stg1_0) fullShare (OUT (X m) c))
  unfold Φin Φout closed
  iintro ⟨⟨⟨%K, HK⟩, Ht, Hs, Hp⟩, HO, Hst⟩
  ihave Hst := (stages_in m c) $$ Hst
  icases Hst with ⟨Hx, Ho⟩
  iapply (body_run m c K _)
  isplitr [Hp]
  · unfold bodyIn
    isplitl [HK HO]
    · isplitl [HK] <;> iassumption
    isplitl [Ht]; · iexact Ht
    isplitl [Hx]; · iexact Hx
    isplitl [Ho] <;> iassumption
  unfold bodyOut
  iintro ⟨Hx, Ho, Hs, Hv, Hb, HO⟩
  isplitl [Hv Hb Hs Hp]
  · isplitl [Hv]; · iexact Hv
    isplitl [Hb]; · iexact Hb
    isplitl [Hs] <;> iassumption
  isplitl [HO]; · iapply ho; iexact HO
  iapply (stages_out m c)
  isplitl [Hx] <;> iassumption

/-! ## What the launch leaves with a device -/

/-- Before its cells are open. -/
def dormant (c : Dev nD) : sProp 𝕄 :=
  iprop((bigSep Finset.univ fun k => dutyTok ER (barCell (dirDev c k)) 0 (rev k)) ∗ atPos ER (barCell c) 0 ∅ 0
    ∗ (bigSep Finset.univ fun k : Kd => openTok ER (cell c k))
    ∗ (bigSep Finset.univ fun t => dutyTok ER (sndCell c t) 0 none) ∗ bigSep Finset.univ fun t => dutyTok ER (rcvCell (toDev c t) t) 0 none)
/-- The credit for what the others owe it. -/
def credits (c : Dev nD) : sProp 𝕄 := iprop(cred (tallyAt (barCell c) () 8) ∗ bigSep Finset.univ fun t => cred (tallyAt (rcvCell c t) () N))
/-- What a device brings into the call for the exchange, -/
def Tk (c : Dev nD) : sProp 𝕄 := iprop((∃ K, records (X m) K) ∗ dormant c ∗ credits c)
/-- and that with its cells opened. -/
def Xk (c : Dev nD) : sProp 𝕄 := iprop((∃ K, Know (X m) K) ∗ tokens c)

/-- A family over the transfers' cells: those of leaving and those of arrival. -/
theorem kd_univ (Φ : Kd → sProp 𝕄) : bigSep Finset.univ Φ
    = iprop((bigSep Finset.univ fun t => Φ (t, false)) ∗ bigSep Finset.univ fun t => Φ (t, true)) := by
  rw [bigSep_univ_prod, ← sep_univ]
  exact bigSep_congr fun t _ => bigSep_univ_eq_bigSepL [false, true] (by decide) (by decide) fun b => Φ (t, b)

/-- All of a device's cells are opened at once. -/
theorem open_all (K : GSem nD τ sig → ℕ) (c : Dev nD) :
    (iprop(records (X m) K ∗ bigSep Finset.univ fun k : Kd => iprop(openTok ER (cell c k) ∗ semVal (cell c k) 0)) : sProp 𝕄)
      ⊢ |={Set.univ}=> bigSep Finset.univ fun k : Kd => iprop(atPos ER (cell c k) 0 ∅ 0 ∗ reached ER (cell c k) 0) :=
  (bigSep_with_persistent fun k _ => by
    iintro ⟨#HR, Ho, Hv⟩
    iapply (Rounds.cell_open ER (talkRd (X m)) (g := cell c k) (κ := K (cell c k)) (Set.mem_univ _))
    isplitr; · iapply (records_cell (X m) K c k); iexact HR
    isplitl [Ho] <;> iassumption).trans (bigSep_fupd _ _)

/-- On entering the call every cell of the exchange is opened. -/
theorem hopen (c : Dev nD) : iprop(Tk m c ∗ Pipeline.ownSems0 osem c ∗ levAts L lv) ⊢ (|={Set.univ}=> Xk m c : sProp 𝕄) := by
  rw [show (Pipeline.ownSems0 osem c : sProp 𝕄) = bigSep Finset.univ fun k : Kd => semVal (cell c k) 0 from rfl]
  unfold Tk dormant credits
  iintro ⟨⟨⟨%K, #HR⟩, ⟨HtB, Hat, Ho, HtS, HtR⟩, HcB, HcR⟩, Hv, #Hlev⟩
  imod (open_all m K c) $$ [Ho Hv] with H
  · isplitr; · iexact HR
    iapply (Entails.of_eq (sep_univ (fun k : Kd => openTok ER (cell c k)) (fun k : Kd => semVal (cell c k) 0)).symm)
    isplitl [Ho] <;> iassumption
  ihave H := (Entails.of_eq (sep_univ (fun k : Kd => atPos ER (cell c k) 0 ∅ 0) (fun k : Kd => reached ER (cell c k) 0))) $$ H
  icases H with ⟨Ha, Hr⟩
  ihave Ha := (Entails.of_eq (kd_univ fun k : Kd => atPos ER (cell c k) 0 ∅ 0)) $$ Ha
  ihave Hr := (Entails.of_eq (kd_univ fun k : Kd => reached ER (cell c k) 0)) $$ Hr
  icases Ha with ⟨HaS, HaR⟩
  icases Hr with ⟨HrS, #HrR⟩
  imodintro
  unfold Xk Know
  isplitr
  · iexists K
    isplitr; · iexact HR
    iexact Hlev
  unfold tokens
  isplitl [HtB]; · iexact HtB
  isplitl [HcB Hat]
  · isplitl [HcB] <;> iassumption
  isplitl [HtS HrS HtR]
  · iapply (Entails.of_eq (show bigSep Finset.univ (Tok c) = iprop((bigSep Finset.univ fun t => dutyTok ER (sndCell c t) 0 none)
        ∗ (bigSep Finset.univ fun t => reached ER (sndCell c t) 0) ∗ bigSep Finset.univ fun t => dutyTok ER (rcvCell (toDev c t) t) 0 none)
      from by unfold Tok; rw [sep_univ, sep_univ]).symm)
    isplitl [HtS]; · iexact HtS
    isplitl [HrS]; · iexact HrS
    iexact HtR
  isplitl [HcR HaS HaR]
  · iapply (Entails.of_eq (show bigSep Finset.univ (Pos c) = iprop((bigSep Finset.univ fun t => cred (tallyAt (rcvCell c t) () N))
        ∗ (bigSep Finset.univ fun t => atPos ER (sndCell c t) 0 ∅ 0) ∗ bigSep Finset.univ fun t => atPos ER (rcvCell c t) 0 ∅ 0)
      from by unfold Pos; rw [sep_univ, sep_univ]).symm)
    isplitl [HcR]; · iexact HcR
    isplitl [HaS]; · iexact HaS
    iexact HaR
  iexact HrR

/-! ## The region as a segment -/

/-- The call's configuration is admissible. -/
abbrev adm : (p : Fin 1) → (pcfgs (F := F) p).Adm := fun p => (cfgs p).toPCfg_adm
/-- The proof data, by call. -/
def pdats : (p : Fin 1) → (c : Dev nD) → Dat τ (Elt F) Unit ℕ UU ℕ (Pipeline.pin (pcfgs (F := F)) adm p) c := fun _ => dat m

/-- The buffers as the region finds them, and as it leaves them. -/
def W₀ (c : Dev nD) : Valuation τ sig (Elt F) := fun b => m (c, b)
/-- The buffers when the host's operations have run. -/
def W (c : Dev nD) : Valuation τ sig (Elt F) := StableHlo.after hostOps0 (W₀ m c)
/-- The buffers when the call has returned. -/
def W' (c : Dev nD) : Valuation τ sig (Elt F) := Function.update (W m c) (Proc.devRef .tc main_v2) (OUT (X m) c)

/-- The result array is the staged result. -/
theorem final (c : Dev nD) : (dat m c).arrAt 1 cfg0.N = OUT (X m) c := by
  refine (dat m c).arrAt_eq_of_after_last 1 t0_0 (by decide +kernel) _ fun j => ?_
  blk_simp
  rfl

/-- Every array is held whole. -/
theorem share_full (c : Dev nD) (w) : (dat m c).share w = fullShare := by unfold Dat.share; split <;> rfl

/-- The arrays the call finds. -/
theorem arr_in : ∀ (c : Dev nD) (w : Fin 2), (dat m c).arrAt w 0 = W m c (Proc.devRef .tc (Pipeline.arrRef spec0 w)) := fun c w => rfl
/-- The arrays the call leaves. -/
theorem arr_out (c : Dev nD) : ∀ w : Fin 2, (dat m c).arrAt w cfg0.N = W' m c (Proc.devRef .tc (Pipeline.arrRef spec0 w))
  | 0 => ((dat m c).arrAt_in 0 rfl _).trans
      (Function.update_of_ne (StableHlo.devRef_ne_of_ne (by decide : main_v1 ≠ main_v2)) (OUT (X m) c) (W m c)).symm
  | 1 => (final m c).trans (Function.update_self (Proc.devRef .tc main_v2) (OUT (X m) c) (W m c)).symm

/-- The facts about the call's windows and buffers. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The pipeline's own semaphores are none of the exchange's. -/
theorem stage_kind (w : Fin 2) (s : Fin (win0 w).nbuf) : kindOf (.dma ((win0 w).sem s)) = none := by
  unfold kindOf
  rw [dif_neg]
  rintro ⟨k, h⟩
  have hd : ∀ (w : Fin 2) (s : Fin (win0 w).nbuf) (k : Kd), dsem k ≠ (win0 w).sem s := by decide +kernel
  unfold osem at h
  injection h with h
  exact hd w s k h

/-- What is owed at launch is owed to an arrival cell or to a barrier. -/
theorem owed_pos {c : Dev nD} {g : GSem nD τ sig} {u : Unit} (h : 0 < O₀ c g u) :
    (∃ t, g = rcvCell (toDev c t) t) ∨ ∃ k, g = barCell (dirDev c k) := by
  unfold O₀ at h
  rw [Pi.add_apply, Finsupp.add_apply] at h
  rcases Nat.add_pos_iff_pos_or_pos.mp h with h | h
  · obtain ⟨t, -, h⟩ := OT_pos h; exact .inl ⟨t, h⟩
  · obtain ⟨k, -, h⟩ := OB_pos h; exact .inr ⟨k, h⟩

/-- Everything owed sits above the pipeline's own waits. -/
theorem owed_above (c : Dev nD) (t : Fin (cfg0.N + 1)) (g : GSem nD τ sig) (u : Unit) (h : 0 < (dat m c).owed t g u) : u ∈ L g ∧ 0 < lv g u := by
  have e : (dat m c).owed t = if t.val = 0 then O₀ c else 0 := rfl
  rw [e] at h
  split at h
  · rcases owed_pos h with ⟨t, rfl⟩ | ⟨k, rfl⟩
    · exact ⟨by rw [L_tc]; exact Finset.mem_singleton_self _, by rw [lv_rcv]; exact lt_of_lt_of_le Nat.two_pos (phase_ge t)⟩
    · exact ⟨by rw [L_tc]; exact Finset.mem_singleton_self _, by rw [lv_bar]; exact Nat.one_pos⟩
  · exact absurd h (Nat.lt_irrefl 0)

/-- The debt when the call starts. -/
theorem owed_start (c : Dev nD) : (dat m c).owed 0 = 0 + O₀ c := (zero_add (O₀ c)).symm ▸ rfl
/-- No debt when it ends. -/
theorem owed_end (c : Dev nD) : (dat m c).owed (Fin.last cfg0.N) = 0 := owed_last m c t0_0
/-- What the call's first point holds. -/
theorem Φ_start (c : Dev nD) : (dat m c).Φ 0 = Φin m c := Φ_first m c t0_0
/-- What the call's last point holds. -/
theorem Φ_end (c : Dev nD) : (dat m c).Φ (Fin.last cfg0.N) = Φout c := Φ_last m c t0_0

/-- What the call's entry provides is what its first point holds. -/
theorem hin (c : Dev nD) (V' : Valuation τ sig (Elt F)) :
    (iprop(Pipeline.scopedRest spec0 c ∗ (∃ r, prngReg c r) ∗ StableHlo.held (c.tc : Thread nD τ) ∅ V' ∗ Xk m c) : sProp 𝕄) ⊢ (dat m c).Φ 0 := by
  rw [Φ_start, scopedRest0_eq]
  unfold Xk Φin scratch
  iintro ⟨Hs, Hp, -, HK, Ht⟩
  isplitl [HK]; · iexact HK
  isplitl [Ht]; · iexact Ht
  isplitl [Hs] <;> iassumption

/-- What the call's last point holds is what its exit returns: every semaphore of the exchange at zero. -/
theorem hout (c : Dev nD) (V' : Valuation τ sig (Elt F)) : (dat m c).Φ (Fin.last cfg0.N)
    ⊢ (iprop(Pipeline.scopedRest spec0 c ∗ (∃ r, prngReg c r) ∗ StableHlo.held (c.tc : Thread nD τ) ∅ V' ∗ Pipeline.ownSems0 osem c
      ∗ semVal (barCell c) 0) : sProp 𝕄) := by
  rw [Φ_end, scopedRest0_eq, show (Pipeline.ownSems0 osem c : sProp 𝕄) = bigSep Finset.univ fun k : Kd => semVal (cell c k) 0 from rfl, kd_univ,
    show (StableHlo.held (c.tc : Thread nD τ) ∅ V' : sProp 𝕄) = BI.emp from BI.bigSep_empty]
  unfold Φout scratch closed
  iintro ⟨Hv, Hb, Hs, Hp⟩
  ihave Hv := (Entails.of_eq (sep_univ (fun t => semVal (sndCell c t) 0) fun t => semVal (rcvCell c t) 0)) $$ Hv
  isplitl [Hs]; · iexact Hs
  isplitl [Hp]; · iexact Hp
  isplitr; · iempintro
  isplitl [Hv]; · iexact Hv
  iexact Hb

/-- The argument's buffer, which no window stages. -/
abbrev argRef : Finset (DevRef τ sig) := {Proc.devRef .tc main_arg0}

set_option backward.isDefEq.respectTransparency.types false in
set_option maxRecDepth 16384 in
/-- The call as a segment of the program. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ argRef (Finset.empty_subset _) kit rfl (fun c => (body_obligation m c).loose)
    (fun _ => 0) O₀ (owed_start m) (owed_end m) (fun _ => rfl) (share_full m)
    (W m) (W' m) (fun c b hb => by
      rw [Finset.sdiff_empty, Finset.mem_singleton] at hb
      subst hb
      exact Function.update_of_ne (StableHlo.devRef_ne_of_ne (by decide)) _ _)
    (Tk m) (fun c => semVal (barCell c) 0) (Xk m) (fun c => semVal (barCell c) 0) (hopen m) (fun c => hin m c _) (fun c => hout m c _)
    (fun c => by iintro H; imodintro; iexact H)
    (fun _ => 0)
    ⟨fun c w s => by rw [L_tc]; exact Finset.mem_singleton_self _,
      fun c w s => (show lv ((c : Thread nD τ), .dma ((win0 w).sem s)) () = 0 by
        unfold lv; rw [if_neg (fun h => by cases h), stage_kind]; rfl).le,
      fun c t g i h => owed_above m c t g i h⟩
    (fun _ => iprop(emp))
    (arr_in m) (arr_out m)

/-! ## The segments -/

/-- The buffers that live through the program. -/
abbrev bufs : Finset (DevRef τ sig) := Pipeline.ucRefs τ sig
/-- They are the argument, the reshaped argument and the result. -/
theorem bufs_eq (c : Dev nD) (V' : Valuation τ sig (Elt F)) : (StableHlo.held (c : Thread nD τ) bufs V' : sProp 𝕄)
    = iprop(((c : Thread nD τ).loc main_arg0 ↦{fullShare} V' (Proc.devRef .tc main_arg0))
      ∗ ((c : Thread nD τ).loc main_v1 ↦{fullShare} V' (Proc.devRef .tc main_v1)) ∗ ((c : Thread nD τ).loc main_v2 ↦{fullShare} V' (Proc.devRef .tc main_v2))) := by
  unfold StableHlo.held bufs
  rw [bigSep_eq_bigSepL_of_eq [Proc.devRef .tc main_arg0, Proc.devRef .tc main_v1, Proc.devRef .tc main_v2] (by decide) (by decide)]
  rfl
/-- They are the call's two arrays and the argument. -/
theorem bufs_cut (c : Dev nD) (V' : Valuation τ sig (Elt F)) : (StableHlo.held (c : Thread nD τ) bufs V' : sProp 𝕄)
    = iprop(StableHlo.held (c : Thread nD τ) (Pipeline.arrRefs (τ := τ) spec0) V' ∗ StableHlo.held (c : Thread nD τ) argRef V') := by
  rw [StableHlo.held_sub_split (c : Thread nD τ) (show Pipeline.arrRefs (τ := τ) spec0 ⊆ bufs by decide) V',
    show (bufs \ Pipeline.arrRefs (τ := τ) spec0 : Finset (DevRef τ sig)) = argRef by decide]

/-- What a device carries beside its buffers up to the region. -/
def R (c : Dev nD) : sProp 𝕄 := iprop((∃ r, prngReg c r) ∗ Tk m c ∗ Owe c (O₀ c))

/-- The host's operations in front of the call, as a segment. -/
def seg0 : Pipeline.HostSeg (Name := ℕ) (U := UU) (pcfgs (F := F)) defs₀ 𝒱₀ L lv :=
  Pipeline.HostSeg.ofOps _ _ _ _ _ bufs hostOps0 (fun op h => Pipeline.sub_ucRefs op ((List.forall_iff_forall_mem.mp hostOps0_sub) op h))
    (fun op h => (List.forall_iff_forall_mem.mp hostOps0_fresh) op h) (W₀ m) (R m)

/-- What the first segment leaves is what the call needs. -/
theorem reg_pre (c : Dev nD) : (iprop(StableHlo.held (c : Thread nD τ) bufs (W m c) ∗ R m c) : sProp 𝕄) ⊢ (reg m).pre c := by
  show _ ⊢ iprop(StableHlo.held (c.tc : Thread nD τ) (Pipeline.arrRefs (τ := τ) spec0) (W m c) ∗ (∃ r, prngReg c r)
    ∗ (StableHlo.held (c.tc : Thread nD τ) argRef (W m c) ∗ emp) ∗ Tk m c ∗ ∃ Wd, owes (c : Thread nD τ) (0 + O₀ c) Wd)
  rw [zero_add, bufs_cut]
  unfold R Owe
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-- What the call leaves: the buffers, the barrier at zero, nothing owed. -/
theorem reg_post (c : Dev nD) : (reg m).post c
    ⊢ (iprop((StableHlo.held (c : Thread nD τ) bufs (W' m c) ∗ semVal (barCell c) 0) ∗ ∃ Wd, owes (c : Thread nD τ) (0 : CellTallies nD τ sig Unit) Wd) : sProp 𝕄) := by
  show iprop(StableHlo.held (c.tc : Thread nD τ) (Pipeline.arrRefs (τ := τ) spec0) (W' m c) ∗ (∃ r, prngReg c r)
    ∗ (StableHlo.held (c.tc : Thread nD τ) argRef (W' m c) ∗ emp) ∗ semVal (barCell c) 0 ∗ ∃ Wd, owes (c : Thread nD τ) (0 : CellTallies nD τ sig Unit) Wd) ⊢ _
  rw [bufs_cut]
  iintro ⟨Ha, -, ⟨Hr, -⟩, Hb, HO⟩
  isplitr [HO]
  · isplitl [Ha Hr]
    · isplitl [Ha] <;> iassumption
    iexact Hb
  iexact HO

/-! ## The launch -/

/-- The barriers of the devices. -/
def barEmb : Dev nD ↪ GSem nD τ sig := ⟨fun c => barCell c, fun _ _ h => congrArg (fun g : GSem nD τ sig => g.1.1) h⟩
/-- The transfers' cells of the devices. -/
def cellEmb : Dev nD × Kd ↪ GSem nD τ sig :=
  ⟨fun p => cell p.1 p.2, fun _ _ h => Prod.ext (congrArg (fun g : GSem nD τ sig => g.1.1) h) (osem_inj (congrArg Prod.snd h))⟩
/-- All barriers. -/
abbrev barCells : Finset (GSem nD τ sig) := Finset.univ.map barEmb
/-- All transfers' cells. -/
abbrev ownCells : Finset (GSem nD τ sig) := Finset.univ.map cellEmb

/-- No barrier is a transfer's cell. -/
theorem bar_disj : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The duties of all cells: eight of every barrier, one of every other cell. -/
def barTok : Dev nD × Dir ↪ GSem nD τ sig × ℕ × Dir :=
  ⟨fun p => (barCell p.1, 0, p.2), fun _ _ h => Prod.ext (congrArg (fun g : GSem nD τ sig × ℕ × Dir => g.1.1.1) h) (congrArg (fun g : GSem nD τ sig × ℕ × Dir => g.2.2) h)⟩
/-- The duty of a transfer's cell. -/
def cellTok : Dev nD × Kd ↪ GSem nD τ sig × ℕ × Dir :=
  ⟨fun p => (cell p.1 p.2, 0, none), fun _ _ h => cellEmb.injective (congrArg Prod.fst h)⟩
/-- No duty is both a barrier's and a transfer's. -/
theorem tok_disj : Disjoint (Finset.univ.map barTok) (Finset.univ.map cellTok) := by
  rw [Finset.disjoint_left]
  rintro g h₁ h₂
  obtain ⟨c, -, rfl⟩ := Finset.mem_map.mp h₁
  obtain ⟨p, -, h⟩ := Finset.mem_map.mp h₂
  exact osem_ne_bar p.2 (congrArg (fun g : GSem nD τ sig × ℕ × Dir => g.1.2) h)
/-- All duties. -/
def toks : Finset (GSem nD τ sig × ℕ × Dir) := Finset.univ.map barTok ∪ Finset.univ.map cellTok

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The launch element, kept with device 0 until it is dealt. -/
def G (c : Dev nD) : sProp 𝕄 := if c = 0 then BI.own (ER (launchOf barCells ownCells toks)) else iprop(emp)
/-- The devices' launch elements together are the one element. -/
theorem G_all : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- Every pair of a device and a direction, seen from the other end. -/
def around : Dev nD × Dir ≃ Dev nD × Dir where
  toFun p := (dirDev p.1 p.2, rev p.2)
  invFun p := (dirDev p.1 p.2, rev p.2)
  left_inv p := Prod.ext (dirDev_rev p.1 p.2) (rev_rev p.2)
  right_inv p := Prod.ext (dirDev_rev p.1 p.2) (rev_rev p.2)
/-- Every pair of a device and a transfer, seen from the receiver. -/
def across : Dev nD × Tr ≃ Dev nD × Tr where
  toFun p := (toDev p.1 p.2, p.2)
  invFun p := (fromDev p.1 p.2, p.2)
  left_inv p := Prod.ext (from_to p.1 p.2) rfl
  right_inv p := Prod.ext (to_from p.1 p.2) rfl

/-- The barriers' duties, dealt to the devices that pay them. -/
theorem bar_dealt : (bigSep (Finset.univ.map barTok) fun x => (dutyTok ER x.1 x.2.1 x.2.2 : sProp 𝕄))
    = bigSep Finset.univ fun c : Dev nD => bigSep Finset.univ fun k => dutyTok ER (barCell (dirDev c k)) 0 (rev k) := by
  rw [bigSep_map, bigSep_univ_equiv around, bigSep_univ_prod]; rfl
/-- The arrivals' duties, seen from the senders. -/
theorem rcv_across : (bigSep Finset.univ fun c : Dev nD => bigSep Finset.univ fun t => (dutyTok ER (rcvCell c t) 0 none : sProp 𝕄))
    = bigSep Finset.univ fun c : Dev nD => bigSep Finset.univ fun t => dutyTok ER (rcvCell (toDev c t) t) 0 none :=
  (bigSep_univ_prod fun p : Dev nD × Tr => (dutyTok ER (rcvCell p.1 p.2) 0 none : sProp 𝕄)).symm.trans
    ((bigSep_univ_equiv across _).trans (bigSep_univ_prod _))
/-- The transfers' duties, dealt to the senders. -/
theorem cell_dealt : (bigSep (Finset.univ.map cellTok) fun x => (dutyTok ER x.1 x.2.1 x.2.2 : sProp 𝕄))
    = iprop((bigSep Finset.univ fun c : Dev nD => bigSep Finset.univ fun t => dutyTok ER (sndCell c t) 0 none)
      ∗ bigSep Finset.univ fun c : Dev nD => bigSep Finset.univ fun t => dutyTok ER (rcvCell (toDev c t) t) 0 none) := by
  rw [bigSep_map, bigSep_univ_prod, bigSep_congr (s := (Finset.univ : Finset (Dev nD))) fun c _ => kd_univ _, sep_univ, ← rcv_across]
  rfl

/-- All duties, dealt to the devices that pay them. -/
theorem toks_dealt : (bigSep toks fun x => (dutyTok ER x.1 x.2.1 x.2.2 : sProp 𝕄))
    = iprop((bigSep Finset.univ fun c : Dev nD => bigSep Finset.univ fun k => dutyTok ER (barCell (dirDev c k)) 0 (rev k))
      ∗ (bigSep Finset.univ fun c : Dev nD => bigSep Finset.univ fun t => dutyTok ER (sndCell c t) 0 none)
      ∗ bigSep Finset.univ fun c : Dev nD => bigSep Finset.univ fun t => dutyTok ER (rcvCell (toDev c t) t) 0 none) := by
  unfold toks
  rw [bigSep_union tok_disj, bar_dealt, cell_dealt]; rfl

/-! ### Credit for what is owed -/

/-- What a device's signals owe to a barrier: one for each direction that leads there. -/
theorem OB_at (d c : Dev nD) : ∀ l, OB d l (barCell c) () = (l.map fun k => if dirDev d k = c then 1 else 0).sum
  | [] => rfl
  | k :: l => by
      rw [OB_cons, Pi.add_apply, Finsupp.add_apply, OB_at d c l, List.map_cons, List.sum_cons, add_comm, tallyAt_apply]
      refine congrArg₂ HAdd.hAdd (if_congr ⟨fun h => ?_, fun h => ?_⟩ rfl rfl) rfl
      · exact (congrArg (fun g : GSem nD τ sig => g.1.1) h.1).symm
      · exact ⟨by rw [h], rfl⟩
/-- Transfers owe nothing to a barrier. -/
theorem OT_bar (d c : Dev nD) : ∀ l, OT d l (barCell c) () = 0
  | [] => rfl
  | t :: l => by
      rw [OT_cons, Pi.add_apply, Finsupp.add_apply, OT_bar d c l, tallyAt_ne_cell fun h => rcv_ne_bar t (congrArg Prod.snd h).symm]; rfl
/-- Signals owe nothing to an arrival cell. -/
theorem OB_rcv (d c : Dev nD) (t : Tr) : ∀ l, OB d l (rcvCell c t) () = 0
  | [] => rfl
  | k :: l => by
      rw [OB_cons, Pi.add_apply, Finsupp.add_apply, OB_rcv d c t l, tallyAt_ne_cell fun h => rcv_ne_bar t (congrArg Prod.snd h)]; rfl
/-- What a device's transfers owe to an arrival cell: the transfer's size, if it is the sender. -/
theorem OT_at (d c : Dev nD) (t : Tr) : ∀ l : List Tr, OT d l (rcvCell c t) () = l.countP (fun x => decide (x = t)) * if d = fromDev c t then N else 0
  | [] => (Nat.zero_mul _).symm
  | t' :: l => by
      rw [OT_cons, Pi.add_apply, Finsupp.add_apply, OT_at d c t l, tallyAt_apply, List.countP_cons, Nat.add_mul]
      refine congrArg₂ HAdd.hAdd rfl ?_
      by_cases ht : t' = t
      · subst ht
        rw [if_pos (decide_eq_true rfl), Nat.one_mul]
        refine if_congr ⟨fun h => ?_, fun h => ?_⟩ rfl rfl
        · have e : c = toDev d t' := congrArg (fun g : GSem nD τ sig => g.1.1) h.1
          rw [e, from_to]
        · rw [h, to_from]; exact ⟨rfl, rfl⟩
      · rw [if_neg fun h => ht ?_, if_neg (fun h => ht (of_decide_eq_true h)), Nat.zero_mul]
        have e := osem_inj (show osem (t, true) = osem (t', true) from congrArg Prod.snd h.1)
        exact (congrArg Prod.fst e).symm

/-- Every transfer is issued once. -/
theorem count_all : ∀ t : Tr, allT.countP (fun x => decide (x = t)) = 1 := by decide +kernel
/-- Every barrier is owed eight units by all the devices together. -/
theorem bar_units : ∀ c : Dev nD, ∑ d : Dev nD, (dirs.map fun k => if dirDev d k = c then 1 else 0).sum = 8 := by decide +kernel

/-- The credit of a barrier at launch is eight. -/
theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, ← bar_units c]
  refine Finset.sum_congr rfl fun d _ => ?_
  unfold O₀
  rw [Pi.add_apply, Finsupp.add_apply, OT_bar, OB_at, Nat.zero_add]
/-- The credit of an arrival cell at launch is one transfer. -/
theorem launch_rcv (c : Dev nD) (t : Tr) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => show O₀ d (rcvCell c t) () = if d = fromDev c t then N else 0 from by
      unfold O₀
      rw [Pi.add_apply, Finsupp.add_apply, OB_rcv, OT_at, count_all, Nat.one_mul, Nat.add_zero],
    Finset.sum_ite_eq' Finset.univ (fromDev c t) fun _ => N, if_pos (Finset.mem_univ _)]

/-- The arrival semaphores, by transfer. -/
def rcvEmb : Tr ↪ SemLoc sig := ⟨fun t => .dma (rcvS t), fun t t' h => congrArg Prod.fst (osem_inj (show osem (t, true) = osem (t', true) from h))⟩
/-- The launch gives every device the credit for what the others owe it. -/
theorem creds (c : Dev nD) : (Pipeline.launchCred O₀ c : sProp 𝕄) ⊢ credits c := by
  unfold Pipeline.launchCred credits
  rw [bigSep_univ_at _ (SemLoc.reg barSem), launch_bar]
  refine sep_mono_right ?_
  rw [bigSep_congr (s := (Finset.univ : Finset Tr)) fun t _ => congrArg cred (launch_rcv c t).symm]
  refine (bigSep_subset (t := Finset.univ.map rcvEmb) fun sm h => ?_).trans ?_
  rotate_left
  · rw [bigSep_map]; exact BI.Entails.refl _
  obtain ⟨t, -, rfl⟩ := Finset.mem_map.mp h
  exact Finset.mem_erase.mpr ⟨rcv_ne_bar t, Finset.mem_univ _⟩

/-- The only semaphore that lives outside the call is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]
/-- The same, of one semaphore. -/
theorem unscoped_eq : ∀ sm : SemLoc sig, sm.isScoped .tc = false → sm = .reg barSem := by decide +kernel

/-! ### The deal -/

/-- What a device holds when the program starts, -/
abbrev T₀ (c : Dev nD) : sProp 𝕄 := iprop(StableHlo.held (c : Thread nD τ) bufs (W₀ m c) ∗ R m c)
/-- and when it has ended. -/
abbrev Tₙ (c : Dev nD) : sProp 𝕄 := iprop(StableHlo.held (c : Thread nD τ) bufs (W' m c) ∗ semVal (barCell c) 0)

/-- What of a device's launch holdings is not the protocol's. -/
def bundle (c : Dev nD) : sProp 𝕄 :=
  iprop(StableHlo.held (c : Thread nD τ) bufs (W₀ m c) ∗ credits c ∗ Owe c (O₀ c) ∗ ∃ r, prngReg c r)

/-- The protocol's part and the rest make up what a device starts with. -/
theorem T₀_intro (K : GSem nD τ sig → ℕ) (c : Dev nD) : iprop(records (X m) K ∗ dormant c ∗ bundle m c) ⊢ T₀ m c := by
  unfold bundle T₀ R Tk
  iintro ⟨#HR, Hd, Hh, Hc, HO, Hp⟩
  isplitl [Hh]; · iexact Hh
  isplitl [Hp]; · iexact Hp
  isplitr [HO]
  · isplitr; · iexists K; iexact HR
    isplitl [Hd] <;> iassumption
  iexact HO

/-- The invariants, by cell. -/
theorem records_intro (K : GSem nD τ sig → ℕ) : (iprop((bigSep (barCells ∪ ownCells) fun g => cellInv ER (talkRd (X m)) (K g) g)
      ∗ bigSep barCells fun g => reached ER g 0) : sProp 𝕄) = records (X m) K := by
  rw [bigSep_union bar_disj, bigSep_map, bigSep_map, bigSep_map]; exact BI.equiv_iff.mp ⟨BI.sep_assoc, BI.sep_assoc'⟩

/-- What the launch gives, device by device. -/
theorem dormant_all : (iprop((bigSep barCells fun g => atPos ER g 0 ∅ 0) ∗ (bigSep ownCells fun g => openTok ER g)
      ∗ bigSep toks fun x => dutyTok ER x.1 x.2.1 x.2.2) : sProp 𝕄) ⊢ bigSep Finset.univ fun c : Dev nD => dormant c := by
  unfold dormant
  rw [sep_univ, sep_univ, sep_univ, sep_univ, toks_dealt, bigSep_map, bigSep_map, bigSep_univ_prod]
  iintro ⟨Ha, Ho, HtB, HtS, HtR⟩
  isplitl [HtB]; · iexact HtB
  isplitl [Ha]; · iexact Ha
  isplitl [Ho]; · iexact Ho
  isplitl [HtS] <;> iassumption

/-- The machine's initial state is dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ semVal (barCell c) 0 ∗ G c) : sProp 𝕄) := by
    rw [show unscopedBufs c (fun b => m ((c : Thread nD τ).loc b)) = StableHlo.held (c : Thread nD τ) bufs (W₀ m c) from Pipeline.unscopedBufs_held c (W₀ m c),
      unscopedSems0_eq]
    unfold bundle Owe
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop(bigSep Finset.univ (bundle m) ∗ (bigSep barCells fun g => semVal g 0) ∗ BI.own (ER (launchOf barCells ownCells toks))) : sProp 𝕄) := by
    rw [bigSep_map, ← G_all]
    refine (bigSep_mono fun c _ => hcore c).trans ?_
    rw [sep_univ, sep_univ]; exact BI.Entails.refl _
  iintro ⟨H, -⟩
  ihave H := hsplit $$ H
  icases H with ⟨HB, Hv, Hu⟩
  imod (Rounds.fund_launch ER (talkRd (X m)) bar_disj (fun g _ h => h) toks) $$ [Hv Hu] with ⟨%K, -, Hinv, Hr, Hat, Hopen, Htok⟩
  · isplitl [Hv] <;> iassumption
  imodintro
  ihave HR := (Entails.of_eq (records_intro m K)) $$ [Hinv Hr]
  · isplitl [Hinv] <;> iassumption
  ihave HD := (dormant_all (F := F)) $$ [Hat Hopen Htok]
  · isplitl [Hat]; · iexact Hat
    isplitl [Hopen] <;> iassumption
  iapply (bigSep_with_persistent (R := records (X m) K) (Φ := fun c => iprop(dormant c ∗ bundle m c)) fun c _ => T₀_intro m K c)
  isplitl [HR]; · iexact HR
  iapply (Entails.of_eq (sep_univ (fun c : Dev nD => dormant c) (bundle m)).symm)
  isplitl [HD] <;> iassumption

/-! ## The run -/

/-- The argument is unchanged at the end. -/
theorem W'_arg (c : Dev nD) : W' m c (Proc.devRef .tc main_arg0) = m ((c : Thread nD τ).loc main_arg0) :=
  (Function.update_of_ne (StableHlo.devRef_ne_of_ne (by decide : main_arg0 ≠ main_v2)) (OUT (X m) c) (W m c)).trans (V_main_arg0 m c)
/-- The result's buffer at the end holds the result. -/
theorem W'_out (c : Dev nD) : W' m c (Proc.devRef .tc main_v2) = OUT (X m) c := by
  unfold W'; exact Function.update_self ..

set_option backward.isDefEq.respectTransparency.types false in
/-- From any memory with zero counters every weakly fair execution on the sixteen devices terminates, and in every final state every
    device's argument is unchanged, its result is `OUT`, and every semaphore of the machine is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = OUT (X m) c) ∧ r.2.sem = fun _ => 0) :=
  Pipeline.θ_run_regions_kit_sems (pcfgs (F := F)) adm (pdats m) () cellOf_inj EP defs₀ 𝒱₀ L lv m ρ main [.host (seg0 m), .region (reg m)]
    (fun c Q => by rw [main_segs adm (pdats m) () 𝒱₀ L lv (seg0 m) (reg m) rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = W' m c (Proc.devRef .tc main_arg0)
      ∧ s.mem ((c : Thread nD τ).loc main_v2) = W' m c (Proc.devRef .tc main_v2)) ∧ s.sem (barCell c) = 0)
    (hfin := fun c s' => by
      dsimp only [Tₙ]; rw [bufs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => ⟨(h c).1.1.trans (W'_arg m c), (h c).1.2.trans (W'_out m c)⟩,
      sem_eq_zero hs fun c sm hsm => by
        obtain rfl := unscoped_eq sm hsm
        exact (h c).2⟩)

end Cert.AllReduce

end
-- ==== Proof.Value.lean ====
/-
# What the kernel and the reference compute

Read over the extended reals, where a change of format is the identity and addition is exact: every device's result is the sum
of the inputs of all sixteen devices, and the reference's result is the sum of the sixteen blocks of its argument.
-/
module

public import proofs.«01_k».proof.Defs
public import proofs.«01_k».proof.Proof.Gen.Kernel
public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pointwise

@[expose] public section

noncomputable section

namespace Cert.AllReduce

open Cert.KernelIdeal Cert.KernelIdeal.Gen
open Idealize.ShloMosaic
open Idealize.ShloMosaic.TcCoe
open Idealize.SL.Sem

/-! ## The kernel's result -/

/-- The index of a sub-block, with the unit axis it is stored behind. -/
theorem unit_front (h : S16x512.numel = S1x16x512.numel) (r : Fin 16) (l : Fin 512) :
    Shape.reshapeEquiv h (ValueIdx.ix2 r l : S16x512.Idx) = (ValueIdx.ix3 0 r l : S1x16x512.Idx) := by
  rw [Shape.reshapeEquiv_cons_one]
  funext a
  match a with
  | ⟨0, _⟩ => rfl
  | ⟨1, _⟩ => rfl
  | ⟨2, _⟩ => rfl
/-- The same, from the index with the unit axis to the one without. -/
theorem unit_back (h : S1x16x512.numel = S16x512.numel) (r : Fin 16) (l : Fin 512) :
    Shape.reshapeEquiv h (ValueIdx.ix3 0 r l : S1x16x512.Idx) = (ValueIdx.ix2 r l : S16x512.Idx) := by
  rw [← unit_front h.symm, Shape.reshapeEquiv_reshapeEquiv, Shape.reshapeEquiv_self]

variable (X : Dev nD → S512x512.Idx → EReal)

/-- A device's group's sum of a row the device owns. -/
theorem ACC_at (d : Dev nD) (s : Fin 4) (r : Fin 16) (l : Fin 512) :
    ACC (F := Ideal) X d s (ValueIdx.ix2 r l)
      = X d (ValueIdx.ix2 (rowAt (place d) s r) l) + ∑ j : Fin 7, X (orig d j) (ValueIdx.ix2 (rowAt (place d) s r) l) := by
  unfold ACC accV k0_pay1
  rw [shapeCast_id]
  refine congrArg₂ (fun a b : EReal => a + b) rfl ?_
  refine (Ideal.reduceAdd_r3_a0 _ _ _).trans (Finset.sum_congr rfl fun j _ => ?_)
  show slabX (F := Ideal) X d s (Shape.reshapeEquiv _ _) = _
  rw [Shape.reshapeEquiv_cons_one]
  rfl

/-- The same sum as it is stored for the partner. -/
theorem HS_at (d : Dev nD) (s : Fin 4) (r : Fin 16) (l : Fin 512) :
    HS (F := Ideal) X d (ValueIdx.ix3 s r l) = ACC (F := Ideal) X d s (ValueIdx.ix2 r l) :=
  congrArg (ACC (F := Ideal) X d s) (unit_back _ r l)

/-- The two groups' sums added. -/
theorem FS_at (d : Dev nD) (s : Fin 4) (r : Fin 16) (l : Fin 512) :
    FS (F := Ideal) X d (ValueIdx.ix3 s r l)
      = ACC (F := Ideal) X d s (ValueIdx.ix2 r l) + ACC (F := Ideal) X (partner d) s (ValueIdx.ix2 r l) := by
  have e : FS (F := Ideal) X d (ValueIdx.ix3 s r l)
      = addf (ACC (F := Ideal) X d s) (extf .f32 (shapeCast S16x512 (rbX (F := Ideal) X d s) shapeCasts_S1x16x512_S16x512) bitsLt_bf16_f32)
          (ValueIdx.ix2 r l) :=
    congrArg (addf (ACC (F := Ideal) X d s) (extf .f32 (shapeCast S16x512 (rbX (F := Ideal) X d s) shapeCasts_S1x16x512_S16x512) bitsLt_bf16_f32))
      (unit_back _ r l)
  rw [e]
  refine congrArg₂ (fun a b : EReal => a + b) rfl ?_
  show rbX (F := Ideal) X d s (Shape.reshapeEquiv _ _) = _
  rw [unit_front]
  exact HS_at X (partner d) s r l

/-- Every device, from one of them: the members of its group and those of the other. -/
def everyone (d : Dev nD) : Option (Fin 7) ⊕ Option (Fin 7) → Dev nD
  | .inl none => d
  | .inl (some j) => orig d j
  | .inr none => partner d
  | .inr (some j) => orig (partner d) j
/-- This names every one of the sixteen devices once. -/
theorem everyone_bij (d : Dev nD) : Function.Bijective (everyone d) := by
  refine (Fintype.bijective_iff_injective_and_card _).mpr ⟨?_, by decide⟩
  have h : ∀ d x y, everyone d x = everyone d y → x = y := by decide +kernel
  exact fun x y => h d x y

/-- Every element of every device's result is the sum of that element of all the inputs. -/
theorem OUT_sum (d : Dev nD) (i : S512x512.Idx) : OUT (F := Ideal) X d i = ∑ c : Dev nD, X c i := by
  have hi := ValueIdx.idx2_lt0 i
  obtain ⟨p, s, r, l, rfl⟩ : ∃ (p : Fin 8) (s : Fin 4) (r : Fin 16) (l : Fin 512), i = ValueIdx.ix2 (rowAt p s r) l := by
    refine ⟨(blkRow i).1, (blkRow i).2, ⟨(i 0).val % 16, by omega⟩, i 1, ?_⟩
    refine (ValueIdx.eq_ix2 i).trans (congrArg (fun a : Fin 512 => (ValueIdx.ix2 a (i 1) : S512x512.Idx)) (Fin.ext ?_))
    show (i 0).val = 64 * ((i 0).val / 64) + 16 * ((i 0).val % 64 / 16) + (i 0).val % 16
    omega
  rw [OUT_at, FS_at, ACC_at, ACC_at, place_partner, place_member,
    ← (everyone_bij (member (grp d) p)).sum_comp fun c => X c (ValueIdx.ix2 (rowAt p s r) l), Fintype.sum_sum_type, Fintype.sum_option, Fintype.sum_option]
  rfl

/-! ## The reference's result -/

/-- The element `i` of the device `c`'s block of the whole argument. -/
def at5 (i : S512x512.Idx) (c : Dev nD) : Cert.ReferenceIdeal.S2x2x4x512x512.Idx :=
  ValueIdx.ix5 ⟨c.val / 8, by have := c.isLt; simp only [nD] at this; omega⟩ ⟨c.val / 4 % 2, by omega⟩ ⟨c.val % 4, by omega⟩ (i 0) (i 1)

/-- The reference's sum over the three mesh axes is the sum over the devices' blocks. -/
theorem ref_sum (x : Cert.ReferenceIdeal.S2x2x4x512x512.Idx → EReal) (i : S512x512.Idx) :
    (truncf .bf16 (Host.reduceAdd (extf .f32 (x : FVec Ideal Cert.ReferenceIdeal.S2x2x4x512x512 .bf16) Cert.ReferenceIdeal.Gen.bitsLt_bf16_f32)
      (constant Cert.ReferenceIdeal.S_ .f32 0x00000000#32) Cert.ReferenceIdeal.Gen.reducesTo_S2x2x4x512x512_S512x512_d0_1_2 Cert.ReferenceIdeal.Gen.h_S_)
      Cert.ReferenceIdeal.Gen.bitsLt_bf16_f32 : FVec Ideal S512x512 .bf16) i = ∑ c : Dev nD, x (at5 i c) := by
  show Ideal.ofBits .f32 0x00000000#32 + ∑ k ∈ Finset.univ.filter _, x k = _
  rw [Ideal.ofBits_zero, zero_add]
  refine Finset.sum_filter_eq_sum_of_fiber _ (at5 i) ?_ ?_ x
  · intro c c' h
    have e0 : c.val / 8 = c'.val / 8 := congrArg (fun k : Cert.ReferenceIdeal.S2x2x4x512x512.Idx => (k 0).val) h
    have e1 : c.val / 4 % 2 = c'.val / 4 % 2 := congrArg (fun k : Cert.ReferenceIdeal.S2x2x4x512x512.Idx => (k 1).val) h
    have e2 : c.val % 4 = c'.val % 4 := congrArg (fun k : Cert.ReferenceIdeal.S2x2x4x512x512.Idx => (k 2).val) h
    exact Fin.ext (by omega)
  · intro k
    have h0 : (k 0).val < 2 := (k 0).isLt
    have h1 : (k 1).val < 2 := (k 1).isLt
    have h2 : (k 2).val < 4 := (k 2).isLt
    constructor
    · rintro rfl
      refine ⟨⟨8 * (k 0).val + 4 * (k 1).val + (k 2).val, by simp only [nD]; omega⟩, funext fun a => Fin.ext ?_⟩
      match a with
      | ⟨0, _⟩ => show (8 * (k 0).val + 4 * (k 1).val + (k 2).val) / 8 = (k 0).val; omega
      | ⟨1, _⟩ => show (8 * (k 0).val + 4 * (k 1).val + (k 2).val) / 4 % 2 = (k 1).val; omega
      | ⟨2, _⟩ => show (8 * (k 0).val + 4 * (k 1).val + (k 2).val) % 4 = (k 2).val; omega
      | ⟨3, _⟩ => rfl
      | ⟨4, _⟩ => rfl
    · rintro ⟨c, rfl⟩
      funext b
      match b with
      | ⟨0, _⟩ => rfl
      | ⟨1, _⟩ => rfl

/-! ## The inputs as blocks of the reference's argument -/

/-- Which block a device holds, along each of the three axes of the mesh. -/
theorem coords : ∀ c : Dev nD, (Layout.meshLin [2, 2, 4] c.val [0] = c.val / 8 ∧ Layout.meshLin [2, 2, 4] c.val [1] = c.val / 4 % 2)
    ∧ Layout.meshLin [2, 2, 4] c.val [2] = c.val % 4 := by decide +kernel

/-- A device's input, reshaped by the host, is its block of the whole argument. -/
theorem X_block (m : (ℓ : Loc nD τ sig) → Buf (Elt Ideal) ℓ) (x : Cert.ReferenceIdeal.S2x2x4x512x512.Idx → EReal) (c : Dev nD)
    (h : m ((c : Thread nD τ).loc main_arg0)
      = Layout.blockN ⟨5, ![1, 1, 1, 512, 512]⟩ ⟨5, ![2, 2, 4, 512, 512]⟩ (Layout.meshBlock [2, 2, 4] ![[0], [1], [2], [], []] c) x)
    (i : S512x512.Idx) : Cert.AllReduce.X (F := Ideal) m c i = x (at5 i c) := by
  have e : Cert.AllReduce.X (F := Ideal) m c = shapeCast S512x512 (m ((c : Thread nD τ).loc main_arg0)) shapeCasts_S1x1x1x512x512_S512x512 :=  by
    unfold Cert.AllReduce.X
    dsimp only [V, hostOps0]
    rw [StableHlo.after_cons, StableHlo.after_nil, StableHlo.reshape_result]
    rfl
  rw [e, h]
  show x (Layout.TilesN.idx _ _ (Shape.reshapeEquiv _ i)) = _
  obtain ⟨⟨c0, c1⟩, c2⟩ := coords c
  have hr : Shape.reshapeEquiv shapeCasts_S1x1x1x512x512_S512x512 i = (ValueIdx.ix5 0 0 0 (i 0) (i 1) : S1x1x1x512x512.Idx) := by
    refine Shape.reshapeEquiv_eq_of_rowMajor _ ?_
    rw [rowMajor_val5 _ 262144 262144 262144 512 rfl rfl rfl rfl, rowMajor_val2 _ 512 rfl]
    show 0 * 262144 + 0 * 262144 + 0 * 262144 + (i 0).val * 512 + (i 1).val = _
    omega
  refine congrArg x (funext fun a => Fin.ext ?_)
  rw [Layout.TilesN.idx_val, hr]
  match a with
  | ⟨0, _⟩ => show Layout.meshLin [2, 2, 4] c.val [0] * 1 + 0 = c.val / 8; omega
  | ⟨1, _⟩ => show Layout.meshLin [2, 2, 4] c.val [1] * 1 + 0 = c.val / 4 % 2; omega
  | ⟨2, _⟩ => show Layout.meshLin [2, 2, 4] c.val [2] * 1 + 0 = c.val % 4; omega
  | ⟨3, _⟩ => show 0 * 512 + (i 0).val = (i 0).val; omega
  | ⟨4, _⟩ => show 0 * 512 + (i 1).val = (i 1).val; omega

/-- The sum over the devices of their blocks of the whole argument. -/
def total (x : Cert.ReferenceIdeal.S2x2x4x512x512.Idx → EReal) : S512x512.Idx → EReal := fun i => ∑ c : Dev nD, x (at5 i c)

/-! ## The claims -/

/-- Every run of the kernel ends with the arguments as they were and every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)) ∧ r.2.sem = fun _ => 0) :=
  (θ_run defs _ _).mono (fun _ h => ⟨fun c => (h.1 c).1, h.2⟩) (run_main m ρ)
/-- The kernel and its idealization have the same body table: no operation was rewritten. -/
theorem bodies_same {F : FTy → Type} [FloatOps F] : Cert.Kernel.defs₀ (F := F) = Cert.KernelIdeal.defs₀ :=
  congrArg Defs.onTc (funext fun ℓ => match ℓ with
    | 0 => funext fun ⟨_, _⟩ => rfl
    | ⟨_ + 1, h⟩ => absurd h (Nat.not_lt.2 (Nat.le_add_left _ _)))
/-- From any memory the kernel's run ends with every argument unchanged and every semaphore at zero, whatever the float values are:
    read here at the machine's own bits. -/
theorem frame_kernel : Cert.quiescent_Kernel := fun m ρ _ => by
  have h := run_frame (F := Bits) m ρ
  rw [show (defs : Defs nD τ sig (Elt Bits) _) = Cert.Kernel.defs from (congrArg (Pipeline.defs _) bodies_same).symm] at h
  exact h
/-- The same over the extended reals. -/
theorem frame_kernelIdeal : Cert.quiescent_KernelIdeal := fun m ρ _ => run_frame (F := Ideal) m ρ
/-- The reference's run leaves its argument unchanged. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- From inputs that are the blocks of the reference's argument, every device's result is the reference's: its argument summed over
    the three axes of the mesh. -/
theorem agrees : Cert.algebraic_KernelIdeal_ReferenceIdeal := fun m ρ m' ρ' _ hx => by
  refine ⟨total (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).2.trans (funext fun i => ?_), (h.1 c).1⟩) (run_main (F := Ideal) m ρ)
    exact (OUT_sum _ c i).trans (Finset.sum_congr rfl fun d _ => X_block m _ d (hx d) i)
  · refine (θ_run Cert.ReferenceIdeal.defs _ _).mono (fun _ h => ⟨(h 0).1.trans (funext fun i => ?_), (h 0).2⟩) (Cert.ReferenceIdeal.Value.run m' ρ')
    exact ref_sum _ i

end Cert.AllReduce

end
-- ==== Proof.lean ====
/-
# The certificate

The five claims: the kernel's frame on the machine's own bits, its frame and the reference's over the extended reals, that the
idealized kernel is the kernel's own text, and that every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Cert.AllReduce

/-- Everything claimed: the three frames, that no operation was rewritten, and that the kernel computes the reference. -/
theorem claim : Cert.Claim := ⟨Cert.Kernel.Gen.facts, Cert.KernelIdeal.Gen.facts, Cert.ReferenceIdeal.Gen.facts,
  frame_kernel, frame_kernelIdeal, frame_reference, trivial, agrees⟩

end Cert.Proof

end
